-- ==== Defs.lean ====
def Pre_Kernel [hPre_paged : Cert.Pre_paged.Facts] (m : (ℓ : Loc Cert.Kernel.nD Cert.Kernel.τ Cert.Kernel.sig) → Buf (Elt Bits) ℓ) : Prop :=
  ∀ c : Dev Cert.Kernel.nD,
    (Cert.Pre_paged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_paged : Cert.Pre_paged.Facts] (m : (ℓ : Loc Cert.KernelIdeal.nD Cert.KernelIdeal.τ Cert.KernelIdeal.sig) → Buf (Elt Ideal) ℓ) : Prop :=
  ∀ c : Dev Cert.KernelIdeal.nD,
    (Cert.Pre_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_and_paged [hPre_finite_and_paged : Cert.Pre_finite_and_paged.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_paged [hPre_finite_and_paged : Cert.Pre_finite_and_paged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_paged : Cert.Pre_paged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_paged : Cert.Pre_paged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_paged [hKernelIdeal : Cert.KernelIdeal.Facts] [hPre_finite_and_paged : Cert.Pre_finite_and_paged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_paged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_paged [hReferenceIdeal : Cert.ReferenceIdeal.Facts] [hPre_finite_and_paged : Cert.Pre_finite_and_paged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_paged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def algebraic_KernelIdeal_ReferenceIdeal_pre_finite_and_paged [hKernelIdeal : Cert.KernelIdeal.Facts] [hReferenceIdeal : Cert.ReferenceIdeal.Facts] [hPre_finite_and_paged : Cert.Pre_finite_and_paged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_paged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_5) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v8) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v45_0)) (v1 : (c : Dev Cert.Kernel6Ideal.nD) → Buf (Elt Ideal) ((c.tc : Thread Cert.Kernel6Ideal.nD Cert.Kernel6Ideal.τ).loc Cert.Kernel6Ideal.main_v45_1)) (v2 : (c : Dev Cert.Kernel6Ideal.nD) → Buf (Elt Ideal) ((c.tc : Thread Cert.Kernel6Ideal.nD Cert.Kernel6Ideal.τ).loc Cert.Kernel6Ideal.main_v45_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45_0) = v0 c
          ∧ r.2.mem ((c.tc : Thread Cert.Kernel6Ideal.nD Cert.Kernel6Ideal.τ).loc Cert.Kernel6Ideal.main_v45_1) = v1 c
          ∧ r.2.mem ((c.tc : Thread Cert.Kernel6Ideal.nD Cert.Kernel6Ideal.τ).loc Cert.Kernel6Ideal.main_v45_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v102) = v1 c
          ∧ r.2.mem ((c.tc : Thread Cert.Reference6Ideal.nD Cert.Reference6Ideal.τ).loc Cert.Reference6Ideal.main_v64) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v13) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v77) = v0 c
          ∧ r.2.mem ((c.tc : Thread Cert.Reference7Ideal.nD Cert.Reference7Ideal.τ).loc Cert.Reference7Ideal.main_v78) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_paged : Cert.Pre_paged.Facts) (hPre_finite_and_paged : Cert.Pre_finite_and_paged.Facts),
    quiescent_Kernel (hKernel := hKernel) (hPre_paged := hPre_paged)
    ∧ quiescent_KernelIdeal (hKernelIdeal := hKernelIdeal) (hPre_paged := hPre_paged)
    ∧ quiescent_KernelIdeal_pre_finite_and_paged (hKernelIdeal := hKernelIdeal) (hPre_finite_and_paged := hPre_finite_and_paged)
    ∧ quiescent_ReferenceIdeal (hReferenceIdeal := hReferenceIdeal)
    ∧ quiescent_ReferenceIdeal_pre_finite_and_paged (hReferenceIdeal := hReferenceIdeal) (hPre_finite_and_paged := hPre_finite_and_paged)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_and_paged (hKernelIdeal := hKernelIdeal) (hReferenceIdeal := hReferenceIdeal) (hPre_finite_and_paged := hPre_finite_and_paged)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_and_paged.lean ====
abbrev S128x512 : Shape := ⟨2, ![128, 512]⟩
abbrev S128x1024 : Shape := ⟨2, ![128, 1024]⟩
abbrev S2560x128x2x8x64 : Shape := ⟨5, ![2560, 128, 2, 8, 64]⟩
abbrev S128x16 : Shape := ⟨2, ![128, 16]⟩
abbrev S_ : Shape := ⟨0, ![]⟩
abbrev S2560x128x1x8x64 : Shape := ⟨5, ![2560, 128, 1, 8, 64]⟩
abbrev S2560x128x8x64 : Shape := ⟨4, ![2560, 128, 8, 64]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  slices_S2560x128x2x8x64_S2560x128x1x8x64_0_0_0_0_0 : S2560x128x2x8x64.Slices ![0, 0, 0, 0, 0] S2560x128x1x8x64
  shapeCasts_S2560x128x1x8x64_S2560x128x8x64 : S2560x128x1x8x64.ShapeCasts S2560x128x8x64
  bcast_S_S2560x128x8x64 : S_.BroadcastsInDim S2560x128x8x64 (![] : Fin 0 → Fin S2560x128x8x64.rank)
  reducesTo_S2560x128x8x64_S_d0_1_2_3 : S2560x128x8x64.ReducesTo [0, 1, 2, 3] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S128x512 .f32) (main_arg1 : FVec F S128x1024 .f32) (main_arg2 : FVec F S2560x128x2x8x64 .f32) (main_arg3 : IVec S128x16 32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S2560x128x1x8x64 .f32 := (extractStridedSlice S2560x128x1x8x64 ![0, 0, 0, 0, 0] · slices_S2560x128x2x8x64_S2560x128x1x8x64_0_0_0_0_0) main_arg2
  let main_v5 : FVec F S2560x128x8x64 .f32 := shapeCast S2560x128x8x64 main_v4 shapeCasts_S2560x128x1x8x64_S2560x128x8x64
  let main_v6 : FVec F S2560x128x8x64 .f32 := Host.absf main_v5
  let main_cst_0 : FVec F S_ .f32 := constant S_ .f32 0x7F800000#32
  let main_v7 : FVec F S2560x128x8x64 .f32 := broadcastInDim S2560x128x8x64 ![] bcast_S_S2560x128x8x64 main_cst_0
  let main_v8 : IVec S2560x128x8x64 1 := cmpf .olt main_v6 main_v7
  let main_c_1 : IVec S_ 1 := constantI S_ 1 1#1
  let main_v9 : IVec S_ 1 := (fun x v => Host.reduce IntOp.andi x v reducesTo_S2560x128x8x64_S_d0_1_2_3 h_S_) main_v8 main_c_1
  let main_v10 : IVec S_ 1 := andi main_v3 main_v9
  let main_c_2 : IVec S_ 32 := constantI S_ 32 0#32
  let main_v11 : IVec S128x16 32 := broadcastInDim S128x16 ![] bcast_S_S128x16 main_c_2
  let main_v12 : IVec S128x16 1 := cmpi .sge main_arg3 main_v11
  let main_c_3 : IVec S_ 32 := constantI S_ 32 2560#32
  let main_v13 : IVec S128x16 32 := broadcastInDim S128x16 ![] bcast_S_S128x16 main_c_3
  let main_v14 : IVec S128x16 1 := cmpi .slt main_arg3 main_v13
  let main_v15 : IVec S128x16 1 := andi main_v12 main_v14
  let main_c_4 : IVec S_ 1 := constantI S_ 1 1#1
  let main_v16 : IVec S_ 1 := (fun x v => Host.reduce IntOp.andi x v reducesTo_S128x16_S_d0_1 h_S_) main_v15 main_c_4
  fn_part1 (F := F) main_v10 main_v16
-- ==== Pre_paged.lean ====
abbrev S128x512 : Shape := ⟨2, ![128, 512]⟩
abbrev S128x1024 : Shape := ⟨2, ![128, 1024]⟩
abbrev S2560x128x2x8x64 : Shape := ⟨5, ![2560, 128, 2, 8, 64]⟩
abbrev S128x16 : Shape := ⟨2, ![128, 16]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel

variable [Facts]

def fn {F : FTy → Type} [FloatOps F] (main_arg0 : FVec F S128x512 .f32) (main_arg1 : FVec F S128x1024 .f32) (main_arg2 : FVec F S2560x128x2x8x64 .f32) (main_arg3 : IVec S128x16 32) : IVec S_ 1 :=
  let main_c : IVec S_ 32 := constantI S_ 32 0#32
  let main_v0 : IVec S128x16 32 := broadcastInDim S128x16 ![] bcast_S_S128x16 main_c
  let main_v1 : IVec S128x16 1 := cmpi .sge main_arg3 main_v0
  let main_c_0 : IVec S_ 32 := constantI S_ 32 2560#32
  let main_v2 : IVec S128x16 32 := broadcastInDim S128x16 ![] bcast_S_S128x16 main_c_0
  let main_v3 : IVec S128x16 1 := cmpi .slt main_arg3 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  main_v5
-- ==== Kernel.lean ====
abbrev S128x512 : Shape := ⟨2, ![128, 512]⟩
abbrev S128x1024 : Shape := ⟨2, ![128, 1024]⟩
abbrev S2560x128x2x8x64 : Shape := ⟨5, ![2560, 128, 2, 8, 64]⟩
abbrev S128x16 : Shape := ⟨2, ![128, 16]⟩
abbrev S2560x2x8x64x128 : Shape := ⟨5, ![2560, 2, 8, 64, 128]⟩
abbrev S128x1x512 : Shape := ⟨3, ![128, 1, 512]⟩
abbrev S128x1x1024 : Shape := ⟨3, ![128, 1, 1024]⟩
abbrev S1x1x512 : Shape := ⟨3, ![1, 1, 512]⟩
abbrev S1x1x1024 : Shape := ⟨3, ![1, 1, 1024]⟩
abbrev S1x2x8x64x128 : Shape := ⟨5, ![1, 2, 8, 64, 128]⟩
abbrev S1x1 : Shape := ⟨2, ![1, 1]⟩
abbrev S8x512 : Shape := ⟨2, ![8, 512]⟩
abbrev S1x512 : Shape := ⟨2, ![1, 512]⟩
abbrev S128x128 : Shape := ⟨2, ![128, 128]⟩
abbrev S8 : Shape := ⟨1, ![8]⟩
abbrev S8x1 : Shape := ⟨2, ![8, 1]⟩
abbrev S1x1x8x64x128 : Shape := ⟨5, ![1, 1, 8, 64, 128]⟩
abbrev S8x64x128 : Shape := ⟨3, ![8, 64, 128]⟩
abbrev S512x128 : Shape := ⟨2, ![512, 128]⟩
abbrev S8x128 : Shape := ⟨2, ![8, 128]⟩
abbrev S512 : Shape := ⟨1, ![512]⟩

abbrev nBuf : Space → Nat
  | .hbm => 7
  | .vmem => 38
  | .smem => 1
  | _ => 0

abbrev bufTy : (tb : Table) → Fin (tcTables nBuf tb) → BufTy
  | .hbm, ⟨0, _⟩ => ⟨S128x512, .f32⟩
  | .hbm, ⟨1, _⟩ => ⟨S128x1024, .f32⟩
  | .hbm, ⟨2, _⟩ => ⟨S2560x128x2x8x64, .f32⟩
  | .hbm, ⟨3, _⟩ => ⟨S2560x2x8x64x128, .f32⟩
  | .hbm, ⟨4, _⟩ => ⟨S128x1x512, .f32⟩
  | .hbm, ⟨5, _⟩ => ⟨S128x1x1024, .f32⟩
  | .hbm, ⟨6, _⟩ => ⟨S128x1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x1024, .f32⟩
  | .local _ .vmem, ⟨3, _⟩ => ⟨S1x1x1024, .f32⟩
  | .local _ .vmem, ⟨4, _⟩ => ⟨S1x2x8x64x128, .f32⟩
  | .local _ .vmem, ⟨5, _⟩ => ⟨S1x2x8x64x128, .f32⟩
  | .local _ .vmem, ⟨6, _⟩ => ⟨S1x2x8x64x128, .f32⟩
  | .local _ .vmem, ⟨7, _⟩ => ⟨S1x2x8x64x128, .f32⟩
  | .local _ .vmem, ⟨8, _⟩ => ⟨S1x2x8x64x128, .f32⟩
  | .local _ .vmem, ⟨9, _⟩ => ⟨S1x2x8x64x128, .f32⟩
  | .local _ .vmem, ⟨10, _⟩ => ⟨S1x2x8x64x128, .f32⟩
  | .local _ .vmem, ⟨11, _⟩ => ⟨S1x2x8x64x128, .f32⟩
  | .local _ .vmem, ⟨12, _⟩ => ⟨S1x2x8x64x128, .f32⟩
  | .local _ .vmem, ⟨13, _⟩ => ⟨S1x2x8x64x128, .f32⟩
  | .local _ .vmem, ⟨14, _⟩ => ⟨S1x2x8x64x128, .f32⟩
  | .local _ .vmem, ⟨15, _⟩ => ⟨S1x2x8x64x128, .f32⟩
  | .local _ .vmem, ⟨16, _⟩ => ⟨S1x2x8x64x128, .f32⟩
  | .local _ .vmem, ⟨17, _⟩ => ⟨S1x2x8x64x128, .f32⟩
  | .local _ .vmem, ⟨18, _⟩ => ⟨S1x2x8x64x128, .f32⟩
  | .local _ .vmem, ⟨19, _⟩ => ⟨S1x2x8x64x128, .f32⟩
  | .local _ .vmem, ⟨20, _⟩ => ⟨S1x2x8x64x128, .f32⟩
  | .local _ .vmem, ⟨21, _⟩ => ⟨S1x2x8x64x128, .f32⟩
  | .local _ .vmem, ⟨22, _⟩ => ⟨S1x2x8x64x128, .f32⟩
  | .local _ .vmem, ⟨23, _⟩ => ⟨S1x2x8x64x128, .f32⟩
  | .local _ .vmem, ⟨24, _⟩ => ⟨S1x2x8x64x128, .f32⟩
  | .local _ .vmem, ⟨25, _⟩ => ⟨S1x2x8x64x128, .f32⟩
  | .local _ .vmem, ⟨26, _⟩ => ⟨S1x2x8x64x128, .f32⟩
  | .local _ .vmem, ⟨27, _⟩ => ⟨S1x2x8x64x128, .f32⟩
  | .local _ .vmem, ⟨28, _⟩ => ⟨S1x2x8x64x128, .f32⟩
  | .local _ .vmem, ⟨29, _⟩ => ⟨S1x2x8x64x128, .f32⟩
  | .local _ .vmem, ⟨30, _⟩ => ⟨S1x2x8x64x128, .f32⟩
  | .local _ .vmem, ⟨31, _⟩ => ⟨S1x2x8x64x128, .f32⟩
  | .local _ .vmem, ⟨32, _⟩ => ⟨S1x2x8x64x128, .f32⟩
  | .local _ .vmem, ⟨33, _⟩ => ⟨S1x2x8x64x128, .f32⟩
  | .local _ .vmem, ⟨34, _⟩ => ⟨S1x2x8x64x128, .f32⟩
  | .local _ .vmem, ⟨35, _⟩ => ⟨S1x2x8x64x128, .f32⟩
  | .local _ .vmem, ⟨36, _⟩ => ⟨S1x1x512, .f32⟩
  | .local _ .vmem, ⟨37, _⟩ => ⟨S1x1x512, .f32⟩
  | .local _ .smem, ⟨0, _⟩ => ⟨S128x16, .i32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_3 (k0_off2_inb : ∀ i : grid0.Coords, ∀ a, (k0_off2 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_4 (k0_off3_inb : ∀ i : grid0.Coords, ∀ a, (k0_off3 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_5 (k0_off4_inb : ∀ i : grid0.Coords, ∀ a, (k0_off4 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_6 (k0_off5_inb : ∀ i : grid0.Coords, ∀ a, (k0_off5 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_7 (k0_off6_inb : ∀ i : grid0.Coords, ∀ a, (k0_off6 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_8 (k0_off7_inb : ∀ i : grid0.Coords, ∀ a, (k0_off7 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_9 (k0_off8_inb : ∀ i : grid0.Coords, ∀ a, (k0_off8 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_10 (k0_off9_inb : ∀ i : grid0.Coords, ∀ a, (k0_off9 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_11 (k0_off10_inb : ∀ i : grid0.Coords, ∀ a, (k0_off10 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_12 (k0_off11_inb : ∀ i : grid0.Coords, ∀ a, (k0_off11 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_13 (k0_off12_inb : ∀ i : grid0.Coords, ∀ a, (k0_off12 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_14 (k0_off13_inb : ∀ i : grid0.Coords, ∀ a, (k0_off13 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_15 (k0_off14_inb : ∀ i : grid0.Coords, ∀ a, (k0_off14 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_16 (k0_off15_inb : ∀ i : grid0.Coords, ∀ a, (k0_off15 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_17 (k0_off16_inb : ∀ i : grid0.Coords, ∀ a, (k0_off16 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x8x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S128x512 : Shape := ⟨2, ![128, 512]⟩
abbrev S128x1024 : Shape := ⟨2, ![128, 1024]⟩
abbrev S2560x128x2x8x64 : Shape := ⟨5, ![2560, 128, 2, 8, 64]⟩
abbrev S128x16 : Shape := ⟨2, ![128, 16]⟩
abbrev S_ : Shape := ⟨0, ![]⟩
abbrev S128x16x1 : Shape := ⟨3, ![128, 16, 1]⟩
abbrev S128x16x128x2x8x64 : Shape := ⟨6, ![128, 16, 128, 2, 8, 64]⟩
abbrev S128x2048x2x8x64 : Shape := ⟨5, ![128, 2048, 2, 8, 64]⟩
abbrev S128x1x2x8x64 : Shape := ⟨5, ![128, 1, 2, 8, 64]⟩
abbrev S128x2048x1x8x64 : Shape := ⟨5, ![128, 2048, 1, 8, 64]⟩
abbrev S128x2048x8x64 : Shape := ⟨4, ![128, 2048, 8, 64]⟩
abbrev S128x1x1x8x64 : Shape := ⟨5, ![128, 1, 1, 8, 64]⟩
abbrev S128x1x8x64 : Shape := ⟨4, ![128, 1, 8, 64]⟩
abbrev S128x2049x8x64 : Shape := ⟨4, ![128, 2049, 8, 64]⟩
abbrev S1 : Shape := ⟨1, ![1]⟩
abbrev S2049 : Shape := ⟨1, ![2049]⟩
abbrev S128x8x1x2049 : Shape := ⟨4, ![128, 8, 1, 2049]⟩
abbrev S1x2049 : Shape := ⟨2, ![1, 2049]⟩
abbrev S1x1 : Shape := ⟨2, ![1, 1]⟩
abbrev S128x8x64x1 : Shape := ⟨4, ![128, 8, 64, 1]⟩
abbrev S128x1x512 : Shape := ⟨3, ![128, 1, 512]⟩

abbrev nBuf : Space → Nat
  | .hbm => 88
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x1024, .f32⟩
  | .hbm, ⟨2, _⟩ => ⟨S2560x128x2x8x64, .f32⟩
  | .hbm, ⟨3, _⟩ => ⟨S128x16, .i32⟩
  | .hbm, ⟨4, _⟩ => ⟨S_, .i32⟩
  | .hbm, ⟨5, _⟩ => ⟨S128x16, .i32⟩
  | .hbm, ⟨6, _⟩ => ⟨S128x16, .i1⟩
  | .hbm, ⟨7, _⟩ => ⟨S_, .i32⟩
  | .hbm, ⟨8, _⟩ => ⟨S128x16, .i32⟩
  | .hbm, ⟨9, _⟩ => ⟨S128x16, .i32⟩
  | .hbm, ⟨10, _⟩ => ⟨S128x16, .i32⟩
  | .hbm, ⟨11, _⟩ => ⟨S128x16x1, .i32⟩
  | .hbm, ⟨12, _⟩ => ⟨S128x16x128x2x8x64, .f32⟩
  | .hbm, ⟨13, _⟩ => ⟨S128x2048x2x8x64, .f32⟩
  | .hbm, ⟨14, _⟩ => ⟨S128x1x2x8x64, .f32⟩
  | .hbm, ⟨15, _⟩ => ⟨S128x2048x1x8x64, .f32⟩
  | .hbm, ⟨16, _⟩ => ⟨S128x2048x8x64, .f32⟩
  | .hbm, ⟨17, _⟩ => ⟨S128x1x1x8x64, .f32⟩
  | .hbm, ⟨18, _⟩ => ⟨S128x1x8x64, .f32⟩
  | .hbm, ⟨19, _⟩ => ⟨S128x2049x8x64, .f32⟩
  | .hbm, ⟨20, _⟩ => ⟨S128x2048x1x8x64, .f32⟩
  | .hbm, ⟨21, _⟩ => ⟨S128x2048x8x64, .f32⟩
  | .hbm, ⟨22, _⟩ => ⟨S128x1x1x8x64, .f32⟩
  | .hbm, ⟨23, _⟩ => ⟨S128x1x8x64, .f32⟩
  | .hbm, ⟨24, _⟩ => ⟨S128x2049x8x64, .f32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S2049, .i32⟩
  | .hbm, ⟨30, _⟩ => ⟨S128x1x8x64, .f32⟩
  | .hbm, ⟨31, _⟩ => ⟨S128x8x1x2049, .f32⟩
  | .hbm, ⟨32, _⟩ => ⟨S1x2049, .i32⟩
  | .hbm, ⟨33, _⟩ => ⟨S1x1, .i32⟩
  | .hbm, ⟨34, _⟩ => ⟨S1x2049, .i32⟩
  | .hbm, ⟨35, _⟩ => ⟨S1x2049, .i1⟩
  | .hbm, ⟨36, _⟩ => ⟨S128x8x1x2049, .f32⟩
  | .hbm, ⟨37, _⟩ => ⟨S128x8x1x2049, .f32⟩
  | .hbm, ⟨38, _⟩ => ⟨S_, .f32⟩
  | .hbm, ⟨39, _⟩ => ⟨S128x8x1x2049, .f32⟩
  | .hbm, ⟨40, _⟩ => ⟨S128x8x1x2049, .f32⟩
  | .hbm, ⟨41, _⟩ => ⟨S128x8x1x2049, .f32⟩
  | .hbm, ⟨42, _⟩ => ⟨S128x8x1x2049, .f32⟩
  | .hbm, ⟨43, _⟩ => ⟨S128x8x1x2049, .i1⟩
  | .hbm, ⟨44, _⟩ => ⟨S128x8x1x2049, .f32⟩
  | .hbm, ⟨45, _⟩ => ⟨S128x8x1x2049, .f32⟩
  | .hbm, ⟨46, _⟩ => ⟨S128x8x1x2049, .f32⟩
  | .hbm, ⟨47, _⟩ => ⟨S128x8x1x2049, .f32⟩
  | .hbm, ⟨48, _⟩ => ⟨S128x8x1x2049, .f32⟩
  | .hbm, ⟨49, _⟩ => ⟨S128x8x1x2049, .f32⟩
  | .hbm, ⟨50, _⟩ => ⟨S128x8x1x2049, .f32⟩
  | .hbm, ⟨51, _⟩ => ⟨S128x8x1x2049, .f32⟩
  | .hbm, ⟨52, _⟩ => ⟨S128x8x1x2049, .f32⟩
  | .hbm, ⟨53, _⟩ => ⟨S_, .f32⟩
  | .hbm, ⟨54, _⟩ => ⟨S_, .f32⟩
  | .hbm, ⟨55, _⟩ => ⟨S128x8x1x2049, .i1⟩
  | .hbm, ⟨56, _⟩ => ⟨S128x8x1x2049, .f32⟩
  | .hbm, ⟨57, _⟩ => ⟨S128x8x1x2049, .f32⟩
  | .hbm, ⟨58, _⟩ => ⟨S_, .f32⟩
  | .hbm, ⟨59, _⟩ => ⟨S_, .f32⟩
  | .hbm, ⟨60, _⟩ => ⟨S128x8x1x2049, .f32⟩
  | .hbm, ⟨61, _⟩ => ⟨S128x8x1x2049, .f32⟩
  | .hbm, ⟨62, _⟩ => ⟨S128x8x1x2049, .f32⟩
  | .hbm, ⟨63, _⟩ => ⟨S_, .f32⟩
  | .hbm, ⟨64, _⟩ => ⟨S128x8x1x2049, .f32⟩
  | .hbm, ⟨65, _⟩ => ⟨S128x8x1x2049, .f32⟩
  | .hbm, ⟨66, _⟩ => ⟨S128x8x1x2049, .f32⟩
  | .hbm, ⟨67, _⟩ => ⟨S128x8x1x2049, .f32⟩
  | .hbm, ⟨68, _⟩ => ⟨S128x8x1x2049, .i1⟩
  | .hbm, ⟨69, _⟩ => ⟨S128x8x1x2049, .f32⟩
  | .hbm, ⟨70, _⟩ => ⟨S128x8x1x2049, .f32⟩
  | .hbm, ⟨71, _⟩ => ⟨S128x8x1x2049, .f32⟩
  | .hbm, ⟨72, _⟩ => ⟨S128x8x1x2049, .f32⟩
  | .hbm, ⟨73, _⟩ => ⟨S128x8x1x2049, .f32⟩
  | .hbm, ⟨74, _⟩ => ⟨S128x8x1x2049, .f32⟩
  | .hbm, ⟨75, _⟩ => ⟨S128x8x1x2049, .f32⟩
  | .hbm, ⟨76, _⟩ => ⟨S128x8x1x2049, .f32⟩
  | .hbm, ⟨77, _⟩ => ⟨S128x8x1x2049, .f32⟩
  | .hbm, ⟨78, _⟩ => ⟨S128x8x1x2049, .f32⟩
  | .hbm, ⟨79, _⟩ => ⟨S128x8x1x2049, .f32⟩
  | .hbm, ⟨80, _⟩ => ⟨S_, .f32⟩
  | .hbm, ⟨81, _⟩ => ⟨S_, .f32⟩
  | .hbm, ⟨82, _⟩ => ⟨S128x8x1x2049, .i1⟩
  | .hbm, ⟨83, _⟩ => ⟨S128x8x1x2049, .f32⟩
  | .hbm, ⟨84, _⟩ => ⟨S128x8x1x2049, .f32⟩
  | .hbm, ⟨85, _⟩ => ⟨S128x8x64x1, .f32⟩
  | .hbm, ⟨86, _⟩ => ⟨S128x1x8x64, .f32⟩
  | .hbm, ⟨87, _⟩ => ⟨S128x1x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v30 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_call2_cst : Ref sig .tc := ⟨.hbm, 58, rfl⟩
abbrev main_call2_v0 : Ref sig .tc := ⟨.hbm, 59, rfl⟩
abbrev main_v32 : Ref sig .tc := ⟨.hbm, 60, rfl⟩
abbrev main_v33 : Ref sig .tc := ⟨.hbm, 61, rfl⟩
abbrev main_call3_v0 : Ref sig .tc := ⟨.hbm, 62, rfl⟩
abbrev main_call3_call0_cst : Ref sig .tc := ⟨.hbm, 63, rfl⟩
abbrev main_call3_call0_v0 : Ref sig .tc := ⟨.hbm, 64, rfl⟩
abbrev main_call3_call0_v1 : Ref sig .tc := ⟨.hbm, 65, rfl⟩
abbrev main_call3_call0_v2 : Ref sig .tc := ⟨.hbm, 66, rfl⟩
abbrev main_call3_call0_v3 : Ref sig .tc := ⟨.hbm, 67, rfl⟩
abbrev main_call3_call0_v4 : Ref sig .tc := ⟨.hbm, 68, rfl⟩
abbrev main_call3_call0_v5 : Ref sig .tc := ⟨.hbm, 69, rfl⟩
abbrev main_call3_call0_v6 : Ref sig .tc := ⟨.hbm, 70, rfl⟩
abbrev main_call3_call0_v7 : Ref sig .tc := ⟨.hbm, 71, rfl⟩
abbrev main_call3_call0_v8 : Ref sig .tc := ⟨.hbm, 72, rfl⟩
abbrev main_call3_call0_v9 : Ref sig .tc := ⟨.hbm, 73, rfl⟩
abbrev main_call3_call0_v10 : Ref sig .tc := ⟨.hbm, 74, rfl⟩
abbrev main_call3_call0_v11 : Ref sig .tc := ⟨.hbm, 75, rfl⟩
abbrev main_call3_v1 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_2 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S32x2x2816 : Shape := ⟨3, ![32, 2, 2816]⟩
abbrev S512x1024 : Shape := ⟨2, ![512, 1024]⟩
abbrev S512x512 : Shape := ⟨2, ![512, 512]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x2x1408 : Shape := ⟨3, ![1, 2, 1408]⟩
abbrev S2x8x1408 : Shape := ⟨3, ![2, 8, 1408]⟩
abbrev S512 : Shape := ⟨1, ![512]⟩
abbrev S512x1 : Shape := ⟨2, ![512, 1]⟩
abbrev S512x1408 : Shape := ⟨2, ![512, 1408]⟩
abbrev S8x1408 : Shape := ⟨2, ![8, 1408]⟩
abbrev S1x8x1408 : Shape := ⟨3, ![1, 8, 1408]⟩
abbrev S2x1408 : Shape := ⟨2, ![2, 1408]⟩
abbrev S8x2x2816 : Shape := ⟨3, ![8, 2, 2816]⟩

abbrev nBuf : Space → Nat
  | .hbm => 21
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S1024x1024, .bf16⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S16384x1024, .f32⟩
  | .hbm, ⟨19, _⟩ => ⟨S32x2x2816, .f32⟩
  | .hbm, ⟨20, _⟩ => ⟨S8x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x2x1408, .f32⟩
  | .local _ .vmem, ⟨22, _⟩ => ⟨S1x2x1408, .f32⟩
  | .local _ .vmem, ⟨23, _⟩ => ⟨S512x1024, .f32⟩
  | .local _ .vmem, ⟨24, _⟩ => ⟨S512x1024, .bf16⟩
  | .local _ .vmem, ⟨25, _⟩ => ⟨S512x1024, .f32⟩
  | .local _ .vmem, ⟨26, _⟩ => ⟨S2x8x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg0 : BitVec 32 := BitVec.ofNat 32 (i 0).val
  let c4_i32 : BitVec 32 := 4#32
  let c0_i32_7 : BitVec 32 := 0#32
  let v10 : BitVec 1 := Scalar.cmpi .eq c4_i32 c0_i32_7
  let c1_i32 : BitVec 32 := 1#32
  let v11 : BitVec 32 := Scalar.select v10 c1_i32 c4_i32
  let v12 : BitVec 32 := Scalar.remsi arg0 v11
  let c0_i32_9 : BitVec 32 := 0#32
  let v14 : BitVec 1 := Scalar.cmpi .slt v12 c0_i32_9
  let c0_i32_10 : BitVec 32 := 0#32
  let v15 : BitVec 1 := Scalar.cmpi .slt v11 c0_i32_10
  let v16 : BitVec 1 := Scalar.xori v14 v15
  let c0_i32_8 : BitVec 32 := 0#32
  let v13 : BitVec 1 := Scalar.cmpi .ne v12 c0_i32_8
  let v17 : BitVec 1 := Scalar.andi v16 v13
  let v18 : BitVec 32 := Scalar.addi v12 v11
  let v19 : BitVec 32 := Scalar.select v17 v18 v12
  let c0_i32_11 : BitVec 32 := 0#32
  let v20 : BitVec 1 := Scalar.cmpi .eq v19 c0_i32_11
  let v21 : BitVec 32 := Scalar.extui v20
  let c0_i32_12 : BitVec 32 := 0#32
  let v22 : BitVec 1 := Scalar.cmpi .ne v21 c0_i32_12
  v22

def k0_off1 (i : grid0.Coords) : Fin 3 → Nat :=
  let arg1 : BitVec 32 := BitVec.ofNat 32 (i 1).val
  let v97 : Index := Scalar.indexCast arg1
  let c0_44 : Index := 0#32
  let c0_45 : Index := 0#32
  ![v97.toNat, 0, 0]
def k0_off2 (i : grid0.Coords) : Fin 3 → Nat :=
  let arg1 : BitVec 32 := BitVec.ofNat 32 (i 1).val
  let v23 : Index := Scalar.indexCast arg1
  let c0_13 : Index := 0#32
  let c0_14 : Index := 0#32
  ![v23.toNat, 0, 0]
def k0_cond3 (i : grid0.Coords) : BitVec 1 :=
  let arg1 : BitVec 32 := BitVec.ofNat 32 (i 1).val
  let c1_i32_41 : BitVec 32 := 1#32
  let v93 : BitVec 1 := Scalar.cmpi .eq arg1 c1_i32_41
  let v94 : BitVec 32 := Scalar.extui v93
  let c0_i32_42 : BitVec 32 := 0#32
  let v95 : BitVec 1 := Scalar.cmpi .ne v94 c0_i32_42
  v95

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x2816, .f32⟩
  | .hbm, ⟨33, _⟩ => ⟨S8x2048x2816, .f32⟩
  | .hbm, ⟨34, _⟩ => ⟨S_, .f32⟩
  | .hbm, ⟨35, _⟩ => ⟨S8x2x2816, .f32⟩
  | .hbm, ⟨36, _⟩ => ⟨S8x2050x2816, .f32⟩
  | .hbm, ⟨37, _⟩ => ⟨S1x2816, .f32⟩
  | .hbm, ⟨38, _⟩ => ⟨S2816, .f32⟩
  | .hbm, ⟨39, _⟩ => ⟨S8x2048x2816, .f32⟩
  | .hbm, ⟨40, _⟩ => ⟨S1x1x2816, .f32⟩
  | .hbm, ⟨41, _⟩ => ⟨S8x2048x2816, .f32⟩
  | .hbm, ⟨42, _⟩ => ⟨S8x2048x2816, .f32⟩
  | .hbm, ⟨43, _⟩ => ⟨S_, .f32⟩
  | .hbm, ⟨44, _⟩ => ⟨S8x2048x2816, .f32⟩
  | .hbm, ⟨45, _⟩ => ⟨S8x2048x2816, .f32⟩
  | .hbm, ⟨46, _⟩ => ⟨S1x2816, .f32⟩
  | .hbm, ⟨47, _⟩ => ⟨S2816, .f32⟩
  | .hbm, ⟨48, _⟩ => ⟨S8x2048x2816, .f32⟩
  | .hbm, ⟨49, _⟩ => ⟨S1x1x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S1x2816, .f32⟩
  | .hbm, ⟨54, _⟩ => ⟨S2816, .f32⟩
  | .hbm, ⟨55, _⟩ => ⟨S8x2048x2816, .f32⟩
  | .hbm, ⟨56, _⟩ => ⟨S1x1x2816, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S1x1x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S_, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S_, .f32⟩
  | .hbm, ⟨74, _⟩ => ⟨S8x2048x2816, .f32⟩
  | .hbm, ⟨75, _⟩ => ⟨S8x2048x2816, .f32⟩
  | .hbm, ⟨76, _⟩ => ⟨S_, .f32⟩
  | .hbm, ⟨77, _⟩ => ⟨S8x2048x2816, .f32⟩
  | .hbm, ⟨78, _⟩ => ⟨S8x2048x2816, .f32⟩
  | .hbm, ⟨79, _⟩ => ⟨S8x2048x2816, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x1024, .f32⟩
  | .hbm, ⟨97, _⟩ => ⟨S16384x1024, .f32⟩
  | .hbm, ⟨98, _⟩ => ⟨S1x1024, .f32⟩
  | .hbm, ⟨99, _⟩ => ⟨S16384x1024, .f32⟩
  | .hbm, ⟨100, _⟩ => ⟨S16384x1024, .f32⟩
  | .hbm, ⟨101, _⟩ => ⟨S8x2x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S32x2x2816 : Shape := ⟨3, ![32, 2, 2816]⟩
abbrev S512x1024 : Shape := ⟨2, ![512, 1024]⟩
abbrev S512x512 : Shape := ⟨2, ![512, 512]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x2x1408 : Shape := ⟨3, ![1, 2, 1408]⟩
abbrev S2x8x1408 : Shape := ⟨3, ![2, 8, 1408]⟩
abbrev S512 : Shape := ⟨1, ![512]⟩
abbrev S512x1 : Shape := ⟨2, ![512, 1]⟩
abbrev S512x1408 : Shape := ⟨2, ![512, 1408]⟩
abbrev S8x1408 : Shape := ⟨2, ![8, 1408]⟩
abbrev S1x8x1408 : Shape := ⟨3, ![1, 8, 1408]⟩
abbrev S2x1408 : Shape := ⟨2, ![2, 1408]⟩
abbrev S8x2x2816 : Shape := ⟨3, ![8, 2, 2816]⟩

abbrev nBuf : Space → Nat
  | .hbm => 21
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S1024x1024, .bf16⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S16384x1024, .f32⟩
  | .hbm, ⟨19, _⟩ => ⟨S32x2x2816, .f32⟩
  | .hbm, ⟨20, _⟩ => ⟨S8x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x2x1408, .f32⟩
  | .local _ .vmem, ⟨22, _⟩ => ⟨S1x2x1408, .f32⟩
  | .local _ .vmem, ⟨23, _⟩ => ⟨S512x1024, .f32⟩
  | .local _ .vmem, ⟨24, _⟩ => ⟨S512x1024, .bf16⟩
  | .local _ .vmem, ⟨25, _⟩ => ⟨S512x1024, .f32⟩
  | .local _ .vmem, ⟨26, _⟩ => ⟨S2x8x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg0 : BitVec 32 := BitVec.ofNat 32 (i 0).val
  let c4_i32 : BitVec 32 := 4#32
  let c0_i32_7 : BitVec 32 := 0#32
  let v10 : BitVec 1 := Scalar.cmpi .eq c4_i32 c0_i32_7
  let c1_i32 : BitVec 32 := 1#32
  let v11 : BitVec 32 := Scalar.select v10 c1_i32 c4_i32
  let v12 : BitVec 32 := Scalar.remsi arg0 v11
  let c0_i32_9 : BitVec 32 := 0#32
  let v14 : BitVec 1 := Scalar.cmpi .slt v12 c0_i32_9
  let c0_i32_10 : BitVec 32 := 0#32
  let v15 : BitVec 1 := Scalar.cmpi .slt v11 c0_i32_10
  let v16 : BitVec 1 := Scalar.xori v14 v15
  let c0_i32_8 : BitVec 32 := 0#32
  let v13 : BitVec 1 := Scalar.cmpi .ne v12 c0_i32_8
  let v17 : BitVec 1 := Scalar.andi v16 v13
  let v18 : BitVec 32 := Scalar.addi v12 v11
  let v19 : BitVec 32 := Scalar.select v17 v18 v12
  let c0_i32_11 : BitVec 32 := 0#32
  let v20 : BitVec 1 := Scalar.cmpi .eq v19 c0_i32_11
  let v21 : BitVec 32 := Scalar.extui v20
  let c0_i32_12 : BitVec 32 := 0#32
  let v22 : BitVec 1 := Scalar.cmpi .ne v21 c0_i32_12
  v22

def k0_off1 (i : grid0.Coords) : Fin 3 → Nat :=
  let arg1 : BitVec 32 := BitVec.ofNat 32 (i 1).val
  let v97 : Index := Scalar.indexCast arg1
  let c0_44 : Index := 0#32
  let c0_45 : Index := 0#32
  ![v97.toNat, 0, 0]
def k0_off2 (i : grid0.Coords) : Fin 3 → Nat :=
  let arg1 : BitVec 32 := BitVec.ofNat 32 (i 1).val
  let v23 : Index := Scalar.indexCast arg1
  let c0_13 : Index := 0#32
  let c0_14 : Index := 0#32
  ![v23.toNat, 0, 0]
def k0_cond3 (i : grid0.Coords) : BitVec 1 :=
  let arg1 : BitVec 32 := BitVec.ofNat 32 (i 1).val
  let c1_i32_41 : BitVec 32 := 1#32
  let v93 : BitVec 1 := Scalar.cmpi .eq arg1 c1_i32_41
  let v94 : BitVec 32 := Scalar.extui v93
  let c0_i32_42 : BitVec 32 := 0#32
  let v95 : BitVec 1 := Scalar.cmpi .ne v94 c0_i32_42
  v95

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x2816, .f32⟩
  | .hbm, ⟨33, _⟩ => ⟨S8x2048x2816, .f32⟩
  | .hbm, ⟨34, _⟩ => ⟨S_, .f32⟩
  | .hbm, ⟨35, _⟩ => ⟨S8x2x2816, .f32⟩
  | .hbm, ⟨36, _⟩ => ⟨S8x2050x2816, .f32⟩
  | .hbm, ⟨37, _⟩ => ⟨S1x2816, .f32⟩
  | .hbm, ⟨38, _⟩ => ⟨S2816, .f32⟩
  | .hbm, ⟨39, _⟩ => ⟨S8x2048x2816, .f32⟩
  | .hbm, ⟨40, _⟩ => ⟨S1x1x2816, .f32⟩
  | .hbm, ⟨41, _⟩ => ⟨S8x2048x2816, .f32⟩
  | .hbm, ⟨42, _⟩ => ⟨S8x2048x2816, .f32⟩
  | .hbm, ⟨43, _⟩ => ⟨S_, .f32⟩
  | .hbm, ⟨44, _⟩ => ⟨S8x2048x2816, .f32⟩
  | .hbm, ⟨45, _⟩ => ⟨S8x2048x2816, .f32⟩
  | .hbm, ⟨46, _⟩ => ⟨S1x2816, .f32⟩
  | .hbm, ⟨47, _⟩ => ⟨S2816, .f32⟩
  | .hbm, ⟨48, _⟩ => ⟨S8x2048x2816, .f32⟩
  | .hbm, ⟨49, _⟩ => ⟨S1x1x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S1x2816, .f32⟩
  | .hbm, ⟨54, _⟩ => ⟨S2816, .f32⟩
  | .hbm, ⟨55, _⟩ => ⟨S8x2048x2816, .f32⟩
  | .hbm, ⟨56, _⟩ => ⟨S1x1x2816, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S1x1x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S_, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S_, .f32⟩
  | .hbm, ⟨74, _⟩ => ⟨S8x2048x2816, .f32⟩
  | .hbm, ⟨75, _⟩ => ⟨S8x2048x2816, .f32⟩
  | .hbm, ⟨76, _⟩ => ⟨S_, .f32⟩
  | .hbm, ⟨77, _⟩ => ⟨S8x2048x2816, .f32⟩
  | .hbm, ⟨78, _⟩ => ⟨S8x2048x2816, .f32⟩
  | .hbm, ⟨79, _⟩ => ⟨S8x2048x2816, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S16384x1024, .f32⟩
  | .hbm, ⟨84, _⟩ => ⟨S16384x1024, .f32⟩
  | .hbm, ⟨85, _⟩ => ⟨S8x2x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1x1024 : Shape := ⟨2, ![1, 1024]⟩
abbrev S1x512 : Shape := ⟨2, ![1, 512]⟩
abbrev S8x512x2048 : Shape := ⟨3, ![8, 512, 2048]⟩
abbrev S8x2x8x64x2048 : Shape := ⟨5, ![8, 2, 8, 64, 2048]⟩
abbrev S16384x512 : Shape := ⟨2, ![16384, 512]⟩
abbrev S8x8x512x256 : Shape := ⟨4, ![8, 8, 512, 256]⟩
abbrev S8x15x512 : Shape := ⟨3, ![8, 15, 512]⟩
abbrev S512x1024 : Shape := ⟨2, ![512, 1024]⟩
abbrev S1x512x512 : Shape := ⟨3, ![1, 512, 512]⟩
abbrev S1x2x8x64x512 : Shape := ⟨5, ![1, 2, 8, 64, 512]⟩
abbrev S512x512 : Shape := ⟨2, ![512, 512]⟩
abbrev S1x2x512x256 : Shape := ⟨4, ![1, 2, 512, 256]⟩
abbrev S1x15x512 : Shape := ⟨3, ![1, 15, 512]⟩
abbrev S528x512 : Shape := ⟨2, ![528, 512]⟩
abbrev S512x1 : Shape := ⟨2, ![512, 1]⟩
abbrev S1024x512 : Shape := ⟨2, ![1024, 512]⟩
abbrev S8x64x512 : Shape := ⟨3, ![8, 64, 512]⟩
abbrev S1x1x8x64x512 : Shape := ⟨5, ![1, 1, 8, 64, 512]⟩
abbrev S512x256 : Shape := ⟨2, ![512, 256]⟩
abbrev S1x1x512x256 : Shape := ⟨4, ![1, 1, 512, 256]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S15x512 : Shape := ⟨2, ![15, 512]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S1024x2048, .bf16⟩
  | .hbm, ⟨6, _⟩ => ⟨S4x128x128, .bf16⟩
  | .hbm, ⟨7, _⟩ => ⟨S1x1024, .f32⟩
  | .hbm, ⟨8, _⟩ => ⟨S1x512, .f32⟩
  | .hbm, ⟨9, _⟩ => ⟨S8x512x2048, .bf16⟩
  | .hbm, ⟨10, _⟩ => ⟨S8x2x8x64x2048, .f32⟩
  | .hbm, ⟨11, _⟩ => ⟨S16384x512, .bf16⟩
  | .hbm, ⟨12, _⟩ => ⟨S8x8x512x256, .bf16⟩
  | .hbm, ⟨13, _⟩ => ⟨S16384x512, .bf16⟩
  | .hbm, ⟨14, _⟩ => ⟨S8x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S4x128x128, .bf16⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x2x8x64x512, .f32⟩
  | .local _ .vmem, ⟨9, _⟩ => ⟨S1x2x8x64x512, .f32⟩
  | .local _ .vmem, ⟨10, _⟩ => ⟨S512x512, .bf16⟩
  | .local _ .vmem, ⟨11, _⟩ => ⟨S512x512, .bf16⟩
  | .local _ .vmem, ⟨12, _⟩ => ⟨S1x2x512x256, .bf16⟩
  | .local _ .vmem, ⟨13, _⟩ => ⟨S1x2x512x256, .bf16⟩
  | .local _ .vmem, ⟨14, _⟩ => ⟨S512x512, .bf16⟩
  | .local _ .vmem, ⟨15, _⟩ => ⟨S512x512, .bf16⟩
  | .local _ .vmem, ⟨16, _⟩ => ⟨S1x15x512, .f32⟩
  | .local _ .vmem, ⟨17, _⟩ => ⟨S1x15x512, .f32⟩
  | .local _ .vmem, ⟨18, _⟩ => ⟨S528x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x15x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S8x2048x2048 : Shape := ⟨3, ![8, 2048, 2048]⟩
abbrev S8x2048x512 : Shape := ⟨3, ![8, 2048, 512]⟩
abbrev S8x2048x1024 : Shape := ⟨3, ![8, 2048, 1024]⟩
abbrev S8x2048x2x8x64 : Shape := ⟨5, ![8, 2048, 2, 8, 64]⟩
abbrev S8x15x512 : Shape := ⟨3, ![8, 15, 512]⟩
abbrev S8x2063x512 : Shape := ⟨3, ![8, 2063, 512]⟩
abbrev S8x512x2048 : Shape := ⟨3, ![8, 512, 2048]⟩
abbrev S8x2x8x64x2048 : Shape := ⟨5, ![8, 2, 8, 64, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2048, .f32⟩
  | .hbm, ⟨22, _⟩ => ⟨S8x2048x2048, .f32⟩
  | .hbm, ⟨23, _⟩ => ⟨S8x2048x512, .f32⟩
  | .hbm, ⟨24, _⟩ => ⟨S_, .f32⟩
  | .hbm, ⟨25, _⟩ => ⟨S8x2048x512, .f32⟩
  | .hbm, ⟨26, _⟩ => ⟨S8x2048x512, .f32⟩
  | .hbm, ⟨27, _⟩ => ⟨S8x2048x1024, .f32⟩
  | .hbm, ⟨28, _⟩ => ⟨S8x2048x2x8x64, .f32⟩
  | .hbm, ⟨29, _⟩ => ⟨S_, .f32⟩
  | .hbm, ⟨30, _⟩ => ⟨S8x15x512, .f32⟩
  | .hbm, ⟨31, _⟩ => ⟨S8x2048x512, .f32⟩
  | .hbm, ⟨32, _⟩ => ⟨S8x2063x512, .f32⟩
  | .hbm, ⟨33, _⟩ => ⟨S8x512x2048, .f32⟩
  | .hbm, ⟨34, _⟩ => ⟨S8x512x2048, .bf16⟩
  | .hbm, ⟨35, _⟩ => ⟨S8x2x8x64x2048, .f32⟩
  | .hbm, ⟨36, _⟩ => ⟨S8x15x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S128x1024 : Shape := ⟨2, ![128, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S128x15x512 : Shape := ⟨3, ![128, 15, 512]⟩
abbrev S1x1024 : Shape := ⟨2, ![1, 1024]⟩
abbrev S1x512 : Shape := ⟨2, ![1, 512]⟩
abbrev S128x7680 : Shape := ⟨2, ![128, 7680]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S1024x1024 : Shape := ⟨2, ![1024, 1024]⟩
abbrev S128x128 : Shape := ⟨2, ![128, 128]⟩
abbrev S1x128x128 : Shape := ⟨3, ![1, 128, 128]⟩
abbrev S1x128 : Shape := ⟨2, ![1, 128]⟩
abbrev S128x14x512 : Shape := ⟨3, ![128, 14, 512]⟩
abbrev S128x1x512 : Shape := ⟨3, ![128, 1, 512]⟩

abbrev nBuf : Space → Nat
  | .hbm => 18
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S128x15x512, .f32⟩
  | .hbm, ⟨6, _⟩ => ⟨S1024x2048, .bf16⟩
  | .hbm, ⟨7, _⟩ => ⟨S4x128x128, .bf16⟩
  | .hbm, ⟨8, _⟩ => ⟨S1x1024, .f32⟩
  | .hbm, ⟨9, _⟩ => ⟨S1x512, .f32⟩
  | .hbm, ⟨10, _⟩ => ⟨S128x7680, .f32⟩
  | .hbm, ⟨11, _⟩ => ⟨S128x512, .f32⟩
  | .hbm, ⟨12, _⟩ => ⟨S128x1024, .f32⟩
  | .hbm, ⟨13, _⟩ => ⟨S128x512, .f32⟩
  | .hbm, ⟨14, _⟩ => ⟨S128x512, .bf16⟩
  | .hbm, ⟨15, _⟩ => ⟨S128x14x512, .f32⟩
  | .hbm, ⟨16, _⟩ => ⟨S128x1x512, .f32⟩
  | .hbm, ⟨17, _⟩ => ⟨S128x15x512, .f32⟩
  | .local _ .vmem, ⟨0, _⟩ => ⟨S128x1024, .f32⟩
  | .local _ .vmem, ⟨1, _⟩ => ⟨S1x1024, .f32⟩
  | .local _ .vmem, ⟨2, _⟩ => ⟨S1024x2048, .bf16⟩
  | .local _ .vmem, ⟨3, _⟩ => ⟨S4x128x128, .bf16⟩
  | .local _ .vmem, ⟨4, _⟩ => ⟨S1x512, .f32⟩
  | .local _ .vmem, ⟨5, _⟩ => ⟨S128x7680, .f32⟩
  | .local _ .vmem, ⟨6, _⟩ => ⟨S128x512, .f32⟩
  | .local _ .vmem, ⟨7, _⟩ => ⟨S128x1024, .f32⟩
  | .local _ .vmem, ⟨8, _⟩ => ⟨S128x512, .f32⟩
  | .local _ .vmem, ⟨9, _⟩ => ⟨S128x512, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x7680 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S128x1024 : Shape := ⟨2, ![128, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S128x15x512 : Shape := ⟨3, ![128, 15, 512]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2048 : Shape := ⟨2, ![128, 2048]⟩
abbrev S128x512 : Shape := ⟨2, ![128, 512]⟩
abbrev S128x1x512 : Shape := ⟨3, ![128, 1, 512]⟩
abbrev S128x16x512 : Shape := ⟨3, ![128, 16, 512]⟩

abbrev nBuf : Space → Nat
  | .hbm => 32
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S128x15x512, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x2048, .f32⟩
  | .hbm, ⟨23, _⟩ => ⟨S128x512, .f32⟩
  | .hbm, ⟨24, _⟩ => ⟨S128x1x512, .f32⟩
  | .hbm, ⟨25, _⟩ => ⟨S128x16x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S128x1024, .f32⟩
  | .hbm, ⟨31, _⟩ => ⟨S128x15x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S1 : Shape := ⟨1, ![1]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4x1x1 : Shape := ⟨3, ![4, 1, 1]⟩
abbrev S4 : Shape := ⟨1, ![4]⟩
abbrev S1x512 : Shape := ⟨2, ![1, 512]⟩
abbrev S4x1 : Shape := ⟨2, ![4, 1]⟩
abbrev S1x1024 : Shape := ⟨2, ![1, 1024]⟩
abbrev S128x512 : Shape := ⟨2, ![128, 512]⟩
abbrev S128 : Shape := ⟨1, ![128]⟩
abbrev S128x1 : Shape := ⟨2, ![128, 1]⟩
abbrev S1024x128 : Shape := ⟨2, ![1024, 128]⟩
abbrev S128x128 : Shape := ⟨2, ![128, 128]⟩
abbrev S1024x512 : Shape := ⟨2, ![1024, 512]⟩

abbrev nBuf : Space → Nat
  | .hbm => 62
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1024x2560, .bf16⟩
  | .hbm, ⟨7, _⟩ => ⟨S_, .i32⟩
  | .hbm, ⟨8, _⟩ => ⟨S1, .i32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S1, .f32⟩
  | .hbm, ⟨21, _⟩ => ⟨S1x1, .f32⟩
  | .hbm, ⟨22, _⟩ => ⟨S1x8, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S_, .f32⟩
  | .hbm, ⟨28, _⟩ => ⟨S1x48, .f32⟩
  | .hbm, ⟨29, _⟩ => ⟨S_, .f32⟩
  | .hbm, ⟨30, _⟩ => ⟨S1x8, .f32⟩
  | .hbm, ⟨31, _⟩ => ⟨S_, .f32⟩
  | .hbm, ⟨32, _⟩ => ⟨S1x48, .f32⟩
  | .hbm, ⟨33, _⟩ => ⟨S1x64, .f32⟩
  | .hbm, ⟨34, _⟩ => ⟨S1x8, .f32⟩
  | .hbm, ⟨35, _⟩ => ⟨S1x64, .f32⟩
  | .hbm, ⟨36, _⟩ => ⟨S1x64, .f32⟩
  | .hbm, ⟨37, _⟩ => ⟨S1x1x1x64, .f32⟩
  | .hbm, ⟨38, _⟩ => ⟨S1x1x2x64, .f32⟩
  | .hbm, ⟨39, _⟩ => ⟨S1x128, .f32⟩
  | .hbm, ⟨40, _⟩ => ⟨S1x1x1x64, .f32⟩
  | .hbm, ⟨41, _⟩ => ⟨S1x1x2x64, .f32⟩
  | .hbm, ⟨42, _⟩ => ⟨S1x128, .f32⟩
  | .hbm, ⟨43, _⟩ => ⟨S1x1x1x64, .f32⟩
  | .hbm, ⟨44, _⟩ => ⟨S1x1x2x64, .f32⟩
  | .hbm, ⟨45, _⟩ => ⟨S1x128, .f32⟩
  | .hbm, ⟨46, _⟩ => ⟨S4x1x1, .f32⟩
  | .hbm, ⟨47, _⟩ => ⟨S4, .f32⟩
  | .hbm, ⟨48, _⟩ => ⟨S4x128, .f32⟩
  | .hbm, ⟨49, _⟩ => ⟨S512, .f32⟩
  | .hbm, ⟨50, _⟩ => ⟨S1x512, .f32⟩
  | .hbm, ⟨51, _⟩ => ⟨S4x1, .f32⟩
  | .hbm, ⟨52, _⟩ => ⟨S4, .f32⟩
  | .hbm, ⟨53, _⟩ => ⟨S4x128, .f32⟩
  | .hbm, ⟨54, _⟩ => ⟨S512, .f32⟩
  | .hbm, ⟨55, _⟩ => ⟨S1x512, .f32⟩
  | .hbm, ⟨56, _⟩ => ⟨S1x1024, .f32⟩
  | .hbm, ⟨57, _⟩ => ⟨S1x512, .f32⟩
  | .hbm, ⟨58, _⟩ => ⟨S128x512, .f32⟩
  | .hbm, ⟨59, _⟩ => ⟨S128x1024, .f32⟩
  | .hbm, ⟨60, _⟩ => ⟨S128x512, .f32⟩
  | .hbm, ⟨61, _⟩ => ⟨S128x512, .bf16⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S128x512, .f32⟩
  | .local _ .vmem, ⟨10, _⟩ => ⟨S128x1024, .f32⟩
  | .local _ .vmem, ⟨11, _⟩ => ⟨S128x512, .f32⟩
  | .local _ .vmem, ⟨12, _⟩ => ⟨S128x512, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S128x1024 : Shape := ⟨2, ![128, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2560 : Shape := ⟨2, ![128, 2560]⟩
abbrev S8 : Shape := ⟨1, ![8]⟩
abbrev S1 : Shape := ⟨1, ![1]⟩
abbrev S1x1 : Shape := ⟨2, ![1, 1]⟩
abbrev S1x8 : Shape := ⟨2, ![1, 8]⟩
abbrev S1x1x8 : Shape := ⟨3, ![1, 1, 8]⟩
abbrev S128x512 : Shape := ⟨2, ![128, 512]⟩
abbrev S1x512 : Shape := ⟨2, ![1, 512]⟩
abbrev S128x8x64 : Shape := ⟨3, ![128, 8, 64]⟩
abbrev S128x8x8 : Shape := ⟨3, ![128, 8, 8]⟩
abbrev S128x8x48 : Shape := ⟨3, ![128, 8, 48]⟩

abbrev nBuf : Space → Nat
  | .hbm => 126
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x2560, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .i32⟩
  | .hbm, ⟨35, _⟩ => ⟨S1, .i32⟩
  | .hbm, ⟨36, _⟩ => ⟨S1, .f32⟩
  | .hbm, ⟨37, _⟩ => ⟨S1x1, .f32⟩
  | .hbm, ⟨38, _⟩ => ⟨S1x8, .f32⟩
  | .hbm, ⟨39, _⟩ => ⟨S1x8, .f32⟩
  | .hbm, ⟨40, _⟩ => ⟨S1x8, .f32⟩
  | .hbm, ⟨41, _⟩ => ⟨S1x8, .f32⟩
  | .hbm, ⟨42, _⟩ => ⟨S1x1x8, .f32⟩
  | .hbm, ⟨43, _⟩ => ⟨S1x8, .f32⟩
  | .hbm, ⟨44, _⟩ => ⟨S1x1x8, .f32⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S_, .f32⟩
  | .hbm, ⟨53, _⟩ => ⟨S128x512, .f32⟩
  | .hbm, ⟨54, _⟩ => ⟨S128x512, .f32⟩
  | .hbm, ⟨55, _⟩ => ⟨S128x512, .f32⟩
  | .hbm, ⟨56, _⟩ => ⟨S_, .f32⟩
  | .hbm, ⟨57, _⟩ => ⟨S128x512, .f32⟩
  | .hbm, ⟨58, _⟩ => ⟨S128x512, .f32⟩
  | .hbm, ⟨59, _⟩ => ⟨S_, .f32⟩
  | .hbm, ⟨60, _⟩ => ⟨S128x512, .f32⟩
  | .hbm, ⟨61, _⟩ => ⟨S128x512, .f32⟩
  | .hbm, ⟨62, _⟩ => ⟨S128x512, .f32⟩
  | .hbm, ⟨63, _⟩ => ⟨S_, .f32⟩
  | .hbm, ⟨64, _⟩ => ⟨S128, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S_, .f32⟩
  | .hbm, ⟨73, _⟩ => ⟨S128, .f32⟩
  | .hbm, ⟨74, _⟩ => ⟨S128x1, .f32⟩
  | .hbm, ⟨75, _⟩ => ⟨S_, .f32⟩
  | .hbm, ⟨76, _⟩ => ⟨S128x1, .f32⟩
  | .hbm, ⟨77, _⟩ => ⟨S128x1, .f32⟩
  | .hbm, ⟨78, _⟩ => ⟨S_, .f32⟩
  | .hbm, ⟨79, _⟩ => ⟨S128x1, .f32⟩
  | .hbm, ⟨80, _⟩ => ⟨S128x1, .f32⟩
  | .hbm, ⟨81, _⟩ => ⟨S128x1, .f32⟩
  | .hbm, ⟨82, _⟩ => ⟨S128x512, .f32⟩
  | .hbm, ⟨83, _⟩ => ⟨S128x512, .f32⟩
  | .hbm, ⟨84, _⟩ => ⟨S1x512, .f32⟩
  | .hbm, ⟨85, _⟩ => ⟨S128x512, .f32⟩
  | .hbm, ⟨86, _⟩ => ⟨S128x512, .f32⟩
  | .hbm, ⟨87, _⟩ => ⟨S128x512, .f32⟩
  | .hbm, ⟨88, _⟩ => ⟨S128x8x64, .f32⟩
  | .hbm, ⟨89, _⟩ => ⟨S128x8x8, .f32⟩
  | .hbm, ⟨90, _⟩ => ⟨S128x8x8, .f32⟩
  | .hbm, ⟨91, _⟩ => ⟨S128x8x48, .f32⟩
  | .hbm, ⟨92, _⟩ => ⟨S128x8x8, .f32⟩
  | .hbm, ⟨93, _⟩ => ⟨S128x8x8, .f32⟩
  | .hbm, ⟨94, _⟩ => ⟨S128x8x8, .f32⟩
  | .hbm, ⟨95, _⟩ => ⟨S128x8x8, .f32⟩
  | .hbm, ⟨96, _⟩ => ⟨S128x8x8, .f32⟩
  | .hbm, ⟨97, _⟩ => ⟨S128x8x8, .f32⟩
  | .hbm, ⟨98, _⟩ => ⟨S128x8x8, .f32⟩
  | .hbm, ⟨99, _⟩ => ⟨S128x8x8, .f32⟩
  | .hbm, ⟨100, _⟩ => ⟨S128x8x8, .f32⟩
  | .hbm, ⟨101, _⟩ => ⟨S128x8x8, .f32⟩
  | .hbm, ⟨102, _⟩ => ⟨S128x8x64, .f32⟩
  | .hbm, ⟨103, _⟩ => ⟨S128x512, .f32⟩
  | .hbm, ⟨104, _⟩ => ⟨S_, .f32⟩
  | .hbm, ⟨105, _⟩ => ⟨S128x512, .f32⟩
  | .hbm, ⟨106, _⟩ => ⟨S128x512, .f32⟩
  | .hbm, ⟨107, _⟩ => ⟨S128x512, .f32⟩
  | .hbm, ⟨108, _⟩ => ⟨S128x8x64, .f32⟩
  | .hbm, ⟨109, _⟩ => ⟨S128x8x8, .f32⟩
  | .hbm, ⟨110, _⟩ => ⟨S128x8x8, .f32⟩
  | .hbm, ⟨111, _⟩ => ⟨S128x8x48, .f32⟩
  | .hbm, ⟨112, _⟩ => ⟨S128x8x8, .f32⟩
  | .hbm, ⟨113, _⟩ => ⟨S128x8x8, .f32⟩
  | .hbm, ⟨114, _⟩ => ⟨S128x8x8, .f32⟩
  | .hbm, ⟨115, _⟩ => ⟨S128x8x8, .f32⟩
  | .hbm, ⟨116, _⟩ => ⟨S128x8x8, .f32⟩
  | .hbm, ⟨117, _⟩ => ⟨S128x8x8, .f32⟩
  | .hbm, ⟨118, _⟩ => ⟨S128x8x8, .f32⟩
  | .hbm, ⟨119, _⟩ => ⟨S128x8x8, .f32⟩
  | .hbm, ⟨120, _⟩ => ⟨S128x8x8, .f32⟩
  | .hbm, ⟨121, _⟩ => ⟨S128x8x8, .f32⟩
  | .hbm, ⟨122, _⟩ => ⟨S128x8x64, .f32⟩
  | .hbm, ⟨123, _⟩ => ⟨S128x512, .f32⟩
  | .hbm, ⟨124, _⟩ => ⟨S128x512, .f32⟩
  | .hbm, ⟨125, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩

abbrev nD : Nat := 1
abbrev τ : Topo := Topo.v7x

variable {F : FTy → Type} [FloatOps F]
-- ==== Kernel7.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S128x2x2816 : Shape := ⟨3, ![128, 2, 2816]⟩
abbrev S1x1024 : Shape := ⟨2, ![1, 1024]⟩
abbrev S1x2816 : Shape := ⟨2, ![1, 2816]⟩
abbrev S128x5632 : Shape := ⟨2, ![128, 5632]⟩
abbrev S128x2816 : Shape := ⟨2, ![128, 2816]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S128x1408 : Shape := ⟨2, ![128, 1408]⟩
abbrev S512x1024 : Shape := ⟨2, ![512, 1024]⟩
abbrev S128 : Shape := ⟨1, ![128]⟩
abbrev S128x1 : Shape := ⟨2, ![128, 1]⟩
abbrev S128x1x2816 : Shape := ⟨3, ![128, 1, 2816]⟩

abbrev nBuf : Space → Nat
  | .hbm => 27
  | .vmem => 26
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S128x2x2816, .f32⟩
  | .hbm, ⟨12, _⟩ => ⟨S1024x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S1x2816, .f32⟩
  | .hbm, ⟨17, _⟩ => ⟨S2816x1024, .bf16⟩
  | .hbm, ⟨18, _⟩ => ⟨S1x1024, .f32⟩
  | .hbm, ⟨19, _⟩ => ⟨S128x5632, .f32⟩
  | .hbm, ⟨20, _⟩ => ⟨S128x1024, .f32⟩
  | .hbm, ⟨21, _⟩ => ⟨S128x2816, .f32⟩
  | .hbm, ⟨22, _⟩ => ⟨S128x1x2816, .f32⟩
  | .hbm, ⟨23, _⟩ => ⟨S128x2816, .f32⟩
  | .hbm, ⟨24, _⟩ => ⟨S128x1x2816, .f32⟩
  | .hbm, ⟨25, _⟩ => ⟨S128x1x2816, .f32⟩
  | .hbm, ⟨26, _⟩ => ⟨S128x2x2816, .f32⟩
  | .local _ .vmem, ⟨0, _⟩ => ⟨S128x1024, .f32⟩
  | .local _ .vmem, ⟨1, _⟩ => ⟨S128x512, .f32⟩
  | .local _ .vmem, ⟨2, _⟩ => ⟨S128x512, .bf16⟩
  | .local _ .vmem, ⟨3, _⟩ => ⟨S1024x1024, .bf16⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S128x1408, .f32⟩
  | .local _ .vmem, ⟨17, _⟩ => ⟨S128x1408, .f32⟩
  | .local _ .vmem, ⟨18, _⟩ => ⟨S128x1408, .f32⟩
  | .local _ .vmem, ⟨19, _⟩ => ⟨S128x1408, .f32⟩
  | .local _ .vmem, ⟨20, _⟩ => ⟨S128x1024, .f32⟩
  | .local _ .vmem, ⟨21, _⟩ => ⟨S128x1408, .f32⟩
  | .local _ .vmem, ⟨22, _⟩ => ⟨S128x1408, .f32⟩
  | .local _ .vmem, ⟨23, _⟩ => ⟨S128x1024, .f32⟩
  | .local _ .vmem, ⟨24, _⟩ => ⟨S128x1024, .bf16⟩
  | .local _ .vmem, ⟨25, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v53 : BitVec 1 := Scalar.cmpi .eq arg0 c1_i32
  let v54 : BitVec 32 := Scalar.extui v53
  let c0_i32_30 : BitVec 32 := 0#32
  let v55 : BitVec 1 := Scalar.cmpi .ne v54 c0_i32_30
  v55

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S128x2x2816 : Shape := ⟨3, ![128, 2, 2816]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩
abbrev S128x1x2816 : Shape := ⟨3, ![128, 1, 2816]⟩
abbrev S128x3x2816 : Shape := ⟨3, ![128, 3, 2816]⟩
abbrev S1x2816 : Shape := ⟨2, ![1, 2816]⟩

abbrev nBuf : Space → Nat
  | .hbm => 102
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S128x2x2816, .f32⟩
  | .hbm, ⟨12, _⟩ => ⟨S128x512, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S128x1024, .f32⟩
  | .hbm, ⟨28, _⟩ => ⟨S128x1024, .f32⟩
  | .hbm, ⟨29, _⟩ => ⟨S1x1024, .f32⟩
  | .hbm, ⟨30, _⟩ => ⟨S128x1024, .f32⟩
  | .hbm, ⟨31, _⟩ => ⟨S128x1024, .f32⟩
  | .hbm, ⟨32, _⟩ => ⟨S128x2816, .f32⟩
  | .hbm, ⟨33, _⟩ => ⟨S128x1x2816, .f32⟩
  | .hbm, ⟨34, _⟩ => ⟨S128x3x2816, .f32⟩
  | .hbm, ⟨35, _⟩ => ⟨S1x2816, .f32⟩
  | .hbm, ⟨36, _⟩ => ⟨S2816, .f32⟩
  | .hbm, ⟨37, _⟩ => ⟨S128x1x2816, .f32⟩
  | .hbm, ⟨38, _⟩ => ⟨S128x2816, .f32⟩
  | .hbm, ⟨39, _⟩ => ⟨S1x2816, .f32⟩
  | .hbm, ⟨40, _⟩ => ⟨S128x2816, .f32⟩
  | .hbm, ⟨41, _⟩ => ⟨S128x2816, .f32⟩
  | .hbm, ⟨42, _⟩ => ⟨S_, .f32⟩
  | .hbm, ⟨43, _⟩ => ⟨S128x2816, .f32⟩
  | .hbm, ⟨44, _⟩ => ⟨S128x2816, .f32⟩
  | .hbm, ⟨45, _⟩ => ⟨S1x2816, .f32⟩
  | .hbm, ⟨46, _⟩ => ⟨S2816, .f32⟩
  | .hbm, ⟨47, _⟩ => ⟨S128x1x2816, .f32⟩
  | .hbm, ⟨48, _⟩ => ⟨S128x2816, .f32⟩
  | .hbm, ⟨49, _⟩ => ⟨S1x2816, .f32⟩
  | .hbm, ⟨50, _⟩ => ⟨S128x2816, .f32⟩
  | .hbm, ⟨51, _⟩ => ⟨S128x2816, .f32⟩
  | .hbm, ⟨52, _⟩ => ⟨S128x2816, .f32⟩
  | .hbm, ⟨53, _⟩ => ⟨S1x2816, .f32⟩
  | .hbm, ⟨54, _⟩ => ⟨S2816, .f32⟩
  | .hbm, ⟨55, _⟩ => ⟨S128x1x2816, .f32⟩
  | .hbm, ⟨56, _⟩ => ⟨S128x2816, .f32⟩
  | .hbm, ⟨57, _⟩ => ⟨S1x2816, .f32⟩
  | .hbm, ⟨58, _⟩ => ⟨S128x2816, .f32⟩
  | .hbm, ⟨59, _⟩ => ⟨S128x2816, .f32⟩
  | .hbm, ⟨60, _⟩ => ⟨S128x2816, .f32⟩
  | .hbm, ⟨61, _⟩ => ⟨S1x2816, .f32⟩
  | .hbm, ⟨62, _⟩ => ⟨S128x2816, .f32⟩
  | .hbm, ⟨63, _⟩ => ⟨S128x2816, .f32⟩
  | .hbm, ⟨64, _⟩ => ⟨S128x2816, .f32⟩
  | .hbm, ⟨65, _⟩ => ⟨S128x2816, .f32⟩
  | .hbm, ⟨66, _⟩ => ⟨S_, .f32⟩
  | .hbm, ⟨67, _⟩ => ⟨S128x2816, .f32⟩
  | .hbm, ⟨68, _⟩ => ⟨S128x2816, .f32⟩
  | .hbm, ⟨69, _⟩ => ⟨S128x2816, .f32⟩
  | .hbm, ⟨70, _⟩ => ⟨S_, .f32⟩
  | .hbm, ⟨71, _⟩ => ⟨S128x2816, .f32⟩
  | .hbm, ⟨72, _⟩ => ⟨S128x2816, .f32⟩
  | .hbm, ⟨73, _⟩ => ⟨S128x2816, .f32⟩
  | .hbm, ⟨74, _⟩ => ⟨S_, .f32⟩
  | .hbm, ⟨75, _⟩ => ⟨S128x2816, .f32⟩
  | .hbm, ⟨76, _⟩ => ⟨S128x2816, .f32⟩
  | .hbm, ⟨77, _⟩ => ⟨S_, .f32⟩
  | .hbm, ⟨78, _⟩ => ⟨S128x2816, .f32⟩
  | .hbm, ⟨79, _⟩ => ⟨S128x2816, .f32⟩
  | .hbm, ⟨80, _⟩ => ⟨S128x2816, .f32⟩
  | .hbm, ⟨81, _⟩ => ⟨S128x2816, .f32⟩
  | .hbm, ⟨82, _⟩ => ⟨S128x2816, .f32⟩
  | .hbm, ⟨83, _⟩ => ⟨S128x1024, .f32⟩
  | .hbm, ⟨84, _⟩ => ⟨S128x1024, .f32⟩
  | .hbm, ⟨85, _⟩ => ⟨S128x1024, .f32⟩
  | .hbm, ⟨86, _⟩ => ⟨S_, .f32⟩
  | .hbm, ⟨87, _⟩ => ⟨S128, .f32⟩
  | .hbm, ⟨88, _⟩ => ⟨S128x1, .f32⟩
  | .hbm, ⟨89, _⟩ => ⟨S_, .f32⟩
  | .hbm, ⟨90, _⟩ => ⟨S128x1, .f32⟩
  | .hbm, ⟨91, _⟩ => ⟨S128x1, .f32⟩
  | .hbm, ⟨92, _⟩ => ⟨S_, .f32⟩
  | .hbm, ⟨93, _⟩ => ⟨S128x1, .f32⟩
  | .hbm, ⟨94, _⟩ => ⟨S128x1, .f32⟩
  | .hbm, ⟨95, _⟩ => ⟨S128x1, .f32⟩
  | .hbm, ⟨96, _⟩ => ⟨S128x1024, .f32⟩
  | .hbm, ⟨97, _⟩ => ⟨S128x1024, .f32⟩
  | .hbm, ⟨98, _⟩ => ⟨S1x1024, .f32⟩
  | .hbm, ⟨99, _⟩ => ⟨S128x1024, .f32⟩
  | .hbm, ⟨100, _⟩ => ⟨S128x1024, .f32⟩
  | .hbm, ⟨101, _⟩ => ⟨S128x2x2816, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_7 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Proof.Blocks.lean ====
/- What the windows stage at a grid point, read off the launch memory: the point's query and new-key rows, and the pages
   its row of the page table names. -/
module

public import proofs.«01_k».proof.Proof.Gen.KernelIdeal.Frame
public import Idealize.ShloMosaic.Lib.ValueIdx
public import Idealize.ShloMosaic.Lib.StableHlo.Run
public import Idealize.ShloMosaic.Lib.Pipeline.Value

@[expose] public section

set_option maxRecDepth 16384

noncomputable section

namespace Cert.KernelIdeal.Blocks

open Idealize.ShloMosaic Idealize.ShloMosaic.TcCoe Cert.KernelIdeal.Gen Idealize.ShloMosaic.Tactic

variable {F : FTy → Type} [FloatOps F]
variable (m : (ℓ : Loc nD τ sig) → Buf (Elt F) ℓ)

/-- The cache as the kernel's windows stage it: transposed. -/
theorem V_main_v0 (c : Dev nD) : V m c main_v0
    = transpose S2560x2x8x64x128 [0, 2, 3, 4, 1] (m ((c : Thread nD τ).loc main_arg2)) transposes_S2560x128x2x8x64_S2560x2x8x64x128_0_2_3_4_1 := by
  unfold V hostOps0
  after_results

/-- The queries as the kernel's windows stage them. -/
theorem V_main_v1 (c : Dev nD) : V m c main_v1
    = shapeCast S128x1x512 (m ((c : Thread nD τ).loc main_arg0)) shapeCasts_S128x512_S128x1x512 := by
  unfold V hostOps0
  after_results
  rfl

/-- The new keys and values as the kernel's windows stage them. -/
theorem V_main_v2 (c : Dev nD) : V m c main_v2
    = shapeCast S128x1x1024 (m ((c : Thread nD τ).loc main_arg1)) shapeCasts_S128x1024_S128x1x1024 := by
  unfold V hostOps0
  after_results
  rfl

open ValueIdx

/-- The page number at a row and a column of the table. -/
def pg (t : Fin 128) (k : Fin 16) : BitVec 32 := m ((0 : Dev nD).tc.loc main_arg3) (ix2 t k)

/-- The page a row and a column of the table name, transposed as the windows stage it. -/
def page (hp : ∀ y : S128x16.Idx, (m ((0 : Dev nD).tc.loc main_arg3) y).toNat < 2560) (c : Dev nD) (t : Fin 128) (k : Fin 16) :
    Vec F S1x2x8x64x128 .f32 :=
  fun y => m ((c : Thread nD τ).loc main_arg2) (ix5 ⟨(pg m t k).toNat, hp _⟩ (y 4) (y 1) (y 2) (y 3))

/-- The grid has one point per sequence. -/
theorem N_eq (hO : Ok m) : (cfgM m hO).N = 128 := rfl

/-- The sequence a grid point works on. -/
abbrev seqOf (hO : Ok m) (t : Fin (cfgM m hO).N) : Fin 128 := t.cast (N_eq m hO)

/-- The coordinate of a point is the point. -/
theorem coord (hO : Ok m) (t : Fin (cfgM m hO).N) : ((grid0.coords t) 0).val = t.val := by
  have h : ∀ t : Fin grid0.N, ((grid0.coords t) 0).val = t.val := by decide +kernel
  exact h t

/-- A word of the table, read where an index map reads it. -/
theorem table_at (hO : Ok m) (t : Fin (cfgM m hO).N) (k : Fin 16) (inb : ∀ a, (![(Scalar.indexCast (BitVec.ofNat 32 ((grid0.coords t) 0).val)).toNat, k.val] : Fin 2 → ℕ) a + S1x1.size a ≤ S128x16.size a) :
    (tbl m).at 0 (Rect.unit (s := S128x16) ![(Scalar.indexCast (BitVec.ofNat 32 ((grid0.coords t) 0).val)).toNat, k.val] S1x1.size inb) numel1_S1x1
      = pg m (seqOf m hO t) k := by
  have e : tbl m 0 = m ((0 : Dev nD).tc.loc main_arg3) := V_main_arg3 m 0
  show tbl m 0 _ = _
  rw [e]
  unfold pg
  refine congrArg _ (funext fun a => Fin.ext ?_)
  have ht := (seqOf m hO t).isLt
  have hc := coord m hO t
  match a with
  | ⟨0, _⟩ =>
    show (BitVec.ofNat 32 ((grid0.coords t) 0).val).toNat + 1 * 0 = t.val
    have ht' : t.val < 128 := ht
    rw [hc, BitVec.toNat_ofNat]
    omega
  | ⟨1, _⟩ =>
    show k.val + 1 * 0 = k.val
    omega

/-- A page window's block at an index is the transposed page at that index. -/
theorem block_emb (p : ℕ) (hp : p < 2560) (ix : Fin 5 → ℕ) (y : S1x2x8x64x128.Idx) (h : ix = ![p, 0, 0, 0, 0])
    (b : Fin 5) :
    ((ix5 ⟨p, hp⟩ (y 4) (y 1) (y 2) (y 3) : S2560x128x2x8x64.Idx)
        (([0, 2, 3, 4, 1] : List (Fin 5))[b.cast (by rfl : 5 = ([0, 2, 3, 4, 1] : List (Fin 5)).length)])).val
      = ix b * S1x2x8x64x128.size b + 1 * (y b).val := by
  subst h
  have h0 : (y 0).val < 1 := (y 0).isLt
  match b with
  | ⟨0, _⟩ => show p = p * 1 + 1 * (y 0).val; omega
  | ⟨1, _⟩ => show (y 1).val = 0 * 2 + 1 * (y 1).val; omega
  | ⟨2, _⟩ => show (y 2).val = 0 * 8 + 1 * (y 2).val; omega
  | ⟨3, _⟩ => show (y 3).val = 0 * 64 + 1 * (y 3).val; omega
  | ⟨4, _⟩ => show (y 4).val = 0 * 128 + 1 * (y 4).val; omega

/-- **The page windows**: window `k + 2` stages the page column `k` of the point's row names. -/
theorem pages (hO : Ok m) (hp) (c : Dev nD) (t : Fin (cfgM m hO).N) :
    iblk m hO c 2 t = page m hp c (seqOf m hO t) 0
    ∧ iblk m hO c 3 t = page m hp c (seqOf m hO t) 1
    ∧ iblk m hO c 4 t = page m hp c (seqOf m hO t) 2
    ∧ iblk m hO c 5 t = page m hp c (seqOf m hO t) 3
    ∧ iblk m hO c 6 t = page m hp c (seqOf m hO t) 4
    ∧ iblk m hO c 7 t = page m hp c (seqOf m hO t) 5
    ∧ iblk m hO c 8 t = page m hp c (seqOf m hO t) 6
    ∧ iblk m hO c 9 t = page m hp c (seqOf m hO t) 7
    ∧ iblk m hO c 10 t = page m hp c (seqOf m hO t) 8
    ∧ iblk m hO c 11 t = page m hp c (seqOf m hO t) 9
    ∧ iblk m hO c 12 t = page m hp c (seqOf m hO t) 10
    ∧ iblk m hO c 13 t = page m hp c (seqOf m hO t) 11
    ∧ iblk m hO c 14 t = page m hp c (seqOf m hO t) 12
    ∧ iblk m hO c 15 t = page m hp c (seqOf m hO t) 13
    ∧ iblk m hO c 16 t = page m hp c (seqOf m hO t) 14
    ∧ iblk m hO c 17 t = page m hp c (seqOf m hO t) 15 := by
  refine ⟨?_, ?_, ?_, ?_, ?_, ?_, ?_, ?_, ?_, ?_, ?_, ?_, ?_, ?_, ?_, ?_⟩ <;>
  · funext y
    unfold iblk
    rw [View.read_apply]
    show V m c main_v0 _ = _
    rw [V_main_v0]
    exact Idealize.ShloMosaic.transpose_apply _ _ _ _ _ fun b =>
      block_emb _ (hp _) _ y (congrArg (fun w : BitVec 32 => ![w.toNat, 0, 0, 0, 0]) (table_at m hO t _ _)) b

end Cert.KernelIdeal.Blocks
-- ==== Proof.Unit.lean ====
/- The body of the decoding attention, page by page: the functions one visited page adds to the running tail and to the
   running sum of values, and what a grid point leaves in its output block as their composition. -/
module

public import proofs.«01_k».proof.Proof.Gen.KernelIdeal.Frame
public import Idealize.ShloMosaic.Lib.Pipeline.Value

@[expose] public section

set_option maxRecDepth 16384

noncomputable section

namespace Cert.KernelIdeal.Unit

open Idealize.ShloMosaic Idealize.ShloMosaic.TcCoe Cert.KernelIdeal.Gen Idealize.ShloMosaic.Tactic

variable {F : FTy → Type} [FloatOps F]

/-- The keys of a page: head and coordinate flattened to 512 rows, one column per position. -/
def keys (X : Vec F S1x2x8x64x128 .f32) : FVec F S512x128 .bf16 :=
  truncf .bf16 (shapeCast S512x128 (shapeCast S8x64x128 (View.ld X (Rect.unit (s := S1x2x8x64x128) ![0, 0, 0, 0, 0] S1x1x8x64x128.size
    inb_S1x2x8x64x128_S1x1x8x64x128_0_0_0_0_0)) shapeCasts_S1x1x8x64x128_S8x64x128) shapeCasts_S8x64x128_S512x128) bitsLt_bf16_f32

/-- The values of a page, the same way. -/
def vals (X : Vec F S1x2x8x64x128 .f32) : FVec F S512x128 .bf16 :=
  truncf .bf16 (shapeCast S512x128 (shapeCast S8x64x128 (View.ld X (Rect.unit (s := S1x2x8x64x128) ![0, 1, 0, 0, 0] S1x1x8x64x128.size
    inb_S1x2x8x64x128_S1x1x8x64x128_0_1_0_0_0)) shapeCasts_S1x1x8x64x128_S8x64x128) shapeCasts_S8x64x128_S512x128) bitsLt_bf16_f32

/-- The scores of a page's positions, one row per head. -/
def score (qb : FVec F S8x512 .bf16) (X : Vec F S1x2x8x64x128 .f32) : FVec F S8x128 .f32 :=
  matmul dot_S8x512_S512x128_S8x128_1_0_0_1_n_n none qb (keys X) (constant S8x128 .f32 0x00000000#32)

/-- The logarithm of the sigmoid of the scores. -/
def lsig (s : FVec F S8x128 .f32) : FVec F S8x128 .f32 :=
  subf (minimumf s (broadcast S8x128 (Scalar.ofBits .f32 0x00000000#32)))
    (log1p (exp (subf (broadcast S8x128 (Scalar.ofBits .f32 0x00000000#32)) (absf s))))

/-- The logarithm of the sigmoid of the negated scores. -/
def lkeep (s : FVec F S8x128 .f32) : FVec F S8x128 .f32 := subf (lsig s) s

/-- The tail after a page: the page's whole mass added. -/
def tailNext (T : FVec F S8x1 .f32) (s : FVec F S8x128 .f32) : FVec F S8x1 .f32 :=
  addf T (shapeCast S8x1 (multiReduction .add [1] S8 (lkeep s) 0x00000000#32 reduces_S8x128_S8 (.inl rfl) rfl) shapeCasts_S8_S8x1)

/-- The high part of the mass, as the product takes it. -/
def hi (s : FVec F S8x128 .f32) : FVec F S8x128 .bf16 := truncf .bf16 (lkeep s) bitsLt_bf16_f32

/-- The rest of the mass. -/
def lo (s : FVec F S8x128 .f32) : FVec F S8x128 .bf16 :=
  truncf .bf16 (subf (lkeep s) (extf .f32 (hi s) bitsLt_bf16_f32)) bitsLt_bf16_f32

/-- Ones strictly below the diagonal. -/
def below : FVec F S128x128 .bf16 := k0_pay9 k0_pay8 (Scalar.ofBits .f32 0x3F800000#32)

/-- The mass of the later positions of the page. -/
def later (s : FVec F S8x128 .f32) : FVec F S8x128 .f32 :=
  addf (matmul dot_S8x128_S128x128_S8x128_1_0_0_1_n_n none (hi s) below (constant S8x128 .f32 0x00000000#32))
    (matmul dot_S8x128_S128x128_S8x128_1_0_0_1_n_n none (lo s) below (constant S8x128 .f32 0x00000000#32))

/-- The weights of a page's positions. -/
def weight (T : FVec F S8x1 .f32) (s : FVec F S8x128 .f32) : FVec F S8x128 .bf16 :=
  truncf .bf16 (exp (addf (addf (lsig s) (later s)) (broadcastTo S8x128 T broadcasts_S8x1_S8x128))) bitsLt_bf16_f32

/-- The weighted values of a page, one row per head over all columns. -/
def value (T : FVec F S8x1 .f32) (s : FVec F S8x128 .f32) (X : Vec F S1x2x8x64x128 .f32) : FVec F S8x512 .f32 :=
  matmul dot_S8x128_S512x128_S8x512_1_1_0_0_n_n none (weight T s) (vals X) (constant S8x512 .f32 0x00000000#32)

/-- The queries on each head's own columns. -/
def qrow (x0 : Vec F S1x1x512 .f32) : FVec F S8x512 .f32 :=
  k0_pay4 (View.ld x0 (Rect.unit (s := S1x1x512) ![0, 0, 0] S1x1x512.size inb_S1x1x512_S1x1x512_0_0_0))

/-- The queries as the product takes them. -/
def qb (x0 : Vec F S1x1x512 .f32) : FVec F S8x512 .bf16 := truncf .bf16 (qrow x0) bitsLt_bf16_f32

/-- The tail before the `n`-th page visited. -/
def tail (x0 : Vec F S1x1x512 .f32) (x1 : Vec F S1x1x1024 .f32) (U : ℕ → Vec F S1x2x8x64x128 .f32) : ℕ → FVec F S8x1 .f32
  | 0 => k0_pay13 (qrow x0) (k0_pay6 (View.ld x1 (Rect.unit (s := S1x1x1024) ![0, 0, 0] S1x1x512.size inb_S1x1x1024_S1x1x512_0_0_0)))
  | n + 1 => tailNext (tail x0 x1 U n) (score (qb x0) (U n))

/-- The sum of values after `n` pages. -/
def total (x0 : Vec F S1x1x512 .f32) (x1 : Vec F S1x1x1024 .f32) (U : ℕ → Vec F S1x2x8x64x128 .f32) : ℕ → FVec F S8x512 .f32
  | 0 => k0_pay12 (qrow x0) (k0_pay6 (View.ld x1 (Rect.unit (s := S1x1x1024) ![0, 0, 0] S1x1x512.size inb_S1x1x1024_S1x1x512_0_0_0)))
      (k0_pay7 (View.ld x1 (Rect.unit (s := S1x1x1024) ![0, 0, 512] S1x1x512.size inb_S1x1x1024_S1x1x512_0_0_512)))
  | n + 1 => addf (total x0 x1 U n) (value (tail x0 x1 U n) (score (qb x0) (U n)) (U n))

/-- Each head's own columns, the heads summed away. -/
def fold (a : FVec F S8x512 .f32) : FVec F S1x1x512 .f32 :=
  shapeCast S1x1x512 (shapeCast S1x512 (multiReduction .add [0] S512
    (select k0_pay3 a (broadcast S8x512 (Scalar.ofBits .f32 0x00000000#32))) 0x00000000#32 reduces_S8x512_S512 (.inl rfl) rfl)
    shapeCasts_S512_S1x512) shapeCasts_S1x512_S1x1x512

/-- The zero corner. -/
theorem hz3 : (![0, 0, 0] : Fin 3 → Nat) = fun _ => 0 := funext fun a => by fin_cases a <;> rfl

/-- **What the body leaves at a grid point**: the sixteen pages visited last first, their values summed, each head's own
    columns kept. -/
theorem out_eq (c : Dev nD) (i : grid0.Coords) (arg2 : Memref sig .tc .vmem S1x1x512 .f32) (harg2 : arg2.IsWhole) (arg3 : Memref sig .tc .vmem S1x1x1024 .f32) (harg3 : arg3.IsWhole) (arg4 : Memref sig .tc .vmem S1x2x8x64x128 .f32) (harg4 : arg4.IsWhole) (arg5 : Memref sig .tc .vmem S1x2x8x64x128 .f32) (harg5 : arg5.IsWhole) (arg6 : Memref sig .tc .vmem S1x2x8x64x128 .f32) (harg6 : arg6.IsWhole) (arg7 : Memref sig .tc .vmem S1x2x8x64x128 .f32) (harg7 : arg7.IsWhole) (arg8 : Memref sig .tc .vmem S1x2x8x64x128 .f32) (harg8 : arg8.IsWhole) (arg9 : Memref sig .tc .vmem S1x2x8x64x128 .f32) (harg9 : arg9.IsWhole) (arg10 : Memref sig .tc .vmem S1x2x8x64x128 .f32) (harg10 : arg10.IsWhole) (arg11 : Memref sig .tc .vmem S1x2x8x64x128 .f32) (harg11 : arg11.IsWhole) (arg12 : Memref sig .tc .vmem S1x2x8x64x128 .f32) (harg12 : arg12.IsWhole) (arg13 : Memref sig .tc .vmem S1x2x8x64x128 .f32) (harg13 : arg13.IsWhole) (arg14 : Memref sig .tc .vmem S1x2x8x64x128 .f32) (harg14 : arg14.IsWhole) (arg15 : Memref sig .tc .vmem S1x2x8x64x128 .f32) (harg15 : arg15.IsWhole) (arg16 : Memref sig .tc .vmem S1x2x8x64x128 .f32) (harg16 : arg16.IsWhole) (arg17 : Memref sig .tc .vmem S1x2x8x64x128 .f32) (harg17 : arg17.IsWhole) (arg18 : Memref sig .tc .vmem S1x2x8x64x128 .f32) (harg18 : arg18.IsWhole) (arg19 : Memref sig .tc .vmem S1x2x8x64x128 .f32) (harg19 : arg19.IsWhole) (arg20 : Memref sig .tc .vmem S1x1x512 .f32) (harg20 : arg20.IsWhole)
    (x0 : Vec F S1x1x512 .f32) (x1 : Vec F S1x1x1024 .f32) (U : ℕ → Vec F S1x2x8x64x128 .f32) (xt0 : TbBuf0 (F := F) c tbM0_0) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 (U 15) (U 14) (U 13) (U 12) (U 11) (U 10) (U 9) (U 8) (U 7) (U 6) (U 5) (U 4) (U 3) (U 2) (U 1) (U 0) xt0 = fold (total x0 x1 U 16) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 (U 15) (U 14) (U 13) (U 12) (U 11) (U 10) (U 9) (U 8) (U 7) (U 6) (U 5) (U 4) (U 3) (U 2) (U 1) (U 0) xt0)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  rfl

end Cert.KernelIdeal.Unit
-- ==== Proof.Out.lean ====
/- The decoding attention's result array: each row is what its grid point leaves. -/
module

public import proofs.«01_k».proof.Proof.Blocks
public import proofs.«01_k».proof.Proof.Unit

@[expose] public section

set_option maxRecDepth 16384

noncomputable section

namespace Cert.KernelIdeal.Blocks

open Idealize.ShloMosaic Idealize.ShloMosaic.TcCoe Idealize.ShloMosaic.Pipeline Cert.KernelIdeal.Gen Cert.KernelIdeal.Unit ValueIdx

variable {F : FTy → Type} [FloatOps F]
variable (m : (ℓ : Loc nD τ sig) → Buf (Elt F) ℓ)

/-- A row of the reshaped queries. -/
theorem row_of (x : S128x512.Idx → F .f32) (h : S128x512.ShapeCasts S128x1x512) (e : S128x1x512.Idx) (t : Fin 128) (k : Fin 512)
    (h0 : (e 0).val = t.val) (h2 : (e 2).val = k.val) : shapeCast S128x1x512 x h e = x (ix2 t k) := by
  refine Idealize.ShloMosaic.shapeCast_apply _ _ _ _ ?_
  rw [Shape.rowMajor_val_two, Shape.rowMajor_val_three]
  have h1 : (e 1).val < 1 := (e 1).isLt
  show t.val * 512 + k.val = ((e 0).val * 1 + (e 1).val) * 512 + (e 2).val
  omega

/-- A block that takes every column keeps the column. -/
theorem col (n : ℕ) : 0 * 512 + 1 * n = n := by omega

/-- The row a point's block starts at. -/
theorem start (hO : Ok m) (t : Fin (cfgM m hO).N) (z : Fin 1) :
    (BitVec.ofNat 32 ((grid0.coords t) 0).val).toNat * 1 + 1 * z.val = (seqOf m hO t).val := by
  rw [coord m hO t, BitVec.toNat_ofNat]
  have ht : t.val < 128 := (seqOf m hO t).isLt
  show t.val % 2 ^ 32 * 1 + 1 * z.val = t.val
  omega

/-- **The query window**: the row of the point. -/
theorem query (hO : Ok m) (c : Dev nD) (t : Fin (cfgM m hO).N) :
    iblk m hO c 0 t = fun y : S1x1x512.Idx => m (c.tc.loc main_arg0) (ix2 (seqOf m hO t) (y 2)) := by
  funext y
  unfold iblk
  rw [View.read_apply]
  show V m c main_v1 _ = _
  rw [V_main_v1]
  exact row_of _ _ _ _ _ (start m hO t _) (col _)

/-- The pages of a sequence in the order the body visits them, last first. -/
def visit (hp : ∀ y : S128x16.Idx, (m ((0 : Dev nD).tc.loc main_arg3) y).toNat < 2560) (c : Dev nD) (t : Fin 128) (n : ℕ) : Vec F S1x2x8x64x128 .f32 :=
  page m hp c t ⟨15 - n, by omega⟩

/-- What the point leaves. -/
theorem out (hO : Ok m) (hp) (c : Dev nD) (t : Fin (cfgM m hO).N) :
    outsAt0 m hO c t = fold (total (iblk m hO c 0 t) (iblk m hO c 1 t) (visit m hp c (seqOf m hO t)) 16) := by
  obtain ⟨h2, h3, h4, h5, h6, h7, h8, h9, h10, h11, h12, h13, h14, h15, h16, h17⟩ := pages m hO hp c t
  unfold outsAt0
  rw [h2, h3, h4, h5, h6, h7, h8, h9, h10, h11, h12, h13, h14, h15, h16, h17]
  exact out_eq (U := visit m hp c (seqOf m hO t)) ..

/-- The grid point of a sequence. -/
def ptOf (hO : Ok m) (b : Fin 128) : Fin (cfgM m hO).N := b.cast (N_eq m hO).symm

/-- The result array: each row what its point leaves. -/
def result (hO : Ok m) (c : Dev nD) : Buf (Elt F) ((c : Thread nD τ).loc main_v3) :=
  fun i => outsAt0 m hO c (ptOf m hO (i 0)) (ix3 0 0 (i 2))

/-- A row of the result array is its point's. -/
theorem result_row (hO : Ok m) (c : Dev nD) (t : Fin (cfgM m hO).N) (y : S1x1x512.Idx) (e : S128x1x512.Idx)
    (h0 : (e 0).val = (seqOf m hO t).val) (h2 : (e 2).val = (y 2).val) : outsAt0 m hO c t y = result m hO c e := by
  have ht : ptOf m hO (e 0) = t := Fin.ext h0
  have hy : (ix3 0 0 (e 2) : S1x1x512.Idx) = y := by
    funext a
    refine Fin.ext ?_
    match a with
    | ⟨0, _⟩ => exact (Nat.lt_one_iff.1 (y 0).isLt).symm
    | ⟨1, _⟩ => exact (Nat.lt_one_iff.1 (y 1).isLt).symm
    | ⟨2, _⟩ => exact h2
  unfold result
  rw [ht]
  exact congrArg _ hy.symm

/-- Contents that agree with an array on a point's block are the block read off it. -/
theorem cut_read (hO : Ok m) (t : Fin (cfgM m hO).N) (g : Vec F S1x1x512 .f32) (f : S128x1x512.Idx → F .f32)
    (h : ∀ y : S1x1x512.Idx, g y = f ((((cfgM m hO).win 18).blk t).view.emb y)) :
    ((cfgM m hO).win 18).cut (grid0.coords t) g = (((cfgM m hO).win 18).blk t).view.read (Elt F) f :=
  funext h

/-- Each write-back writes the row of its point. -/
theorem flushed_eq (hO : Ok m) (c : Dev nD) (t : Fin (cfgM m hO).N) (_ : ((cfgM m hO).win 18).flush t = true) :
    (dats m hO 0 c).flushed 18 t = (((cfgM m hO).win 18).blk t).view.read (Elt F) (result m hO c) := by
  show ((cfgM m hO).win 18).cut (grid0.coords t) ((dats m hO 0 c).after 18 t) = _
  rw [after0_18]
  exact cut_read m hO t _ _ fun y => result_row m hO c t y _ (start m hO t _) (col _)

/-- So the result array ends at those rows. -/
theorem final (hO : Ok m) (c : Dev nD) : (dats m hO 0 c).arrAt 18 (cfgM m hO).N = result m hO c :=
  (dats m hO 0 c).arrAt_eq_of_cover 18 (result m hO c) (flushed_eq m hO c) fun (i : S128x1x512.Idx) =>
    ⟨ptOf m hO (i 0), (flush0_18 _ _), by
      refine (View.set_slice_whole main_v3 (((cfgM m hO).win 18).rect (ptOf m hO (i 0)))).symm ▸ ?_
      refine (Rect.mem_set_unit ..).2 ?_
      have hs := start m hO (ptOf m hO (i 0)) 0
      have h1 : (i 1).val < 1 := (i 1).isLt
      have h2 : (i 2).val < 512 := (i 2).isLt
      intro a
      match a with
      | ⟨0, _⟩ =>
        show (BitVec.ofNat 32 ((grid0.coords (ptOf m hO (i 0))) 0).val).toNat * 1 ≤ (i 0).val
          ∧ (i 0).val < (BitVec.ofNat 32 ((grid0.coords (ptOf m hO (i 0))) 0).val).toNat * 1 + 1
        have hv : (seqOf m hO (ptOf m hO (i 0))).val = (i 0).val := rfl
        have hz : ((0 : Fin 1) : ℕ) = 0 := rfl
        omega
      | ⟨1, _⟩ => show 0 * 1 ≤ (i 1).val ∧ (i 1).val < 0 * 1 + 1; omega
      | ⟨2, _⟩ => show 0 * 512 ≤ (i 2).val ∧ (i 2).val < 0 * 512 + 512; omega⟩

/-- The run, read: the result array at its rows, the arguments unchanged. -/
theorem run (ρ) (hO : Ok m) : θ_run defs (onTc (τ := τ) (main (F := F))) ⟨m, fun _ => 0, ρ⟩ fun r => ∀ c : Dev nD,
      r.2.mem ((c : Thread nD τ).loc main_v3) = result m hO c :=
  (θ_run defs _ _).mono (fun _ h c => ((h c).1 18).trans (final m hO c)) (run_main m ρ hO)

end Cert.KernelIdeal.Blocks
-- ==== Proof.Paged.lean ====
/- What the certificate's preconditions say of the page table: the printed predicates decoded, and the side condition
   the page windows' index maps ask of the table. -/
module

public import proofs.«01_k».proof.Defs
public import proofs.«01_k».proof.Proof.Gen.Kernel.Frame
public import proofs.«01_k».proof.Proof.Gen.KernelIdeal.Frame
public import proofs.«01_k».proof.Proof.Gen.Pre_paged
public import proofs.«01_k».proof.Proof.Gen.Pre_finite_and_paged
public import Idealize.ShloMosaic.Lib.ReduceAll

@[expose] public section

set_option maxRecDepth 16384

namespace Cert.Paged

open Idealize.ShloMosaic Idealize.ShloMosaic.TcCoe

instance : Cert.Pre_paged.Facts := Cert.Pre_paged.Gen.facts
instance : Cert.Pre_finite_and_paged.Facts := Cert.Pre_finite_and_paged.Gen.facts

/-- The conjunction of two one-bit truth values. -/
theorem andi_ofBool (p q : Bool) : IntOp.andi (BitVec.ofBool p) (BitVec.ofBool q) = BitVec.ofBool (p && q) := by
  cases p <;> cases q <;> decide

/-- A one-bit truth value is one exactly when it is true. -/
theorem ofBool_eq_one (p : Bool) : (BitVec.ofBool p = 1#1) ↔ p = true := by cases p <;> decide

/-- A one-bit conjunction is one exactly when both sides are. -/
theorem andi_eq_one (p q : BitVec 1) (h : IntOp.andi p q = 1#1) : p = 1#1 ∧ q = 1#1 := by
  revert p q; decide

instance : Subsingleton (⟨0, ![]⟩ : Shape).Idx := ⟨fun _ _ => funext fun a => a.elim0⟩

/-- A word at least 0 and below 2560, read signed, is a page number below 2560. -/
theorem word_lt (w : BitVec 32) (h : IntOp.andi (BitVec.ofBool (BitVec.sle 0#32 w)) (BitVec.ofBool (BitVec.slt w 2560#32)) = 1#1) :
    w.toNat < 2560 := by
  rw [andi_ofBool, ofBool_eq_one, Bool.and_eq_true] at h
  obtain ⟨hge, hlt⟩ := h
  simp only [BitVec.sle, BitVec.slt, decide_eq_true_eq, BitVec.toInt, BitVec.toNat_ofNat] at hge hlt
  omega

/-- `paged` all ones: every word of the page table is a page number below 2560. -/
theorem bound {F : FTy → Type} [FloatOps F] (q : FVec F Pre_paged.S128x512 .f32) (kv : FVec F Pre_paged.S128x1024 .f32)
    (cache : FVec F Pre_paged.S2560x128x2x8x64 .f32) (pt : IVec Pre_paged.S128x16 32)
    (h : Pre_paged.fn q kv cache pt = fun _ => 1#1) (y : Pre_paged.S128x16.Idx) : (pt y).toNat < 2560 :=
  word_lt _ (Host.reduce_andi_all _ _ _ _ _ (congrFun h fun a => a.elim0) y)

/-- `finite_and_paged` all ones entails `paged` all ones. -/
theorem paged_of_finite {F : FTy → Type} [FloatOps F] (q : FVec F Pre_paged.S128x512 .f32) (kv : FVec F Pre_paged.S128x1024 .f32)
    (cache : FVec F Pre_paged.S2560x128x2x8x64 .f32) (pt : IVec Pre_paged.S128x16 32)
    (h : Pre_finite_and_paged.fn q kv cache pt = fun _ => 1#1) : Pre_paged.fn q kv cache pt = fun _ => 1#1 :=
  funext fun j => (andi_eq_one _ _ (congrFun h j)).2

end Cert.Paged

namespace Cert.Kernel
open Idealize.ShloMosaic Idealize.ShloMosaic.TcCoe Cert.Kernel.Gen

/-- A page number below 2560 names a page inside the cache. -/
theorem page_inb (w : BitVec 32) (h : w.toNat < 2560) (a : Fin 5) :
    ((![w.toNat, 0, 0, 0, 0] : Fin 5 → Nat) a + 1) * S1x2x8x64x128.size a ≤ S2560x2x8x64x128.size a := by
  fin_cases a
  · show (w.toNat + 1) * 1 ≤ 2560
    omega
  all_goals exact Nat.le_of_eq rfl

/-- The table being page numbers, every page window's block is inside the cache: the side condition of the frame. -/
theorem ok_of_bound {F : FTy → Type} [FloatOps F] (m : (ℓ : Loc nD τ sig) → Buf (Elt F) ℓ)
    (h : ∀ y : S128x16.Idx, (m ((0 : Dev nD).tc.loc main_arg3) y).toNat < 2560) : Ok m := by
  have hb : ∀ y : S128x16.Idx, BitVec.toNat (tbl m 0 y) < 2560 := fun y => by
    have e : tbl m 0 = m ((0 : Dev nD).tc.loc main_arg3) := V_main_arg3 m 0
    rw [e]; exact h y
  refine ⟨?_, ?_, ?_, ?_, ?_, ?_, ?_, ?_, ?_, ?_, ?_, ?_, ?_, ?_, ?_, ?_⟩ <;>
    exact fun i => ⟨page_inb _ (hb _), Or.inl rfl⟩

end Cert.Kernel

namespace Cert.KernelIdeal
open Idealize.ShloMosaic Idealize.ShloMosaic.TcCoe Cert.KernelIdeal.Gen

/-- The table being page numbers, every page window's block is inside the cache: the side condition of the frame. -/
theorem ok_of_bound {F : FTy → Type} [FloatOps F] (m : (ℓ : Loc nD τ sig) → Buf (Elt F) ℓ)
    (h : ∀ y : S128x16.Idx, (m ((0 : Dev nD).tc.loc main_arg3) y).toNat < 2560) : Ok m := by
  have hb : ∀ y : S128x16.Idx, BitVec.toNat (tbl m 0 y) < 2560 := fun y => by
    have e : tbl m 0 = m ((0 : Dev nD).tc.loc main_arg3) := V_main_arg3 m 0
    rw [e]; exact h y
  refine ⟨?_, ?_, ?_, ?_, ?_, ?_, ?_, ?_, ?_, ?_, ?_, ?_, ?_, ?_, ?_, ?_⟩ <;>
    exact fun i => ⟨Cert.Kernel.page_inb _ (hb _), Or.inl rfl⟩

end Cert.KernelIdeal
-- ==== Proof.Finite.lean ====
/- What `finite_and_paged` says over the extended reals: the queries and the cached keys are real numbers. -/
module

public import proofs.«01_k».proof.Proof.Paged
public import Idealize.ShloMosaic.Lib.Pipeline.Value
public import Idealize.ShloMosaic.Lib.ValueIdx

@[expose] public section

set_option maxRecDepth 16384

namespace Cert.Paged

open Idealize.ShloMosaic Idealize.ShloMosaic.TcCoe ValueIdx

/-- A number whose absolute value is below something is real. -/
theorem real_of_lt (x b : EReal) (h : Ideal.cmp .olt (max x (-x)) b = 1#1) : x = ((x.toReal : ℝ) : EReal) := by
  have h' : max x (-x) < b := of_decide_eq_true ((ofBool_eq_one _).1 h)
  refine (EReal.coe_toReal (fun e => ?_) fun e => ?_).symm
  · rw [e, max_eq_left le_top] at h'
    exact not_top_lt h'
  · rw [e, EReal.neg_bot, max_eq_right bot_le] at h'
    exact not_top_lt h'

variable (q : FVec Ideal Pre_paged.S128x512 .f32) (kv : FVec Ideal Pre_paged.S128x1024 .f32)
    (cache : FVec Ideal Pre_paged.S2560x128x2x8x64 .f32) (pt : IVec Pre_paged.S128x16 32)
    (h : Pre_finite_and_paged.fn q kv cache pt = fun _ => 1#1)
include h

/-- The queries are real. -/
theorem query_real (y : Pre_paged.S128x512.Idx) : q y = (((q y : EReal).toReal : ℝ) : EReal) :=
  real_of_lt _ _ (Host.reduce_andi_all _ _ _ _ _ (andi_eq_one _ _ (andi_eq_one _ _ (congrFun h fun a => a.elim0)).1).1 y)

/-- The cached keys are real. -/
theorem key_real (p : Fin 2560) (r : Fin 128) (g : Fin 8) (d : Fin 64) :
    cache (ix5 p r 0 g d) = (((cache (ix5 p r 0 g d) : EReal).toReal : ℝ) : EReal) := by
  have hk := Host.reduce_andi_all _ _ _ _ _ (andi_eq_one _ _ (andi_eq_one _ _ (congrFun h fun a => a.elim0)).1).2 (ix4 p r g d)
  have e : shapeCast Pre_finite_and_paged.S2560x128x8x64 (extractStridedSlice Pre_finite_and_paged.S2560x128x1x8x64 ![0, 0, 0, 0, 0] cache
        Pre_finite_and_paged.Facts.slices_S2560x128x2x8x64_S2560x128x1x8x64_0_0_0_0_0)
        Pre_finite_and_paged.Facts.shapeCasts_S2560x128x1x8x64_S2560x128x8x64 (ix4 p r g d) = cache (ix5 p r 0 g d) := by
    refine (Idealize.ShloMosaic.shapeCast_apply _ _ (ix4 p r g d) (ix5 p r (0 : Fin 1) g d) ?_).trans ?_
    · rw [Shape.rowMajor_val_four, Shape.rowMajor_val_five]
      show (((p.val * 128 + r.val) * 1 + 0) * 8 + g.val) * 64 + d.val = ((p.val * 128 + r.val) * 8 + g.val) * 64 + d.val
      omega
    · refine congrArg cache (funext fun a => Fin.ext ?_)
      match a with
      | ⟨0, _⟩ => exact Nat.zero_add _
      | ⟨1, _⟩ => exact Nat.zero_add _
      | ⟨2, _⟩ => rfl
      | ⟨3, _⟩ => exact Nat.zero_add _
      | ⟨4, _⟩ => exact Nat.zero_add _
  rw [← e]
  exact real_of_lt _ _ hk

end Cert.Paged
-- ==== Proof.RefPages.lean ====
/- The reference's keys and values of the past, read at an index: the cache at the page the table names. -/
module

public import proofs.«01_k».proof.Proof.Gen.ReferenceIdeal.Read
public import Idealize.ShloMosaic.Lib.Pipeline.Value
public import Idealize.ShloMosaic.Lib.ValueIdx
public import Idealize.ShloMosaic.Lib.ValueIdxRank6

@[expose] public section

set_option maxRecDepth 16384

noncomputable section

namespace Cert.ReferenceIdeal.Pages

open Cert.ReferenceIdeal Cert.ReferenceIdeal.Gen Cert.ReferenceIdeal.Read Idealize.ShloMosaic Idealize.ShloMosaic.TcCoe ValueIdx

variable {F : FTy → Type} [FloatOps F]

/-- The gather of whole pages, read at an index. -/
theorem gathered {α : Type} (x : S2560x128x2x8x64.Idx → α) (idx : IVec S128x16x1 32) (b : Fin 128) (p : Fin 16) (r : Fin 128) (c : Fin 2)
    (h : Fin 8) (d : Fin 64) (n : ℕ) (hn : n < 2560) (hi : (idx (ix3 b p 0)).toInt.toNat = n) :
    Host.gather gather_S2560x128x2x8x64_S128x16x1_S128x16x128x2x8x64_2345_0_n_n_0_2_11282864 x idx (ix6 b p r c h d)
      = x (ix5 ⟨n, hn⟩ r c h d) := by
  subst hi
  unfold Host.gather
  congr 1
  funext a
  refine Fin.ext ?_
  show gather_S2560x128x2x8x64_S128x16x1_S128x16x128x2x8x64_2345_0_n_n_0_2_11282864.start (ix6 b p r c h d) idx a
    + gather_S2560x128x2x8x64_S128x16x1_S128x16x128x2x8x64_2345_0_n_n_0_2_11282864.batchCoord (ix6 b p r c h d) a
    + gather_S2560x128x2x8x64_S128x16x1_S128x16x128x2x8x64_2345_0_n_n_0_2_11282864.offCoord (ix6 b p r c h d) a = _
  rw [GatherDims.batchCoord_eq_zero _ _ _ List.not_mem_nil]
  have hs : ∀ a : Fin 5, a ≠ 0 → gather_S2560x128x2x8x64_S128x16x1_S128x16x128x2x8x64_2345_0_n_n_0_2_11282864.start (ix6 b p r c h d) idx a = 0 :=
    fun a ha => by
      unfold GatherDims.start
      exact dif_neg fun hm => ha (List.mem_singleton.1 hm)
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine (congrArg (fun j => min (idx j).toInt.toNat (2560 - 1)) (a₂ := ix3 b p 0) (funext fun e => Fin.ext ?_)).trans ?_
    · match e with
      | ⟨0, _⟩ => rfl
      | ⟨1, _⟩ => rfl
      | ⟨2, _⟩ => rfl
    show min (idx (ix3 b p 0)).toInt.toNat (2560 - 1) = (idx (ix3 b p 0)).toInt.toNat
    omega
  | ⟨1, h1⟩ => rw [hs ⟨1, h1⟩ fun e => Nat.succ_ne_zero _ (congrArg Fin.val e)]; show 0 + 0 + r.val = r.val; omega
  | ⟨2, h1⟩ => rw [hs ⟨2, h1⟩ fun e => Nat.succ_ne_zero _ (congrArg Fin.val e)]; show 0 + 0 + c.val = c.val; omega
  | ⟨3, h1⟩ => rw [hs ⟨3, h1⟩ fun e => Nat.succ_ne_zero _ (congrArg Fin.val e)]; show 0 + 0 + h.val = h.val; omega
  | ⟨4, h1⟩ => rw [hs ⟨4, h1⟩ fun e => Nat.succ_ne_zero _ (congrArg Fin.val e)]; show 0 + 0 + d.val = d.val; omega

/-- A word below the number of pages, as the reference's wrapped index reads it. -/
theorem wrapped (w : BitVec 32) (h : w.toNat < 2560) :
    (Scalar.select (IntOp.cmpi .slt w 0#32) (IntOp.addi w 2560#32) w).toInt.toNat = w.toNat := by
  have hz : IntOp.cmpi .slt w 0#32 = 0#1 := by
    show BitVec.ofBool (w.slt 0#32) = 0#1
    have : w.slt 0#32 = false := by
      rw [BitVec.slt_eq_decide, decide_eq_false_iff_not, BitVec.toInt_eq_toNat_of_lt (by omega)]
      simp
    rw [this]; rfl
  rw [hz]
  show w.toInt.toNat = w.toNat
  rw [BitVec.toInt_eq_toNat_of_lt (by omega)]
  omega

section
variable (x1 : (⟨S128x1024, .f32⟩ : BufTy).Contents (Elt F)) (x2 : (⟨S2560x128x2x8x64, .f32⟩ : BufTy).Contents (Elt F))
  (x3 : (⟨S128x16, .i32⟩ : BufTy).Contents (Elt F)) (hp : ∀ y : S128x16.Idx, (x3 y).toNat < 2560)

/-- The cache entry of a past position: its page from the table, its row in the page. -/
def entry (b : Fin 128) (k : Fin 2048) (c : Fin 2) (h : Fin 8) (d : Fin 64) : F .f32 :=
  x2 (ix5 ⟨(x3 (ix2 b ⟨k.val / 128, by omega⟩)).toNat, hp _⟩ ⟨k.val % 128, by omega⟩ c h d)

/-- The gathered past. -/
theorem past (b : Fin 128) (k : Fin 2048) (c : Fin 2) (h : Fin 8) (d : Fin 64) :
    val_main_v7 x2 x3 (ix5 b k c h d) = entry x2 x3 hp b k c h d := by
  unfold val_main_v7
  refine (Idealize.ShloMosaic.shapeCast_apply _ _ (ix5 b k c h d) (ix6 b ⟨k.val / 128, by omega⟩ ⟨k.val % 128, by omega⟩ c h d) ?_).trans ?_
  · rw [Shape.rowMajor_val_six, Shape.rowMajor_val_five]
    show ((((b.val * 16 + k.val / 128) * 128 + k.val % 128) * 2 + c.val) * 8 + h.val) * 64 + d.val
      = (((b.val * 2048 + k.val) * 2 + c.val) * 8 + h.val) * 64 + d.val
    omega
  · refine gathered x2 (val_main_v5 (F := F) x3) b _ _ c h d _ _ ?_
    rw [val_main_v5_apply]
    refine (congrArg (fun i => (val_main_v4 (F := F) x3 i).toInt.toNat) (a₂ := ix2 b ⟨k.val / 128, by omega⟩) (funext fun a => Fin.ext ?_)).trans ?_
    · match a with
      | ⟨0, _⟩ => rfl
      | ⟨1, _⟩ => rfl
    · exact wrapped _ (hp _)

/-- A key of the past. -/
theorem key (b : Fin 128) (k : Fin 2048) (h : Fin 8) (d : Fin 64) (k' : Fin 2049) (hk : k'.val = k.val) :
    val_main_v13 x1 x2 x3 (ix4 b k' h d) = entry x2 x3 hp b k 0 h d := by
  refine (concatenate_pair_apply_left (s₁ := S128x2048x8x64) (s₂ := S128x1x8x64) 1 (val_main_v10 x2 x3) (val_main_v12 x1) _ (ix4 b k' h d) rfl
    (ix4 b k h d) fun a => ?_).trans ?_
  · match a with
    | ⟨0, _⟩ => rfl
    | ⟨1, _⟩ => exact hk.symm
    | ⟨2, _⟩ => rfl
    | ⟨3, _⟩ => rfl
  · unfold val_main_v10
    refine (Idealize.ShloMosaic.shapeCast_apply _ _ (ix4 b k h d) (ix5 b k 0 h d) ?_).trans ?_
    · rw [Shape.rowMajor_val_four, Shape.rowMajor_val_five]
      show (((b.val * 2048 + k.val) * 1 + 0) * 8 + h.val) * 64 + d.val = ((b.val * 2048 + k.val) * 8 + h.val) * 64 + d.val
      omega
    · rw [val_main_v9_apply]
      exact past x2 x3 hp b k 0 h d

/-- A value of the past. -/
theorem value (b : Fin 128) (k : Fin 2048) (h : Fin 8) (d : Fin 64) (k' : Fin 2049) (hk : k'.val = k.val) :
    val_main_v18 x1 x2 x3 (ix4 b k' h d) = entry x2 x3 hp b k 1 h d := by
  refine (concatenate_pair_apply_left (s₁ := S128x2048x8x64) (s₂ := S128x1x8x64) 1 (val_main_v15 x2 x3) (val_main_v17 x1) _ (ix4 b k' h d) rfl
    (ix4 b k h d) fun a => ?_).trans ?_
  · match a with
    | ⟨0, _⟩ => rfl
    | ⟨1, _⟩ => exact hk.symm
    | ⟨2, _⟩ => rfl
    | ⟨3, _⟩ => rfl
  · unfold val_main_v15
    refine (Idealize.ShloMosaic.shapeCast_apply _ _ (ix4 b k h d) (ix5 b k 0 h d) ?_).trans ?_
    · rw [Shape.rowMajor_val_four, Shape.rowMajor_val_five]
      show (((b.val * 2048 + k.val) * 1 + 0) * 8 + h.val) * 64 + d.val = ((b.val * 2048 + k.val) * 8 + h.val) * 64 + d.val
      omega
    · rw [val_main_v14_apply]
      exact past x2 x3 hp b k 1 h d

end

end Cert.ReferenceIdeal.Pages
-- ==== Proof.Masks.lean ====
/- The two masks of the decoding attention's body, read at an index. -/
module

public import proofs.«01_k».proof.Proof.Unit
public import Idealize.ShloMosaic.Lib.ValueIdx

@[expose] public section

set_option maxRecDepth 16384

namespace Cert.KernelIdeal.Cols

open Idealize.ShloMosaic Idealize.ShloMosaic.TcCoe Cert.KernelIdeal.Gen Cert.KernelIdeal.Unit ValueIdx

/-- A column belongs to the head its sixty-four columns are. -/
theorem own (h : Fin 8) (c : Fin 512) : k0_pay3 (ix2 h c) = if c.val / 64 = h.val then 1#1 else 0#1 := by
  revert h c
  decide +kernel

/-- A row is below a column of the triangle. -/
theorem tri (r c : Fin 128) : k0_pay8 (ix2 r c) = if c.val < r.val then 1#1 else 0#1 := by
  revert r c
  decide +kernel

end Cert.KernelIdeal.Cols
-- ==== Proof.Cols.lean ====
/- The functions of a visited page at the ideal values, read at an index. -/
module

public import proofs.«01_k».proof.Proof.Masks
public import Idealize.ShloMosaic.Lib.MatmulPlain
public import Idealize.ShloMosaic.Lib.IdealHost
public import Idealize.ShloMosaic.Lib.ValueLayout
public import Idealize.ShloMosaic.PureOps.Ideal.Laws

@[expose] public section

set_option maxRecDepth 16384

noncomputable section

namespace Cert.KernelIdeal.Cols

open Idealize.ShloMosaic Idealize.ShloMosaic.TcCoe Cert.KernelIdeal.Gen Cert.KernelIdeal.Unit ValueIdx

/-- The keys of a page at a row and a position. -/
theorem keys_apply (X : Vec Ideal S1x2x8x64x128 .f32) (h : Fin 8) (d : Fin 64) (r : Fin 128) (k : Fin 512)
    (hk : k.val = h.val * 64 + d.val) : keys X (ix2 k r) = X (ix5 0 0 h d r) := by
  have e : keys X (ix2 k r) = (View.ld X (Rect.unit (s := S1x2x8x64x128) ![0, 0, 0, 0, 0] S1x1x8x64x128.size
    inb_S1x2x8x64x128_S1x1x8x64x128_0_0_0_0_0)) (ix5 (0 : Fin 1) (0 : Fin 1) h d r) := by
    show shapeCast S512x128 (shapeCast S8x64x128 (View.ld X (Rect.unit (s := S1x2x8x64x128) ![0, 0, 0, 0, 0] S1x1x8x64x128.size
      inb_S1x2x8x64x128_S1x1x8x64x128_0_0_0_0_0)) shapeCasts_S1x1x8x64x128_S8x64x128) shapeCasts_S8x64x128_S512x128 (ix2 k r) = _
    refine (Idealize.ShloMosaic.shapeCast_apply _ _ (ix2 k r) (ix3 h d r) ?_).trans
      (Idealize.ShloMosaic.shapeCast_apply _ _ (ix3 h d r) (ix5 (0 : Fin 1) (0 : Fin 1) h d r) ?_)
    · rw [Shape.rowMajor_val_two, Shape.rowMajor_val_three]
      show (h.val * 64 + d.val) * 128 + r.val = k.val * 128 + r.val
      rw [hk]
    · rw [Shape.rowMajor_val_five, Shape.rowMajor_val_three]
      show (((0 * 1 + 0) * 8 + h.val) * 64 + d.val) * 128 + r.val = (h.val * 64 + d.val) * 128 + r.val
      omega
  rw [e]
  refine congrArg X (funext fun a => Fin.ext ?_)
  match a with
  | ⟨0, _⟩ => rfl
  | ⟨1, _⟩ => rfl
  | ⟨2, _⟩ => show 0 + 1 * h.val = h.val; omega
  | ⟨3, _⟩ => show 0 + 1 * d.val = d.val; omega
  | ⟨4, _⟩ => show 0 + 1 * r.val = r.val; omega

/-- The values of a page at a row and a position. -/
theorem vals_apply (X : Vec Ideal S1x2x8x64x128 .f32) (h : Fin 8) (d : Fin 64) (r : Fin 128) (k : Fin 512)
    (hk : k.val = h.val * 64 + d.val) : vals X (ix2 k r) = X (ix5 0 1 h d r) := by
  have e : vals X (ix2 k r) = (View.ld X (Rect.unit (s := S1x2x8x64x128) ![0, 1, 0, 0, 0] S1x1x8x64x128.size
    inb_S1x2x8x64x128_S1x1x8x64x128_0_1_0_0_0)) (ix5 (0 : Fin 1) (0 : Fin 1) h d r) := by
    show shapeCast S512x128 (shapeCast S8x64x128 (View.ld X (Rect.unit (s := S1x2x8x64x128) ![0, 1, 0, 0, 0] S1x1x8x64x128.size
      inb_S1x2x8x64x128_S1x1x8x64x128_0_1_0_0_0)) shapeCasts_S1x1x8x64x128_S8x64x128) shapeCasts_S8x64x128_S512x128 (ix2 k r) = _
    refine (Idealize.ShloMosaic.shapeCast_apply _ _ (ix2 k r) (ix3 h d r) ?_).trans
      (Idealize.ShloMosaic.shapeCast_apply _ _ (ix3 h d r) (ix5 (0 : Fin 1) (0 : Fin 1) h d r) ?_)
    · rw [Shape.rowMajor_val_two, Shape.rowMajor_val_three]
      show (h.val * 64 + d.val) * 128 + r.val = k.val * 128 + r.val
      rw [hk]
    · rw [Shape.rowMajor_val_five, Shape.rowMajor_val_three]
      show (((0 * 1 + 0) * 8 + h.val) * 64 + d.val) * 128 + r.val = (h.val * 64 + d.val) * 128 + r.val
      omega
  rw [e]
  refine congrArg X (funext fun a => Fin.ext ?_)
  match a with
  | ⟨0, _⟩ => rfl
  | ⟨1, _⟩ => rfl
  | ⟨2, _⟩ => show 0 + 1 * h.val = h.val; omega
  | ⟨3, _⟩ => show 0 + 1 * d.val = d.val; omega
  | ⟨4, _⟩ => show 0 + 1 * r.val = r.val; omega

/-- The query row of a head: its own columns, zero elsewhere. -/
theorem qrow_apply (x0 : Vec Ideal S1x1x512 .f32) (h : Fin 8) (c : Fin 512) :
    qrow x0 (ix2 h c) = if c.val / 64 = h.val then x0 (ix3 0 0 c) else 0 := by
  have e : qrow x0 (ix2 h c) = Scalar.select (k0_pay3 (ix2 h c)) (x0 (ix3 0 0 c)) (0 : EReal) := by
    unfold qrow k0_pay4
    rw [View.ld_unit_zero hz3]
    show Scalar.select (k0_pay3 (ix2 h c)) _ (Ideal.ofBits .f32 0x00000000#32) = _
    rw [Ideal.ofBits_zero_f32]
    refine congrArg (fun v => Scalar.select (k0_pay3 (ix2 h c)) v (0 : EReal)) ?_
    refine (broadcastTo_1b_ab_apply _ _ h c).trans ((Idealize.ShloMosaic.shapeCast_apply _ _ (ix2 0 c) (ix2 0 c) rfl).trans
      (Idealize.ShloMosaic.shapeCast_apply _ _ (ix2 0 c) (ix3 0 0 c) ?_))
    rw [Shape.rowMajor_val_two, Shape.rowMajor_val_three]
    show (0 * 1 + 0) * 512 + c.val = 0 * 512 + c.val
    omega
  rw [e, own]
  split <;> rfl

/-- A sum over the columns that keeps one head's own. -/
theorem sum_own (h : Fin 8) (f : Fin 512 → EReal) (g : Fin 64 → EReal)
    (hf : ∀ c : Fin 512, c.val / 64 ≠ h.val → f c = 0)
    (hg : ∀ (d : Fin 64) (c : Fin 512), c.val = h.val * 64 + d.val → f c = g d) : ∑ c, f c = ∑ d, g d := by
  have hh := h.isLt
  let e : Fin 64 → Fin 512 := fun d => ⟨h.val * 64 + d.val, by omega⟩
  have he : Function.Injective e := fun a b hab => by
    have := congrArg Fin.val hab
    simp only [e] at this
    exact Fin.ext (by omega)
  rw [← Finset.sum_subset (Finset.subset_univ (Finset.univ.map ⟨e, he⟩)), Finset.sum_map]
  · exact Finset.sum_congr rfl fun d _ => hg d _ rfl
  · intro c _ hc
    refine hf c fun hch => hc ?_
    rw [Finset.mem_map]
    refine ⟨⟨c.val % 64, Nat.mod_lt _ (by decide)⟩, Finset.mem_univ _, Fin.ext ?_⟩
    show h.val * 64 + c.val % 64 = c.val
    omega

/-- The score of a position: the head's query against the position's key. -/
theorem score_apply (x0 : Vec Ideal S1x1x512 .f32) (X : Vec Ideal S1x2x8x64x128 .f32) (h : Fin 8) (r : Fin 128) :
    score (qb x0) X (ix2 h r)
      = ∑ d : Fin 64, x0 (ix3 0 0 ⟨h.val * 64 + d.val, by omega⟩) * X (ix5 0 0 h d r) := by
  have e : score (qb x0) X (ix2 h r) = ∑ c : Fin 512, qrow x0 (ix2 h c) * keys X (ix2 c r) := by
    refine (Ideal.matmul_plain_apply (M := 8) (K := 512) (N := 128) none (qb x0) (keys X) _ h r).trans ?_
    show Ideal.ofBits .f32 0x00000000#32 + _ = _
    rw [Ideal.ofBits_zero_f32, zero_add]
    rfl
  rw [e]
  refine sum_own h _ _ (fun c hc => ?_) fun d c hc => ?_
  · rw [qrow_apply, if_neg hc, zero_mul]
  · have hd := d.isLt
    rw [qrow_apply, if_pos (by omega), keys_apply X h d r c hc]
    have : c = ⟨h.val * 64 + d.val, by omega⟩ := Fin.ext hc
    rw [this]

/-- The tail starts at zero: the new key is masked. -/
theorem tail_zero (x0 x1 U) (h : Fin 8) : tail (F := Ideal) x0 x1 U 0 (ix2 h 0) = 0 := by
  show Ideal.ofBits .f32 0x00000000#32 = _
  exact Ideal.ofBits_zero_f32

/-- The sum of values starts at zero. -/
theorem total_zero (x0 x1 U) (h : Fin 8) (c : Fin 512) : total (F := Ideal) x0 x1 U 0 (ix2 h c) = 0 := by
  show Ideal.ofBits .f32 0x00000000#32 * _ = _
  rw [Ideal.ofBits_zero_f32]
  exact zero_mul _

/-- The tail takes in the page's mass. -/
theorem tailNext_apply (T : FVec Ideal S8x1 .f32) (s : FVec Ideal S8x128 .f32) (h : Fin 8) :
    tailNext T s (ix2 h 0) = T (ix2 h 0) + ∑ r : Fin 128, lkeep s (ix2 h r) := by
  refine congrArg (T (ix2 h 0) + ·) ?_
  refine (Idealize.ShloMosaic.shapeCast_apply _ _ (ix2 h 0) (ix1 h) ?_).trans ?_
  · rw [Shape.rowMajor_val_two, Shape.rowMajor_val_one]
    show h.val = h.val * 1 + 0
    omega
  · refine (Ideal.multiReduction_add_single (lkeep s) _ reduces_S8x128_S8 _ _ (ix1 h)).trans ?_
    refine Finset.sum_congr rfl fun r _ => congrArg (lkeep s) (funext fun a => Fin.ext ?_)
    match a with
    | ⟨0, _⟩ => rfl
    | ⟨1, _⟩ => rfl

/-- The heads summed away: a column keeps its own head's sum. -/
theorem fold_apply (a : FVec Ideal S8x512 .f32) (h : Fin 8) (c : Fin 512) (hc : c.val / 64 = h.val) :
    fold a (ix3 0 0 c) = a (ix2 h c) := by
  have e : fold a (ix3 0 0 c) = ∑ g : Fin 8, Scalar.select (k0_pay3 (ix2 g c)) (a (ix2 g c)) (0 : EReal) := by
    refine (Idealize.ShloMosaic.shapeCast_apply _ _ (ix3 0 0 c) (ix2 0 c) ?_).trans
      ((Idealize.ShloMosaic.shapeCast_apply _ _ (ix2 0 c) (ix1 c) ?_).trans ?_)
    · rw [Shape.rowMajor_val_two, Shape.rowMajor_val_three]
      show 0 * 512 + c.val = (0 * 1 + 0) * 512 + c.val
      omega
    · rw [Shape.rowMajor_val_two, Shape.rowMajor_val_one]
      show c.val = 0 * 512 + c.val
      omega
    · refine (Ideal.multiReduction_add_single _ _ reduces_S8x512_S512 _ _ (ix1 c)).trans ?_
      refine Finset.sum_congr rfl fun g _ => ?_
      have hl : reduces_S8x512_S512.lift (ix1 c) g = ix2 g c := funext fun b => Fin.ext (by
        match b with
        | ⟨0, _⟩ => rfl
        | ⟨1, _⟩ => rfl)
      rw [hl]
      show Scalar.select _ _ (Ideal.ofBits .f32 0x00000000#32) = _
      rw [Ideal.ofBits_zero_f32]
      rfl
  rw [e, Finset.sum_eq_single h]
  · rw [own, if_pos hc]; rfl
  · intro g _ hg
    rw [own, if_neg fun he => hg (Fin.ext (he.symm.trans hc)), Scalar.select]
    rfl
  · exact fun hn => absurd (Finset.mem_univ _) hn

end Cert.KernelIdeal.Cols
-- ==== Proof.Stick.lean ====
/- Stick-breaking attention over the real scores of one head: the weight of a position, and the running sums the decoding
   kernel takes page by page from the last page to the first. -/
module

public import proofs.«01_k».proof.Proof.Cols

@[expose] public section

set_option maxRecDepth 16384

noncomputable section

namespace Cert.Stick

open Idealize.ShloMosaic Idealize.ShloMosaic.TcCoe ValueIdx

/-- The logarithm of the sigmoid, in the form that does not overflow. -/
def ls (z : ℝ) : ℝ := min z 0 - Real.log (1 + Real.exp (-|z|))

/-- The logarithm of what a position leaves over. -/
def lk (z : ℝ) : ℝ := ls z - z

/-- The weight of a position: its own share of what the later positions leave over. -/
def W (z : ℕ → ℝ) (k : ℕ) : ℝ := Real.exp (ls (z k) + ∑ j ∈ Finset.Ico (k + 1) 2048, lk (z j))

/-- A real sum is the sum of the reals. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- The absolute value of a real. -/
theorem coe_abs (z : ℝ) : max (z : EReal) (-(z : EReal)) = ((|z| : ℝ) : EReal) := by
  rw [← EReal.coe_neg]
  exact (EReal.coe_strictMono.monotone.map_max).symm

/-- One plus an exponential under the logarithm. -/
theorem log1p_exp (x : ℝ) : Ideal.log1p (Ideal.exp (x : EReal)) = ((Real.log (1 + Real.exp x) : ℝ) : EReal) := by
  rw [Ideal.exp_coe]
  unfold Ideal.log1p
  rw [show (1 : EReal) = ((1 : ℝ) : EReal) from rfl, ← EReal.coe_add, Ideal.log_coe, if_neg]
  have := Real.exp_pos x
  linarith

/-- A page's positions in the flat order. -/
theorem sum_page {M : Type*} [AddCommMonoid M] (f : ℕ → M) (n : ℕ) (hn : n < 16) :
    ∑ r : Fin 128, f ((15 - n) * 128 + r.val) = ∑ k ∈ Finset.Ico ((16 - (n + 1)) * 128) ((16 - n) * 128), f k := by
  rw [Finset.sum_Ico_eq_sum_range, ← Fin.sum_univ_eq_sum_range (fun i => f ((16 - (n + 1)) * 128 + i))]
  have e : (16 - n) * 128 - (16 - (n + 1)) * 128 = 128 := by omega
  rw [e, show 16 - (n + 1) = 15 - n by omega]

/-- The later positions of a page. -/
theorem sum_later (f : ℕ → ℝ) (b : ℕ) (r : Fin 128) :
    ∑ r' : Fin 128, (if r.val < r'.val then f (b + r'.val) else 0) = ∑ k ∈ Finset.Ico (b + r.val + 1) (b + 128), f k := by
  have e : (Finset.range 128).filter (fun a => r.val < a) = Finset.Ico (r.val + 1) 128 := by
    ext a
    simp only [Finset.mem_filter, Finset.mem_range, Finset.mem_Ico]
    omega
  rw [Fin.sum_univ_eq_sum_range (fun i => if r.val < i then f (b + i) else 0) 128, ← Finset.sum_filter, e, Finset.sum_Ico_add,
    show b + r.val + 1 = r.val + 1 + b by omega, add_comm b 128]

end Cert.Stick

namespace Cert.KernelIdeal.Cols

open Idealize.ShloMosaic Idealize.ShloMosaic.TcCoe Cert.KernelIdeal.Gen Cert.KernelIdeal.Unit ValueIdx Cert.Stick

/-- The logarithm of the sigmoid at a real score. -/
theorem lsig_apply (s : FVec Ideal S8x128 .f32) (i : S8x128.Idx) (z : ℝ) (h : s i = (z : EReal)) : lsig s i = ((ls z : ℝ) : EReal) := by
  show min (s i) (Ideal.ofBits .f32 0x00000000#32) - Ideal.log1p (Ideal.exp (Ideal.ofBits .f32 0x00000000#32 - max (s i) (-(s i)))) = _
  rw [h, Ideal.ofBits_zero_f32, coe_abs, zero_sub, ← EReal.coe_neg, log1p_exp, ← EReal.coe_zero,
    show min (z : EReal) ((0 : ℝ) : EReal) = ((min z 0 : ℝ) : EReal) from (EReal.coe_strictMono.monotone.map_min).symm, ← EReal.coe_sub]
  rfl

/-- What a position leaves over, at a real score. -/
theorem lkeep_apply (s : FVec Ideal S8x128 .f32) (i : S8x128.Idx) (z : ℝ) (h : s i = (z : EReal)) : lkeep s i = ((lk z : ℝ) : EReal) := by
  show lsig s i - s i = _
  rw [lsig_apply s i z h, h, ← EReal.coe_sub]
  rfl

/-- The triangle of ones. -/
theorem below_apply (r c : Fin 128) : below (F := Ideal) (ix2 r c) = if c.val < r.val then 1 else 0 := by
  show Scalar.select (k0_pay8 (ix2 r c)) (Ideal.ofBits .f32 0x3F800000#32) (Ideal.ofBits .f32 0x00000000#32) = _
  rw [tri, Ideal.ofBits_zero_f32, Ideal.ofBits_one_f32]
  split <;> rfl

/-- The mass of the later positions of the page. -/
theorem later_apply (s : FVec Ideal S8x128 .f32) (h : Fin 8) (z : Fin 128 → ℝ) (hs : ∀ r, s (ix2 h r) = (z r : EReal)) (r : Fin 128) :
    later s (ix2 h r) = ((∑ r' : Fin 128, (if r.val < r'.val then lk (z r') else 0) : ℝ) : EReal) := by
  have e : later s (ix2 h r) = ∑ k : Fin 128, hi s (ix2 h k) * below (ix2 k r) + ∑ k : Fin 128, lo s (ix2 h k) * below (ix2 k r) := by
    refine congrArg₂ (· + ·) ?_ ?_
    · refine (Ideal.matmul_plain_apply (M := 8) (K := 128) (N := 128) none (hi s) below _ h r).trans ?_
      show Ideal.ofBits .f32 0x00000000#32 + _ = _
      rw [Ideal.ofBits_zero_f32, zero_add]
    · refine (Ideal.matmul_plain_apply (M := 8) (K := 128) (N := 128) none (lo s) below _ h r).trans ?_
      show Ideal.ofBits .f32 0x00000000#32 + _ = _
      rw [Ideal.ofBits_zero_f32, zero_add]
  have hh : ∀ k, hi s (ix2 h k) = ((lk (z k) : ℝ) : EReal) := fun k => lkeep_apply s _ _ (hs k)
  have hl : ∀ k, lo s (ix2 h k) = 0 := fun k => by
    show lkeep s (ix2 h k) - lkeep s (ix2 h k) = 0
    rw [lkeep_apply s _ _ (hs k), ← EReal.coe_sub, sub_self]
    rfl
  rw [e, Finset.sum_eq_zero (s := Finset.univ) (f := fun k => lo s (ix2 h k) * _) fun k _ => by rw [hl k, zero_mul], add_zero, coe_sum]
  refine Finset.sum_congr rfl fun k _ => ?_
  rw [hh, below_apply]
  split
  · rw [mul_one]
  · rw [mul_zero]; rfl

/-- The weight of a position. -/
theorem weight_apply (T : FVec Ideal S8x1 .f32) (s : FVec Ideal S8x128 .f32) (h : Fin 8) (z : Fin 128 → ℝ)
    (hs : ∀ r, s (ix2 h r) = (z r : EReal)) (tl : ℝ) (hT : T (ix2 h 0) = (tl : EReal)) (r : Fin 128) :
    weight T s (ix2 h r)
      = ((Real.exp (ls (z r) + ∑ r' : Fin 128, (if r.val < r'.val then lk (z r') else 0) + tl) : ℝ) : EReal) := by
  show Ideal.exp (lsig s (ix2 h r) + later s (ix2 h r) + broadcastTo S8x128 T broadcasts_S8x1_S8x128 (ix2 h r)) = _
  have hb : broadcastTo S8x128 T broadcasts_S8x1_S8x128 (ix2 h r) = T (ix2 h 0) :=
    broadcastTo_apply _ _ _ _ fun a => by
      match a with
      | ⟨0, _⟩ => rfl
      | ⟨1, _⟩ => rfl
  rw [hb, hT, lsig_apply s _ _ (hs r), later_apply s h z hs, ← EReal.coe_add, ← EReal.coe_add, Ideal.exp_coe]

/-- The weighted values of a page at a head's column. -/
theorem value_apply (T : FVec Ideal S8x1 .f32) (s : FVec Ideal S8x128 .f32) (X : Vec Ideal S1x2x8x64x128 .f32) (h : Fin 8) (c : Fin 512) :
    value T s X (ix2 h c) = ∑ r : Fin 128, weight T s (ix2 h r) * vals X (ix2 c r) := by
  refine (Ideal.matmul_transposedRhs_apply (M := 8) (K := 128) (N := 512) none (weight T s) (vals X) _ h c).trans ?_
  show Ideal.ofBits .f32 0x00000000#32 + _ = _
  rw [Ideal.ofBits_zero_f32, zero_add]

section
variable (x0 : Vec Ideal S1x1x512 .f32) (x1 : Vec Ideal S1x1x1024 .f32) (U : ℕ → Vec Ideal S1x2x8x64x128 .f32) (h : Fin 8)
  (z : ℕ → ℝ) (hz : ∀ n < 16, ∀ r : Fin 128, score (qb x0) (U n) (ix2 h r) = (z ((15 - n) * 128 + r.val) : EReal))

include hz in
/-- The tail before a page is the mass of every later position. -/
theorem tail_apply (n : ℕ) (hn : n ≤ 16) :
    tail x0 x1 U n (ix2 h 0) = ((∑ k ∈ Finset.Ico ((16 - n) * 128) 2048, lk (z k) : ℝ) : EReal) := by
  induction n with
  | zero => rw [tail_zero]; simp
  | succ n ih =>
    show tailNext (tail x0 x1 U n) (score (qb x0) (U n)) (ix2 h 0) = _
    rw [tailNext_apply, ih (by omega), Finset.sum_congr rfl fun r _ => lkeep_apply _ _ _ (hz n (by omega) r), ← coe_sum,
      sum_page (fun k => lk (z k)) n (by omega), ← EReal.coe_add, add_comm, Finset.sum_Ico_consecutive _ (by omega) (by omega)]

include hz in
/-- The sum of values after some pages is the weighted sum over every later position. -/
theorem total_apply (c : Fin 512) (v : ℕ → EReal) (hv : ∀ n < 16, ∀ r : Fin 128, vals (U n) (ix2 c r) = v ((15 - n) * 128 + r.val))
    (n : ℕ) (hn : n ≤ 16) :
    total x0 x1 U n (ix2 h c) = ∑ k ∈ Finset.Ico ((16 - n) * 128) 2048, (W z k : EReal) * v k := by
  induction n with
  | zero => rw [total_zero]; simp
  | succ n ih =>
    show total x0 x1 U n (ix2 h c) + value (tail x0 x1 U n) (score (qb x0) (U n)) (U n) (ix2 h c) = _
    have hw : ∀ r : Fin 128, weight (tail x0 x1 U n) (score (qb x0) (U n)) (ix2 h r) = (W z ((15 - n) * 128 + r.val) : EReal) := fun r => by
      rw [weight_apply _ _ h _ (hz n (by omega)) _ (tail_apply x0 x1 U h z hz n (by omega)), sum_later (fun k => lk (z k)) _ r, add_assoc,
        show (16 - n) * 128 = (15 - n) * 128 + 128 by omega, Finset.sum_Ico_consecutive _ (by omega) (by omega)]
      rfl
    have hs : ∑ r : Fin 128, weight (tail x0 x1 U n) (score (qb x0) (U n)) (ix2 h r) * vals (U n) (ix2 c r)
        = ∑ r : Fin 128, (fun k => (W z k : EReal) * v k) ((15 - n) * 128 + r.val) :=
      Finset.sum_congr rfl fun r _ => by rw [hw r, hv n (by omega) r]
    rw [ih (by omega), value_apply, hs, sum_page (fun k => (W z k : EReal) * v k) n (by omega), add_comm, Finset.sum_Ico_consecutive _ (by omega) (by omega)]

end

end Cert.KernelIdeal.Cols
-- ==== Proof.RefRows.lean ====
/- The reference over real scores: its masks, its logarithms of the sigmoid, its reversed running sum, and its result as the
   weighted sum over the past positions. -/
module

public import proofs.«01_k».proof.Proof.RefPages
public import proofs.«01_k».proof.Proof.Stick

@[expose] public section

set_option maxRecDepth 16384

noncomputable section

namespace Cert.ReferenceIdeal.Rows

open Cert.ReferenceIdeal Cert.ReferenceIdeal.Gen Cert.ReferenceIdeal.Read Cert.ReferenceIdeal.Pages Cert.Stick
open Idealize.ShloMosaic Idealize.ShloMosaic.TcCoe ValueIdx

/-- A fold of additions is the start plus the sum. -/
theorem foldl_add {α : Type} (l : List α) (F : EReal → α → EReal) (g : α → EReal) (hF : ∀ r n, F r n = r + g n) (r : EReal) :
    l.foldl F r = r + (l.map g).sum := by
  induction l generalizing r with
  | nil => simp
  | cons a l ih => rw [List.foldl_cons, ih, hF, List.map_cons, List.sum_cons, add_assoc]

/-- The reversed running sum along the positions, as a sum over the positions from `j` on. -/
theorem window (x : S128x8x1x2049.Idx → EReal) (b : Fin 128) (h : Fin 8) (f : ℕ → EReal) (hx : ∀ k : Fin 2049, x (ix4 b h 0 k) = f k.val)
    (j : Fin 2049) (hw : S128x8x1x2049.ReduceWindows (![1, 1, 1, 2049] : Fin 4 → Nat) ![1, 1, 1, 1] ![0, 0, 0, 0] ![0, 0, 0, 2048] S128x8x1x2049) :
    Ideal.hostReduceWindowAdd ![1, 1, 1, 2049] ![1, 1, 1, 1] ![0, 0, 0, 0] ![0, 0, 0, 2048] hw x 0 (ix4 b h 0 j)
      = ∑ k ∈ Finset.Ico j.val 2049, f k := by
  have hj := j.isLt
  unfold Ideal.hostReduceWindowAdd Host.reduceWindow
  refine (foldl_add _ _ (fun n => if j.val + n.val < 2049 then f (j.val + n.val) else 0) (fun r n => ?_) 0).trans ?_
  · refine congrArg (r + ·) ?_
    have e := congrArg Fin.val ((⟨4, ![1, 1, 1, 2049]⟩ : Shape).rowMajor.apply_symm_apply n)
    rw [Shape.rowMajor_val_four] at e
    have h0 : ((⟨4, ![1, 1, 1, 2049]⟩ : Shape).rowMajor.symm n 0).val = 0 := Nat.lt_one_iff.1 (((⟨4, ![1, 1, 1, 2049]⟩ : Shape).rowMajor.symm n 0).isLt)
    have h1 : ((⟨4, ![1, 1, 1, 2049]⟩ : Shape).rowMajor.symm n 1).val = 0 := Nat.lt_one_iff.1 (((⟨4, ![1, 1, 1, 2049]⟩ : Shape).rowMajor.symm n 1).isLt)
    have h2 : ((⟨4, ![1, 1, 1, 2049]⟩ : Shape).rowMajor.symm n 2).val = 0 := Nat.lt_one_iff.1 (((⟨4, ![1, 1, 1, 2049]⟩ : Shape).rowMajor.symm n 2).isLt)
    have h3 : ((⟨4, ![1, 1, 1, 2049]⟩ : Shape).rowMajor.symm n 3).val = n.val := by
      rw [h0, h1, h2] at e
      exact (by simpa using e)
    dsimp only
    split
    · next hin =>
      have h4 := hin 3
      change 0 ≤ j.val * 1 + ((⟨4, ![1, 1, 1, 2049]⟩ : Shape).rowMajor.symm n 3).val
        ∧ j.val * 1 + ((⟨4, ![1, 1, 1, 2049]⟩ : Shape).rowMajor.symm n 3).val - 0 < 2049 at h4
      rw [h3] at h4
      rw [if_pos (by omega)]
      refine (congrArg x (funext fun a => Fin.ext ?_)).trans (hx ⟨j.val + n.val, by omega⟩)
      match a with
      | ⟨0, _⟩ =>
        show b.val * 1 + ((⟨4, ![1, 1, 1, 2049]⟩ : Shape).rowMajor.symm n 0).val - 0 = b.val
        rw [h0]; omega
      | ⟨1, _⟩ =>
        show h.val * 1 + ((⟨4, ![1, 1, 1, 2049]⟩ : Shape).rowMajor.symm n 1).val - 0 = h.val
        rw [h1]; omega
      | ⟨2, _⟩ =>
        show 0 * 1 + ((⟨4, ![1, 1, 1, 2049]⟩ : Shape).rowMajor.symm n 2).val - 0 = 0
        rw [h2]
      | ⟨3, _⟩ =>
        show j.val * 1 + ((⟨4, ![1, 1, 1, 2049]⟩ : Shape).rowMajor.symm n 3).val - 0 = j.val + n.val
        rw [h3]; omega
    · next hin =>
      rw [if_neg fun hle => hin fun a => by
        match a with
        | ⟨0, _⟩ =>
          show 0 ≤ b.val * 1 + ((⟨4, ![1, 1, 1, 2049]⟩ : Shape).rowMajor.symm n 0).val
            ∧ b.val * 1 + ((⟨4, ![1, 1, 1, 2049]⟩ : Shape).rowMajor.symm n 0).val - 0 < 128
          rw [h0]; omega
        | ⟨1, _⟩ =>
          show 0 ≤ h.val * 1 + ((⟨4, ![1, 1, 1, 2049]⟩ : Shape).rowMajor.symm n 1).val
            ∧ h.val * 1 + ((⟨4, ![1, 1, 1, 2049]⟩ : Shape).rowMajor.symm n 1).val - 0 < 8
          rw [h1]; omega
        | ⟨2, _⟩ =>
          show 0 ≤ 0 * 1 + ((⟨4, ![1, 1, 1, 2049]⟩ : Shape).rowMajor.symm n 2).val
            ∧ 0 * 1 + ((⟨4, ![1, 1, 1, 2049]⟩ : Shape).rowMajor.symm n 2).val - 0 < 1
          rw [h2]; omega
        | ⟨3, _⟩ =>
          show 0 ≤ j.val * 1 + ((⟨4, ![1, 1, 1, 2049]⟩ : Shape).rowMajor.symm n 3).val
            ∧ j.val * 1 + ((⟨4, ![1, 1, 1, 2049]⟩ : Shape).rowMajor.symm n 3).val - 0 < 2049
          rw [h3]; omega]
  · have hn : (⟨4, ![1, 1, 1, 2049]⟩ : Shape).numel = 2049 := by decide
    rw [zero_add]
    refine (Fin.sum_univ_def _).symm.trans ?_
    refine (Fin.sum_univ_eq_sum_range (fun n => if j.val + n < 2049 then f (j.val + n) else 0) _).trans ?_
    have hn' : Shape.numel ⟨S128x8x1x2049.rank, ![1, 1, 1, 2049]⟩ = 2049 := hn
    rw [hn', Finset.sum_Ico_eq_sum_range]
    refine (Finset.sum_subset (Finset.range_mono (by omega : 2049 - j.val ≤ 2049)) fun n _ h2 => ?_).symm.trans
      (Finset.sum_congr rfl fun n h1 => ?_)
    · exact if_neg fun h3 => h2 (Finset.mem_range.2 (by omega))
    · exact if_pos (by have := Finset.mem_range.1 h1; omega)

/-- The softplus as the reference has it. -/
def sp (x : EReal) : EReal :=
  Scalar.select (Ideal.cmp .une (x - Ideal.ofBits .f32 0x00000000#32) (x - Ideal.ofBits .f32 0x00000000#32)) (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))

/-- Minus the softplus of minus a real is the logarithm of its sigmoid. -/
theorem neg_sp (z : ℝ) : -(sp (-(z : EReal))) = ((ls z : ℝ) : EReal) := by
  unfold sp
  rw [Ideal.ofBits_zero_f32, show Ideal.cmp .une (-(z : EReal) - 0) (-(z : EReal) - 0) = 0#1 from by
    show BitVec.ofBool (decide (_ ≠ _)) = _
    rw [decide_eq_false (fun h => h rfl)]; rfl]
  show -(max (-(z : EReal)) 0 + Ideal.log1p (Ideal.exp (-(max (-(z : EReal) - 0) (-(-(z : EReal) - 0)))))) = _
  rw [sub_zero, neg_neg, max_comm (-(z : EReal)) (z : EReal), coe_abs, ← EReal.coe_neg |z|, log1p_exp, ← EReal.coe_neg, ← EReal.coe_zero,
    show max ((-z : ℝ) : EReal) ((0 : ℝ) : EReal) = ((max (-z) 0 : ℝ) : EReal) from (EReal.coe_strictMono.monotone.map_max).symm,
    ← EReal.coe_add, ← EReal.coe_neg]
  congr 1
  unfold ls
  rcases le_total z 0 with h | h
  · rw [max_eq_left (by linarith), min_eq_left h]; ring
  · rw [max_eq_right (by linarith), min_eq_right h]; ring

/-- The logarithm of the sigmoid of minus a real is the logarithm of what it leaves over. -/
theorem ls_neg (z : ℝ) : ls (-z) = lk z := by
  unfold lk ls
  rw [abs_neg]
  rcases le_total z 0 with h | h
  · rw [min_eq_right (by linarith), min_eq_left h]; ring
  · rw [min_eq_left (by linarith), min_eq_right h]; ring

section
variable (x0 : (⟨S128x512, .f32⟩ : BufTy).Contents (Elt Ideal)) (x1 : (⟨S128x1024, .f32⟩ : BufTy).Contents (Elt Ideal))
  (x2 : (⟨S2560x128x2x8x64, .f32⟩ : BufTy).Contents (Elt Ideal)) (x3 : (⟨S128x16, .i32⟩ : BufTy).Contents (Elt Ideal))
  (hp : ∀ y : S128x16.Idx, (x3 y).toNat < 2560)

/-- The word comparison the mask makes. -/
theorem before (k : Fin 2049) : IntOp.cmpi .slt (BitVec.ofNat 32 k.val) (IntOp.addi 2048#32 (BitVec.ofNat 32 0))
    = if k.val < 2048 then 1#1 else 0#1 := by
  revert k
  decide +kernel

/-- The mask keeps exactly the past positions. -/
theorem mask (k : Fin 2049) : val_main_v28 (F := Ideal) (ix2 0 k) = if k.val < 2048 then 1#1 else 0#1 :=
  (show _ = IntOp.cmpi .slt (BitVec.ofNat 32 k.val) (IntOp.addi 2048#32 (BitVec.ofNat 32 0)) from by
    rw [val_main_v28_apply, val_main_v25_apply, val_main_v27_apply, val_main_v26_apply, val_main_v21_apply, val_main_v20_apply]
    rfl).trans (before k)

/-- The running sum, as the window's fold. -/
theorem summed (i : S128x8x1x2049.Idx) : val_main_v32 x0 x1 x2 x3 i
    = Ideal.hostReduceWindowAdd ![1, 1, 1, 2049] ![1, 1, 1, 1] ![0, 0, 0, 0] ![0, 0, 0, 2048]
      reduceWindows_S128x8x1x2049_S128x8x1x2049_w1s1p0_0_w1s1p0_0_w1s1p0_0_w2049s1p0_2048 (val_main_v31 x0 x1 x2 x3) 0 i := by
  unfold val_main_v32
  generalize val_main_v31 x0 x1 x2 x3 = y
  have e : val_main_call2_v0 (F := Ideal) (Shape.Idx.first h_S_) = (0 : EReal) := Ideal.ofBits_zero_f32
  unfold Host.reduceWindowAdd
  rw [e, Ideal.hostReduceWindowAdd_def]

variable (b : Fin 128) (h : Fin 8) (z : ℕ → ℝ) (hz : ∀ k : Fin 2049, k.val < 2048 → val_main_v24 x0 x1 x2 x3 (ix4 b h 0 k) = ((z k.val : ℝ) : EReal))
include hz

/-- The kept logarithms: of what a past position leaves over, and nothing for the position itself. -/
theorem kept (k : Fin 2049) : val_main_v31 x0 x1 x2 x3 (ix4 b h 0 k) = (((if k.val < 2048 then lk (z k.val) else 0) : ℝ) : EReal) := by
  rw [val_main_v31_apply, val_main_call1_v1_apply]
  show Scalar.select (val_main_v28 (F := Ideal) (idx_main_call1_v1 (ix4 b h 0 k))) (-(sp (-(-(val_main_v24 x0 x1 x2 x3 (ix4 b h 0 k))))))
    (Ideal.ofBits .f32 0x00000000#32) = _
  rw [show idx_main_call1_v1 (ix4 b h 0 k) = ix2 0 k from funext fun a => match a with | ⟨0, _⟩ => rfl | ⟨1, _⟩ => rfl, mask]
  split
  · next hk =>
    rw [hz k hk]
    show -(sp (-(-(z k.val : EReal)))) = _
    rw [← EReal.coe_neg, neg_sp, ls_neg]
  · exact Ideal.ofBits_zero_f32

/-- What the later positions leave over. -/
theorem later (k : Fin 2049) (hk : k.val < 2048) :
    val_main_v33 x0 x1 x2 x3 (ix4 b h 0 k) = ((∑ j ∈ Finset.Ico (k.val + 1) 2048, lk (z j) : ℝ) : EReal) := by
  rw [val_main_v33_apply]
  refine (congrArg₂ (fun p q : EReal => p - q) ((summed x0 x1 x2 x3 _).trans
    (window (val_main_v31 x0 x1 x2 x3) b h (fun k => (((if k < 2048 then lk (z k) else 0) : ℝ) : EReal))
      (kept x0 x1 x2 x3 b h z hz) k _)) (kept x0 x1 x2 x3 b h z hz k)).trans ?_
  rw [← coe_sum, ← EReal.coe_sub]
  congr 1
  rw [Finset.sum_eq_sum_Ico_succ_bot (by omega), add_sub_cancel_left, Finset.sum_Ico_succ_top (by omega), if_neg (by omega), add_zero]
  exact Finset.sum_congr rfl fun j hj => if_pos (Finset.mem_Ico.1 hj).2

/-- The weights. -/
theorem weights (k : Fin 2049) : val_main_v37 x0 x1 x2 x3 (ix4 b h 0 k) = if k.val < 2048 then (W z k.val : EReal) else 0 := by
  rw [val_main_v37_apply, val_main_call4_v1_apply]
  show Scalar.select (val_main_v28 (F := Ideal) (idx_main_call4_v1 (ix4 b h 0 k)))
    (Ideal.exp (-(sp (-(val_main_v24 x0 x1 x2 x3 (ix4 b h 0 k)))) + val_main_v33 x0 x1 x2 x3 (ix4 b h 0 k)))
    (Ideal.ofBits .f32 0x00000000#32) = _
  rw [show idx_main_call4_v1 (ix4 b h 0 k) = ix2 0 k from funext fun a => match a with | ⟨0, _⟩ => rfl | ⟨1, _⟩ => rfl, mask]
  split
  · next hk =>
    rw [hz k hk, later x0 x1 x2 x3 b h z hz k hk, neg_sp, ← EReal.coe_add, Ideal.exp_coe]
    rfl
  · exact Ideal.ofBits_zero_f32

include hp in
/-- The reference's result: the weighted sum of the past values. -/
theorem result (c : Fin 512) (d : Fin 64) (hc : c.val = h.val * 64 + d.val) (v : ℕ → EReal)
    (hv : ∀ k : Fin 2048, entry x2 x3 hp b k 1 h d = v k.val) :
    val_main_v40 x0 x1 x2 x3 (ix3 b 0 c) = ∑ k ∈ Finset.Ico 0 2048, (W z k : EReal) * v k := by
  rw [val_main_v40_apply, val_main_v39_apply, val_main_v38_apply, Fin.sum_univ_castSucc]
  have hl : ∀ k : Fin 2049, lidx_main_v38 (idx_main_v39 (idx_main_v40 (ix3 b 0 c))) k = ix4 b k h d := fun k => funext fun a => Fin.ext (by
    match a with
    | ⟨0, _⟩ => show ((b.val * 1 + 0) * 512 + c.val) / 512 = b.val; omega
    | ⟨1, _⟩ => rfl
    | ⟨2, _⟩ => show ((b.val * 1 + 0) * 512 + c.val) / 64 % 8 = h.val; omega
    | ⟨3, _⟩ => show ((b.val * 1 + 0) * 512 + c.val) % 64 = d.val; omega)
  have hr : ∀ k : Fin 2049, ridx_main_v38 (idx_main_v39 (idx_main_v40 (ix3 b 0 c))) k = ix4 b h 0 k := fun k => funext fun a => Fin.ext (by
    match a with
    | ⟨0, _⟩ => show ((b.val * 1 + 0) * 512 + c.val) / 512 = b.val; omega
    | ⟨1, _⟩ => show ((b.val * 1 + 0) * 512 + c.val) / 64 % 8 = h.val; omega
    | ⟨2, _⟩ => rfl
    | ⟨3, _⟩ => rfl)
  rw [hr (Fin.last 2048), weights x0 x1 x2 x3 b h z hz (Fin.last 2048), if_neg (by show ¬(2048 < 2048); omega), mul_zero, add_zero]
  rw [← Finset.range_eq_Ico, ← Fin.sum_univ_eq_sum_range (fun k => (W z k : EReal) * v k)]
  refine Finset.sum_congr rfl fun k _ => ?_
  rw [hl, hr, weights x0 x1 x2 x3 b h z hz, if_pos (show k.castSucc.val < 2048 from k.isLt), value x1 x2 x3 hp b k h d k.castSucc rfl, hv]
  exact mul_comm _ _

end

/-- The score of a past position. -/
theorem score (x0 : (⟨S128x512, .f32⟩ : BufTy).Contents (Elt Ideal)) (x1 : (⟨S128x1024, .f32⟩ : BufTy).Contents (Elt Ideal))
    (x2 : (⟨S2560x128x2x8x64, .f32⟩ : BufTy).Contents (Elt Ideal)) (x3 : (⟨S128x16, .i32⟩ : BufTy).Contents (Elt Ideal))
    (hp : ∀ y : S128x16.Idx, (x3 y).toNat < 2560) (b : Fin 128) (h : Fin 8) (k' : Fin 2049) (k : Fin 2048) (hk : k'.val = k.val) :
    val_main_v24 x0 x1 x2 x3 (ix4 b h 0 k')
      = ∑ d : Fin 64, x0 (ix2 b ⟨h.val * 64 + d.val, by omega⟩) * entry x2 x3 hp b k 0 h d := by
  rw [val_main_v24_apply]
  refine Finset.sum_congr rfl fun d _ => ?_
  rw [show ridx_main_v24 (ix4 b h 0 k') d = ix4 b k' h d from funext fun a => match a with
    | ⟨0, _⟩ => rfl | ⟨1, _⟩ => rfl | ⟨2, _⟩ => rfl | ⟨3, _⟩ => rfl, key x1 x2 x3 hp b k h d k' hk, val_main_v23_apply]
  refine congrArg (fun i => x0 i * _) (funext fun a => Fin.ext ?_)
  match a with
  | ⟨0, _⟩ => show (((b.val * 1 + 0) * 8 + h.val) * 64 + d.val) / 512 = b.val; omega
  | ⟨1, _⟩ => show (((b.val * 1 + 0) * 8 + h.val) * 64 + d.val) % 512 = h.val * 64 + d.val; omega

end Cert.ReferenceIdeal.Rows
-- ==== Proof.Equation.lean ====
/- The decoding attention's two values are one: the kernel's result array is the reference's, from equal arguments. -/
module

public import proofs.«01_k».proof.Proof.Out
public import proofs.«01_k».proof.Proof.Finite
public import proofs.«01_k».proof.Proof.RefRows

@[expose] public section

set_option maxRecDepth 16384

noncomputable section

namespace Cert.Equation

open Idealize.ShloMosaic Idealize.ShloMosaic.TcCoe ValueIdx
open Cert.KernelIdeal Cert.KernelIdeal.Gen Cert.KernelIdeal.Unit Cert.KernelIdeal.Blocks Cert.KernelIdeal.Cols Cert.Stick
open Cert.ReferenceIdeal.Pages (entry)

variable (m : (ℓ : Loc nD τ sig) → Buf (Elt Ideal) ℓ) (hO : Ok m)
  (hp : ∀ y : S128x16.Idx, (m ((0 : Dev nD).tc.loc main_arg3) y).toNat < 2560)

/-- The page a visit reads, at an index: the cache entry of the flat position. -/
theorem visit_apply (b : Fin 128) (n : ℕ) (hn : n < 16) (j : Fin 2) (h : Fin 8) (d : Fin 64) (r : Fin 128) :
    visit m hp 0 b n (ix5 0 j h d r)
      = entry (m ((0 : Dev nD).tc.loc main_arg2)) (m ((0 : Dev nD).tc.loc main_arg3)) hp b ⟨(15 - n) * 128 + r.val, by omega⟩ j h d := by
  unfold visit page entry pg
  refine congrArg (m ((0 : Dev nD).tc.loc main_arg2)) (funext fun a => Fin.ext ?_)
  match a with
  | ⟨0, _⟩ =>
    show (m ((0 : Dev nD).tc.loc main_arg3) (ix2 b ⟨15 - n, _⟩)).toNat
      = (m ((0 : Dev nD).tc.loc main_arg3) (ix2 b ⟨((15 - n) * 128 + r.val) / 128, _⟩)).toNat
    refine congrArg (fun k => (m ((0 : Dev nD).tc.loc main_arg3) (ix2 b k)).toNat) (Fin.ext ?_)
    show 15 - n = ((15 - n) * 128 + r.val) / 128
    omega
  | ⟨1, _⟩ =>
    show r.val = ((15 - n) * 128 + r.val) % 128
    omega
  | ⟨2, _⟩ => rfl
  | ⟨3, _⟩ => rfl
  | ⟨4, _⟩ => rfl

/-- The real score of a past position of one head of one sequence. -/
def realScore (b : Fin 128) (h : Fin 8) (k : ℕ) : ℝ :=
  if hk : k < 2048 then ∑ d : Fin 64, (m ((0 : Dev nD).tc.loc main_arg0) (ix2 b ⟨h.val * 64 + d.val, by omega⟩) : EReal).toReal
    * (entry (m ((0 : Dev nD).tc.loc main_arg2)) (m ((0 : Dev nD).tc.loc main_arg3)) hp b ⟨k, hk⟩ 0 h d : EReal).toReal
  else 0

/-- The past value of one column of one sequence. -/
def pastValue (b : Fin 128) (h : Fin 8) (d : Fin 64) (k : ℕ) : EReal :=
  if hk : k < 2048 then entry (m ((0 : Dev nD).tc.loc main_arg2)) (m ((0 : Dev nD).tc.loc main_arg3)) hp b ⟨k, hk⟩ 1 h d else 0

variable (hf : Cert.Pre_finite_and_paged.fn (F := Ideal) (m ((0 : Dev nD).tc.loc main_arg0)) (m ((0 : Dev nD).tc.loc main_arg1))
    (m ((0 : Dev nD).tc.loc main_arg2)) (m ((0 : Dev nD).tc.loc main_arg3)) = fun _ => 1#1)

include hf in
/-- The score's sum is the real score. -/
theorem score_real (b : Fin 128) (h : Fin 8) (k : Fin 2048) :
    (∑ d : Fin 64, HMul.hMul (α := EReal) (β := EReal) (γ := EReal) (m ((0 : Dev nD).tc.loc main_arg0) (ix2 b ⟨h.val * 64 + d.val, by omega⟩))
      (entry (m ((0 : Dev nD).tc.loc main_arg2)) (m ((0 : Dev nD).tc.loc main_arg3)) hp b k 0 h d))
      = ((realScore m hp b h k.val : ℝ) : EReal) := by
  unfold realScore
  rw [dif_pos k.isLt, coe_sum]
  refine Finset.sum_congr rfl fun d _ => ?_
  rw [EReal.coe_mul]
  exact congrArg₂ (· * ·) (Cert.Paged.query_real _ _ _ _ hf _) (Cert.Paged.key_real _ _ _ _ hf _ _ _ _)

include hp hf in
/-- The kernel's result array is the reference's value of the same arguments. -/
theorem equal (c : Dev nD) : result m hO c = Cert.ReferenceIdeal.Read.val_main_v40 (m ((c : Thread nD τ).loc main_arg0))
    (m ((c : Thread nD τ).loc main_arg1)) (m ((c : Thread nD τ).loc main_arg2)) (m ((c : Thread nD τ).loc main_arg3)) := by
  obtain rfl : c = 0 := Subsingleton.elim _ _
  funext i
  obtain ⟨b, e, col, rfl⟩ : ∃ (b : Fin 128) (e : Fin 1) (col : Fin 512), i = ix3 b e col :=
    ⟨i 0, i 1, i 2, funext fun a => match a with | ⟨0, _⟩ => rfl | ⟨1, _⟩ => rfl | ⟨2, _⟩ => rfl⟩
  obtain rfl : e = 0 := Subsingleton.elim _ _
  have hcol := col.isLt
  obtain ⟨h, hh⟩ : ∃ h : Fin 8, h.val = col.val / 64 := ⟨⟨col.val / 64, by omega⟩, rfl⟩
  obtain ⟨d, hd⟩ : ∃ d : Fin 64, d.val = col.val % 64 := ⟨⟨col.val % 64, by omega⟩, rfl⟩
  have hc : col.val = h.val * 64 + d.val := by omega
  refine Eq.trans ?_ (Cert.ReferenceIdeal.Rows.result _ _ _ _ hp b h (realScore m hp b h) (fun k hk => ?_) col d hc (pastValue m hp b h d)
    fun k => ?_).symm
  · show outsAt0 m hO 0 (ptOf m hO b) (ix3 0 0 col) = _
    refine (congrFun (out m hO hp 0 (ptOf m hO b)) _).trans ((fold_apply _ h col hh.symm).trans ?_)
    refine (total_apply _ _ _ h (realScore m hp b h) (fun n hn r => ?_) col (pastValue m hp b h d) (fun n hn r => ?_) 16 le_rfl).trans rfl
    · refine (score_apply _ _ h r).trans (Eq.trans ?_ (score_real m hp hf b h ⟨(15 - n) * 128 + r.val, by omega⟩))
      exact Finset.sum_congr rfl fun d' _ => congrArg₂ (fun p q : EReal => p * q) (congrFun (query m hO 0 (ptOf m hO b)) _) (visit_apply m hp b n hn 0 h d' r)
    · refine (vals_apply _ h d r col hc).trans ?_
      unfold pastValue
      rw [dif_pos (by omega)]
      exact visit_apply m hp b n hn 1 h d r
  · rw [Cert.ReferenceIdeal.Rows.score _ _ _ _ hp b h k ⟨k.val, hk⟩ rfl]
    exact score_real m hp hf b h ⟨k.val, hk⟩
  · unfold pastValue
    rw [dif_pos k.isLt]

end Cert.Equation
-- ==== Proof.FfnRun.lean ====
/- The kernel body of the prompt feed-forward call, run once at a grid point: what it leaves in every block and in
   the buffers it carries, as plain functions of what it found there. -/
module

public import proofs.«01_k».proof.Proof.Gen.Kernel2Ideal.Frame
public import proofs.«01_k».proof.Proof.Gen.Kernel2Ideal.Skeleton

public import Idealize.ShloMosaic.Lib.VecWindow

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero corner of a two axis block. -/
theorem hz2 : (![0, 0] : Fin 2 → Nat) = fun _ => 0 := funext fun a => by fin_cases a <;> rfl

/-- A load of a whole block reads the block. -/
theorem ld_all {a b : ℕ} {e : EltTy} (X : Shape.Idx ⟨2, ![a, b]⟩ → Elt F e) (inb) :
    View.ld X (Rect.unit (s := ⟨2, ![a, b]⟩) ![0, 0] ![a, b] inb) = X :=
  funext fun y => congrArg X (funext fun p => Fin.ext (by
    have h : (![0, 0] : Fin 2 → ℕ) p = 0 := congrFun hz2 p
    show (![0, 0] : Fin 2 → ℕ) p + 1 * (y p).val = (y p).val
    omega))

/-- A store of a whole block leaves what was stored. -/
theorem full2 {a b : ℕ} {e : EltTy} {κ : Kind} {sp : Space} (v : View sig κ sp ⟨2, ![a, b]⟩ e) (g : v.ty.Contents (Elt F)) (inb) (w)
    (L : List (View.Piece (Elt F) ⟨2, ![a, b]⟩ e)) :
    v.read (Elt F) (v.writes (Elt F) g (⟨Rect.unit (s := ⟨2, ![a, b]⟩) ![0, 0] ![a, b] inb, w⟩ :: L)) = w :=
  View.read_writes_full v g inb w L

/-- The same of a block of three axes. -/
theorem full3 {a b d : ℕ} {e : EltTy} {κ : Kind} {sp : Space} (v : View sig κ sp ⟨3, ![a, b, d]⟩ e) (g : v.ty.Contents (Elt F)) (inb) (w)
    (L : List (View.Piece (Elt F) ⟨3, ![a, b, d]⟩ e)) :
    v.read (Elt F) (v.writes (Elt F) g (⟨Rect.unit (s := ⟨3, ![a, b, d]⟩) ![0, 0, 0] ![a, b, d] inb, w⟩ :: L)) = w :=
  View.read_writes_full v g inb w L

/-- A load of a whole block after a store of it reads what was stored. -/
theorem cov2 {a b : ℕ} {e : EltTy} {κ : Kind} {sp : Space} (v : View sig κ sp ⟨2, ![a, b]⟩ e) (inb inb') (w)
    (L : List (View.Piece (Elt F) ⟨2, ![a, b]⟩ e)) :
    v.readCov (⟨Rect.unit (s := ⟨2, ![a, b]⟩) ![0, 0] ![a, b] inb, w⟩ :: L)
      (Rect.unit (s := ⟨2, ![a, b]⟩) ![0, 0] ![a, b] inb').toLoadRect = w :=
  View.readCov_full v inb' inb w L

/-- The kernel's test of the first column tile, as it computes it. -/
abbrev First (i : grid0.Coords) : Prop := Scalar.cmpi .ne (Scalar.extui (Scalar.cmpi .eq (BitVec.ofNat 32 (i 1).val) 0#32)) 0#32 = 1#1

/-- The residual stream with both projections added, at a row block. -/
def mix (a bo : Vec F S512x512 .bf16) (wo : Vec F S1024x1024 .bf16) (x : Vec F S512x1024 .f32) : FVec F S512x1024 .f32 :=
  k0_pay6 a (View.ld wo (Rect.unit (s := S1024x1024) ![0, 0] S512x1024.size inb_S1024x1024_S512x1024_0_0)) bo
    (View.ld wo (Rect.unit (s := S1024x1024) ![512, 0] S512x1024.size inb_S1024x1024_S512x1024_512_0)) x

/-- The normalized rows the feed-forward part reads, at a row block. -/
def hid (a bo : Vec F S512x512 .bf16) (wo : Vec F S1024x1024 .bf16) (x : Vec F S512x1024 .f32) (fn : Vec F S1x1024 .f32) : FVec F S512x1024 .bf16 :=
  k0_pay7 a (View.ld wo (Rect.unit (s := S1024x1024) ![0, 0] S512x1024.size inb_S1024x1024_S512x1024_0_0)) bo
    (View.ld wo (Rect.unit (s := S1024x1024) ![512, 0] S512x1024.size inb_S1024x1024_S512x1024_512_0)) x fn

/-- The activation tile, from the normalized rows, the weight tiles and the rows carried over from the row block before. -/
def actOf (h : Vec F S512x1024 .bf16) (wg wu : Vec F S1024x1408 .bf16) (cw : Vec F S3x1408 .f32) (cb : Vec F S1x1408 .f32)
    (pr : Vec F S1x8x1408 .f32) : FVec F S512x1408 .bf16 :=
  k0_pay19 (k0_pay10 h wg) (k0_pay11 h wu) (k0_pay14 pr) (k0_pay15 pr) (iota .tc S512x1408 32 [0] iota_S512x1408_d0_w32) k0_pay16
    (k0_pay17 h wg) (k0_pay18 pr)
    (View.ld cw (Rect.unit (s := S3x1408) ![0, 0] S1x1408.size inb_S3x1408_S1x1408_0_0))
    (View.ld cw (Rect.unit (s := S3x1408) ![1, 0] S1x1408.size inb_S3x1408_S1x1408_1_0))
    (View.ld cw (Rect.unit (s := S3x1408) ![2, 0] S1x1408.size inb_S3x1408_S1x1408_2_0)) cb

/-- The carried rows the body reads: none at a sequence's first row block. -/
def rowsOf (i : grid0.Coords) (p : Vec F S2x8x1408 .f32) : Vec F S1x8x1408 .f32 :=
  if k0_cond2 i = 1#1 then k0_pay12 (F := F) else VecWindow.window p (k0_off2 i) S1x8x1408.size (k0_off2_inb i)

set_option maxHeartbeats 1600000 in
/-- The whole body at a point: what it leaves in every block and buffer, from what it found there. -/
theorem run (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S3x1408 .f32) (harg9 : arg9.IsWhole) (arg10 : Memref sig .tc .vmem S1x1408 .f32) (harg10 : arg10.IsWhole) (arg11 : Memref sig .tc .vmem S1408x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x2x1408 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole)
    (x2 : Vec F S512x1024 .f32) (x3 : Vec F S512x512 .bf16) (x4 : Vec F S512x512 .bf16) (x5 : Vec F S1024x1024 .bf16) (x6 : Vec F S1x1024 .f32) (x7 : Vec F S1024x1408 .bf16) (x8 : Vec F S1024x1408 .bf16) (x9 : Vec F S3x1408 .f32) (x10 : Vec F S1x1408 .f32) (x11 : Vec F S1408x1024 .bf16) (x12 : Vec F S1x1024 .f32) (x13 : Vec F S512x1024 .f32) (x14 : Vec F S1x2x1408 .f32) (x15 : Vec F S512x1024 .f32) (x16 : Vec F S512x1024 .bf16) (x17 : Vec F S512x1024 .f32) (x18 : Vec F S2x8x1408 .f32)
    (hc : k0_cond3 i = 1#1 ↔ ¬ First i) (X1 : Vec F S512x1024 .f32) (H : Vec F S512x1024 .bf16) (A0 A1 : Vec F S512x1024 .f32)
    (hX1 : X1 = (if First i then mix x3 x4 x5 x2 else x15)) (hH : H = (if First i then hid x3 x4 x5 x2 x6 else x16)) (hA0 : A0 = (if First i then k0_pay9 (k0_pay8 (F := F)) else x17))
    (hA1 : A1 = k0_pay1 A0 (actOf H x7 x8 x9 x10 (rowsOf i x18)) x11)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
        ∗ (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
      ∗ owns (c : Thread nD τ) arg13 fullShare (if k0_cond3 i = 1#1 then k0_pay4 X1 A1 x12 else x13)
      ∗ owns (c : Thread nD τ) arg14 fullShare (k0_pay3 (k0_pay10 H x7))
      ∗ owns (c : Thread nD τ) arg15 fullShare X1 ∗ owns (c : Thread nD τ) arg16 fullShare H ∗ owns (c : Thread nD τ) arg17 fullShare A1
      ∗ owns (c : Thread nD τ) arg18 fullShare (VecWindow.put x18 (k0_off2 i) S1x8x1408.size (k0_pay2 (k0_pay10 H x7)))
          -∗ K ⟨⟩))
      ⊢ wp frame (wpE (defs₀ (F := F)) Variants.none c none) E (cc0_out_ffn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have ho : k0_off1 i = k0_off2 i := rfl
  have putOf (g : arg18.view.ty.Contents (Elt F)) (w : Vec F S1x8x1408 .f32) (L : List (View.Piece (Elt F) S2x8x1408 .f32)) :=
    View.read_writes_cons_put arg18.view g (off := k0_off2 i) (size := S1x8x1408.size) (k0_off2_inb i) w L rfl
  have clearOf (inb) (g : arg18.view.ty.Contents (Elt F)) (w : Vec F S1x8x1408 .f32) (L : List (View.Piece (Elt F) S2x8x1408 .f32)) :=
    View.read_writes_cons_put arg18.view g (off := k0_off1 i) (off' := k0_off2 i) (size := S1x8x1408.size) inb w L ho
  have clearRead (inb inb') (w : Vec F S1x8x1408 .f32) :
      arg18.view.readCov ([⟨Rect.unit (k0_off1 i) S1x8x1408.size inb, w⟩] : List (View.Piece (Elt F) S2x8x1408 .f32))
        (Rect.unit (s := S2x8x1408) (k0_off2 i) S1x8x1408.size inb').toLoadRect = w := by
    unfold View.readCov
    rw [View.readAt_unit _ _ inb' rfl inb', clearOf, VecWindow.window_put_same]
  have windowOf (g : arg18.view.ty.Contents (Elt F)) :=
    View.readAt_unit arg18.view g (off := k0_off2 i) (size := S1x8x1408.size) (k0_off2_inb i) rfl (k0_off2_inb i)
  simp only [cc0_out_ffn_prompt_eq_skeleton]; unfold cc0_out_ffn_prompt_skel
  simp only [k0_part1_eq_skeleton, k0_part2_eq_skeleton, k0_part3_eq_skeleton]
  have hs : (First i ∧ ¬ k0_cond3 i = 1#1) ∨ (¬ First i ∧ k0_cond3 i = 1#1) := by
    by_cases h : First i
    · exact .inl ⟨h, fun e => hc.mp e h⟩
    · exact .inr ⟨h, hc.mpr h⟩
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  rcases hs with ⟨hc1, hc3⟩ | ⟨hc1, hc3⟩ <;> by_cases hc2 : k0_cond2 i = 1#1
  all_goals
    sl_exec (disch := first | sl_exact hc1 | sl_exact hc2 | sl_exact hc3)
    sl_step
    iapply Hk
    first | rw [if_pos hc1] at hX1 hH hA0 | rw [if_neg hc1] at hX1 hH hA0
    first | rw [if_pos hc3] | rw [if_neg hc3]
    subst hA1 hA0 hX1 hH
    unfold rowsOf
    try first | rw [if_pos hc2] | rw [if_neg hc2]
    sl_unfold_run_names
    isplitl [H2]; · (iexists _; isplitr; swap; iexact H2; ipureintro; exact harg2.read_unread _)
    isplitl [H3]; · (iexists _; isplitr; swap; iexact H3; ipureintro; exact harg3.read_unread _)
    isplitl [H4]; · (iexists _; isplitr; swap; iexact H4; ipureintro; exact harg4.read_unread _)
    isplitl [H5]; · (iexists _; isplitr; swap; iexact H5; ipureintro; exact harg5.read_unread _)
    isplitl [H6]; · (iexists _; isplitr; swap; iexact H6; ipureintro; exact harg6.read_unread _)
    isplitl [H7]; · (iexists _; isplitr; swap; iexact H7; ipureintro; exact harg7.read_unread _)
    isplitl [H8]; · (iexists _; isplitr; swap; iexact H8; ipureintro; exact harg8.read_unread _)
    isplitl [H9]; · (iexists _; isplitr; swap; iexact H9; ipureintro; exact harg9.read_unread _)
    isplitl [H10]; · (iexists _; isplitr; swap; iexact H10; ipureintro; exact harg10.read_unread _)
    isplitl [H11]; · (iexists _; isplitr; swap; iexact H11; ipureintro; exact harg11.read_unread _)
    isplitl [H12]; · (iexists _; isplitr; swap; iexact H12; ipureintro; exact harg12.read_unread _)
    isplitl [H13]; · (iexists _; isplitr; swap; iexact H13; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H14]; · (iexists _; isplitr; swap; iexact H14; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H15]; · (iexists _; isplitr; swap; iexact H15; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H16]; · (iexists _; isplitr; swap; iexact H16; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H17]; · (iexists _; isplitr; swap; iexact H17; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    iexists _; isplitr; swap; · iexact H18
    ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip)

end Cert.Kernel2Ideal.Ffn
-- ==== Proof.FfnFrame.lean ====
/- The run of the prompt feed-forward call: what its carried buffers hold before each point of the grid, what each point
   writes, the whole run, and the arguments unchanged. -/
module

public import proofs.«01_k».proof.Proof.FfnRun
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The kernel's test of the first column tile, at a point. -/
theorem first_iff : ∀ t : Fin cfg0.N, First (cfg0.grid.coords t) ↔ t.val % 2 = 0 := by decide +kernel
/-- Its test of the last column tile. -/
theorem last_iff : ∀ t : Fin cfg0.N, k0_cond3 (cfg0.grid.coords t) = 1#1 ↔ t.val % 2 = 1 := by decide +kernel
/-- Its test of a sequence's first row block. -/
theorem start_iff : ∀ t : Fin cfg0.N, k0_cond2 (cfg0.grid.coords t) = 1#1 ↔ t.val / 2 % 4 = 0 := by decide +kernel
/-- The carried row a point works on. -/
theorem row_eq (t : Fin cfg0.N) : k0_off2 (cfg0.grid.coords t) = ![t.val % 2, 0, 0] := by
  rw [k0_off2_eq]
  have h : ∀ t : Fin cfg0.N, (cfg0.grid.coords t 1).val = t.val % 2 := by decide +kernel
  rw [h t]

/-- The first point of a point's row block. -/
def ev (t : Fin cfg0.N) : Fin cfg0.N := ⟨t.val - t.val % 2, by have := t.isLt; omega⟩
/-- The point `k` points earlier. -/
def bk (t : Fin cfg0.N) (k : ℕ) : Fin cfg0.N := ⟨t.val - k, by have := t.isLt; omega⟩

theorem ev_even {t : Fin cfg0.N} (h : t.val % 2 = 0) : ev t = t := Fin.ext (by show t.val - t.val % 2 = t.val; omega)

/-! ## What each point computes -/

/-- The residual stream of a row block. -/
def X1 (c : Dev nD) (t : Fin cfg0.N) : FVec F S512x1024 .f32 := mix (iblk m c 1 t) (iblk m c 2 t) (iblk m c 3 t) (iblk m c 0 t)
/-- Its normalized rows. -/
def Hd (c : Dev nD) (t : Fin cfg0.N) : FVec F S512x1024 .bf16 := hid (iblk m c 1 t) (iblk m c 2 t) (iblk m c 3 t) (iblk m c 0 t) (iblk m c 4 t)
/-- The gate's tile at a point. -/
def Gt (c : Dev nD) (t : Fin cfg0.N) : FVec F S512x1408 .f32 := k0_pay10 (Hd m c (ev t)) (iblk m c 5 t)
/-- The rows carried over into a point. -/
def Pr (c : Dev nD) (t : Fin cfg0.N) : Vec F S1x8x1408 .f32 :=
  if k0_cond2 (cfg0.grid.coords t) = 1#1 then k0_pay12 (F := F) else k0_pay2 (Gt m c (bk t 2))
/-- The activation tile at a point. -/
def Act (c : Dev nD) (t : Fin cfg0.N) : FVec F S512x1408 .bf16 :=
  actOf (Hd m c (ev t)) (iblk m c 5 t) (iblk m c 6 t) (iblk m c 7 t) (iblk m c 8 t) (Pr m c t)
/-- A point's tile added to what was summed before it. -/
def addTile (c : Dev nD) (t : Fin cfg0.N) (a : FVec F S512x1024 .f32) : FVec F S512x1024 .f32 := k0_pay1 a (Act m c t) (iblk m c 9 t)
/-- The sum over the column tiles up to a point. -/
def Acc (c : Dev nD) (t : Fin cfg0.N) : FVec F S512x1024 .f32 :=
  addTile m c t (if First (cfg0.grid.coords t) then k0_pay9 (k0_pay8 (F := F)) else addTile m c (ev t) (k0_pay9 (k0_pay8 (F := F))))
/-- The output block of a row block's last point. -/
def Y (c : Dev nD) (t : Fin cfg0.N) : FVec F S512x1024 .f32 := k0_pay4 (X1 m c (ev t)) (Acc m c t) (iblk m c 10 t)

/-- What the carried buffers hold before point `k`: the row block's rows and sum once its first point ran, and the last
    rows of the gate's tiles of the two points before. -/
def Inv (c : Dev nD) (k : ℕ) (x1 : Vec F S512x1024 .f32) (h : Vec F S512x1024 .bf16) (a : Vec F S512x1024 .f32) (p : Vec F S2x8x1408 .f32) : Prop :=
  (∀ t : Fin cfg0.N, t.val + 1 = k → t.val % 2 = 0 → x1 = X1 m c t ∧ h = Hd m c t ∧ a = Acc m c t)
  ∧ ∀ t : Fin cfg0.N, t.val < k → k ≤ t.val + 2 →
      VecWindow.window p (k0_off2 (cfg0.grid.coords t)) S1x8x1408.size (k0_off2_inb _) = k0_pay2 (Gt m c t)

theorem window_off {α : Type} (p : S2x8x1408.Idx → α) (o o' : Fin 3 → ℕ) (h : o = o') (i : ∀ a, o a + S1x8x1408.size a ≤ S2x8x1408.size a)
    (i' : ∀ a, o' a + S1x8x1408.size a ≤ S2x8x1408.size a) : VecWindow.window p o S1x8x1408.size i = VecWindow.window p o' S1x8x1408.size i' := by
  subst h; rfl

/-- One point of the grid keeps the invariant, and its values are the ones named above. -/
theorem step (c : Dev nD) (t : Fin cfg0.N) {x1 : Vec F S512x1024 .f32} {h : Vec F S512x1024 .bf16} {a : Vec F S512x1024 .f32} {p : Vec F S2x8x1408 .f32}
    (hI : Inv m c t.val x1 h a p) :
    X1 m c (ev t) = (if First (cfg0.grid.coords t) then mix (iblk m c 1 t) (iblk m c 2 t) (iblk m c 3 t) (iblk m c 0 t) else x1)
    ∧ Hd m c (ev t) = (if First (cfg0.grid.coords t) then hid (iblk m c 1 t) (iblk m c 2 t) (iblk m c 3 t) (iblk m c 0 t) (iblk m c 4 t) else h)
    ∧ Acc m c t = k0_pay1 (if First (cfg0.grid.coords t) then k0_pay9 (k0_pay8 (F := F)) else a)
        (actOf (Hd m c (ev t)) (iblk m c 5 t) (iblk m c 6 t) (iblk m c 7 t) (iblk m c 8 t) (rowsOf (cfg0.grid.coords t) p)) (iblk m c 9 t)
    ∧ Inv m c (t.val + 1) (X1 m c (ev t)) (Hd m c (ev t)) (Acc m c t)
        (VecWindow.put p (k0_off2 (cfg0.grid.coords t)) S1x8x1408.size (k0_pay2 (Gt m c t))) := by
  have hN : t.val < 64 := t.isLt
  have hpr : rowsOf (cfg0.grid.coords t) p = Pr m c t := by
    unfold rowsOf Pr
    by_cases h2 : k0_cond2 (cfg0.grid.coords t) = 1#1
    · rw [if_pos h2, if_pos h2]
    · rw [if_neg h2, if_neg h2]
      have h4 : ¬ t.val / 2 % 4 = 0 := fun e => h2 ((start_iff t).mpr e)
      have hv : (bk t 2).val = t.val - 2 := rfl
      refine (window_off p (k0_off2 (cfg0.grid.coords t)) (k0_off2 (cfg0.grid.coords (bk t 2))) ?_ (k0_off2_inb _) (k0_off2_inb _)).trans (hI.2 (bk t 2) (by omega) (by omega))
      rw [row_eq, row_eq, hv, show (t.val - 2) % 2 = t.val % 2 by omega]
  have hrow : ∀ t' : Fin cfg0.N, t'.val < t.val + 1 → t.val + 1 ≤ t'.val + 2 →
      VecWindow.window (VecWindow.put p (k0_off2 (cfg0.grid.coords t)) S1x8x1408.size (k0_pay2 (Gt m c t)))
        (k0_off2 (cfg0.grid.coords t')) S1x8x1408.size (k0_off2_inb _) = k0_pay2 (Gt m c t') := fun t' h1 h2 => by
    by_cases e : t' = t
    · subst e; exact VecWindow.window_put_same _ _ _ _ _
    · have hne : t'.val ≠ t.val := fun e' => e (Fin.ext e')
      refine (VecWindow.window_put_of_disjoint p _ _ _ _ _ _ (0 : Fin 3) ?_).trans (hI.2 t' (by omega) (by omega))
      rw [row_eq, row_eq]
      show t'.val % 2 + 1 ≤ t.val % 2 ∨ t.val % 2 + 1 ≤ t'.val % 2
      omega
  by_cases h1 : First (cfg0.grid.coords t)
  · have h0 := (first_iff t).mp h1
    rw [if_pos h1, if_pos h1, if_pos h1, hpr]
    have hA : Acc m c t = k0_pay1 (k0_pay9 (k0_pay8 (F := F))) (Act m c t) (iblk m c 9 t) := by
      unfold Acc addTile; rw [if_pos h1]
    refine ⟨?_, ?_, hA, ⟨fun t' e _ => ?_, hrow⟩⟩
    · rw [ev_even h0]; rfl
    · rw [ev_even h0]; rfl
    · have : t' = t := Fin.ext (by omega)
      subst this
      rw [ev_even h0]; exact ⟨rfl, rfl, rfl⟩
  · have h0 : t.val % 2 = 1 := by have := mt (first_iff t).mpr h1; omega
    rw [if_neg h1, if_neg h1, if_neg h1, hpr]
    have hv : (ev t).val = t.val - 1 := by show t.val - t.val % 2 = _; omega
    obtain ⟨e1, e2, e3⟩ := hI.1 (ev t) (by omega) (by omega)
    have hf : First (cfg0.grid.coords (ev t)) := (first_iff _).mpr (by omega)
    refine ⟨e1.symm, e2.symm, ?_, ⟨fun t' e e' => absurd e' (by omega), hrow⟩⟩
    rw [e3]
    unfold Acc addTile
    rw [if_neg h1, if_pos hf]
    rfl

/-! ## The proof data -/

/-- The carried buffers before a point, and the generator register. -/
def Phi (c : Dev nD) (k : ℕ) : sProp 𝕄 :=
  iprop(∃ x1 h a p, ⌜Inv m c k x1 h a p⌝
    ∗ owns (c : Thread nD τ) (Memref.whole cc0_scratch0) fullShare x1 ∗ owns (c : Thread nD τ) (Memref.whole cc0_scratch1) fullShare h
    ∗ owns (c : Thread nD τ) (Memref.whole cc0_scratch2) fullShare a ∗ owns (c : Thread nD τ) (Memref.whole cc0_scratch3) fullShare p
    ∗ ∃ r, prngReg c r)

/-- The arrays as launched, what each window's block holds after each point, and the carried buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Y m c t
    | ⟨12, _⟩ => k0_pay3 (Gt m c t)
    | ⟨_ + 13, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]; try rfl
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]; try rfl
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]; try rfl
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]; try rfl
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]; try rfl
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]; try rfl
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]; try rfl
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]; try rfl
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]; try rfl
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]; try rfl
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]; try rfl
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = Y m c t := by dsimp only [dats]; try rfl
theorem after_12 (c : Dev nD) (t : Fin cfg0.N) : (dats m 0 c).after 12 t = k0_pay3 (Gt m c t) := by dsimp only [dats]; try rfl

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t
    ∗ owns (c : Thread nD τ) (st0_12 t) fullShare ((dats m 0 c).after 12 t))

/-- The output block: written at a row block's last point, let be at its first. -/
theorem leaves (c : Dev nD) (t : Fin cfg0.N) (d) :
    (owns (c : Thread nD τ) (st0_11 t) fullShare (if k0_cond3 (cfg0.grid.coords t) = 1#1 then Y m c t else (dats m 0 c).before 11 t d) : sProp 𝕄)
      ⊢ (dats m 0 c).leavesExact 11 t := by
  unfold Dat.leavesExact
  have hid : cfg0.idle 11 (cfg0.grid.coords t) = !(k0_cond3 (cfg0.grid.coords t) == 1#1) := rfl
  rw [hid]
  by_cases h3 : k0_cond3 (cfg0.grid.coords t) = 1#1
  · rw [if_pos h3, h3, after_11]
    exact .rfl
  · have hb : (k0_cond3 (cfg0.grid.coords t) == 1#1) = false := by simpa using h3
    have hf : (cfg0.win 11).flush t = false := by
      have h1 := mt (flush0_11 t).mp (mt (last_iff t).mpr h3)
      simpa using h1
    rw [if_neg h3, hb, hf]
    show _ ⊢ iprop(∃ d, owns (c : Thread nD τ) (st0_11 t) fullShare ((dats m 0 c).before 11 t d))
    iintro H
    iexists d
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    show (dats m 0 c).Φ t.succ = Phi m c (t.val + 1) from rfl, show (dats m 0 c).Φ t.castSucc = Phi m c t.val from rfl,
    after_0, after_1, after_2, after_3, after_4, after_5, after_6, after_7, after_8, after_9, after_10, after_12]
  unfold Phi
  iintro ⟨⟨%x1, %h, %a, %p, %hI, S0, S1, S2, S3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨e1, e2, e3, e4⟩ := step m c t hI
  iapply (run c (cfg0.grid.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) x1 h a p
    (by rw [first_iff, last_iff]; omega) (X1 m c (ev t)) (Hd m c (ev t)) _ (Acc m c t) e1 e2 rfl e3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  iintro ⟨H0, H1, H2, H3, H4, H5, H6, H7, H8, H9, H10, H11, H12, S0, S1, S2, S3⟩
  isplitl [S0 S1 S2 S3 Hr]
  · iexists _, _, _, _
    isplitr
    · ipureintro; exact e4
    isplitl [S0]; · iexact S0
    isplitl [S1]; · iexact S1
    isplitl [S2]; · iexact S2
    isplitl [S3]; · iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (leaves m c t d11); iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : (Pipeline.ΦA spec0 c : sProp 𝕄) ⊢ (dats m 0 c).Φ 0 := by
  rw [show (dats m 0 c).Φ 0 = Phi m c 0 from rfl]
  unfold Phi Pipeline.ΦA
  rw [scopedRest0_eq]
  simp only [owns_whole]
  iintro ⟨⟨⟨%f0, S0⟩, ⟨%f1, S1⟩, ⟨%f2, S2⟩, ⟨%f3, S3⟩⟩, Hr⟩
  iexists f0, f1, f2, f3
  isplitr
  · ipureintro
    exact ⟨fun t e _ => absurd e (Nat.succ_ne_zero _), fun t e _ => absurd e (Nat.not_lt_zero _)⟩
  isplitl [S0]; · iexact S0
  isplitl [S1]; · iexact S1
  isplitl [S2]; · iexact S2
  isplitl [S3]; · iexact S3
  iexact Hr

theorem leave (c : Dev nD) : (dats m 0 c).Φ (Fin.last cfg0.N) ⊢ (Pipeline.ΦA spec0 c : sProp 𝕄) := by
  rw [show (dats m 0 c).Φ (Fin.last cfg0.N) = Phi m c (Fin.last cfg0.N).val from rfl]
  unfold Phi Pipeline.ΦA
  rw [scopedRest0_eq]
  simp only [owns_whole]
  iintro ⟨%x1, %h, %a, %p, -, S0, S1, S2, S3, Hr⟩
  isplitr [Hr]
  · isplitl [S0]; · iexists x1; iexact S0
    isplitl [S1]; · iexists h; iexact S1
    isplitl [S2]; · iexists a; iexact S2
    iexists p; iexact S3
  iexact Hr

set_option backward.isDefEq.respectTransparency.types false in
/-- Every run of the call ends, at the arrays the proof data describe and with every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel2Ideal.Ffn
-- ==== Proof.FfnSpec.lean ====
/- The feed-forward layer over the extended reals, entry by entry: what both the kernel and the reference compute. -/
module

public import Idealize.ShloMosaic.Lib.ValueIdx
public import Idealize.ShloMosaic.PureOps.Ideal.Laws

@[expose] public section

noncomputable section

namespace Cert.Ffn

open Idealize.ShloMosaic ValueIdx

/-- An array of rank one read at an index with the given coordinate. -/
theorem at1 {n : ℕ} {α : Type} (f : (⟨1, ![n]⟩ : Shape).Idx → α) (i : (⟨1, ![n]⟩ : Shape).Idx) (a : Fin n) (h0 : (i 0).val = a.val) :
    f i = f (ix1 a) :=
  congrArg f (funext fun x => Fin.ext (match x with | ⟨0, _⟩ => h0))

/-- An array of rank two read at an index with the given coordinates. -/
theorem at2 {n p : ℕ} {α : Type} (f : (⟨2, ![n, p]⟩ : Shape).Idx → α) (i : (⟨2, ![n, p]⟩ : Shape).Idx) (a : Fin n) (b : Fin p)
    (h0 : (i 0).val = a.val) (h1 : (i 1).val = b.val) : f i = f (ix2 a b) :=
  congrArg f (funext fun x => Fin.ext (match x with | ⟨0, _⟩ => h0 | ⟨1, _⟩ => h1))

/-- An array of rank three read at an index with the given coordinates. -/
theorem at3 {n p q : ℕ} {α : Type} (f : (⟨3, ![n, p, q]⟩ : Shape).Idx → α) (i : (⟨3, ![n, p, q]⟩ : Shape).Idx) (a : Fin n) (b : Fin p) (c : Fin q)
    (h0 : (i 0).val = a.val) (h1 : (i 1).val = b.val) (h2 : (i 2).val = c.val) : f i = f (ix3 a b c) :=
  congrArg f (funext fun x => Fin.ext (match x with | ⟨0, _⟩ => h0 | ⟨1, _⟩ => h1 | ⟨2, _⟩ => h2))

/-- A row divided by its root mean square, times a weight row. -/
def rms (v w : Fin 1024 → EReal) (j : Fin 1024) : EReal :=
  v j * Ideal.rsqrt (Ideal.div (∑ k, v k * v k) (Ideal.ofBits .f32 0x44800000#32) + Ideal.ofBits .f32 0x358637BD#32) * w j

/-- The gate's nonlinearity. -/
def gelu (z : EReal) : EReal :=
  Ideal.ofBits .f32 0x3F000000#32 * z * (Ideal.ofBits .f32 0x3F800000#32
    + Ideal.tanh (Ideal.ofBits .f32 0x3F4C422A#32 * (z + Ideal.ofBits .f32 0x3D372713#32 * (z * z * z))))

/-- The layer's arguments, by coordinates. -/
structure Args where
  x : Fin 16384 → Fin 1024 → EReal
  a : Fin 16384 → Fin 512 → EReal
  b : Fin 16384 → Fin 512 → EReal
  wo : Fin 1024 → Fin 1024 → EReal
  fn : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  on : Fin 1024 → EReal

variable (A : Args)

/-- The residual stream after the two mixers. -/
def x1 (r : Fin 16384) (j : Fin 1024) : EReal :=
  A.x r j + ((∑ k : Fin 512, A.a r k * A.wo ⟨k.val, by omega⟩ j) + ∑ k : Fin 512, A.b r k * A.wo ⟨512 + k.val, by omega⟩ j)

/-- Its rows, normalized. -/
def h (r : Fin 16384) (j : Fin 1024) : EReal := rms (x1 A r) A.fn j

/-- The gate. -/
def g (r : Fin 16384) (f : Fin 2816) : EReal := ∑ k, h A r k * A.wg k f

/-- The up projection. -/
def u (r : Fin 16384) (f : Fin 2816) : EReal := ∑ k, h A r k * A.wu k f

/-- The gate `d` positions earlier in the same sequence, zero before its start. -/
def tap (d : ℕ) (r : Fin 16384) (f : Fin 2816) : EReal :=
  if r.val % 2048 < d then 0 else g A ⟨r.val - d, by omega⟩ f

/-- The causal convolution of the gate. -/
def conv (r : Fin 16384) (f : Fin 2816) : EReal :=
  A.cw 0 f * tap A 2 r f + A.cw 1 f * tap A 1 r f + A.cw 2 f * g A r f + A.cb f

/-- The gated activation. -/
def act (r : Fin 16384) (f : Fin 2816) : EReal := gelu (conv A r f) * u A r f

/-- The residual stream after the feed-forward part. -/
def x2 (r : Fin 16384) (j : Fin 1024) : EReal :=
  x1 A r j + ((∑ k : Fin 1408, act A r ⟨k.val, by omega⟩ * A.wd ⟨k.val, by omega⟩ j)
    + ∑ k : Fin 1408, act A r ⟨1408 + k.val, by omega⟩ * A.wd ⟨1408 + k.val, by omega⟩ j)

/-- The layer's output. -/
def y (r : Fin 16384) (j : Fin 1024) : EReal := rms (x2 A r) A.on j

end Cert.Ffn

end
-- ==== Proof.FfnRows.lean ====
/- The feed-forward kernel's functions over the extended reals, read at an index. -/
module

public import proofs.«01_k».proof.Proof.FfnSpec
public import proofs.«01_k».proof.Proof.FfnRun
public import Idealize.ShloMosaic.Lib.MatmulPlain
public import Idealize.ShloMosaic.Lib.IdealHost
public import Idealize.ShloMosaic.Lib.ValueLayout
public import Idealize.ShloMosaic.Lib.Pipeline.Value
public import Idealize.ShloMosaic.PureOps.Ideal.Laws

@[expose] public section

set_option maxRecDepth 16384

noncomputable section

namespace Cert.Kernel2Ideal.Ffn

open Idealize.ShloMosaic Idealize.ShloMosaic.TcCoe Cert.Kernel2Ideal Cert.Kernel2Ideal.Gen ValueIdx Cert.Ffn

/-- A column of a one-column array, along the columns. -/
theorem column (v : S512x1.Idx → EReal) (r : Fin 512) (j : Fin 1024) :
    broadcastTo S512x1024 v broadcasts_S512x1_S512x1024 (ix2 r j) = v (ix2 r 0) := by
  refine broadcastTo_apply v _ (ix2 r j) (ix2 r (0 : Fin 1)) fun a => ?_
  match a with
  | ⟨0, _⟩ => rfl
  | ⟨1, _⟩ => rfl

/-- The kernel's normalization of a block of rows. -/
theorem rms_apply (s : FVec Ideal S512x1024 .f32) (w : FVec Ideal S1x1024 .f32) (r : Fin 512) (j : Fin 1024) :
    mulf (mulf s (broadcastTo S512x1024 (rsqrt (addf (divf (shapeCast S512x1 (multiReduction .add [1] S512 (mulf s s) 0x00000000#32
        reduces_S512x1024_S512 (.inl rfl) rfl) shapeCasts_S512_S512x1) (broadcast S512x1 (Scalar.ofBits .f32 0x44800000#32)))
        (broadcast S512x1 (Scalar.ofBits .f32 0x358637BD#32)))) broadcasts_S512x1_S512x1024))
      (broadcastTo S512x1024 w broadcasts_S1x1024_S512x1024) (ix2 r j)
      = rms (fun k => s (ix2 r k)) (fun k => w (ix2 0 k)) j := by
  have e : shapeCast S512x1 (multiReduction .add [1] S512 (mulf s s) 0x00000000#32 reduces_S512x1024_S512 (.inl rfl) rfl) shapeCasts_S512_S512x1
      (ix2 r (0 : Fin 1)) = ∑ k : Fin 1024, s (ix2 r k) * s (ix2 r k) := by
    refine (Idealize.ShloMosaic.shapeCast_apply _ _ (ix2 r (0 : Fin 1)) (ix1 r) ?_).trans ?_
    · rw [Shape.rowMajor_val_one, Shape.rowMajor_val_two]
      show r.val = r.val * 1 + 0
      omega
    · refine (Ideal.multiReduction_add_single (mulf s s) _ reduces_S512x1024_S512 _ _ (ix1 r)).trans (Finset.sum_congr rfl fun k _ => ?_)
      exact congrArg (fun v : EReal => v * v) (at2 s _ r k rfl rfl)
  unfold rms
  show s (ix2 r j) * _ * _ = _
  rw [column, broadcastTo_1b_ab_apply]
  show s (ix2 r j) * Ideal.rsqrt (Ideal.div _ _ + _) * _ = _
  rw [e]
  rfl

/-- The residual stream of a block. -/
theorem pay5_apply (a : Vec Ideal S512x512 .bf16) (w : Vec Ideal S512x1024 .bf16) (b : Vec Ideal S512x512 .bf16) (w' : Vec Ideal S512x1024 .bf16)
    (x : Vec Ideal S512x1024 .f32) (r : Fin 512) (j : Fin 1024) : k0_pay5 a w b w' x (ix2 r j)
      = x (ix2 r j) + ((∑ k : Fin 512, HMul.hMul (α := EReal) (β := EReal) (γ := EReal) (a (ix2 r k)) (w (ix2 k j)))
        + ∑ k : Fin 512, HMul.hMul (α := EReal) (β := EReal) (γ := EReal) (b (ix2 r k)) (w' (ix2 k j))) := by
  have p : ∀ (a : Vec Ideal S512x512 .bf16) (w : Vec Ideal S512x1024 .bf16),
      matmul (F := Ideal) (φ₁ := .bf16) (φ₂ := .bf16) dot_S512x512_S512x1024_S512x1024_1_0_0_1_n_n none a (shapeCast S512x1024 w shapeCasts_S512x1024_S512x1024)
        (constant S512x1024 .f32 0x00000000#32) (ix2 r j)
        = ∑ k : Fin 512, HMul.hMul (α := EReal) (β := EReal) (γ := EReal) (a (ix2 r k)) (w (ix2 k j)) := fun a w => by
    refine (Ideal.matmul_plain_apply (M := 512) (K := 512) (N := 1024) none _ _ _ r j).trans ?_
    show Ideal.ofBits .f32 0x00000000#32 + _ = _
    rw [Ideal.ofBits_zero_f32, zero_add]
    exact Finset.sum_congr rfl fun k _ => congrArg (fun v : EReal => HMul.hMul (α := EReal) (β := EReal) (γ := EReal) (a (ix2 r k)) v)
      (Idealize.ShloMosaic.shapeCast_apply _ _ (ix2 k j) (ix2 k j) rfl)
  exact congrArg (fun v : EReal => HAdd.hAdd (α := EReal) (β := EReal) (γ := EReal) (x (ix2 r j)) v) (congrArg₂ (fun p q : EReal => p + q) (p a w) (p b w'))

/-- The rows of the mixing weights a block reads. -/
theorem rows_lo (w : Vec Ideal S1024x1024 .bf16) (k : Fin 512) (j : Fin 1024) :
    View.ld w (Rect.unit (s := S1024x1024) ![0, 0] S512x1024.size inb_S1024x1024_S512x1024_0_0) (ix2 k j) = w (ix2 ⟨k.val, by omega⟩ j) := by
  refine at2 w _ _ _ ?_ ?_
  · show 0 + 1 * k.val = k.val
    omega
  · show 0 + 1 * j.val = j.val
    omega

theorem rows_hi (w : Vec Ideal S1024x1024 .bf16) (k : Fin 512) (j : Fin 1024) :
    View.ld w (Rect.unit (s := S1024x1024) ![512, 0] S512x1024.size inb_S1024x1024_S512x1024_512_0) (ix2 k j) = w (ix2 ⟨512 + k.val, by omega⟩ j) := by
  refine at2 w _ _ _ ?_ ?_
  · show 512 + 1 * k.val = 512 + k.val
    omega
  · show 0 + 1 * j.val = j.val
    omega

/-- The residual stream a block computes, from entries of what it stages. -/
theorem core_apply (A : Args) (R : Fin 512 → Fin 16384) (a b : Vec Ideal S512x512 .bf16) (wo : Vec Ideal S1024x1024 .bf16) (x : Vec Ideal S512x1024 .f32)
    (ha : ∀ r k, a (ix2 r k) = A.a (R r) k) (hb : ∀ r k, b (ix2 r k) = A.b (R r) k) (hw : ∀ k j, wo (ix2 k j) = A.wo k j)
    (hx : ∀ r j, x (ix2 r j) = A.x (R r) j) (r : Fin 512) (j : Fin 1024) :
    k0_pay5 a (View.ld wo (Rect.unit (s := S1024x1024) ![0, 0] S512x1024.size inb_S1024x1024_S512x1024_0_0)) b
      (View.ld wo (Rect.unit (s := S1024x1024) ![512, 0] S512x1024.size inb_S1024x1024_S512x1024_512_0)) x (ix2 r j) = x1 A (R r) j := by
  rw [pay5_apply]
  unfold x1
  refine congrArg₂ (fun p q : EReal => p + q) (hx r j) (congrArg₂ (fun p q : EReal => p + q) (Finset.sum_congr rfl fun k _ => ?_) (Finset.sum_congr rfl fun k _ => ?_))
  · exact congrArg₂ (fun p q : EReal => p * q) (ha r k) ((rows_lo wo k j).trans (hw _ j))
  · exact congrArg₂ (fun p q : EReal => p * q) (hb r k) ((rows_hi wo k j).trans (hw _ j))

theorem mix_apply (A : Args) (R : Fin 512 → Fin 16384) (a b : Vec Ideal S512x512 .bf16) (wo : Vec Ideal S1024x1024 .bf16) (x : Vec Ideal S512x1024 .f32)
    (ha : ∀ r k, a (ix2 r k) = A.a (R r) k) (hb : ∀ r k, b (ix2 r k) = A.b (R r) k) (hw : ∀ k j, wo (ix2 k j) = A.wo k j)
    (hx : ∀ r j, x (ix2 r j) = A.x (R r) j) (r : Fin 512) (j : Fin 1024) : mix a b wo x (ix2 r j) = x1 A (R r) j := by
  unfold mix k0_pay6
  exact (Idealize.ShloMosaic.shapeCast_apply _ _ (ix2 r j) (ix2 r j) rfl).trans (core_apply A R a b wo x ha hb hw hx r j)

/-- The normalized rows of a block. -/
theorem hid_apply (A : Args) (R : Fin 512 → Fin 16384) (a b : Vec Ideal S512x512 .bf16) (wo : Vec Ideal S1024x1024 .bf16) (x : Vec Ideal S512x1024 .f32)
    (fn : Vec Ideal S1x1024 .f32)
    (ha : ∀ r k, a (ix2 r k) = A.a (R r) k) (hb : ∀ r k, b (ix2 r k) = A.b (R r) k) (hw : ∀ k j, wo (ix2 k j) = A.wo k j)
    (hx : ∀ r j, x (ix2 r j) = A.x (R r) j) (hf : ∀ j, fn (ix2 0 j) = A.fn j) (r : Fin 512) (j : Fin 1024) :
    hid a b wo x fn (ix2 r j) = h A (R r) j := by
  unfold hid k0_pay7
  refine (Idealize.ShloMosaic.shapeCast_apply _ _ (ix2 r j) (ix2 r j) rfl).trans ((rms_apply _ _ r j).trans ?_)
  unfold h
  refine congrArg₂ (fun v w => rms v w j) (funext fun k => core_apply A R a b wo x ha hb hw hx r k) (funext fun k => ?_)
  exact (Idealize.ShloMosaic.shapeCast_apply _ _ (ix2 0 k) (ix2 0 k) rfl).trans (hf k)

/-- A tile of a projection of the normalized rows. -/
theorem proj_apply (h : Vec Ideal S512x1024 .bf16) (w : Vec Ideal S1024x1408 .bf16) (r : Fin 512) (f : Fin 1408) :
    k0_pay10 h w (ix2 r f) = ∑ k : Fin 1024, HMul.hMul (α := EReal) (β := EReal) (γ := EReal) (h (ix2 r k)) (w (ix2 k f)) := by
  unfold k0_pay10
  refine (Ideal.matmul_plain_apply (M := 512) (K := 1024) (N := 1408) none _ _ _ r f).trans ?_
  show Ideal.ofBits .f32 0x00000000#32 + _ = _
  rw [Ideal.ofBits_zero_f32, zero_add]
  exact Finset.sum_congr rfl fun k _ => congrArg (fun v : EReal => HMul.hMul (α := EReal) (β := EReal) (γ := EReal) (h (ix2 r k)) v)
    (Idealize.ShloMosaic.shapeCast_apply _ _ (ix2 k f) (ix2 k f) rfl)

/-- The down projection of a tile, added to what was summed before. -/
theorem down_apply (s : Vec Ideal S512x1024 .f32) (v : FVec Ideal S512x1408 .bf16) (w : Vec Ideal S1408x1024 .bf16) (r : Fin 512) (j : Fin 1024) :
    k0_pay1 s v w (ix2 r j) = HAdd.hAdd (α := EReal) (β := EReal) (γ := EReal) (s (ix2 r j))
      (∑ k : Fin 1408, HMul.hMul (α := EReal) (β := EReal) (γ := EReal) (v (ix2 r k)) (w (ix2 k j))) := by
  unfold k0_pay1
  refine (Idealize.ShloMosaic.shapeCast_apply _ _ (ix2 r j) (ix2 r j) rfl).trans ?_
  refine congrArg (fun v : EReal => HAdd.hAdd (α := EReal) (β := EReal) (γ := EReal) (s (ix2 r j)) v) ?_
  refine (Ideal.matmul_plain_apply (M := 512) (K := 1408) (N := 1024) none _ _ _ r j).trans ?_
  show Ideal.ofBits .f32 0x00000000#32 + _ = _
  rw [Ideal.ofBits_zero_f32, zero_add]
  exact Finset.sum_congr rfl fun k _ => congrArg (fun u : EReal => HMul.hMul (α := EReal) (β := EReal) (γ := EReal) (v (ix2 r k)) u)
    (Idealize.ShloMosaic.shapeCast_apply _ _ (ix2 k j) (ix2 k j) rfl)

/-- The block of the output. -/
theorem out_apply (s a : Vec Ideal S512x1024 .f32) (w : Vec Ideal S1x1024 .f32) (r : Fin 512) (j : Fin 1024) :
    k0_pay4 s a w (ix2 r j) = rms (fun k => HAdd.hAdd (α := EReal) (β := EReal) (γ := EReal) (s (ix2 r k)) (a (ix2 r k))) (fun k => w (ix2 0 k)) j := by
  unfold k0_pay4
  refine (rms_apply _ _ r j).trans ?_
  exact congrArg (fun w => rms _ w j) (funext fun k => Idealize.ShloMosaic.shapeCast_apply _ _ (ix2 0 k) (ix2 0 k) rfl)

/-- The last two rows of a tile. -/
theorem last_apply (g : FVec Ideal S512x1408 .f32) (s : Fin 2) (f : Fin 1408) :
    k0_pay3 g (ix3 0 s f) = g (ix2 ⟨510 + s.val, by omega⟩ f) := by
  unfold k0_pay3
  refine (Idealize.ShloMosaic.shapeCast_apply _ _ (ix3 0 s f) (ix2 s f) ?_).trans ?_
  · rw [Shape.rowMajor_val_two, Shape.rowMajor_val_three]
    show s.val * 1408 + f.val = (0 * 2 + s.val) * 1408 + f.val
    omega
  · refine extractStridedSlice_apply _ g _ (ix2 s f) _ fun a => ?_
    match a with
    | ⟨0, _⟩ => rfl
    | ⟨1, _⟩ => show f.val = 0 + f.val; omega

/-- The last eight rows of a tile, kept for the next row block. -/
theorem kept_apply (g : FVec Ideal S512x1408 .f32) (s : Fin 8) (f : Fin 1408) :
    k0_pay2 g (ix3 0 s f) = g (ix2 ⟨504 + s.val, by omega⟩ f) := by
  unfold k0_pay2
  refine (Idealize.ShloMosaic.shapeCast_apply _ _ (ix3 0 s f) (ix2 s f) ?_).trans ?_
  · rw [Shape.rowMajor_val_two, Shape.rowMajor_val_three]
    show s.val * 1408 + f.val = (0 * 8 + s.val) * 1408 + f.val
    omega
  · refine extractStridedSlice_apply _ g _ (ix2 s f) _ fun a => ?_
    match a with
    | ⟨0, _⟩ => rfl
    | ⟨1, _⟩ => show f.val = 0 + f.val; omega

/-- The rows kept at a sequence's start are zero. -/
theorem kept_zero (s : Fin 8) (f : Fin 1408) : k0_pay12 (F := Ideal) (ix3 0 s f) = (0 : EReal) := Ideal.ofBits_zero_f32

/-- The row two before a block's first, and the row before it. -/
theorem before2_apply (p : Vec Ideal S1x8x1408 .f32) (f : Fin 1408) : k0_pay14 p (ix2 0 f) = p (ix3 0 6 f) := by
  unfold k0_pay14
  refine (extractStridedSlice_apply _ (k0_pay13 p) _ (ix2 0 f) (ix2 6 f) fun a => ?_).trans
    (Idealize.ShloMosaic.shapeCast_apply _ _ (ix2 6 f) (ix3 0 6 f) ?_)
  · match a with
    | ⟨0, _⟩ => rfl
    | ⟨1, _⟩ => show f.val = 0 + f.val; omega
  · rw [Shape.rowMajor_val_two, Shape.rowMajor_val_three]
    show (0 * 8 + 6) * 1408 + f.val = 6 * 1408 + f.val
    omega

theorem before1_apply (p : Vec Ideal S1x8x1408 .f32) (f : Fin 1408) : k0_pay15 p (ix2 0 f) = p (ix3 0 7 f) := by
  unfold k0_pay15
  refine (extractStridedSlice_apply _ (k0_pay13 p) _ (ix2 0 f) (ix2 7 f) fun a => ?_).trans
    (Idealize.ShloMosaic.shapeCast_apply _ _ (ix2 7 f) (ix3 0 7 f) ?_)
  · match a with
    | ⟨0, _⟩ => rfl
    | ⟨1, _⟩ => show f.val = 0 + f.val; omega
  · rw [Shape.rowMajor_val_two, Shape.rowMajor_val_three]
    show (0 * 8 + 7) * 1408 + f.val = 7 * 1408 + f.val
    omega

/-- A row along the rows of a tile. -/
theorem along_apply (v : Vec Ideal S1x1408 .f32) (r : Fin 512) (f : Fin 1408) :
    broadcastTo S512x1408 (shapeCast S1x1408 v shapeCasts_S1x1408_S1x1408) broadcasts_S1x1408_S512x1408 (ix2 r f) = v (ix2 0 f) :=
  (broadcastTo_1b_ab_apply _ _ r f).trans (Idealize.ShloMosaic.shapeCast_apply _ _ (ix2 0 f) (ix2 0 f) rfl)

/-- A tile rotated along its rows. -/
theorem rot_apply (g : FVec Ideal S512x1408 .f32) (n : BitVec 32) (d : ℕ) (hn : n.toNat = d) (r : Fin 512) (f : Fin 1408) (hd : d ≤ r.val) :
    dynamicRotate 0 n none g rotates_S512x1408_d0 (ix2 r f) = g (ix2 ⟨r.val - d, by omega⟩ f) := by
  have hr := r.isLt
  refine at2 g _ _ _ ?_ ?_
  · show (r.val + 512 - (n.toNat + 0) % 512) % 512 = r.val - d
    rw [hn]
    omega
  · rfl

/-- The test of a row number. -/
theorem rowTest (r : Fin 512) (f : Fin 1408) (n : BitVec 32) (d : ℕ) (hn : n.toNat = d) :
    cmpi .eq (iota .tc S512x1408 32 [0] iota_S512x1408_d0_w32) (broadcast S512x1408 n) (ix2 r f) = if r.val = d then 1#1 else 0#1 := by
  have hr := r.isLt
  show BitVec.ofBool (iota .tc S512x1408 32 [0] iota_S512x1408_d0_w32 (ix2 r f) == n) = _
  rw [iota_single_apply]
  show BitVec.ofBool (BitVec.ofNat 32 r.val == n) = _
  by_cases h : r.val = d
  · rw [if_pos h, beq_iff_eq.2 (BitVec.eq_of_toNat_eq (by rw [BitVec.toNat_ofNat, hn]; omega))]
    rfl
  · rw [if_neg h, beq_eq_false_iff_ne.2 fun e => h (by rw [← hn, ← e, BitVec.toNat_ofNat]; omega)]
    rfl

/-- A filter row of a tile. -/
theorem filterRow (cw : Vec Ideal S3x1408 .f32) (f : Fin 1408) :
    View.ld cw (Rect.unit (s := S3x1408) ![0, 0] S1x1408.size inb_S3x1408_S1x1408_0_0) (ix2 0 f) = cw (ix2 0 f)
    ∧ View.ld cw (Rect.unit (s := S3x1408) ![1, 0] S1x1408.size inb_S3x1408_S1x1408_1_0) (ix2 0 f) = cw (ix2 1 f)
    ∧ View.ld cw (Rect.unit (s := S3x1408) ![2, 0] S1x1408.size inb_S3x1408_S1x1408_2_0) (ix2 0 f) = cw (ix2 2 f) := by
  have hc : 0 + 1 * f.val = f.val := by omega
  exact ⟨at2 cw _ 0 f rfl hc, at2 cw _ 1 f rfl hc, at2 cw _ 2 f rfl hc⟩

/-- The choice of its first operand. -/
theorem select_one {α : Type} (a b : α) : Scalar.select 1#1 a b = a := rfl

/-- The gate one row earlier, the row before the block at its first row. -/
theorem shift1_apply (g : FVec Ideal S512x1408 .f32) (p : Vec Ideal S1x8x1408 .f32) (r : Fin 512) (f : Fin 1408) :
    select k0_pay16 (k0_pay18 p) (dynamicRotate 0 1#32 none g rotates_S512x1408_d0) (ix2 r f)
      = if h : 1 ≤ r.val then g (ix2 ⟨r.val - 1, by omega⟩ f) else p (ix3 0 7 f) := by
  show Scalar.select (cmpi .eq (iota .tc S512x1408 32 [0] iota_S512x1408_d0_w32) (broadcast S512x1408 0#32) (ix2 r f))
    (broadcastTo S512x1408 (shapeCast S1x1408 (k0_pay15 p) shapeCasts_S1x1408_S1x1408) broadcasts_S1x1408_S512x1408 (ix2 r f))
    (dynamicRotate 0 1#32 none g rotates_S512x1408_d0 (ix2 r f)) = _
  rw [rowTest r f 0#32 0 rfl]
  by_cases h : 1 ≤ r.val
  · rw [dif_pos h, if_neg (show ¬r.val = 0 by omega), rot_apply g 1#32 1 rfl r f (by omega)]
    rfl
  · rw [dif_neg h, if_pos (show r.val = 0 by omega), select_one]
    exact (along_apply (k0_pay15 p) r f).trans (before1_apply p f)

/-- The gate two rows earlier, the two rows before the block at its first rows. -/
theorem shift2_apply (g : FVec Ideal S512x1408 .f32) (p : Vec Ideal S1x8x1408 .f32) (r : Fin 512) (f : Fin 1408) :
    select (cmpi .eq (iota .tc S512x1408 32 [0] iota_S512x1408_d0_w32) (broadcast S512x1408 0#32))
      (broadcastTo S512x1408 (shapeCast S1x1408 (k0_pay14 p) shapeCasts_S1x1408_S1x1408) broadcasts_S1x1408_S512x1408)
      (select (cmpi .eq (iota .tc S512x1408 32 [0] iota_S512x1408_d0_w32) (broadcast S512x1408 1#32))
        (broadcastTo S512x1408 (shapeCast S1x1408 (k0_pay15 p) shapeCasts_S1x1408_S1x1408) broadcasts_S1x1408_S512x1408)
        (dynamicRotate 0 2#32 none g rotates_S512x1408_d0)) (ix2 r f)
      = if h : 2 ≤ r.val then g (ix2 ⟨r.val - 2, by omega⟩ f) else p (ix3 0 ⟨6 + r.val, by omega⟩ f) := by
  show Scalar.select (cmpi .eq (iota .tc S512x1408 32 [0] iota_S512x1408_d0_w32) (broadcast S512x1408 0#32) (ix2 r f))
    (broadcastTo S512x1408 (shapeCast S1x1408 (k0_pay14 p) shapeCasts_S1x1408_S1x1408) broadcasts_S1x1408_S512x1408 (ix2 r f))
    (Scalar.select (cmpi .eq (iota .tc S512x1408 32 [0] iota_S512x1408_d0_w32) (broadcast S512x1408 1#32) (ix2 r f))
      (broadcastTo S512x1408 (shapeCast S1x1408 (k0_pay15 p) shapeCasts_S1x1408_S1x1408) broadcasts_S1x1408_S512x1408 (ix2 r f))
      (dynamicRotate 0 2#32 none g rotates_S512x1408_d0 (ix2 r f))) = _
  rw [rowTest r f 0#32 0 rfl, rowTest r f 1#32 1 rfl]
  by_cases h : 2 ≤ r.val
  · rw [dif_pos h, if_neg (show ¬r.val = 0 by omega), if_neg (show ¬r.val = 1 by omega), rot_apply g 2#32 2 rfl r f (by omega)]
    rfl
  · rw [dif_neg h]
    by_cases h' : r.val = 0
    · rw [if_pos h']
      exact ((along_apply _ r f).trans (before2_apply p f)).trans (congrArg (fun s => p (ix3 0 s f)) (Fin.ext (by show 6 = 6 + r.val; omega)))
    · rw [if_neg h', if_pos (show r.val = 1 by omega)]
      exact ((along_apply _ r f).trans (before1_apply p f)).trans (congrArg (fun s => p (ix3 0 s f)) (Fin.ext (by show 7 = 6 + r.val; omega)))

/-- The activation tile at an entry. -/
theorem act_apply (h : Vec Ideal S512x1024 .bf16) (wg wu : Vec Ideal S1024x1408 .bf16) (cw : Vec Ideal S3x1408 .f32) (cb : Vec Ideal S1x1408 .f32)
    (p : Vec Ideal S1x8x1408 .f32) (r : Fin 512) (f : Fin 1408) (g2 g1 g0 u c0 c1 c2 b : EReal)
    (h2 : (if h' : 2 ≤ r.val then k0_pay10 h wg (ix2 ⟨r.val - 2, by omega⟩ f) else p (ix3 0 ⟨6 + r.val, by omega⟩ f)) = g2)
    (h1 : (if h' : 1 ≤ r.val then k0_pay10 h wg (ix2 ⟨r.val - 1, by omega⟩ f) else p (ix3 0 7 f)) = g1)
    (h0 : k0_pay10 h wg (ix2 r f) = g0) (hu : k0_pay10 h wu (ix2 r f) = u)
    (e0 : cw (ix2 0 f) = c0) (e1 : cw (ix2 1 f) = c1) (e2 : cw (ix2 2 f) = c2) (eb : cb (ix2 0 f) = b) :
    actOf h wg wu cw cb p (ix2 r f) = gelu (c0 * g2 + c1 * g1 + c2 * g0 + b) * u := by
  obtain ⟨w0, w1, w2⟩ := filterRow cw f
  have s2 := (shift2_apply (k0_pay10 h wg) p r f).trans h2
  have s1 := (shift1_apply (k0_pay10 h wg) p r f).trans h1
  have t0 := (broadcastTo_1b_ab_apply (View.ld cw (Rect.unit (s := S3x1408) ![0, 0] S1x1408.size inb_S3x1408_S1x1408_0_0)) broadcasts_S1x1408_S512x1408 r f).trans (w0.trans e0)
  have t1 := (broadcastTo_1b_ab_apply (View.ld cw (Rect.unit (s := S3x1408) ![1, 0] S1x1408.size inb_S3x1408_S1x1408_1_0)) broadcasts_S1x1408_S512x1408 r f).trans (w1.trans e1)
  have t2 := (broadcastTo_1b_ab_apply (View.ld cw (Rect.unit (s := S3x1408) ![2, 0] S1x1408.size inb_S3x1408_S1x1408_2_0)) broadcasts_S1x1408_S512x1408 r f).trans (w2.trans e2)
  have tb := (along_apply cb r f).trans eb
  rw [← s2, ← s1, ← h0, ← hu, ← t0, ← t1, ← t2, ← tb]
  rfl

end Cert.Kernel2Ideal.Ffn

end
-- ==== Proof.FfnRef.lean ====
/- The feed-forward layer's reference over the extended reals, entry by entry. -/
module

public import proofs.«01_k».proof.Proof.FfnSpec
public import proofs.«01_k».proof.Proof.Gen.Reference2Ideal.Read
public import Idealize.ShloMosaic.Lib.Pipeline.Value

@[expose] public section

set_option maxRecDepth 16384

noncomputable section

namespace Cert.Reference2Ideal.Rows

open Cert.Reference2Ideal Cert.Reference2Ideal.Gen Cert.Reference2Ideal.Read Cert.Ffn
open Idealize.ShloMosaic Idealize.ShloMosaic.TcCoe ValueIdx

variable (x0 : (⟨S16384x1024, .f32⟩ : BufTy).Contents (Elt Ideal)) (x1 x2 : (⟨S16384x512, .bf16⟩ : BufTy).Contents (Elt Ideal))
  (x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S3x2816, .f32⟩ : BufTy).Contents (Elt Ideal))
  (x8 : (⟨S2816, .f32⟩ : BufTy).Contents (Elt Ideal)) (x9 : (⟨S2816x1024, .f32⟩ : BufTy).Contents (Elt Ideal))
  (x10 : (⟨S1024, .f32⟩ : BufTy).Contents (Elt Ideal))

/-- The arguments by coordinates. -/
def args : Args where
  x r j := x0 (ix2 r j)
  a r k := x1 (ix2 r k)
  b r k := x2 (ix2 r k)
  wo k j := x3 (ix2 k j)
  fn j := x4 (ix1 j)
  wg k f := x5 (ix2 k f)
  wu k f := x6 (ix2 k f)
  cw k f := x7 (ix2 k f)
  cb f := x8 (ix1 f)
  wd f j := x9 (ix2 f j)
  on j := x10 (ix1 j)

/-- The residual stream. -/
theorem stream (r : Fin 16384) (j : Fin 1024) : val_main_v4 x0 x1 x2 x3 (ix2 r j) = Ffn.x1 (args x0 x1 x2 x3 x4 x5 x6 x7 x8 x9 x10) r j := by
  rw [val_main_v4_apply, val_main_v3_apply]
  unfold Ffn.x1
  show x0 (ix2 r j) + _ = x0 (ix2 r j) + _
  refine congrArg (x0 (ix2 r j) + ·) ?_
  refine (Fin.sum_univ_add (M := EReal) (a := 512) (b := 512) _).trans ?_
  refine congrArg₂ (fun p q : EReal => p + q) (Finset.sum_congr rfl fun k _ => ?_) (Finset.sum_congr rfl fun k _ => ?_)
  · refine congrArg₂ (fun p q : EReal => p * q) ?_ (at2 x3 _ _ _ rfl rfl)
    unfold val_main_v2
    refine (concatenate_pair_apply_left (t := S16384x1024) (s₁ := S16384x512) (s₂ := S16384x512) 1 (val_main_v0 (F := Ideal) x1) (val_main_v1 (F := Ideal) x2)
      concatenates_S16384x512_S16384x512_S16384x1024_d1 _ rfl (ix2 r k) fun b => ?_)
    match b with
    | ⟨0, _⟩ => rfl
    | ⟨1, _⟩ => rfl
  · refine congrArg₂ (fun p q : EReal => p * q) ?_ (at2 x3 _ _ _ rfl rfl)
    unfold val_main_v2
    refine (concatenate_pair_apply_right (t := S16384x1024) (s₁ := S16384x512) (s₂ := S16384x512) 1 (val_main_v0 (F := Ideal) x1) (val_main_v1 (F := Ideal) x2)
      concatenates_S16384x512_S16384x512_S16384x1024_d1 _ rfl rfl (ix2 r k) (fun b hb => ?_) ?_)
    · match b with
      | ⟨0, _⟩ => rfl
      | ⟨1, _⟩ => exact absurd rfl hb
    · show k.val + 512 = 512 + k.val
      omega

/-- The normalized rows. -/
theorem normed (r : Fin 16384) (j : Fin 1024) : val_main_v17 x0 x1 x2 x3 x4 (ix2 r j) = Ffn.h (args x0 x1 x2 x3 x4 x5 x6 x7 x8 x9 x10) r j := by
  rw [val_main_v17_apply, val_main_v14_apply, val_main_v13_apply, val_main_v12_apply, val_main_v11_apply, val_main_v9_apply,
    val_main_v7_apply, val_main_v6_apply, val_main_v8_apply, val_main_v10_apply, val_main_v16_apply, val_main_v15_apply]
  unfold Ffn.h rms
  show val_main_v4 x0 x1 x2 x3 (ix2 r j) * Ideal.rsqrt (Ideal.div (Ideal.ofBits .f32 0x00000000#32 + _) _ + _) * _ = _
  rw [Ideal.ofBits_zero_f32, zero_add, stream x0 x1 x2 x3 x4 x5 x6 x7 x8 x9 x10 r j]
  refine congrArg₂ (fun p q : EReal => Ffn.x1 (args x0 x1 x2 x3 x4 x5 x6 x7 x8 x9 x10) r j * Ideal.rsqrt (Ideal.div p (Ideal.ofBits .f32 0x44800000#32) + Ideal.ofBits .f32 0x358637BD#32) * q)
    (Finset.sum_congr rfl fun k _ => ?_) (at1 x4 _ _ rfl)
  rw [val_main_v5_apply, ← stream x0 x1 x2 x3 x4 x5 x6 x7 x8 x9 x10 r k]
  exact congrArg (fun v : EReal => v * v) (at2 _ _ r k rfl rfl)

/-- The gate. -/
theorem gate (r : Fin 16384) (f : Fin 2816) : val_main_v18 x0 x1 x2 x3 x4 x5 (ix2 r f) = Ffn.g (args x0 x1 x2 x3 x4 x5 x6 x7 x8 x9 x10) r f := by
  rw [val_main_v18_apply]
  refine Finset.sum_congr rfl fun k _ => congrArg₂ (fun p q : EReal => p * q) ?_ (at2 x5 _ _ _ rfl rfl)
  exact (at2 _ _ r k rfl rfl).trans (normed x0 x1 x2 x3 x4 x5 x6 x7 x8 x9 x10 r k)

/-- The up projection. -/
theorem upper (r : Fin 16384) (f : Fin 2816) : val_main_v61 x0 x1 x2 x3 x4 x6 (ix2 r f) = Ffn.u (args x0 x1 x2 x3 x4 x5 x6 x7 x8 x9 x10) r f := by
  rw [val_main_v61_apply]
  refine Finset.sum_congr rfl fun k _ => congrArg₂ (fun p q : EReal => p * q) ?_ (at2 x6 _ _ _ rfl rfl)
  exact (at2 _ _ r k rfl rfl).trans (normed x0 x1 x2 x3 x4 x5 x6 x7 x8 x9 x10 r k)

/-- The gate with two zero rows before each sequence, below them. -/
theorem padded_zero (b : Fin 8) (p : Fin 2050) (f : Fin 2816) (hp : p.val < 2) : val_main_v21 x0 x1 x2 x3 x4 x5 (ix3 b p f) = (0 : EReal) := by
  unfold val_main_v21
  refine (concatenate_pair_apply_left (t := S8x2050x2816) (s₁ := S8x2x2816) (s₂ := S8x2048x2816) 1 (val_main_v20 (F := Ideal))
    (val_main_v19 (F := Ideal) x0 x1 x2 x3 x4 x5) concatenates_S8x2x2816_S8x2048x2816_S8x2050x2816_d1 _ rfl (ix3 b ⟨p.val, hp⟩ f) fun q => ?_).trans ?_
  · match q with
    | ⟨0, _⟩ => rfl
    | ⟨1, _⟩ => rfl
    | ⟨2, _⟩ => rfl
  · rw [val_main_v20_apply]
    exact Ideal.ofBits_zero_f32

/-- And from the third row on. -/
theorem padded_gate (b : Fin 8) (p : Fin 2050) (f : Fin 2816) (r : Fin 16384) (hp : 2 ≤ p.val) (hr : r.val = b.val * 2048 + (p.val - 2)) :
    val_main_v21 x0 x1 x2 x3 x4 x5 (ix3 b p f) = Ffn.g (args x0 x1 x2 x3 x4 x5 x6 x7 x8 x9 x10) r f := by
  have hp' := p.isLt
  have hf := f.isLt
  have hb := b.isLt
  unfold val_main_v21
  refine (concatenate_pair_apply_right (t := S8x2050x2816) (s₁ := S8x2x2816) (s₂ := S8x2048x2816) 1 (val_main_v20 (F := Ideal))
    (val_main_v19 (F := Ideal) x0 x1 x2 x3 x4 x5) concatenates_S8x2x2816_S8x2048x2816_S8x2050x2816_d1 _ rfl rfl (ix3 b (⟨p.val - 2, by omega⟩ : Fin 2048) f) (fun q hq => ?_) ?_).trans ?_
  · match q with
    | ⟨0, _⟩ => rfl
    | ⟨1, _⟩ => exact absurd rfl hq
    | ⟨2, _⟩ => rfl
  · show p.val - 2 + 2 = p.val
    omega
  · rw [val_main_v19_apply, ← gate x0 x1 x2 x3 x4 x5 x6 x7 x8 x9 x10 r f]
    refine at2 _ _ r f ?_ ?_
    · show ((b.val * 2048 + (p.val - 2)) * 2816 + f.val) / 2816 = r.val
      omega
    · show ((b.val * 2048 + (p.val - 2)) * 2816 + f.val) % 2816 = f.val
      omega

/-- A tap of the padded gate. -/
theorem tapped (d : ℕ) (hd : d ≤ 2) (b : Fin 8) (s : Fin 2048) (p : Fin 2050) (f : Fin 2816) (r : Fin 16384) (hr : r.val = b.val * 2048 + s.val)
    (hp : p.val + d = s.val + 2) : val_main_v21 x0 x1 x2 x3 x4 x5 (ix3 b p f) = Ffn.tap (args x0 x1 x2 x3 x4 x5 x6 x7 x8 x9 x10) d r f := by
  have hs := s.isLt
  unfold Ffn.tap
  split
  · exact padded_zero x0 x1 x2 x3 x4 x5 b p f (by omega)
  · refine padded_gate x0 x1 x2 x3 x4 x5 x6 x7 x8 x9 x10 b p f _ (by omega) ?_
    show r.val - d = _
    omega

/-- A filter row, along the positions. -/
theorem filter0 (b : Fin 8) (s : Fin 2048) (f : Fin 2816) : val_main_v26 x7 (ix3 b s f) = x7 (ix2 0 f) := by
  have hf := f.isLt
  rw [val_main_v26_apply, val_main_v25_apply, val_main_v23_apply, val_main_v22_apply]
  refine at2 x7 _ 0 f rfl ?_
  show f.val % 2816 = f.val
  omega

theorem filter1 (b : Fin 8) (s : Fin 2048) (f : Fin 2816) : val_main_v34 x7 (ix3 b s f) = x7 (ix2 1 f) := by
  have hf := f.isLt
  rw [val_main_v34_apply, val_main_v33_apply, val_main_v31_apply, val_main_v30_apply]
  refine at2 x7 _ 1 f rfl ?_
  show f.val % 2816 = f.val
  omega

theorem filter2 (b : Fin 8) (s : Fin 2048) (f : Fin 2816) : val_main_v41 x7 (ix3 b s f) = x7 (ix2 2 f) := by
  have hf := f.isLt
  rw [val_main_v41_apply, val_main_v40_apply, val_main_v38_apply, val_main_v37_apply]
  refine at2 x7 _ 2 f rfl ?_
  show f.val % 2816 = f.val
  omega

/-- The bias, along the positions. -/
theorem bias (b : Fin 8) (s : Fin 2048) (f : Fin 2816) : val_main_v45 x8 (ix3 b s f) = x8 (ix1 f) := by
  rw [val_main_v45_apply, val_main_v44_apply]
  exact at1 x8 _ f rfl

/-- The convolved gate. -/
theorem convolved (b : Fin 8) (s : Fin 2048) (f : Fin 2816) (r : Fin 16384) (hr : r.val = b.val * 2048 + s.val) :
    val_main_v46 x0 x1 x2 x3 x4 x5 x7 x8 (ix3 b s f) = Ffn.conv (args x0 x1 x2 x3 x4 x5 x6 x7 x8 x9 x10) r f := by
  have hs := s.isLt
  rw [val_main_v46_apply, val_main_v43_apply, val_main_v36_apply, val_main_v29_apply, val_main_v27_apply, val_main_v35_apply, val_main_v42_apply,
    val_main_v28_apply, filter0, filter1, filter2, bias, val_main_v24_apply, val_main_v32_apply, val_main_v39_apply]
  unfold Ffn.conv
  show Ideal.ofBits .f32 0x00000000#32 + x7 (ix2 0 f) * _ + x7 (ix2 1 f) * _ + x7 (ix2 2 f) * _ + x8 (ix1 f)
    = x7 (ix2 0 f) * _ + x7 (ix2 1 f) * _ + x7 (ix2 2 f) * _ + x8 (ix1 f)
  rw [Ideal.ofBits_zero_f32, zero_add]
  have e0 : val_main_v21 x0 x1 x2 x3 x4 x5 (idx_main_v24 (ix3 b s f)) = Ffn.tap (args x0 x1 x2 x3 x4 x5 x6 x7 x8 x9 x10) 2 r f :=
    (at3 _ _ b (⟨s.val, by omega⟩ : Fin 2050) f rfl rfl rfl).trans
      (tapped x0 x1 x2 x3 x4 x5 x6 x7 x8 x9 x10 2 le_rfl b s _ f r hr rfl)
  have e1 : val_main_v21 x0 x1 x2 x3 x4 x5 (idx_main_v32 (ix3 b s f)) = Ffn.tap (args x0 x1 x2 x3 x4 x5 x6 x7 x8 x9 x10) 1 r f :=
    (at3 _ _ b (⟨1 + s.val, by omega⟩ : Fin 2050) f rfl rfl rfl).trans
      (tapped x0 x1 x2 x3 x4 x5 x6 x7 x8 x9 x10 1 (by omega) b s _ f r hr (by show 1 + s.val + 1 = s.val + 2; omega))
  have e2 : val_main_v21 x0 x1 x2 x3 x4 x5 (idx_main_v39 (ix3 b s f)) = Ffn.g (args x0 x1 x2 x3 x4 x5 x6 x7 x8 x9 x10) r f :=
    (at3 _ _ b (⟨2 + s.val, by omega⟩ : Fin 2050) f rfl rfl rfl).trans
      (padded_gate x0 x1 x2 x3 x4 x5 x6 x7 x8 x9 x10 b _ f r (by show 2 ≤ 2 + s.val; omega) (by show r.val = b.val * 2048 + (2 + s.val - 2); omega))
  rw [e0, e1, e2]

/-- The activation. -/
theorem activated (r : Fin 16384) (f : Fin 2816) : val_main_v62 x0 x1 x2 x3 x4 x5 x6 x7 x8 (ix2 r f) = Ffn.act (args x0 x1 x2 x3 x4 x5 x6 x7 x8 x9 x10) r f := by
  have hr := r.isLt
  have hf := f.isLt
  rw [val_main_v62_apply, upper x0 x1 x2 x3 x4 x5 x6 x7 x8 x9 x10 r f, val_main_v60_apply, val_main_v59_apply, val_main_v58_apply,
    val_main_v57_apply, val_main_v56_apply, val_main_v55_apply, val_main_v54_apply, val_main_v53_apply, val_main_v52_apply, val_main_v51_apply,
    val_main_v50_apply, val_main_v49_apply, val_main_v48_apply, val_main_v47_apply]
  have e : val_main_v46 x0 x1 x2 x3 x4 x5 x7 x8 (idx_main_v60 (ix2 r f)) = Ffn.conv (args x0 x1 x2 x3 x4 x5 x6 x7 x8 x9 x10) r f := by
    refine (at3 _ _ (⟨r.val / 2048, by omega⟩ : Fin 8) (⟨r.val % 2048, by omega⟩ : Fin 2048) f ?_ ?_ ?_).trans
      (convolved x0 x1 x2 x3 x4 x5 x6 x7 x8 x9 x10 _ _ f r ?_)
    · show (r.val * 2816 + f.val) / 5767168 = r.val / 2048
      omega
    · show (r.val * 2816 + f.val) / 2816 % 2048 = r.val % 2048
      omega
    · show (r.val * 2816 + f.val) % 2816 = f.val
      omega
    · show r.val = r.val / 2048 * 2048 + r.val % 2048
      omega
  rw [e]
  unfold Ffn.act gelu
  generalize Ffn.conv (args x0 x1 x2 x3 x4 x5 x6 x7 x8 x9 x10) r f = z
  refine congrArg (fun p : EReal => p * Ffn.u (args x0 x1 x2 x3 x4 x5 x6 x7 x8 x9 x10) r f) ?_
  show z * (Ideal.ofBits .f32 0x3F000000#32 * _) = Ideal.ofBits .f32 0x3F000000#32 * z * _
  rw [← mul_assoc, mul_comm z]
  rfl

/-- The residual stream after the feed-forward part. -/
theorem stream2 (r : Fin 16384) (j : Fin 1024) : val_main_v64 x0 x1 x2 x3 x4 x5 x6 x7 x8 x9 (ix2 r j) = Ffn.x2 (args x0 x1 x2 x3 x4 x5 x6 x7 x8 x9 x10) r j := by
  rw [val_main_v64_apply, val_main_v63_apply, stream x0 x1 x2 x3 x4 x5 x6 x7 x8 x9 x10 r j]
  unfold Ffn.x2
  refine congrArg (fun p : EReal => Ffn.x1 (args x0 x1 x2 x3 x4 x5 x6 x7 x8 x9 x10) r j + p) ?_
  refine (Fin.sum_univ_add (M := EReal) (a := 1408) (b := 1408) _).trans ?_
  refine congrArg₂ (fun p q : EReal => p + q) (Finset.sum_congr rfl fun k _ => ?_) (Finset.sum_congr rfl fun k _ => ?_)
  · refine congrArg₂ (fun p q : EReal => p * q) ?_ (at2 x9 _ (⟨k.val, by omega⟩ : Fin 2816) j rfl rfl)
    exact (at2 _ _ r (⟨k.val, by omega⟩ : Fin 2816) rfl rfl).trans (activated x0 x1 x2 x3 x4 x5 x6 x7 x8 x9 x10 r _)
  · refine congrArg₂ (fun p q : EReal => p * q) ?_ (at2 x9 _ (⟨1408 + k.val, by omega⟩ : Fin 2816) j rfl rfl)
    exact (at2 _ _ r (⟨1408 + k.val, by omega⟩ : Fin 2816) rfl rfl).trans (activated x0 x1 x2 x3 x4 x5 x6 x7 x8 x9 x10 r _)

/-- **The reference's output**, at an entry. -/
theorem output (r : Fin 16384) (j : Fin 1024) : val_main_v77 x0 x1 x2 x3 x4 x5 x6 x7 x8 x9 x10 (ix2 r j) = Ffn.y (args x0 x1 x2 x3 x4 x5 x6 x7 x8 x9 x10) r j := by
  rw [val_main_v77_apply, val_main_v74_apply, val_main_v73_apply, val_main_v72_apply, val_main_v71_apply, val_main_v69_apply,
    val_main_v67_apply, val_main_v66_apply, val_main_v68_apply, val_main_v70_apply, val_main_v76_apply, val_main_v75_apply]
  unfold Ffn.y rms
  show val_main_v64 x0 x1 x2 x3 x4 x5 x6 x7 x8 x9 (ix2 r j) * Ideal.rsqrt (Ideal.div (Ideal.ofBits .f32 0x00000000#32 + _) _ + _) * _ = _
  rw [Ideal.ofBits_zero_f32, zero_add, stream2 x0 x1 x2 x3 x4 x5 x6 x7 x8 x9 x10 r j]
  refine congrArg₂ (fun p q : EReal => Ffn.x2 (args x0 x1 x2 x3 x4 x5 x6 x7 x8 x9 x10) r j * Ideal.rsqrt (Ideal.div p (Ideal.ofBits .f32 0x44800000#32) + Ideal.ofBits .f32 0x358637BD#32) * q)
    (Finset.sum_congr rfl fun k _ => ?_) (at1 x10 _ _ rfl)
  rw [val_main_v65_apply, ← stream2 x0 x1 x2 x3 x4 x5 x6 x7 x8 x9 x10 r k]
  exact congrArg (fun v : EReal => v * v) (at2 _ _ r k rfl rfl)

/-- **The reference's last gate rows** of each sequence. -/
theorem tail (b : Fin 8) (s : Fin 2) (f : Fin 2816) :
    val_main_v78 x0 x1 x2 x3 x4 x5 (ix3 b s f) = Ffn.g (args x0 x1 x2 x3 x4 x5 x6 x7 x8 x9 x10) ⟨b.val * 2048 + (2046 + s.val), by omega⟩ f := by
  have hs := s.isLt
  rw [val_main_v78_apply]
  exact (at3 _ _ b (⟨2048 + s.val, by omega⟩ : Fin 2050) f rfl rfl rfl).trans
    (padded_gate x0 x1 x2 x3 x4 x5 x6 x7 x8 x9 x10 b _ f _ (by show 2 ≤ 2048 + s.val; omega)
      (by show b.val * 2048 + (2046 + s.val) = b.val * 2048 + (2048 + s.val - 2); omega))

end Cert.Reference2Ideal.Rows

end
-- ==== Proof.FfnArrays.lean ====
/- The result arrays of the output and feed-forward call, read off its write-backs, and the reference's results at the same
   values. -/
module

public import proofs.«01_k».proof.Proof.FfnBlocks

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic ValueIdx
open Idealize.ShloMosaic.Pipeline Idealize.SL.Sem

variable (m : (ℓ : Loc nD τ sig) → Buf (Elt Ideal) ℓ) (ρ : Dev nD → PrngReg)

/-! ## The output -/

/-- The output array. -/
def outs (c : Dev nD) : Buf (Elt Ideal) ((c : Thread nD τ).loc main_v7_0) :=
  fun i : S16384x1024.Idx => y (A m c) (i 0) (i 1)

/-- Contents that agree with an array on a point's block are the block read off it. -/
theorem cut11 (t : Fin cfg0.N) (b : Vec Ideal S512x1024 .f32) (f : S16384x1024.Idx → EReal)
    (hb : ∀ e : S512x1024.Idx, b e = f (((cfg0.win 11).blk t).view.emb e)) :
    (cfg0.win 11).cut (cfg0.grid.coords t) b = ((cfg0.win 11).blk t).view.read (Elt Ideal) f :=
  funext hb

/-- An entry of a row block's output is the array's. -/
theorem outs_at (c : Dev nD) (t : Fin cfg0.N) (h1 : t.val % 2 = 1) (e : S512x1024.Idx) (i : S16384x1024.Idx)
    (h0 : (i 0).val = (rowOf t (e 0)).val) (hj : (i 1).val = (e 1).val) : Y m c t e = outs m c i := by
  have he : e = ix2 (e 0) (e 1) := funext fun a => match a with | ⟨0, _⟩ => rfl | ⟨1, _⟩ => rfl
  have hr : i 0 = rowOf t (e 0) := Fin.ext h0
  have hc : i 1 = e 1 := Fin.ext hj
  unfold outs
  rw [hr, hc]
  exact (congrArg (Y m c t) he).trans (Y_apply m c t h1 (e 0) (e 1))

theorem flushed11 (c : Dev nD) (t : Fin cfg0.N) (hf : (cfg0.win 11).flush t = true) :
    (dats m 0 c).flushed 11 t = ((cfg0.win 11).blk t).view.read (Elt Ideal) (outs m c) := by
  show (cfg0.win 11).cut (cfg0.grid.coords t) ((dats m 0 c).after 11 t) = _
  rw [after_11]
  exact cut11 t _ _ fun e => outs_at m c t ((flush0_11 t).1 hf) e _ (rowStart t _) (whole _ _)

/-- The last point of a row's block. -/
def pt11 (r : Fin 16384) : Fin cfg0.N := ⟨2 * (r.val / 512) + 1, by show 2 * (r.val / 512) + 1 < 64; omega⟩

/-- The output array ends at the layer's output. -/
theorem final11 (c : Dev nD) : (dats m 0 c).arrAt 11 cfg0.N = outs m c :=
  (dats m 0 c).arrAt_eq_of_cover 11 (outs m c) (flushed11 m c) fun (i : S16384x1024.Idx) =>
    ⟨pt11 (i 0), (flush0_11 _).2 (by show (2 * ((i 0).val / 512) + 1) % 2 = 1; omega), by
      refine (View.set_slice_whole main_v7_0 ((cfg0.win 11).rect (pt11 (i 0)))).symm ▸ ?_
      refine (Rect.mem_set_unit ..).2 ?_
      have hs : (BitVec.ofNat 32 ((cfg0.grid.coords (pt11 (i 0))) 0).val).toNat = (2 * ((i 0).val / 512) + 1) / 2 := coord0 _
      have h1 : (i 1).val < 1024 := (i 1).isLt
      intro a
      match a with
      | ⟨0, _⟩ =>
        show (BitVec.ofNat 32 ((cfg0.grid.coords (pt11 (i 0))) 0).val).toNat * 512 ≤ (i 0).val
          ∧ (i 0).val < (BitVec.ofNat 32 ((cfg0.grid.coords (pt11 (i 0))) 0).val).toNat * 512 + 512
        omega
      | ⟨1, _⟩ => show 0 * 1024 ≤ (i 1).val ∧ (i 1).val < 0 * 1024 + 1024; omega⟩

/-! ## The gate's last rows -/

/-- Each row block's last two gate rows. -/
def tails (c : Dev nD) : Buf (Elt Ideal) ((c : Thread nD τ).loc main_v7_1) :=
  fun i : S32x2x2816.Idx => g (A m c) ⟨512 * (i 0).val + (510 + (i 1).val), by
    have h0 : (i 0).val < 32 := (i 0).isLt
    have h1 : (i 1).val < 2 := (i 1).isLt
    omega⟩ (i 2)

theorem cut12 (t : Fin cfg0.N) (b : Vec Ideal S1x2x1408 .f32) (f : S32x2x2816.Idx → EReal)
    (hb : ∀ e : S1x2x1408.Idx, b e = f (((cfg0.win 12).blk t).view.emb e)) :
    (cfg0.win 12).cut (cfg0.grid.coords t) b = ((cfg0.win 12).blk t).view.read (Elt Ideal) f :=
  funext hb

theorem tails_at (c : Dev nD) (t : Fin cfg0.N) (e : S1x2x1408.Idx) (i : S32x2x2816.Idx)
    (h0 : (i 0).val = t.val / 2) (h1 : (i 1).val = (e 1).val) (h2 : (i 2).val = (colOf t (e 2)).val) :
    k0_pay3 (Gt m c t) e = tails m c i := by
  have hz : (e 0).val < 1 := (e 0).isLt
  have he : e = ix3 0 (e 1) (e 2) := funext fun a => match a with
    | ⟨0, _⟩ => Fin.ext (Nat.lt_one_iff.1 hz)
    | ⟨1, _⟩ => rfl
    | ⟨2, _⟩ => rfl
  refine (congrArg (k0_pay3 (Gt m c t)) he).trans ((last_block m c t (e 1) (e 2)).trans ?_)
  unfold tails
  refine congrArg₂ (g (A m c)) (Fin.ext ?_) (Fin.ext h2.symm)
  show 512 * (t.val / 2) + (510 + (e 1).val) = 512 * (i 0).val + (510 + (i 1).val)
  rw [h0, h1]

theorem blockStart (t : Fin cfg0.N) (n : ℕ) (hn : n < 1) : (BitVec.ofNat 32 ((cfg0.grid.coords t) 0).val).toNat * 1 + 1 * n = t.val / 2 := by
  rw [coord0]; omega

theorem flushed12 (c : Dev nD) (t : Fin cfg0.N) (_ : (cfg0.win 12).flush t = true) :
    (dats m 0 c).flushed 12 t = ((cfg0.win 12).blk t).view.read (Elt Ideal) (tails m c) := by
  show (cfg0.win 12).cut (cfg0.grid.coords t) ((dats m 0 c).after 12 t) = _
  rw [after_12]
  exact cut12 t _ _ fun e => tails_at m c t e _ (blockStart t _ (e 0).isLt) (whole _ _) (colStart t _)

/-- The point of a row block and a feature. -/
def pt12 (b : Fin 32) (f : Fin 2816) : Fin cfg0.N := ⟨2 * b.val + f.val / 1408, by show 2 * b.val + f.val / 1408 < 64; omega⟩

/-- The array of last rows ends at the gate's. -/
theorem final12 (c : Dev nD) : (dats m 0 c).arrAt 12 cfg0.N = tails m c :=
  (dats m 0 c).arrAt_eq_of_cover 12 (tails m c) (flushed12 m c) fun (i : S32x2x2816.Idx) =>
    ⟨pt12 (i 0) (i 2), flush0_12 _, by
      refine (View.set_slice_whole main_v7_1 ((cfg0.win 12).rect (pt12 (i 0) (i 2)))).symm ▸ ?_
      refine (Rect.mem_set_unit ..).2 ?_
      have hs0 : (BitVec.ofNat 32 ((cfg0.grid.coords (pt12 (i 0) (i 2))) 0).val).toNat = (2 * (i 0).val + (i 2).val / 1408) / 2 := coord0 _
      have hs1 : (BitVec.ofNat 32 ((cfg0.grid.coords (pt12 (i 0) (i 2))) 1).val).toNat = (2 * (i 0).val + (i 2).val / 1408) % 2 := coord1 _
      have h1 : (i 1).val < 2 := (i 1).isLt
      have h2 : (i 2).val < 2816 := (i 2).isLt
      intro a
      match a with
      | ⟨0, _⟩ =>
        show (BitVec.ofNat 32 ((cfg0.grid.coords (pt12 (i 0) (i 2))) 0).val).toNat * 1 ≤ (i 0).val
          ∧ (i 0).val < (BitVec.ofNat 32 ((cfg0.grid.coords (pt12 (i 0) (i 2))) 0).val).toNat * 1 + 1
        omega
      | ⟨1, _⟩ => show 0 * 2 ≤ (i 1).val ∧ (i 1).val < 0 * 2 + 2; omega
      | ⟨2, _⟩ =>
        show (BitVec.ofNat 32 ((cfg0.grid.coords (pt12 (i 0) (i 2))) 1).val).toNat * 1408 ≤ (i 2).val
          ∧ (i 2).val < (BitVec.ofNat 32 ((cfg0.grid.coords (pt12 (i 0) (i 2))) 1).val).toNat * 1408 + 1408
        omega⟩

/-- Each sequence's last two gate rows. -/
def lasts (c : Dev nD) : Buf (Elt Ideal) ((c : Thread nD τ).loc main_v8) :=
  fun i : S8x2x2816.Idx => g (A m c) ⟨(i 0).val * 2048 + (2046 + (i 1).val), by
    have h0 : (i 0).val < 8 := (i 0).isLt
    have h1 : (i 1).val < 2 := (i 1).isLt
    omega⟩ (i 2)

/-- Every fourth row block ends a sequence. -/
theorem slice_tails (c : Dev nD) : Host.slice S8x2x2816 ![3, 0, 0] ![4, 1, 1] (tails m c) slicesBy_S32x2x2816_S8x2x2816_3s4_0s1_0s1 = lasts m c := by
  funext i
  have h0 : (i 0).val < 8 := (i 0).isLt
  have h1 : (i 1).val < 2 := (i 1).isLt
  show g (A m c) _ _ = g (A m c) _ _
  refine congrArg₂ (g (A m c)) (Fin.ext ?_) (Fin.ext ?_)
  · show 512 * (3 + 4 * (i 0).val) + (510 + (0 + 1 * (i 1).val)) = (i 0).val * 2048 + (2046 + (i 1).val)
    omega
  · show 0 + 1 * (i 2).val = (i 2).val
    omega

theorem arrRef_inj : Function.Injective (arrRef spec0) := by
  have h : ∀ w w', arrRef spec0 w = arrRef spec0 w' → w = w' := by decide
  exact fun w w' => h w w'

/-- What the call leaves in its second result. -/
theorem sliced (c : Dev nD) : afterTail₀ cfgs (dats m) 0 (V0 m) [hostOps1] c main_v8 = lasts m c := by
  unfold afterTail₀
  refine Eq.trans ?_ (slice_tails m c)
  have e := withArrays_arr spec0 arrRef_inj c (V0 m c) (fun w => (dats m 0 c).arrAt w cfg0.N) 12
  rw [← final12 m c, ← e]
  after_results
  rfl

/-- The run, read: both results. -/
theorem run_results : θ_run defs (onTc (τ := τ) (main (F := Ideal))) ⟨m, fun _ => 0, ρ⟩ fun r => ∀ c : Dev nD,
      r.2.mem ((c.tc : Thread nD τ).loc main_v7_0) = outs m c ∧ r.2.mem ((c.tc : Thread nD τ).loc main_v8) = lasts m c :=
  (θ_run defs _ _).mono (fun _ h c => ⟨((h c).1 11).trans (final11 m c),
    ((h c).2 main_v8 (mem_restRefs_of main_v8 (by decide) (by decide))).trans (sliced m c)⟩) (run_main m ρ)

/-! ## The reference -/

open Cert.Reference2Ideal.Read in
/-- The reference's output is the same array. -/
theorem ref_outs (c : Dev nD) : val_main_v77 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
    (m (c.tc.loc main_arg9)) (m (c.tc.loc main_arg10)) = outs m c := by
  funext i
  have hi : i = ix2 (i 0) (i 1) := funext fun a => match a with | ⟨0, _⟩ => rfl | ⟨1, _⟩ => rfl
  rw [hi]
  exact Cert.Reference2Ideal.Rows.output _ _ _ _ _ _ _ _ _ _ _ (i 0) (i 1)

open Cert.Reference2Ideal.Read in
/-- Its gate rows are the same array. -/
theorem ref_lasts (c : Dev nD) : val_main_v78 (F := Ideal) (m (c.tc.loc main_arg0)) (m (c.tc.loc main_arg1)) (m (c.tc.loc main_arg2)) (m (c.tc.loc main_arg3))
    (m (c.tc.loc main_arg4)) (m (c.tc.loc main_arg5)) = lasts m c := by
  funext i
  have hi : i = ix3 (i 0) (i 1) (i 2) := funext fun a => match a with | ⟨0, _⟩ => rfl | ⟨1, _⟩ => rfl | ⟨2, _⟩ => rfl
  rw [hi]
  exact Cert.Reference2Ideal.Rows.tail _ _ _ _ _ _ (m (c.tc.loc main_arg6)) (m (c.tc.loc main_arg7)) (m (c.tc.loc main_arg8))
    (m (c.tc.loc main_arg9)) (m (c.tc.loc main_arg10)) (i 0) (i 1) (i 2)

end Cert.Kernel2Ideal.Ffn

end
-- ==== Proof.ProjOut.lean ====
/- What the attention input projection's body leaves in three of its output blocks, entry by entry. -/
module

public import proofs.«01_k».proof.Proof.Gen.Kernel4Ideal.Frame
public import proofs.«01_k».proof.Proof.FfnBlocks

@[expose] public section

set_option maxRecDepth 16384

noncomputable section

namespace Cert.Kernel4Ideal.Proj

open Idealize.ShloMosaic Idealize.ShloMosaic.TcCoe Idealize.ShloMosaic.Tactic Cert.Kernel4Ideal Cert.Kernel4Ideal.Gen
open Idealize.SL.Sem ValueIdx Cert.Ffn

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x2048 .bf16) (harg3 : arg3.IsWhole) (arg4 : Memref sig .tc .vmem S4x128x128 .bf16) (harg4 : arg4.IsWhole)
  (arg5 : Memref sig .tc .vmem S1x512 .f32) (harg5 : arg5.IsWhole) (arg6 : Memref sig .tc .vmem S1x512x512 .bf16) (harg6 : arg6.IsWhole)
  (arg7 : Memref sig .tc .vmem S1x2x8x64x512 .f32) (harg7 : arg7.IsWhole) (arg8 : Memref sig .tc .vmem S512x512 .bf16) (harg8 : arg8.IsWhole)
  (arg9 : Memref sig .tc .vmem S1x2x512x256 .bf16) (harg9 : arg9.IsWhole) (arg10 : Memref sig .tc .vmem S512x512 .bf16) (harg10 : arg10.IsWhole)
  (arg11 : Memref sig .tc .vmem S1x15x512 .f32) (harg11 : arg11.IsWhole) (arg12 : Memref sig .tc .vmem S528x512 .f32) (harg12 : arg12.IsWhole)
  (x0 : Vec Ideal S512x1024 .f32) (x1 : Vec Ideal S1x1024 .f32) (x2 : Vec Ideal S1024x2048 .bf16) (x3 : Vec Ideal S4x128x128 .bf16) (x4 : Vec Ideal S1x512 .f32)
  (xs : Vec Ideal S528x512 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- The weights' columns for the queries, the keys, the values and the pooled stream. -/
abbrev wq : Vec Ideal S1024x512 .bf16 := View.ld x2 (Rect.unit (s := S1024x2048) ![0, 0] S1024x512.size inb_S1024x2048_S1024x512_0_0)
abbrev wk : Vec Ideal S1024x512 .bf16 := View.ld x2 (Rect.unit (s := S1024x2048) ![0, 512] S1024x512.size inb_S1024x2048_S1024x512_0_512)
abbrev wv : Vec Ideal S1024x512 .bf16 := View.ld x2 (Rect.unit (s := S1024x2048) ![0, 1024] S1024x512.size inb_S1024x2048_S1024x512_0_1024)
abbrev wu : Vec Ideal S1024x512 .bf16 := View.ld x2 (Rect.unit (s := S1024x2048) ![0, 1536] S1024x512.size inb_S1024x2048_S1024x512_0_1536)

/-- The queries' block at a sequence's first tile. -/
theorem out_A_5 (hc0 hc1) : out0_A_5 c i arg1 harg1 arg2 harg2 arg3 harg3 arg4 harg4 arg5 harg5 arg6 harg6 arg7 harg7 arg8 harg8 arg9 harg9 arg10 harg10
    arg11 harg11 arg12 harg12 hc0 hc1 x0 x1 x2 x3 x4 = k0_pay11 (k0_pay4 x0 x1 (wq x2)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10
    arg11 harg11 arg12 harg12 hc0 hc1 x0 x1 x2 x3 x4)]
  unfold kernelRun0_A
  dsimp only
  rw [View.canon_unit_zero hz3]
  sl_unfold_words
  simp only [View.readAt_eq_ld, harg1.read_unread, harg2.read_unread, harg3.read_unread, View.ld_unit_zero (S := S512x1024) hz2, View.ld_unit_zero (S := S1x1024) hz2]

/-- The queries' block at a later tile. -/
theorem out_B_5 (hc0 hc1) : out0_B_5 c i arg1 harg1 arg2 harg2 arg3 harg3 arg4 harg4 arg5 harg5 arg6 harg6 arg7 harg7 arg8 harg8 arg9 harg9 arg10 harg10
    arg11 harg11 arg12 harg12 hc0 hc1 x0 x1 x2 x3 x4 xs = k0_pay11 (k0_pay4 x0 x1 (wq x2)) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10
    arg11 harg11 arg12 harg12 hc0 hc1 x0 x1 x2 x3 x4 xs)]
  unfold kernelRun0_B
  dsimp only
  rw [View.canon_unit_zero hz3]
  sl_unfold_words
  simp only [View.readAt_eq_ld, harg1.read_unread, harg2.read_unread, harg3.read_unread, View.ld_unit_zero (S := S512x1024) hz2, View.ld_unit_zero (S := S1x1024) hz2]

/-- The keys' and values' block: two stores, the values' the later. -/
def kv : Vec Ideal S1x2x8x64x512 .f32 :=
  View.canon [⟨Rect.unit (s := S1x2x8x64x512) ![0, 1, 0, 0, 0] S1x1x8x64x512.size inb_S1x2x8x64x512_S1x1x8x64x512_0_1_0_0_0, k0_pay9 (k0_pay7 x0 x1 (wv x2))⟩,
    ⟨Rect.unit (s := S1x2x8x64x512) ![0, 0, 0, 0, 0] S1x1x8x64x512.size inb_S1x2x8x64x512_S1x1x8x64x512_0_0_0_0_0, k0_pay8 (k0_pay6 x0 x1 (wk x2))⟩]

/-- The keys' and values' block at a sequence's first tile. -/
theorem out_A_6 (hc0 hc1) : out0_A_6 c i arg1 harg1 arg2 harg2 arg3 harg3 arg4 harg4 arg5 harg5 arg6 harg6 arg7 harg7 arg8 harg8 arg9 harg9 arg10 harg10
    arg11 harg11 arg12 harg12 hc0 hc1 x0 x1 x2 x3 x4 = kv x0 x1 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10
    arg11 harg11 arg12 harg12 hc0 hc1 x0 x1 x2 x3 x4)]
  unfold kernelRun0_A
  dsimp only
  sl_unfold_words
  simp only [View.readAt_eq_ld, harg1.read_unread, harg2.read_unread, harg3.read_unread, View.ld_unit_zero (S := S512x1024) hz2, View.ld_unit_zero (S := S1x1024) hz2]
  rfl

/-- The keys' and values' block at a later tile. -/
theorem out_B_6 (hc0 hc1) : out0_B_6 c i arg1 harg1 arg2 harg2 arg3 harg3 arg4 harg4 arg5 harg5 arg6 harg6 arg7 harg7 arg8 harg8 arg9 harg9 arg10 harg10
    arg11 harg11 arg12 harg12 hc0 hc1 x0 x1 x2 x3 x4 xs = kv x0 x1 x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10
    arg11 harg11 arg12 harg12 hc0 hc1 x0 x1 x2 x3 x4 xs)]
  unfold kernelRun0_B
  dsimp only
  sl_unfold_words
  simp only [View.readAt_eq_ld, harg1.read_unread, harg2.read_unread, harg3.read_unread, View.ld_unit_zero (S := S512x1024) hz2, View.ld_unit_zero (S := S1x1024) hz2]
  rfl

/-- The last rows of a tile stored below the rows carried over, read back. -/
theorem last_rows (a : Memref sig .tc .vmem S528x512 .f32) (w : Vec Ideal S512x512 .f32) (w' : Vec Ideal S16x512 .f32) (r : Fin 15) (j : Fin 512) :
    a.view.readCov [⟨Rect.unit (s := S528x512) ![16, 0] S512x512.size inb_S528x512_S512x512_16_0, w⟩,
        (⟨Rect.unit (s := S528x512) ![0, 0] S16x512.size inb_S528x512_S16x512_0_0, w'⟩ : View.Piece (Elt Ideal) S528x512 .f32)]
      (Rect.unit (s := S528x512) ![513, 0] S15x512.size inb_S528x512_S15x512_513_0).toLoadRect (ix2 r j) = w (ix2 ⟨497 + r.val, by omega⟩ j) := by
  rw [View.readCov_eq_canon']
  refine Eq.trans (congrArg (View.canon _) ?_) (View.canon_cons_emb (Rect.unit (s := S528x512) ![16, 0] S512x512.size inb_S528x512_S512x512_16_0) w _
    (ix2 (⟨497 + r.val, by omega⟩ : Fin 512) j))
  refine funext fun a => Fin.ext ?_
  match a with
  | ⟨0, _⟩ =>
    show 513 + 1 * r.val = 16 + 1 * (497 + r.val)
    omega
  | ⟨1, _⟩ => rfl

/-- The pool's block at a later tile: the last rows of the tile's stream. -/
theorem out_B_10 (hc0 hc1) (r : Fin 15) (j : Fin 512) : out0_B_10 c i arg1 harg1 arg2 harg2 arg3 harg3 arg4 harg4 arg5 harg5 arg6 harg6 arg7 harg7 arg8 harg8 arg9 harg9 arg10 harg10
    arg11 harg11 arg12 harg12 hc0 hc1 x0 x1 x2 x3 x4 xs (ix3 0 r j)
      = k0_pay16 (k0_pay3 x0 x1) (wu x2) (ix2 ⟨497 + r.val, by omega⟩ j) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10
    arg11 harg11 arg12 harg12 hc0 hc1 x0 x1 x2 x3 x4 xs)]
  unfold kernelRun0_B
  dsimp only
  rw [View.canon_unit_zero hz3]
  sl_unfold_words
  simp only [View.readAt_eq_ld, harg1.read_unread, harg2.read_unread, harg3.read_unread, View.ld_unit_zero (S := S512x1024) hz2, View.ld_unit_zero (S := S1x1024) hz2]
  unfold k0_pay2
  refine (Idealize.ShloMosaic.shapeCast_apply _ _ (ix3 0 r j) (ix2 r j) ?_).trans ?_
  · rw [Shape.rowMajor_val_two, Shape.rowMajor_val_three]
    show r.val * 512 + j.val = (0 * 15 + r.val) * 512 + j.val
    omega
  · exact last_rows arg12 _ _ r j

/-! ## Entries -/

/-- A tile's normalized rows times a column of the weights. -/
def pb (r : Fin 512) (j : Fin 2048) : EReal :=
  ∑ k : Fin 1024, rms (fun l => x0 (ix2 r l)) (fun l => x1 (ix2 0 l)) k * (show EReal from x2 (ix2 k j))

/-- The normalized rows. -/
theorem hid_apply (r : Fin 512) (k : Fin 1024) : k0_pay3 x0 x1 (ix2 r k) = rms (fun l => x0 (ix2 r l)) (fun l => x1 (ix2 0 l)) k := by
  refine (Cert.Kernel2Ideal.Ffn.rms_apply x0 (shapeCast S1x1024 x1 shapeCasts_S1x1024_S1x1024) r k).trans ?_
  rw [shapeCast_self]

/-- The rows times a block of columns. -/
theorem dot_apply (w : Vec Ideal S1024x512 .bf16) (r j : Fin 512) :
    matmul (F := Ideal) (φ₁ := .bf16) (φ₂ := .bf16) dot_S512x1024_S1024x512_S512x512_1_0_0_1_n_n none (k0_pay3 x0 x1) (shapeCast S1024x512 w shapeCasts_S1024x512_S1024x512)
      (constant S512x512 .f32 0x00000000#32) (ix2 r j)
      = ∑ k : Fin 1024, rms (fun l => x0 (ix2 r l)) (fun l => x1 (ix2 0 l)) k * (show EReal from w (ix2 k j)) := by
  refine (Ideal.matmul_plain_apply (M := 512) (K := 1024) (N := 512) none _ _ _ r j).trans ?_
  show Ideal.ofBits .f32 0x00000000#32 + _ = _
  rw [Ideal.ofBits_zero_f32, zero_add]
  exact Finset.sum_congr rfl fun k _ => congrArg₂ (fun p q : EReal => p * q) (hid_apply x0 x1 r k)
    (Idealize.ShloMosaic.shapeCast_apply _ _ (ix2 k j) (ix2 k j) rfl)

/-- A block of columns starting at a column. -/
theorem dot_cols (w : Vec Ideal S1024x512 .bf16) (o : ℕ) (ho : o ≤ 1536) (hw : ∀ (k : Fin 1024) (j : Fin 512), w (ix2 k j) = x2 (ix2 k ⟨o + j.val, by omega⟩)) (r j : Fin 512) :
    matmul (F := Ideal) (φ₁ := .bf16) (φ₂ := .bf16) dot_S512x1024_S1024x512_S512x512_1_0_0_1_n_n none (k0_pay3 x0 x1) (shapeCast S1024x512 w shapeCasts_S1024x512_S1024x512)
      (constant S512x512 .f32 0x00000000#32) (ix2 r j) = pb x0 x1 x2 r ⟨o + j.val, by omega⟩ := by
  rw [dot_apply]
  unfold pb
  exact Finset.sum_congr rfl fun k _ => congrArg _ (hw k j)

theorem cols (o : ℕ) (ho : o ≤ 1536) (inb : ∀ a, (![0, o] : Fin 2 → ℕ) a + S1024x512.size a ≤ S1024x2048.size a) (k : Fin 1024) (j : Fin 512) :
    View.ld x2 (Rect.unit (s := S1024x2048) ![0, o] S1024x512.size inb) (ix2 k j) = x2 (ix2 k ⟨o + j.val, by omega⟩) := by
  refine at2 x2 _ _ _ ?_ ?_
  · show 0 + 1 * k.val = k.val
    omega
  · show o + 1 * j.val = o + j.val
    omega

/-- A square tile transposed. -/
theorem swap (v : S512x512.Idx → EReal) (r j : Fin 512) : transpose S512x512 [1, 0] v transposes_S512x512_p1_0_S512x512 (ix2 r j) = v (ix2 j r) :=
  transpose_apply [1, 0] v transposes_S512x512_p1_0_S512x512 (ix2 r j) (ix2 j r) fun b => match b with | ⟨0, _⟩ => rfl | ⟨1, _⟩ => rfl

/-- The queries' block, at an entry. -/
theorem q_apply (d s : Fin 512) : k0_pay11 (k0_pay4 x0 x1 (wq x2)) (ix3 0 d s) = pb x0 x1 x2 s ⟨d.val, by omega⟩ * Ideal.ofBits .f32 0x3E000000#32 := by
  unfold k0_pay11
  refine (Idealize.ShloMosaic.shapeCast_apply _ _ (ix3 0 d s) (ix2 d s) ?_).trans ?_
  · rw [Shape.rowMajor_val_two, Shape.rowMajor_val_three]
    show d.val * 512 + s.val = (0 * 512 + d.val) * 512 + s.val
    omega
  · show transpose S512x512 [1, 0] (mulf (k0_pay4 x0 x1 (wq x2)) (broadcast S512x512 (Scalar.ofBits (F := Ideal) .f32 0x3E000000#32)))
      transposes_S512x512_p1_0_S512x512 (ix2 d s) = _
    refine (swap _ d s).trans ?_
    refine congrArg (fun v : EReal => v * Ideal.ofBits .f32 0x3E000000#32) ?_
    unfold k0_pay4
    refine (dot_cols x0 x1 x2 (wq x2) 0 (by omega) (cols x2 0 (by omega) _) s d).trans (congrArg (pb x0 x1 x2 s) (Fin.ext ?_))
    exact Nat.zero_add _

/-- Heads and their coordinates, of a transposed tile. -/
theorem heads (v : S512x512.Idx → EReal) (e : S1x1x8x64x512.Idx) :
    shapeCast S1x1x8x64x512 (shapeCast S8x64x512 (transpose S512x512 [1, 0] v transposes_S512x512_p1_0_S512x512) shapeCasts_S512x512_S8x64x512)
      shapeCasts_S8x64x512_S1x1x8x64x512 e = v (ix2 (e 4) ⟨64 * (e 2).val + (e 3).val, by
        have h2 : (e 2).val < 8 := (e 2).isLt
        have h3 : (e 3).val < 64 := (e 3).isLt
        omega⟩) := by
  have h0 : (e 0).val < 1 := (e 0).isLt
  have h1 : (e 1).val < 1 := (e 1).isLt
  have h2 : (e 2).val < 8 := (e 2).isLt
  have h3 : (e 3).val < 64 := (e 3).isLt
  refine (Idealize.ShloMosaic.shapeCast_apply _ _ e (ix3 (n0 := 8) (e 2) (e 3) (e 4)) ?_).trans ?_
  · rw [Shape.rowMajor_val_three, Shape.rowMajor_val_five]
    show ((e 2).val * 64 + (e 3).val) * 512 + (e 4).val = ((((e 0).val * 1 + (e 1).val) * 8 + (e 2).val) * 64 + (e 3).val) * 512 + (e 4).val
    omega
  · refine (Idealize.ShloMosaic.shapeCast_apply _ _ (ix3 (n0 := 8) (e 2) (e 3) (e 4)) (ix2 (n0 := 512) ⟨64 * (e 2).val + (e 3).val, by omega⟩ (e 4)) ?_).trans (swap v _ _)
    rw [Shape.rowMajor_val_two, Shape.rowMajor_val_three]
    show (64 * (e 2).val + (e 3).val) * 512 + (e 4).val = ((e 2).val * 64 + (e 3).val) * 512 + (e 4).val
    omega

/-- The keys' store, at an entry. -/
theorem k_apply (e : S1x1x8x64x512.Idx) : k0_pay8 (k0_pay6 x0 x1 (wk x2)) e = pb x0 x1 x2 (e 4) ⟨512 + (64 * (e 2).val + (e 3).val), by
    have h2 : (e 2).val < 8 := (e 2).isLt
    have h3 : (e 3).val < 64 := (e 3).isLt
    omega⟩ := by
  unfold k0_pay8 k0_pay6 k0_pay5
  exact (heads _ e).trans (dot_cols x0 x1 x2 (wk x2) 512 (by omega) (cols x2 512 (by omega) _) _ _)

/-- The values' store, at an entry. -/
theorem v_apply (e : S1x1x8x64x512.Idx) : k0_pay9 (k0_pay7 x0 x1 (wv x2)) e = pb x0 x1 x2 (e 4) ⟨1024 + (64 * (e 2).val + (e 3).val), by
    have h2 : (e 2).val < 8 := (e 2).isLt
    have h3 : (e 3).val < 64 := (e 3).isLt
    omega⟩ := by
  unfold k0_pay9 k0_pay7
  exact (heads _ e).trans (dot_cols x0 x1 x2 (wv x2) 1024 (by omega) (cols x2 1024 (by omega) _) _ _)

/-- The column of the weights a key's or value's coordinate is. -/
def kvCol (p : Fin 2) (h : Fin 8) (d : Fin 64) : Fin 2048 := ⟨512 + 512 * p.val + 64 * h.val + d.val, by omega⟩

/-- The keys' and values' block, by entries. -/
def kvAll : Vec Ideal S1x2x8x64x512 .f32 := fun y => pb x0 x1 x2 (y 4) (kvCol (y 1) (y 2) (y 3))

/-- The keys' and values' block, at an entry. -/
theorem kv_apply (y : S1x2x8x64x512.Idx) : kv x0 x1 x2 y = pb x0 x1 x2 (y 4) (kvCol (y 1) (y 2) (y 3)) := by
  unfold kv
  refine View.canon_apply_of_pieces (kvAll x0 x1 x2) _ (fun p hp e => ?_) y ?_
  · simp only [List.mem_cons, List.mem_nil_iff, or_false] at hp
    rcases hp with rfl | rfl
    · refine (v_apply x0 x1 x2 e).trans ?_
      refine congrArg₂ (pb x0 x1 x2) (Fin.ext ?_) (Fin.ext ?_)
      · show (e 4).val = 0 + 1 * (e 4).val
        omega
      · have h1 : (e 1).val < 1 := (e 1).isLt
        show 1024 + (64 * (e 2).val + (e 3).val) = 512 + 512 * (1 + 1 * (e 1).val) + 64 * (0 + 1 * (e 2).val) + (0 + 1 * (e 3).val)
        omega
    · refine (k_apply x0 x1 x2 e).trans ?_
      refine congrArg₂ (pb x0 x1 x2) (Fin.ext ?_) (Fin.ext ?_)
      · show (e 4).val = 0 + 1 * (e 4).val
        omega
      · have h1 : (e 1).val < 1 := (e 1).isLt
        show 512 + (64 * (e 2).val + (e 3).val) = 512 + 512 * (0 + 1 * (e 1).val) + 64 * (0 + 1 * (e 2).val) + (0 + 1 * (e 3).val)
        omega
  · have h0 : (y 0).val < 1 := (y 0).isLt
    have h1 : (y 1).val < 2 := (y 1).isLt
    have h2 : (y 2).val < 8 := (y 2).isLt
    have h3 : (y 3).val < 64 := (y 3).isLt
    have h4 : (y 4).val < 512 := (y 4).isLt
    rcases Nat.lt_or_ge (y 1).val 1 with h | h
    · refine ⟨_, List.mem_cons_of_mem _ List.mem_cons_self, ?_⟩
      refine (Rect.mem_set_unit (inb := by decide) ..).2 ?_
      intro a
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 8; omega
      | ⟨3, _⟩ => show 0 ≤ (y 3).val ∧ (y 3).val < 0 + 64; omega
      | ⟨4, _⟩ => show 0 ≤ (y 4).val ∧ (y 4).val < 0 + 512; omega
    · refine ⟨_, List.mem_cons_self, ?_⟩
      refine (Rect.mem_set_unit (inb := by decide) ..).2 ?_
      intro a
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + 8; omega
      | ⟨3, _⟩ => show 0 ≤ (y 3).val ∧ (y 3).val < 0 + 64; omega
      | ⟨4, _⟩ => show 0 ≤ (y 4).val ∧ (y 4).val < 0 + 512; omega

/-- The pooled stream, at an entry. -/
theorem u_apply (r j : Fin 512) : k0_pay16 (k0_pay3 x0 x1) (wu x2) (ix2 r j) = pb x0 x1 x2 r ⟨1536 + j.val, by omega⟩ := by
  unfold k0_pay16
  rw [shapeCast_self]
  exact dot_cols x0 x1 x2 (wu x2) 1536 (by omega) (cols x2 1536 (by omega) _) r j

end Cert.Kernel4Ideal.Proj

end
-- ==== Proof.ProjRef.lean ====
/- The attention input projection over the extended reals, entry by entry, and its reference. -/
module

public import proofs.«01_k».proof.Proof.FfnRef
public import proofs.«01_k».proof.Proof.Gen.Reference4Ideal.Read

@[expose] public section

set_option maxRecDepth 16384

noncomputable section

namespace Cert.Reference4Ideal.Rows

open Cert.Reference4Ideal Cert.Reference4Ideal.Gen Cert.Reference4Ideal.Read Cert.Ffn
open Idealize.ShloMosaic Idealize.ShloMosaic.TcCoe ValueIdx

variable (x0 : (⟨S16384x1024, .f32⟩ : BufTy).Contents (Elt Ideal)) (x1 : (⟨S1024, .f32⟩ : BufTy).Contents (Elt Ideal))
  (x2 : (⟨S1024x2048, .f32⟩ : BufTy).Contents (Elt Ideal))

/-- The projection: the normalized rows times the weights. -/
def proj (r : Fin 16384) (j : Fin 2048) : EReal :=
  ∑ k : Fin 1024, rms (fun l => x0 (ix2 r l)) (fun l => x1 (ix1 l)) k * (show EReal from x2 (ix2 k j))

/-- The row of the arrays a position of a sequence is. -/
def rowAt (b : Fin 8) (s : Fin 2048) : Fin 16384 := ⟨b.val * 2048 + s.val, by omega⟩

/-- The column of the weights a key's or value's coordinate is. -/
def kvCol (p : Fin 2) (h : Fin 8) (d : Fin 64) : Fin 2048 := ⟨512 + 512 * p.val + 64 * h.val + d.val, by omega⟩

/-- The reference's normalized rows. -/
theorem normed (r : Fin 16384) (j : Fin 1024) : val_main_v12 x0 x1 (ix2 r j) = rms (fun l => x0 (ix2 r l)) (fun l => x1 (ix1 l)) j := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  unfold rms
  show x0 (ix2 r j) * Ideal.rsqrt (Ideal.div (Ideal.ofBits .f32 0x00000000#32 + _) _ + _) * _ = _
  rw [Ideal.ofBits_zero_f32, zero_add]
  refine congrArg₂ (fun p q : EReal => x0 (ix2 r j) * Ideal.rsqrt (Ideal.div p (Ideal.ofBits .f32 0x44800000#32) + Ideal.ofBits .f32 0x358637BD#32) * q)
    (Finset.sum_congr rfl fun k _ => ?_) (at1 x1 _ _ rfl)
  rw [val_main_v0_apply]
  exact congrArg (fun v : EReal => v * v) (at2 x0 _ r k rfl rfl)

/-- The reference's projection. -/
theorem projected (r : Fin 16384) (j : Fin 2048) : val_main_v13 x0 x1 x2 (ix2 r j) = proj x0 x1 x2 r j := by
  rw [val_main_v13_apply]
  exact Finset.sum_congr rfl fun k _ => congrArg₂ (fun p q : EReal => p * q) ((at2 _ _ r k rfl rfl).trans (normed x0 x1 r k)) (at2 x2 _ _ _ rfl rfl)

/-- The same by sequences. -/
theorem by_sequence (b : Fin 8) (s j : Fin 2048) (i : S8x2048x2048.Idx) (h0 : (i 0).val = b.val) (h1 : (i 1).val = s.val) (h2 : (i 2).val = j.val) :
    val_main_v14 x0 x1 x2 i = proj x0 x1 x2 (rowAt b s) j := by
  rw [val_main_v14_apply]
  refine (at2 _ _ (rowAt b s) j ?_ ?_).trans (projected x0 x1 x2 (rowAt b s) j)
  · show (((i 0).val * 2048 + (i 1).val) * 2048 + (i 2).val) / 2048 = b.val * 2048 + s.val
    rw [h0, h1, h2]; omega
  · show (((i 0).val * 2048 + (i 1).val) * 2048 + (i 2).val) % 2048 = j.val
    rw [h0, h1, h2]; omega

/-- **The reference's queries**, at an entry. -/
theorem queries (i : S8x512x2048.Idx) : val_main_v24 x0 x1 x2 i
    = proj x0 x1 x2 (rowAt (i 0) (i 2)) ⟨(i 1).val, by have h : (i 1).val < 512 := (i 1).isLt; omega⟩ * Ideal.ofBits .f32 0x3E000000#32 := by
  rw [val_main_v24_apply, val_main_v23_apply, val_main_v17_apply, val_main_v15_apply, val_main_v16_apply]
  exact congrArg (fun v : EReal => v * Ideal.ofBits .f32 0x3E000000#32) (by_sequence x0 x1 x2 _ _ _ _ rfl rfl rfl)

/-- **The reference's keys and values**, at an entry. -/
theorem keys_values (i : S8x2x8x64x2048.Idx) : val_main_v25 x0 x1 x2 i = proj x0 x1 x2 (rowAt (i 0) (i 4)) (kvCol (i 1) (i 2) (i 3)) := by
  have h0 : (i 0).val < 8 := (i 0).isLt
  have h1 : (i 1).val < 2 := (i 1).isLt
  have h2 : (i 2).val < 8 := (i 2).isLt
  have h3 : (i 3).val < 64 := (i 3).isLt
  have h4 : (i 4).val < 2048 := (i 4).isLt
  rw [val_main_v25_apply, val_main_v19_apply, val_main_v18_apply]
  refine by_sequence x0 x1 x2 (i 0) (i 4) (kvCol (i 1) (i 2) (i 3)) _ ?_ ?_ ?_
  · show (((((i 0).val * 2048 + (i 4).val) * 2 + (i 1).val) * 8 + (i 2).val) * 64 + (i 3).val) / 2097152 = (i 0).val
    omega
  · show (((((i 0).val * 2048 + (i 4).val) * 2 + (i 1).val) * 8 + (i 2).val) * 64 + (i 3).val) / 1024 % 2048 = (i 4).val
    omega
  · show 512 + (((((i 0).val * 2048 + (i 4).val) * 2 + (i 1).val) * 8 + (i 2).val) * 64 + (i 3).val) % 1024 = 512 + 512 * (i 1).val + 64 * (i 2).val + (i 3).val
    omega

/-- **The reference's pool**, at an entry. -/
theorem pooled (i : S8x15x512.Idx) : val_main_v26 x0 x1 x2 i
    = proj x0 x1 x2 (rowAt (i 0) ⟨2033 + (i 1).val, by have h : (i 1).val < 15 := (i 1).isLt; omega⟩)
      ⟨1536 + (i 2).val, by have h : (i 2).val < 512 := (i 2).isLt; omega⟩ := by
  have h1 : (i 1).val < 15 := (i 1).isLt
  have h2 : (i 2).val < 512 := (i 2).isLt
  rw [val_main_v26_apply]
  unfold val_main_v22
  refine (concatenate_pair_apply_right (t := S8x2063x512) (s₁ := S8x15x512) (s₂ := S8x2048x512) 1 (val_main_v20 (F := Ideal)) (val_main_v21 (F := Ideal) x0 x1 x2)
      concatenates_S8x15x512_S8x2048x512_S8x2063x512_d1 _ rfl rfl (ix3 (i 0) (⟨2033 + (i 1).val, by omega⟩ : Fin 2048) (i 2)) (fun b hb => ?_) ?_).trans ?_
  · match b with
    | ⟨0, _⟩ => rfl
    | ⟨1, _⟩ => exact absurd rfl hb
    | ⟨2, _⟩ =>
      exact rfl
  · show 2033 + (i 1).val + 15 = 2048 + (i 1).val
    omega
  · rw [val_main_v21_apply]
    exact by_sequence x0 x1 x2 _ _ _ _ rfl rfl rfl

end Cert.Reference4Ideal.Rows

end
-- ==== Proof.ProjArrays.lean ====
/- The result arrays of the attention input projection, read off its write-backs, and the reference's results at the same
   values. -/
module

public import proofs.«01_k».proof.Proof.ProjOut
public import proofs.«01_k».proof.Proof.ProjRef

@[expose] public section

set_option maxRecDepth 16384

noncomputable section

namespace Cert.Kernel4Ideal.Proj

open Cert.Kernel4Ideal Cert.Kernel4Ideal.Gen Cert.Ffn
open Cert.Kernel2Ideal.Ffn (whole rowVec)
open Cert.Reference4Ideal.Rows (proj rowAt)
open Idealize.ShloMosaic Idealize.ShloMosaic.TcCoe Idealize.ShloMosaic.Tactic ValueIdx
open Idealize.ShloMosaic.Pipeline Idealize.SL.Sem

variable (m : (ℓ : Loc nD τ sig) → Buf (Elt Ideal) ℓ) (ρ : Dev nD → PrngReg)

/-! ## The blocks -/

theorem V_main_v0 (c : Dev nD) : V m c main_v0 = m ((c : Thread nD τ).loc main_arg2) := by
  unfold V hostOps0
  after_results
  rfl

theorem V_main_v2 (c : Dev nD) : V m c main_v2 = shapeCast S1x1024 (m ((c : Thread nD τ).loc main_arg1)) shapeCasts_S1024_S1x1024 := by
  unfold V hostOps0
  after_results
  rfl

theorem coord (t : Fin cfg0.N) : (BitVec.ofNat 32 ((cfg0.grid.coords t) 0).val).toNat = t.val :=
  (by decide +kernel : ∀ t : Fin cfg0.N, (BitVec.ofNat 32 ((cfg0.grid.coords t) 0).val).toNat = t.val) t

/-- A query block's sequence and tile. -/
theorem tile5 : ∀ t : Fin cfg0.N, cc0_transform_5 (cfg0.grid.coords t) 0 = t.val / 4 ∧ cc0_transform_5 (cfg0.grid.coords t) 2 = t.val % 4 := by
  decide +kernel
/-- A key and value block's. -/
theorem tile6 : ∀ t : Fin cfg0.N, cc0_transform_6 (cfg0.grid.coords t) 0 = t.val / 4 ∧ cc0_transform_6 (cfg0.grid.coords t) 4 = t.val % 4 := by
  decide +kernel
/-- A pool block's sequence. -/
theorem tile10 : ∀ t : Fin cfg0.N, cc0_transform_10 (cfg0.grid.coords t) 0 = t.val / 4 := by decide +kernel

/-- The row of the arrays a block row is. -/
def rowOf (t : Fin cfg0.N) (r : Fin 512) : Fin 16384 := ⟨512 * t.val + r.val, by have h : t.val < 32 := t.isLt; omega⟩

theorem rowStart (t : Fin cfg0.N) (n : ℕ) : (BitVec.ofNat 32 ((cfg0.grid.coords t) 0).val).toNat * 512 + 1 * n = 512 * t.val + n := by
  rw [coord]; omega

/-- The projection of the call's arguments. -/
def pj (c : Dev nD) : Fin 16384 → Fin 2048 → EReal :=
  proj (m ((c : Thread nD τ).loc main_arg0)) (m ((c : Thread nD τ).loc main_arg1)) (m ((c : Thread nD τ).loc main_arg2))

theorem blk0 (c : Dev nD) (t : Fin cfg0.N) (r : Fin 512) (j : Fin 1024) :
    (iblk m c 0 t : Vec Ideal S512x1024 .f32) (ix2 r j) = m ((c : Thread nD τ).loc main_arg0) (ix2 (rowOf t r) j) := by
  unfold iblk
  rw [View.read_apply]
  show V m c main_arg0 _ = _
  rw [V_main_arg0]
  exact at2 _ _ (rowOf t r) j (rowStart t _) (whole _ _)

theorem blk1 (c : Dev nD) (t : Fin cfg0.N) (j : Fin 1024) :
    (iblk m c 1 t : Vec Ideal S1x1024 .f32) (ix2 0 j) = m ((c : Thread nD τ).loc main_arg1) (ix1 j) := by
  unfold iblk
  rw [View.read_apply]
  show V m c main_v2 _ = _
  rw [V_main_v2]
  exact rowVec _ _ _ j (whole _ _)

theorem blk2 (c : Dev nD) (t : Fin cfg0.N) (k : Fin 1024) (j : Fin 2048) :
    (iblk m c 2 t : Vec Ideal S1024x2048 .bf16) (ix2 k j) = m ((c : Thread nD τ).loc main_arg2) (ix2 k j) := by
  unfold iblk
  rw [View.read_apply]
  show V m c main_v0 _ = _
  rw [V_main_v0]
  exact at2 _ _ k j (whole _ _) (whole _ _)

/-- A block's projection is the rows' of the arrays. -/
theorem pb_blocks (c : Dev nD) (t : Fin cfg0.N) (r : Fin 512) (j : Fin 2048) :
    pb (iblk m c 0 t) (iblk m c 1 t) (iblk m c 2 t) r j = pj m c (rowOf t r) j := by
  unfold pb pj proj
  refine Finset.sum_congr rfl fun k _ => congrArg₂ (fun p q : EReal => p * q) ?_ (blk2 m c t k j)
  exact congrArg₂ (fun f g => rms f g k) (funext fun l => blk0 m c t r l) (funext fun l => blk1 m c t l)

/-! ## What a point leaves -/

theorem after_5 (c : Dev nD) (t : Fin cfg0.N) :
    (dats m 0 c).after 5 t = k0_pay11 (k0_pay4 (iblk m c 0 t) (iblk m c 1 t) (wq (iblk m c 2 t))) := by
  rw [after0_5]
  by_cases h0 : t.val % 4 = 0
  · rw [outsAt0_A m c t h0 (not_not_intro h0)]
    dsimp only
    exact out_A_5 ..
  · rw [outsAt0_B m c t h0 h0]
    dsimp only
    exact out_B_5 ..

theorem after_6 (c : Dev nD) (t : Fin cfg0.N) : (dats m 0 c).after 6 t = kv (iblk m c 0 t) (iblk m c 1 t) (iblk m c 2 t) := by
  rw [after0_6]
  by_cases h0 : t.val % 4 = 0
  · rw [outsAt0_A m c t h0 (not_not_intro h0)]
    dsimp only
    exact out_A_6 ..
  · rw [outsAt0_B m c t h0 h0]
    dsimp only
    exact out_B_6 ..

theorem after_10 (c : Dev nD) (t : Fin cfg0.N) (h : t.val % 4 = 3) (r : Fin 15) (j : Fin 512) :
    ((dats m 0 c).after 10 t : Vec Ideal S1x15x512 .f32) (ix3 0 r j) = pj m c (rowOf t ⟨497 + r.val, by omega⟩) ⟨1536 + j.val, by omega⟩ := by
  have h0 : ¬t.val % 4 = 0 := by omega
  rw [after0_10, outsAt0_B m c t h0 h0]
  dsimp only
  refine (out_B_10 ..).trans ?_
  exact (u_apply ..).trans (pb_blocks m c t _ _)

/-! ## The queries -/

/-- The query array. -/
def qs (c : Dev nD) : Buf (Elt Ideal) ((c : Thread nD τ).loc main_v4_0) :=
  fun i : S8x512x2048.Idx => pj m c (rowAt (i 0) (i 2)) ⟨(i 1).val, by have h : (i 1).val < 512 := (i 1).isLt; omega⟩ * Ideal.ofBits .f32 0x3E000000#32

/-- Contents that agree with an array on a point's block are the block read off it. -/
theorem cut5 (t : Fin cfg0.N) (b : Vec Ideal S1x512x512 .bf16) (f : S8x512x2048.Idx → EReal)
    (hb : ∀ e : S1x512x512.Idx, b e = f (((cfg0.win 5).blk t).view.emb e)) :
    (cfg0.win 5).cut (cfg0.grid.coords t) b = ((cfg0.win 5).blk t).view.read (Elt Ideal) f :=
  funext hb

theorem qs_at (c : Dev nD) (t : Fin cfg0.N) (e : S1x512x512.Idx) (i : S8x512x2048.Idx)
    (h0 : (i 0).val = t.val / 4) (h1 : (i 1).val = (e 1).val) (h2 : (i 2).val = 512 * (t.val % 4) + (e 2).val) :
    k0_pay11 (k0_pay4 (iblk m c 0 t) (iblk m c 1 t) (wq (iblk m c 2 t))) e = qs m c i := by
  have hz : (e 0).val < 1 := (e 0).isLt
  have he : e = ix3 0 (e 1) (e 2) := funext fun a => match a with
    | ⟨0, _⟩ => Fin.ext (Nat.lt_one_iff.1 hz)
    | ⟨1, _⟩ => rfl
    | ⟨2, _⟩ => rfl
  refine (congrArg (k0_pay11 (k0_pay4 (iblk m c 0 t) (iblk m c 1 t) (wq (iblk m c 2 t)))) he).trans ((q_apply ..).trans ?_)
  unfold qs
  refine congrArg (fun v : EReal => v * Ideal.ofBits .f32 0x3E000000#32) ((pb_blocks m c t _ _).trans (congrArg₂ (pj m c) (Fin.ext ?_) (Fin.ext h1.symm)))
  show 512 * t.val + (e 2).val = (i 0).val * 2048 + (i 2).val
  omega

theorem flushed5 (c : Dev nD) (t : Fin cfg0.N) (_ : (cfg0.win 5).flush t = true) :
    (dats m 0 c).flushed 5 t = ((cfg0.win 5).blk t).view.read (Elt Ideal) (qs m c) := by
  show (cfg0.win 5).cut (cfg0.grid.coords t) ((dats m 0 c).after 5 t) = _
  rw [after_5]
  refine cut5 t _ _ fun e => qs_at m c t e _ ?_ (whole _ _) ?_
  · have hz : (e 0).val < 1 := (e 0).isLt
    have h := (tile5 t).1
    show cc0_transform_5 (cfg0.grid.coords t) 0 * 1 + 1 * (e 0).val = t.val / 4
    omega
  · have h := (tile5 t).2
    show cc0_transform_5 (cfg0.grid.coords t) 2 * 512 + 1 * (e 2).val = 512 * (t.val % 4) + (e 2).val
    omega

/-- The point of a sequence's position. -/
def pt (b : Fin 8) (s : Fin 2048) : Fin cfg0.N := ⟨4 * b.val + s.val / 512, by show 4 * b.val + s.val / 512 < 32; omega⟩

theorem final5 (c : Dev nD) : (dats m 0 c).arrAt 5 cfg0.N = qs m c :=
  (dats m 0 c).arrAt_eq_of_cover 5 (qs m c) (flushed5 m c) fun (i : S8x512x2048.Idx) =>
    ⟨pt (i 0) (i 2), flush0_5 _, by
      refine (View.set_slice_whole main_v4_0 ((cfg0.win 5).rect (pt (i 0) (i 2)))).symm ▸ ?_
      refine (Rect.mem_set_unit ..).2 ?_
      have hs0 : cc0_transform_5 (cfg0.grid.coords (pt (i 0) (i 2))) 0 = (4 * (i 0).val + (i 2).val / 512) / 4 := (tile5 _).1
      have hs2 : cc0_transform_5 (cfg0.grid.coords (pt (i 0) (i 2))) 2 = (4 * (i 0).val + (i 2).val / 512) % 4 := (tile5 _).2
      have h1 : (i 1).val < 512 := (i 1).isLt
      have h2 : (i 2).val < 2048 := (i 2).isLt
      intro a
      match a with
      | ⟨0, _⟩ =>
        show cc0_transform_5 (cfg0.grid.coords (pt (i 0) (i 2))) 0 * 1 ≤ (i 0).val
          ∧ (i 0).val < cc0_transform_5 (cfg0.grid.coords (pt (i 0) (i 2))) 0 * 1 + 1
        omega
      | ⟨1, _⟩ => show 0 * 512 ≤ (i 1).val ∧ (i 1).val < 0 * 512 + 512; omega
      | ⟨2, _⟩ =>
        show cc0_transform_5 (cfg0.grid.coords (pt (i 0) (i 2))) 2 * 512 ≤ (i 2).val
          ∧ (i 2).val < cc0_transform_5 (cfg0.grid.coords (pt (i 0) (i 2))) 2 * 512 + 512
        omega⟩

/-! ## The keys and values -/

/-- The key and value array. -/
def kvs (c : Dev nD) : Buf (Elt Ideal) ((c : Thread nD τ).loc main_v4_1) :=
  fun i : S8x2x8x64x2048.Idx => pj m c (rowAt (i 0) (i 4)) (Cert.Reference4Ideal.Rows.kvCol (i 1) (i 2) (i 3))

theorem cut6 (t : Fin cfg0.N) (b : Vec Ideal S1x2x8x64x512 .f32) (f : S8x2x8x64x2048.Idx → EReal)
    (hb : ∀ e : S1x2x8x64x512.Idx, b e = f (((cfg0.win 6).blk t).view.emb e)) :
    (cfg0.win 6).cut (cfg0.grid.coords t) b = ((cfg0.win 6).blk t).view.read (Elt Ideal) f :=
  funext hb

theorem kvs_at (c : Dev nD) (t : Fin cfg0.N) (e : S1x2x8x64x512.Idx) (i : S8x2x8x64x2048.Idx)
    (h0 : (i 0).val = t.val / 4) (h1 : (i 1).val = (e 1).val) (h2 : (i 2).val = (e 2).val) (h3 : (i 3).val = (e 3).val)
    (h4 : (i 4).val = 512 * (t.val % 4) + (e 4).val) : kv (iblk m c 0 t) (iblk m c 1 t) (iblk m c 2 t) e = kvs m c i := by
  refine (kv_apply ..).trans ((pb_blocks m c t _ _).trans ?_)
  unfold kvs
  refine congrArg₂ (pj m c) (Fin.ext ?_) (Fin.ext ?_)
  · show 512 * t.val + (e 4).val = (i 0).val * 2048 + (i 4).val
    omega
  · show 512 + 512 * (e 1).val + 64 * (e 2).val + (e 3).val = 512 + 512 * (i 1).val + 64 * (i 2).val + (i 3).val
    omega

theorem flushed6 (c : Dev nD) (t : Fin cfg0.N) (_ : (cfg0.win 6).flush t = true) :
    (dats m 0 c).flushed 6 t = ((cfg0.win 6).blk t).view.read (Elt Ideal) (kvs m c) := by
  show (cfg0.win 6).cut (cfg0.grid.coords t) ((dats m 0 c).after 6 t) = _
  rw [after_6]
  refine cut6 t _ _ fun e => kvs_at m c t e _ ?_ (whole _ _) (whole _ _) (whole _ _) ?_
  · have hz : (e 0).val < 1 := (e 0).isLt
    have h := (tile6 t).1
    show cc0_transform_6 (cfg0.grid.coords t) 0 * 1 + 1 * (e 0).val = t.val / 4
    omega
  · have h := (tile6 t).2
    show cc0_transform_6 (cfg0.grid.coords t) 4 * 512 + 1 * (e 4).val = 512 * (t.val % 4) + (e 4).val
    omega

theorem final6 (c : Dev nD) : (dats m 0 c).arrAt 6 cfg0.N = kvs m c :=
  (dats m 0 c).arrAt_eq_of_cover 6 (kvs m c) (flushed6 m c) fun (i : S8x2x8x64x2048.Idx) =>
    ⟨pt (i 0) (i 4), flush0_6 _, by
      refine (View.set_slice_whole main_v4_1 ((cfg0.win 6).rect (pt (i 0) (i 4)))).symm ▸ ?_
      refine (Rect.mem_set_unit ..).2 ?_
      have hs0 : cc0_transform_6 (cfg0.grid.coords (pt (i 0) (i 4))) 0 = (4 * (i 0).val + (i 4).val / 512) / 4 := (tile6 _).1
      have hs4 : cc0_transform_6 (cfg0.grid.coords (pt (i 0) (i 4))) 4 = (4 * (i 0).val + (i 4).val / 512) % 4 := (tile6 _).2
      have h1 : (i 1).val < 2 := (i 1).isLt
      have h2 : (i 2).val < 8 := (i 2).isLt
      have h3 : (i 3).val < 64 := (i 3).isLt
      have h4 : (i 4).val < 2048 := (i 4).isLt
      intro a
      match a with
      | ⟨0, _⟩ =>
        show cc0_transform_6 (cfg0.grid.coords (pt (i 0) (i 4))) 0 * 1 ≤ (i 0).val
          ∧ (i 0).val < cc0_transform_6 (cfg0.grid.coords (pt (i 0) (i 4))) 0 * 1 + 1
        omega
      | ⟨1, _⟩ => show 0 * 2 ≤ (i 1).val ∧ (i 1).val < 0 * 2 + 2; omega
      | ⟨2, _⟩ => show 0 * 8 ≤ (i 2).val ∧ (i 2).val < 0 * 8 + 8; omega
      | ⟨3, _⟩ => show 0 * 64 ≤ (i 3).val ∧ (i 3).val < 0 * 64 + 64; omega
      | ⟨4, _⟩ =>
        show cc0_transform_6 (cfg0.grid.coords (pt (i 0) (i 4))) 4 * 512 ≤ (i 4).val
          ∧ (i 4).val < cc0_transform_6 (cfg0.grid.coords (pt (i 0) (i 4))) 4 * 512 + 512
        omega⟩

/-! ## The pool -/

/-- The last rows of the pooled stream of each sequence. -/
def pools (c : Dev nD) : Buf (Elt Ideal) ((c : Thread nD τ).loc main_v4_5) :=
  fun i : S8x15x512.Idx => pj m c (rowAt (i 0) ⟨2033 + (i 1).val, by have h : (i 1).val < 15 := (i 1).isLt; omega⟩)
    ⟨1536 + (i 2).val, by have h : (i 2).val < 512 := (i 2).isLt; omega⟩

theorem cut10 (t : Fin cfg0.N) (b : Vec Ideal S1x15x512 .f32) (f : S8x15x512.Idx → EReal)
    (hb : ∀ e : S1x15x512.Idx, b e = f (((cfg0.win 10).blk t).view.emb e)) :
    (cfg0.win 10).cut (cfg0.grid.coords t) b = ((cfg0.win 10).blk t).view.read (Elt Ideal) f :=
  funext hb

theorem pools_at (c : Dev nD) (t : Fin cfg0.N) (h : t.val % 4 = 3) (e : S1x15x512.Idx) (i : S8x15x512.Idx)
    (h0 : (i 0).val = t.val / 4) (h1 : (i 1).val = (e 1).val) (h2 : (i 2).val = (e 2).val) :
    ((dats m 0 c).after 10 t : Vec Ideal S1x15x512 .f32) e = pools m c i := by
  have hz : (e 0).val < 1 := (e 0).isLt
  have he : e = ix3 0 (e 1) (e 2) := funext fun a => match a with
    | ⟨0, _⟩ => Fin.ext (Nat.lt_one_iff.1 hz)
    | ⟨1, _⟩ => rfl
    | ⟨2, _⟩ => rfl
  refine (congrArg ((dats m 0 c).after 10 t : Vec Ideal S1x15x512 .f32) he).trans ((after_10 m c t h (e 1) (e 2)).trans ?_)
  unfold pools
  refine congrArg₂ (pj m c) (Fin.ext ?_) (Fin.ext ?_)
  · show 512 * t.val + (497 + (e 1).val) = (i 0).val * 2048 + (2033 + (i 1).val)
    omega
  · show 1536 + (e 2).val = 1536 + (i 2).val
    omega

theorem flushed10 (c : Dev nD) (t : Fin cfg0.N) (hf : (cfg0.win 10).flush t = true) :
    (dats m 0 c).flushed 10 t = ((cfg0.win 10).blk t).view.read (Elt Ideal) (pools m c) := by
  show (cfg0.win 10).cut (cfg0.grid.coords t) ((dats m 0 c).after 10 t) = _
  refine cut10 t _ _ fun e => pools_at m c t ((flush0_10 t).1 hf) e _ ?_ (whole _ _) (whole _ _)
  have hz : (e 0).val < 1 := (e 0).isLt
  have h := tile10 t
  show cc0_transform_10 (cfg0.grid.coords t) 0 * 1 + 1 * (e 0).val = t.val / 4
  omega

/-- The last point of a sequence. -/
def ptLast (b : Fin 8) : Fin cfg0.N := ⟨4 * b.val + 3, by show 4 * b.val + 3 < 32; omega⟩

theorem final10 (c : Dev nD) : (dats m 0 c).arrAt 10 cfg0.N = pools m c :=
  (dats m 0 c).arrAt_eq_of_cover 10 (pools m c) (flushed10 m c) fun (i : S8x15x512.Idx) =>
    ⟨ptLast (i 0), (flush0_10 _).2 (by show (4 * (i 0).val + 3) % 4 = 3; omega), by
      refine (View.set_slice_whole main_v4_5 ((cfg0.win 10).rect (ptLast (i 0)))).symm ▸ ?_
      refine (Rect.mem_set_unit ..).2 ?_
      have hs : cc0_transform_10 (cfg0.grid.coords (ptLast (i 0))) 0 = (4 * (i 0).val + 3) / 4 := tile10 _
      have h1 : (i 1).val < 15 := (i 1).isLt
      have h2 : (i 2).val < 512 := (i 2).isLt
      intro a
      match a with
      | ⟨0, _⟩ =>
        show cc0_transform_10 (cfg0.grid.coords (ptLast (i 0))) 0 * 1 ≤ (i 0).val
          ∧ (i 0).val < cc0_transform_10 (cfg0.grid.coords (ptLast (i 0))) 0 * 1 + 1
        omega
      | ⟨1, _⟩ => show 0 * 15 ≤ (i 1).val ∧ (i 1).val < 0 * 15 + 15; omega
      | ⟨2, _⟩ => show 0 * 512 ≤ (i 2).val ∧ (i 2).val < 0 * 512 + 512; omega⟩

/-- The run, read: the three results. -/
theorem run_results : θ_run defs (onTc (τ := τ) (main (F := Ideal))) ⟨m, fun _ => 0, ρ⟩ fun r => ∀ c : Dev nD,
      r.2.mem ((c.tc : Thread nD τ).loc main_v4_0) = qs m c ∧ r.2.mem ((c.tc : Thread nD τ).loc main_v4_1) = kvs m c
        ∧ r.2.mem ((c.tc : Thread nD τ).loc main_v4_5) = pools m c :=
  (θ_run defs _ _).mono (fun _ h c => ⟨((h c).1 5).trans (final5 m c), ((h c).1 6).trans (final6 m c), ((h c).1 10).trans (final10 m c)⟩)
    (run_main m ρ)

/-! ## The reference -/

open Cert.Reference4Ideal.Read in
/-- The reference's queries are the same array. -/
theorem ref_qs (c : Dev nD) : val_main_v24 (F := Ideal) (m (c.tc.loc main_arg0)) (m (c.tc.loc main_arg1)) (m (c.tc.loc main_arg2)) = qs m c :=
  funext fun i => Cert.Reference4Ideal.Rows.queries _ _ _ i

open Cert.Reference4Ideal.Read in
/-- Its keys and values are the same array. -/
theorem ref_kvs (c : Dev nD) : val_main_v25 (F := Ideal) (m (c.tc.loc main_arg0)) (m (c.tc.loc main_arg1)) (m (c.tc.loc main_arg2)) = kvs m c :=
  funext fun i => Cert.Reference4Ideal.Rows.keys_values _ _ _ i

open Cert.Reference4Ideal.Read in
/-- Its pool is the same array. -/
theorem ref_pools (c : Dev nD) : val_main_v26 (F := Ideal) (m (c.tc.loc main_arg0)) (m (c.tc.loc main_arg1)) (m (c.tc.loc main_arg2)) = pools m c :=
  funext fun i => Cert.Reference4Ideal.Rows.pooled _ _ _ i

end Cert.Kernel4Ideal.Proj

end
-- ==== Proof.SampleOut.lean ====
/- What the attention input projection's body leaves in three of its output blocks for the sample, entry by entry. -/
module

public import proofs.«01_k».proof.Proof.Gen.Kernel5Ideal.Frame
public import proofs.«01_k».proof.Proof.FfnBlocks

@[expose] public section

set_option maxRecDepth 16384

noncomputable section

namespace Cert.Kernel5Ideal.Sample

open Idealize.ShloMosaic Idealize.ShloMosaic.TcCoe Cert.Kernel5Ideal Cert.Kernel5Ideal.Gen
open ValueIdx Cert.Ffn

variable (x0 : Vec Ideal S128x1024 .f32) (x1 : Vec Ideal S1x1024 .f32) (x2 : Vec Ideal S1024x2048 .bf16)

theorem hz2 : (![0, 0] : Fin 2 → Nat) = fun _ => 0 := funext fun a => by fin_cases a <;> rfl

/-- The normalized rows times a column of the weights. -/
def pb (r : Fin 128) (j : Fin 2048) : EReal :=
  ∑ k : Fin 1024, rms (fun l => x0 (ix2 r l)) (fun l => x1 (ix2 0 l)) k * (show EReal from x2 (ix2 k j))

/-- A column of a one-column array, along the columns. -/
theorem column (v : S128x1.Idx → EReal) (r : Fin 128) (j : Fin 1024) :
    broadcastTo S128x1024 v broadcasts_S128x1_S128x1024 (ix2 r j) = v (ix2 r 0) := by
  refine broadcastTo_apply v _ (ix2 r j) (ix2 r (0 : Fin 1)) fun a => ?_
  match a with
  | ⟨0, _⟩ => rfl
  | ⟨1, _⟩ => rfl

/-- The normalized rows. -/
theorem hid_apply (r : Fin 128) (j : Fin 1024) :
    k0_pay2 x0 x1 (ix2 r j) = rms (fun l => x0 (ix2 r l)) (fun l => x1 (ix2 0 l)) j := by
  have e : shapeCast S128x1 (multiReduction (F := Ideal) (φ := .f32) .add [1] S128 (mulf x0 x0) 0x00000000#32 reduces_S128x1024_S128 (.inl rfl) rfl) shapeCasts_S128_S128x1
      (ix2 r (0 : Fin 1)) = ∑ k : Fin 1024, (show EReal from x0 (ix2 r k)) * (show EReal from x0 (ix2 r k)) := by
    refine (Idealize.ShloMosaic.shapeCast_apply _ _ (ix2 r (0 : Fin 1)) (ix1 r) ?_).trans ?_
    · rw [Shape.rowMajor_val_one, Shape.rowMajor_val_two]
      show r.val = r.val * 1 + 0
      omega
    · refine (Ideal.multiReduction_add_single (mulf x0 x0) _ reduces_S128x1024_S128 _ _ (ix1 r)).trans (Finset.sum_congr rfl fun k _ => ?_)
      exact congrArg (fun v : EReal => v * v) (at2 x0 _ r k rfl rfl)
  have w : broadcastTo S128x1024 (shapeCast S1x1024 x1 shapeCasts_S1x1024_S1x1024) broadcasts_S1x1024_S128x1024 (ix2 r j) = x1 (ix2 0 j) :=
    (broadcastTo_1b_ab_apply ..).trans (Idealize.ShloMosaic.shapeCast_apply _ _ (ix2 0 j) (ix2 0 j) rfl)
  unfold k0_pay2 rms
  refine congrArg₂ (fun p q : EReal => (show EReal from x0 (ix2 r j)) * p * q) ((column _ r j).trans ?_) w
  show Ideal.rsqrt (Ideal.div _ _ + _) = _
  rw [e]
  rfl

/-- A product of the normalized rows with 512 columns of the weights. -/
theorem dot512 (o : ℕ) (h) (ho : o + 512 ≤ 2048) (r : Fin 128) (j : Fin 512) :
    matmul (F := Ideal) (φ₁ := .bf16) (φ₂ := .bf16) dot_S128x1024_S1024x512_S128x512_1_0_0_1_n_n none (k0_pay2 x0 x1)
      (shapeCast S1024x512 (View.ld x2 (Rect.unit (s := S1024x2048) ![0, o] S1024x512.size h)) shapeCasts_S1024x512_S1024x512)
      (constant S128x512 .f32 0x00000000#32) (ix2 r j) = pb x0 x1 x2 r ⟨o + j.val, by omega⟩ := by
  refine (Ideal.matmul_plain_apply (M := 128) (K := 1024) (N := 512) none _ _ _ r j).trans ?_
  show Ideal.ofBits .f32 0x00000000#32 + _ = _
  rw [Ideal.ofBits_zero_f32, zero_add]
  refine Finset.sum_congr rfl fun k _ => congrArg₂ (fun p q : EReal => p * q) (hid_apply x0 x1 r k)
    ((Idealize.ShloMosaic.shapeCast_apply _ _ (ix2 k j) (ix2 k j) rfl).trans (at2 x2 _ _ _ ?_ ?_))
  · show 0 + 1 * k.val = k.val
    omega
  · show o + 1 * j.val = o + j.val
    omega

/-- A product of the normalized rows with 1024 columns of the weights. -/
theorem dot1024 (o : ℕ) (h) (ho : o + 1024 ≤ 2048) (r : Fin 128) (j : Fin 1024) :
    matmul (F := Ideal) (φ₁ := .bf16) (φ₂ := .bf16) dot_S128x1024_S1024x1024_S128x1024_1_0_0_1_n_n none (k0_pay2 x0 x1)
      (shapeCast S1024x1024 (View.ld x2 (Rect.unit (s := S1024x2048) ![0, o] S1024x1024.size h)) shapeCasts_S1024x1024_S1024x1024)
      (constant S128x1024 .f32 0x00000000#32) (ix2 r j) = pb x0 x1 x2 r ⟨o + j.val, by omega⟩ := by
  refine (Ideal.matmul_plain_apply (M := 128) (K := 1024) (N := 1024) none _ _ _ r j).trans ?_
  show Ideal.ofBits .f32 0x00000000#32 + _ = _
  rw [Ideal.ofBits_zero_f32, zero_add]
  refine Finset.sum_congr rfl fun k _ => congrArg₂ (fun p q : EReal => p * q) (hid_apply x0 x1 r k)
    ((Idealize.ShloMosaic.shapeCast_apply _ _ (ix2 k j) (ix2 k j) rfl).trans (at2 x2 _ _ _ ?_ ?_))
  · show 0 + 1 * k.val = k.val
    omega
  · show o + 1 * j.val = o + j.val
    omega

variable (x3 : Vec Ideal S4x128x128 .bf16) (x4 : Vec Ideal S1x512 .f32) (x5 : Vec Ideal S128x7680 .f32)

/-- **The queries**: the first 512 columns, scaled. -/
theorem q_apply (r : Fin 128) (j : Fin 512) : out0_6 x0 x1 x2 x3 x4 x5 (ix2 r j) = pb x0 x1 x2 r ⟨j.val, by omega⟩ * Ideal.ofBits .f32 0x3E000000#32 := by
  unfold out0_6
  rw [View.canon_unit_zero hz2, View.ld_unit_zero (S := S128x1024) hz2, View.ld_unit_zero (S := S1x1024) hz2]
  exact congrArg (fun v : EReal => v * Ideal.ofBits .f32 0x3E000000#32)
    ((dot512 x0 x1 x2 0 _ (by decide) r j).trans (congrArg (pb x0 x1 x2 r) (Fin.ext (Nat.zero_add _))))

/-- **The keys and values**: the next 1024. -/
theorem kv_apply (r : Fin 128) (j : Fin 1024) : out0_7 x0 x1 x2 x3 x4 x5 (ix2 r j) = pb x0 x1 x2 r ⟨512 + j.val, by omega⟩ := by
  unfold out0_7
  rw [View.canon_unit_zero hz2, View.ld_unit_zero (S := S128x1024) hz2, View.ld_unit_zero (S := S1x1024) hz2]
  exact dot1024 x0 x1 x2 512 _ (by decide) r j

/-- **The pooled stream**: the last 512. -/
theorem u_apply (r : Fin 128) (j : Fin 512) : out0_8 x0 x1 x2 x3 x4 x5 (ix2 r j) = pb x0 x1 x2 r ⟨1536 + j.val, by omega⟩ := by
  unfold out0_8
  rw [View.canon_unit_zero hz2, View.ld_unit_zero (S := S128x1024) hz2, View.ld_unit_zero (S := S1x1024) hz2]
  exact dot512 x0 x1 x2 1536 _ (by decide) r j

end Cert.Kernel5Ideal.Sample

end
-- ==== Proof.SampleRef.lean ====
/- The attention input projection of the sample over the extended reals, entry by entry, and its reference. -/
module

public import proofs.«01_k».proof.Proof.FfnRef
public import proofs.«01_k».proof.Proof.Gen.Reference5Ideal.Read

@[expose] public section

set_option maxRecDepth 16384

noncomputable section

namespace Cert.Reference5Ideal.Rows

open Cert.Reference5Ideal Cert.Reference5Ideal.Gen Cert.Reference5Ideal.Read Cert.Ffn
open Idealize.ShloMosaic Idealize.ShloMosaic.TcCoe ValueIdx

variable (x0 : (⟨S128x1024, .f32⟩ : BufTy).Contents (Elt Ideal)) (x1 : (⟨S1024, .f32⟩ : BufTy).Contents (Elt Ideal))
  (x2 : (⟨S1024x2048, .f32⟩ : BufTy).Contents (Elt Ideal)) (x5 : (⟨S128x15x512, .f32⟩ : BufTy).Contents (Elt Ideal))

/-- The projection: the normalized rows times the weights. -/
def proj (r : Fin 128) (j : Fin 2048) : EReal :=
  ∑ k : Fin 1024, rms (fun l => x0 (ix2 r l)) (fun l => x1 (ix1 l)) k * (show EReal from x2 (ix2 k j))

/-- The pool after the step: the state's last fourteen rows, then the new one. -/
def nextPool (i : S128x15x512.Idx) : EReal :=
  if h : (i 1).val < 14 then x5 (ix3 (i 0) ⟨(i 1).val + 1, by omega⟩ (i 2))
  else proj x0 x1 x2 (i 0) ⟨1536 + (i 2).val, by have h : (i 2).val < 512 := (i 2).isLt; omega⟩

/-- The reference's normalized rows. -/
theorem normed (r : Fin 128) (j : Fin 1024) : val_main_v12 x0 x1 (ix2 r j) = rms (fun l => x0 (ix2 r l)) (fun l => x1 (ix1 l)) j := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  unfold rms
  show x0 (ix2 r j) * Ideal.rsqrt (Ideal.div (Ideal.ofBits .f32 0x00000000#32 + _) _ + _) * _ = _
  rw [Ideal.ofBits_zero_f32, zero_add]
  refine congrArg₂ (fun p q : EReal => x0 (ix2 r j) * Ideal.rsqrt (Ideal.div p (Ideal.ofBits .f32 0x44800000#32) + Ideal.ofBits .f32 0x358637BD#32) * q)
    (Finset.sum_congr rfl fun k _ => ?_) (at1 x1 _ _ rfl)
  rw [val_main_v0_apply]
  exact congrArg (fun v : EReal => v * v) (at2 x0 _ r k rfl rfl)

/-- The reference's projection. -/
theorem projected (r : Fin 128) (j : Fin 2048) : val_main_v13 x0 x1 x2 (ix2 r j) = proj x0 x1 x2 r j := by
  rw [val_main_v13_apply]
  exact Finset.sum_congr rfl fun k _ => congrArg₂ (fun p q : EReal => p * q) ((at2 _ _ r k rfl rfl).trans (normed x0 x1 r k)) (at2 x2 _ _ _ rfl rfl)

/-- The same at an index with given coordinates. -/
theorem entry (i : S128x2048.Idx) (r : Fin 128) (j : Fin 2048) (h0 : (i 0).val = r.val) (h1 : (i 1).val = j.val) :
    val_main_v13 x0 x1 x2 i = proj x0 x1 x2 r j := (at2 _ i r j h0 h1).trans (projected x0 x1 x2 r j)

/-- **The reference's queries**, at an entry. -/
theorem queries (i : S128x512.Idx) : val_main_v19 x0 x1 x2 i
    = proj x0 x1 x2 (i 0) ⟨(i 1).val, by have h : (i 1).val < 512 := (i 1).isLt; omega⟩ * Ideal.ofBits .f32 0x3E000000#32 := by
  rw [val_main_v19_apply, val_main_v17_apply, val_main_v18_apply]
  exact congrArg (fun v : EReal => v * Ideal.ofBits .f32 0x3E000000#32) (entry x0 x1 x2 _ (i 0) _ rfl rfl)

/-- **The reference's keys and values**, at an entry. -/
theorem keys_values (i : S128x1024.Idx) : val_main_v20 x0 x1 x2 i
    = proj x0 x1 x2 (i 0) ⟨512 + (i 1).val, by have h : (i 1).val < 1024 := (i 1).isLt; omega⟩ := by
  rw [val_main_v20_apply]
  exact entry x0 x1 x2 _ (i 0) _ rfl rfl

/-- **The reference's pool**, at an entry. -/
theorem pooled (i : S128x15x512.Idx) : val_main_v21 x0 x1 x2 x5 i = nextPool x0 x1 x2 x5 i := by
  have h1 : (i 1).val < 15 := (i 1).isLt
  have h2 : (i 2).val < 512 := (i 2).isLt
  rw [val_main_v21_apply]
  unfold val_main_v16 nextPool
  split
  · rename_i h
    refine concatenate_pair_apply_left (t := S128x16x512) (s₁ := S128x15x512) (s₂ := S128x1x512) 1 x5 (val_main_v15 (F := Ideal) x0 x1 x2)
      concatenates_S128x15x512_S128x1x512_S128x16x512_d1 _ rfl (ix3 (i 0) (⟨(i 1).val + 1, by omega⟩ : Fin 15) (i 2)) fun q => ?_
    match q with
    | ⟨0, _⟩ => rfl
    | ⟨1, _⟩ => exact Nat.add_comm _ _
    | ⟨2, _⟩ => rfl
  · rename_i h
    refine (concatenate_pair_apply_right (t := S128x16x512) (s₁ := S128x15x512) (s₂ := S128x1x512) 1 x5 (val_main_v15 (F := Ideal) x0 x1 x2)
      concatenates_S128x15x512_S128x1x512_S128x16x512_d1 _ rfl rfl (ix3 (i 0) (0 : Fin 1) (i 2)) (fun b hb => ?_) ?_).trans ?_
    · match b with
      | ⟨0, _⟩ => rfl
      | ⟨1, _⟩ => exact absurd rfl hb
      | ⟨2, _⟩ => rfl
    · show 0 + 15 = 1 + (i 1).val
      omega
    · rw [val_main_v15_apply, val_main_v14_apply]
      exact entry x0 x1 x2 _ (i 0) _ rfl rfl

end Cert.Reference5Ideal.Rows

end
-- ==== Proof.SampleArrays.lean ====
/- The result arrays of the sample's attention input projection, read off its write-backs and the joining after the call, and
   the reference's results at the same values. -/
module

public import proofs.«01_k».proof.Proof.SampleOut
public import proofs.«01_k».proof.Proof.SampleRef

@[expose] public section

set_option maxRecDepth 16384

noncomputable section

namespace Cert.Kernel5Ideal.Sample

open Cert.Kernel5Ideal Cert.Kernel5Ideal.Gen Cert.Ffn
open Cert.Kernel2Ideal.Ffn (whole rowVec)
open Cert.Reference5Ideal.Rows (proj nextPool)
open Idealize.ShloMosaic Idealize.ShloMosaic.TcCoe Idealize.ShloMosaic.Tactic ValueIdx
open Idealize.ShloMosaic.Pipeline Idealize.SL.Sem

variable (m : (ℓ : Loc nD τ sig) → Buf (Elt Ideal) ℓ) (ρ : Dev nD → PrngReg)

/-! ## The blocks -/

theorem V_main_v0 (c : Dev nD) : V m c main_v0 = m ((c : Thread nD τ).loc main_arg2) := by
  unfold V V0 hostOps0
  after_results
  rfl

theorem V_main_v2 (c : Dev nD) : V m c main_v2 = shapeCast S1x1024 (m ((c : Thread nD τ).loc main_arg1)) shapeCasts_S1024_S1x1024 := by
  unfold V V0 hostOps0
  after_results
  rfl

/-- The projection of the call's arguments. -/
def pj (c : Dev nD) : Fin 128 → Fin 2048 → EReal :=
  proj (m ((c : Thread nD τ).loc main_arg0)) (m ((c : Thread nD τ).loc main_arg1)) (m ((c : Thread nD τ).loc main_arg2))

theorem blk0 (c : Dev nD) (t : Fin cfg0.N) (r : Fin 128) (j : Fin 1024) :
    (iblk m c 0 t : Vec Ideal S128x1024 .f32) (ix2 r j) = m ((c : Thread nD τ).loc main_arg0) (ix2 r j) := by
  unfold iblk
  rw [View.read_apply]
  show V m c main_arg0 _ = _
  rw [V_main_arg0]
  exact at2 _ _ r j (whole _ _) (whole _ _)

theorem blk1 (c : Dev nD) (t : Fin cfg0.N) (j : Fin 1024) :
    (iblk m c 1 t : Vec Ideal S1x1024 .f32) (ix2 0 j) = m ((c : Thread nD τ).loc main_arg1) (ix1 j) := by
  unfold iblk
  rw [View.read_apply]
  show V m c main_v2 _ = _
  rw [V_main_v2]
  exact rowVec _ _ _ j (whole _ _)

theorem blk2 (c : Dev nD) (t : Fin cfg0.N) (k : Fin 1024) (j : Fin 2048) :
    (iblk m c 2 t : Vec Ideal S1024x2048 .bf16) (ix2 k j) = m ((c : Thread nD τ).loc main_arg2) (ix2 k j) := by
  unfold iblk
  rw [View.read_apply]
  show V m c main_v0 _ = _
  rw [V_main_v0]
  exact at2 _ _ k j (whole _ _) (whole _ _)

/-- The blocks' projection is the arrays'. -/
theorem pb_blocks (c : Dev nD) (t : Fin cfg0.N) (r : Fin 128) (j : Fin 2048) :
    pb (iblk m c 0 t) (iblk m c 1 t) (iblk m c 2 t) r j = pj m c r j := by
  unfold pb pj proj
  refine Finset.sum_congr rfl fun k _ => congrArg₂ (fun p q : EReal => p * q) ?_ (blk2 m c t k j)
  exact congrArg₂ (fun f g => rms f g k) (funext fun l => blk0 m c t r l) (funext fun l => blk1 m c t l)

/-- An index by its coordinates. -/
theorem split {n p : ℕ} (e : (⟨2, ![n, p]⟩ : Shape).Idx) : e = ix2 (e 0) (e 1) := funext fun a => match a with
  | ⟨0, _⟩ => rfl
  | ⟨1, _⟩ => rfl

/-! ## The call's arrays -/

/-- The query array. -/
def qs (c : Dev nD) : Buf (Elt Ideal) ((c : Thread nD τ).loc main_v5_0) :=
  fun i : S128x512.Idx => pj m c (i 0) ⟨(i 1).val, by have h : (i 1).val < 512 := (i 1).isLt; omega⟩ * Ideal.ofBits .f32 0x3E000000#32

/-- The key and value array. -/
def kvs (c : Dev nD) : Buf (Elt Ideal) ((c : Thread nD τ).loc main_v5_1) :=
  fun i : S128x1024.Idx => pj m c (i 0) ⟨512 + (i 1).val, by have h : (i 1).val < 1024 := (i 1).isLt; omega⟩

/-- The pooled stream's new rows. -/
def us (c : Dev nD) : Buf (Elt Ideal) ((c : Thread nD τ).loc main_v5_2) :=
  fun i : S128x512.Idx => pj m c (i 0) ⟨1536 + (i 1).val, by have h : (i 1).val < 512 := (i 1).isLt; omega⟩

/-- The call's one point. -/
def point : Fin cfg0.N := ⟨0, by decide⟩

theorem cut6 (t : Fin cfg0.N) (b : Vec Ideal S128x512 .f32) (f : S128x512.Idx → EReal)
    (hb : ∀ e : S128x512.Idx, b e = f (((cfg0.win 6).blk t).view.emb e)) :
    (cfg0.win 6).cut (cfg0.grid.coords t) b = ((cfg0.win 6).blk t).view.read (Elt Ideal) f :=
  funext hb

theorem flushed6 (c : Dev nD) (t : Fin cfg0.N) (_ : (cfg0.win 6).flush t = true) :
    (dats m 0 c).flushed 6 t = ((cfg0.win 6).blk t).view.read (Elt Ideal) (qs m c) := by
  show (cfg0.win 6).cut (cfg0.grid.coords t) ((dats m 0 c).after 6 t) = _
  rw [after0_6]
  refine cut6 t _ _ fun e => (congrArg (out0_6 _ _ _ _ _ _) (split e)).trans ((q_apply ..).trans ?_)
  exact (congrArg (fun v : EReal => v * Ideal.ofBits .f32 0x3E000000#32) (pb_blocks m c t _ _)).trans (at2 (qs m c) _ (e 0) (e 1) (whole _ _) (whole _ _)).symm

theorem final6 (c : Dev nD) : (dats m 0 c).arrAt 6 cfg0.N = qs m c :=
  (dats m 0 c).arrAt_eq_of_cover 6 (qs m c) (flushed6 m c) fun (i : S128x512.Idx) =>
    ⟨point, flush0_6 _, by
      refine (View.set_slice_whole main_v5_0 ((cfg0.win 6).rect point)).symm ▸ ?_
      refine (Rect.mem_set_unit ..).2 ?_
      have h0 : (i 0).val < 128 := (i 0).isLt
      have h1 : (i 1).val < 512 := (i 1).isLt
      intro a
      match a with
      | ⟨0, _⟩ => show 0 * 128 ≤ (i 0).val ∧ (i 0).val < 0 * 128 + 128; omega
      | ⟨1, _⟩ => show 0 * 512 ≤ (i 1).val ∧ (i 1).val < 0 * 512 + 512; omega⟩

theorem cut7 (t : Fin cfg0.N) (b : Vec Ideal S128x1024 .f32) (f : S128x1024.Idx → EReal)
    (hb : ∀ e : S128x1024.Idx, b e = f (((cfg0.win 7).blk t).view.emb e)) :
    (cfg0.win 7).cut (cfg0.grid.coords t) b = ((cfg0.win 7).blk t).view.read (Elt Ideal) f :=
  funext hb

theorem flushed7 (c : Dev nD) (t : Fin cfg0.N) (_ : (cfg0.win 7).flush t = true) :
    (dats m 0 c).flushed 7 t = ((cfg0.win 7).blk t).view.read (Elt Ideal) (kvs m c) := by
  show (cfg0.win 7).cut (cfg0.grid.coords t) ((dats m 0 c).after 7 t) = _
  rw [after0_7]
  refine cut7 t _ _ fun e => (congrArg (out0_7 _ _ _ _ _ _) (split e)).trans ((kv_apply ..).trans ?_)
  exact (pb_blocks m c t _ _).trans (at2 (kvs m c) _ (e 0) (e 1) (whole _ _) (whole _ _)).symm

theorem final7 (c : Dev nD) : (dats m 0 c).arrAt 7 cfg0.N = kvs m c :=
  (dats m 0 c).arrAt_eq_of_cover 7 (kvs m c) (flushed7 m c) fun (i : S128x1024.Idx) =>
    ⟨point, flush0_7 _, by
      refine (View.set_slice_whole main_v5_1 ((cfg0.win 7).rect point)).symm ▸ ?_
      refine (Rect.mem_set_unit ..).2 ?_
      have h0 : (i 0).val < 128 := (i 0).isLt
      have h1 : (i 1).val < 1024 := (i 1).isLt
      intro a
      match a with
      | ⟨0, _⟩ => show 0 * 128 ≤ (i 0).val ∧ (i 0).val < 0 * 128 + 128; omega
      | ⟨1, _⟩ => show 0 * 1024 ≤ (i 1).val ∧ (i 1).val < 0 * 1024 + 1024; omega⟩

theorem cut8 (t : Fin cfg0.N) (b : Vec Ideal S128x512 .f32) (f : S128x512.Idx → EReal)
    (hb : ∀ e : S128x512.Idx, b e = f (((cfg0.win 8).blk t).view.emb e)) :
    (cfg0.win 8).cut (cfg0.grid.coords t) b = ((cfg0.win 8).blk t).view.read (Elt Ideal) f :=
  funext hb

theorem flushed8 (c : Dev nD) (t : Fin cfg0.N) (_ : (cfg0.win 8).flush t = true) :
    (dats m 0 c).flushed 8 t = ((cfg0.win 8).blk t).view.read (Elt Ideal) (us m c) := by
  show (cfg0.win 8).cut (cfg0.grid.coords t) ((dats m 0 c).after 8 t) = _
  rw [after0_8]
  refine cut8 t _ _ fun e => (congrArg (out0_8 _ _ _ _ _ _) (split e)).trans ((u_apply ..).trans ?_)
  exact (pb_blocks m c t _ _).trans (at2 (us m c) _ (e 0) (e 1) (whole _ _) (whole _ _)).symm

theorem final8 (c : Dev nD) : (dats m 0 c).arrAt 8 cfg0.N = us m c :=
  (dats m 0 c).arrAt_eq_of_cover 8 (us m c) (flushed8 m c) fun (i : S128x512.Idx) =>
    ⟨point, flush0_8 _, by
      refine (View.set_slice_whole main_v5_2 ((cfg0.win 8).rect point)).symm ▸ ?_
      refine (Rect.mem_set_unit ..).2 ?_
      have h0 : (i 0).val < 128 := (i 0).isLt
      have h1 : (i 1).val < 512 := (i 1).isLt
      intro a
      match a with
      | ⟨0, _⟩ => show 0 * 128 ≤ (i 0).val ∧ (i 0).val < 0 * 128 + 128; omega
      | ⟨1, _⟩ => show 0 * 512 ≤ (i 1).val ∧ (i 1).val < 0 * 512 + 512; omega⟩

/-! ## The pool -/

/-- The pool after the step. -/
def pools (c : Dev nD) : Buf (Elt Ideal) ((c : Thread nD τ).loc main_v8) :=
  nextPool (m ((c : Thread nD τ).loc main_arg0)) (m ((c : Thread nD τ).loc main_arg1)) (m ((c : Thread nD τ).loc main_arg2))
    (m ((c : Thread nD τ).loc main_arg5))

/-- The state's last fourteen rows and the new one, joined. -/
theorem join (c : Dev nD) : concatenate S128x15x512 1
      [⟨S128x14x512, extractStridedSlice S128x14x512 ![0, 1, 0] (m ((c : Thread nD τ).loc main_arg5)) slices_S128x15x512_S128x14x512_0_1_0⟩,
        ⟨S128x1x512, broadcastInDim S128x1x512 ![0, 2] bcast_S128x512_S128x1x512_0_2 (us m c)⟩]
      concatenates_S128x14x512_S128x1x512_S128x15x512_d1 = pools m c := by
  refine funext fun (i : S128x15x512.Idx) => ?_
  have h1 : (i 1).val < 15 := (i 1).isLt
  unfold pools nextPool
  split
  · rename_i h
    refine (concatenate_pair_apply_left (t := S128x15x512) (s₁ := S128x14x512) (s₂ := S128x1x512) 1 _ _
      concatenates_S128x14x512_S128x1x512_S128x15x512_d1 _ rfl (ix3 (i 0) (⟨(i 1).val, h⟩ : Fin 14) (i 2)) fun q => ?_).trans ?_
    · match q with
      | ⟨0, _⟩ => rfl
      | ⟨1, _⟩ => rfl
      | ⟨2, _⟩ => rfl
    · refine at3 (m ((c : Thread nD τ).loc main_arg5)) _ _ _ _ ?_ ?_ ?_
      · exact Nat.zero_add _
      · exact Nat.add_comm _ _
      · exact Nat.zero_add _
  · rename_i h
    refine (concatenate_pair_apply_right (t := S128x15x512) (s₁ := S128x14x512) (s₂ := S128x1x512) 1 _ _
      concatenates_S128x14x512_S128x1x512_S128x15x512_d1 _ rfl rfl (ix3 (i 0) (0 : Fin 1) (i 2)) (fun b hb => ?_) ?_).trans ?_
    · match b with
      | ⟨0, _⟩ => rfl
      | ⟨1, _⟩ => exact absurd rfl hb
      | ⟨2, _⟩ => rfl
    · show 0 + 14 = (i 1).val
      omega
    · exact broadcastInDim_apply _ bcast_S128x512_S128x1x512_0_2 (us m c) _ (ix2 (i 0) (i 2)) fun a => match a with
        | ⟨0, _⟩ => rfl
        | ⟨1, _⟩ => rfl

theorem arrRef_inj : Function.Injective (arrRef spec0) := by
  have h : ∀ w w', arrRef spec0 w = arrRef spec0 w' → w = w' := by decide
  exact fun w w' => h w w'

/-- What the program leaves in its third result. -/
theorem joined (c : Dev nD) : afterTail₀ cfgs (dats m) 0 (V0 m) [hostOps1] c main_v8 = pools m c := by
  unfold afterTail₀
  refine Eq.trans ?_ (join m c)
  have e := withArrays_arr spec0 arrRef_inj c (V0 m c) (fun w => (dats m 0 c).arrAt w cfg0.N) 8
  have e' := withArrays_of_ne spec0 c (V0 m c) (fun w => (dats m 0 c).arrAt w cfg0.N) main_arg5 (by exact (by decide : ∀ w, arrRef spec0 w ≠ main_arg5))
  have e'' : V0 m c main_arg5 = m ((c : Thread nD τ).loc main_arg5) := V_main_arg5 m c
  rw [← final8 m c, ← e, ← e'', ← e']
  after_results
  rfl

/-- The run, read: the three results. -/
theorem run_results : θ_run defs (onTc (τ := τ) (main (F := Ideal))) ⟨m, fun _ => 0, ρ⟩ fun r => ∀ c : Dev nD,
      r.2.mem ((c.tc : Thread nD τ).loc main_v5_0) = qs m c ∧ r.2.mem ((c.tc : Thread nD τ).loc main_v5_1) = kvs m c
        ∧ r.2.mem ((c.tc : Thread nD τ).loc main_v8) = pools m c :=
  (θ_run defs _ _).mono (fun _ h c => ⟨((h c).1 6).trans (final6 m c), ((h c).1 7).trans (final7 m c),
    ((h c).2 main_v8 (mem_restRefs_of main_v8 (by decide) (by decide))).trans (joined m c)⟩) (run_main m ρ)

/-! ## The reference -/

open Cert.Reference5Ideal.Read in
/-- The reference's queries are the same array. -/
theorem ref_qs (c : Dev nD) : val_main_v19 (F := Ideal) (m (c.tc.loc main_arg0)) (m (c.tc.loc main_arg1)) (m (c.tc.loc main_arg2)) = qs m c :=
  funext fun i => Cert.Reference5Ideal.Rows.queries _ _ _ i

open Cert.Reference5Ideal.Read in
/-- Its keys and values are the same array. -/
theorem ref_kvs (c : Dev nD) : val_main_v20 (F := Ideal) (m (c.tc.loc main_arg0)) (m (c.tc.loc main_arg1)) (m (c.tc.loc main_arg2)) = kvs m c :=
  funext fun i => Cert.Reference5Ideal.Rows.keys_values _ _ _ i

open Cert.Reference5Ideal.Read in
/-- Its pool is the same array. -/
theorem ref_pools (c : Dev nD) : val_main_v21 (F := Ideal) (m (c.tc.loc main_arg0)) (m (c.tc.loc main_arg1)) (m (c.tc.loc main_arg2))
    (m (c.tc.loc main_arg5)) = pools m c :=
  funext fun i => Cert.Reference5Ideal.Rows.pooled _ _ _ _ i

end Cert.Kernel5Ideal.Sample

end
-- ==== Proof.RopeRef.lean ====
/- The first layer's input projection of the sample over the extended reals, entry by entry, and its reference. -/
module

public import proofs.«01_k».proof.Proof.FfnRef
public import proofs.«01_k».proof.Proof.Gen.Reference6Ideal.Read

@[expose] public section

set_option maxRecDepth 16384

noncomputable section

namespace Cert.Reference6Ideal.Rows

open Cert.Reference6Ideal Cert.Reference6Ideal.Gen Cert.Reference6Ideal.Read Cert.Ffn
open Idealize.ShloMosaic Idealize.ShloMosaic.TcCoe ValueIdx

/-- The turn of the first sixteen columns of each head of 64, by eight angles' cosines and sines. -/
def rope (cs sn : Fin 8 → EReal) (z : Fin 512 → EReal) (j : Fin 512) : EReal :=
  if h : j.val % 64 < 8 then z j * cs ⟨j.val % 64, h⟩ - z ⟨j.val + 8, by omega⟩ * sn ⟨j.val % 64, h⟩
  else if h' : j.val % 64 < 16 then z j * cs ⟨j.val % 64 - 8, by omega⟩ + z ⟨j.val - 8, by omega⟩ * sn ⟨j.val % 64 - 8, by omega⟩
  else z j

/-- The mean of 512 columns. -/
def mean (z : Fin 512 → EReal) : EReal := Ideal.div (∑ k : Fin 512, z k) (Ideal.ofBits .f32 0x44000000#32)

/-- A row, centred, brought to unit variance and scaled. -/
def lnorm (z w : Fin 512 → EReal) (j : Fin 512) : EReal :=
  (z j - mean z) * Ideal.rsqrt (mean (fun k => (z k - mean z) * (z k - mean z)) + Ideal.ofBits .f32 0x358637BD#32) * w j

/-- The angles' cosines. -/
def cs (d : Fin 8) : EReal := val_main_v28 (F := Ideal) (ix2 (0 : Fin 1) d)

/-- The angles' sines. -/
def sn (d : Fin 8) : EReal := val_main_v30 (F := Ideal) (ix2 (0 : Fin 1) d)

variable (x0 : (⟨S128x1024, .f32⟩ : BufTy).Contents (Elt Ideal)) (x1 : (⟨S1024, .f32⟩ : BufTy).Contents (Elt Ideal))
  (x2 : (⟨S1024x2560, .f32⟩ : BufTy).Contents (Elt Ideal)) (x3 : (⟨S512, .f32⟩ : BufTy).Contents (Elt Ideal))

/-- The projection: the normalized rows times the weights. -/
def proj (r : Fin 128) (j : Fin 2560) : EReal :=
  ∑ k : Fin 1024, rms (fun l => x0 (ix2 r l)) (fun l => x1 (ix1 l)) k * (show EReal from x2 (ix2 k j))

/-- 512 columns of a projection, from the column `o` on. -/
def part (p : Fin 128 → Fin 2560 → EReal) (o : ℕ) (ho : o + 512 ≤ 2560) (r : Fin 128) (j : Fin 512) : EReal := p r ⟨o + j.val, by omega⟩

/-- The reference's normalized rows. -/
theorem normed (r : Fin 128) (j : Fin 1024) : val_main_v12 x0 x1 (ix2 r j) = rms (fun l => x0 (ix2 r l)) (fun l => x1 (ix1 l)) j := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  unfold rms
  show x0 (ix2 r j) * Ideal.rsqrt (Ideal.div (Ideal.ofBits .f32 0x00000000#32 + _) _ + _) * _ = _
  rw [Ideal.ofBits_zero_f32, zero_add]
  refine congrArg₂ (fun p q : EReal => x0 (ix2 r j) * Ideal.rsqrt (Ideal.div p (Ideal.ofBits .f32 0x44800000#32) + Ideal.ofBits .f32 0x358637BD#32) * q)
    (Finset.sum_congr rfl fun k _ => ?_) (at1 x1 _ _ rfl)
  rw [val_main_v0_apply]
  exact congrArg (fun v : EReal => v * v) (at2 x0 _ r k rfl rfl)

/-- The reference's projection. -/
theorem projected (r : Fin 128) (j : Fin 2560) : val_main_v13 x0 x1 x2 (ix2 r j) = proj x0 x1 x2 r j := by
  rw [val_main_v13_apply]
  exact Finset.sum_congr rfl fun k _ => congrArg₂ (fun p q : EReal => p * q) ((at2 _ _ r k rfl rfl).trans (normed x0 x1 r k)) (at2 x2 _ _ _ rfl rfl)

/-- The same at an index with given coordinates. -/
theorem entry (i : S128x2560.Idx) (r : Fin 128) (j : Fin 2560) (h0 : (i 0).val = r.val) (h1 : (i 1).val = j.val) :
    val_main_v13 x0 x1 x2 i = proj x0 x1 x2 r j := (at2 _ i r j h0 h1).trans (projected x0 x1 x2 r j)

/-! ## The gate's stream -/

/-- The activated columns of a row. -/
def act (p : Fin 128 → Fin 2560 → EReal) (r : Fin 128) (j : Fin 512) : EReal := gelu (part p 2048 (by decide) r j)

/-- The reference's activated columns. -/
theorem gated (r : Fin 128) (j : Fin 512) : val_main_v45 x0 x1 x2 (ix2 r j) = act (proj x0 x1 x2) r j := by
  have e : val_main_v32 x0 x1 x2 (ix2 r j) = part (proj x0 x1 x2) 2048 (by decide) r j := by
    rw [val_main_v32_apply]
    exact entry x0 x1 x2 _ r _ rfl rfl
  rw [val_main_v45_apply, val_main_v44_apply, val_main_v43_apply, val_main_v42_apply, val_main_v41_apply, val_main_v40_apply,
    val_main_v39_apply, val_main_v38_apply, val_main_v37_apply, val_main_v36_apply, val_main_v35_apply, val_main_v34_apply,
    val_main_v33_apply, e]
  unfold act gelu
  generalize part (proj x0 x1 x2) 2048 (by decide) r j = z
  show z * (Ideal.ofBits .f32 0x3F000000#32 * _) = Ideal.ofBits .f32 0x3F000000#32 * z * _
  rw [← mul_assoc, mul_comm z]
  rfl

/-- Its centred columns. -/
theorem centred (r : Fin 128) (j : Fin 512) :
    val_main_v51 x0 x1 x2 (ix2 r j) = act (proj x0 x1 x2) r j - mean (act (proj x0 x1 x2) r) := by
  rw [val_main_v51_apply, val_main_v50_apply, val_main_v49_apply, val_main_v48_apply, val_main_v47_apply, val_main_v46_apply, gated]
  show _ - Ideal.div (Ideal.ofBits .f32 0x00000000#32 + _) _ = _
  rw [Ideal.ofBits_zero_f32, zero_add]
  exact congrArg (fun p : EReal => act (proj x0 x1 x2) r j - Ideal.div p (Ideal.ofBits .f32 0x44000000#32))
    (Finset.sum_congr rfl fun k _ => (at2 (val_main_v45 x0 x1 x2) _ r k rfl rfl).trans (gated x0 x1 x2 r k))

/-- **The reference's gate rows**, at an entry. -/
theorem gate_rows (r : Fin 128) (j : Fin 512) :
    val_main_v64 x0 x1 x2 x3 (ix2 r j) = lnorm (act (proj x0 x1 x2) r) (fun k => x3 (ix1 k)) j := by
  rw [val_main_v64_apply, val_main_v63_apply, val_main_v62_apply, val_main_v61_apply, val_main_v60_apply, val_main_v59_apply,
    val_main_v58_apply, val_main_v57_apply, val_main_v56_apply, val_main_v55_apply, val_main_v54_apply, val_main_v53_apply, centred]
  unfold lnorm
  show _ * Ideal.rsqrt (Ideal.div (Ideal.ofBits .f32 0x00000000#32 + _) _ + _) * _ = _
  rw [Ideal.ofBits_zero_f32, zero_add]
  refine congrArg₂ (fun p q : EReal => (act (proj x0 x1 x2) r j - mean (act (proj x0 x1 x2) r))
    * Ideal.rsqrt (Ideal.div p (Ideal.ofBits .f32 0x44000000#32) + Ideal.ofBits .f32 0x358637BD#32) * q)
    (Finset.sum_congr rfl fun k _ => ?_) (at1 x3 _ _ rfl)
  rw [val_main_v52_apply]
  exact congrArg (fun v : EReal => v * v) ((at2 (val_main_v51 x0 x1 x2) _ r k rfl rfl).trans (centred x0 x1 x2 r k))

/-! ## The turned heads -/

/-- Columns of the heads of a row, from the column `o` of each on. -/
theorem heads (y : S128x512.Idx → EReal) (n : ℕ) (o : ℕ) (h : Shape.Slices S128x8x64 ![0, 0, o] ⟨3, ![128, 8, n]⟩) (r : Fin 128) (g : Fin 8) (d : Fin n)
    (j : Fin 512) (hj : g.val * 64 + o + d.val = j.val) (hd : o + d.val < 64) :
    extractStridedSlice ⟨3, ![128, 8, n]⟩ ![0, 0, o] (shapeCast S128x8x64 y shapeCasts_S128x512_S128x8x64) h (ix3 r g d) = y (ix2 r j) := by
  refine (extractStridedSlice_apply ![0, 0, o] _ h (ix3 r g d) (ix3 r g (⟨o + d.val, hd⟩ : Fin 64)) fun a => ?_).trans ?_
  · match a with
    | ⟨0, _⟩ => exact (Nat.zero_add _).symm
    | ⟨1, _⟩ => exact (Nat.zero_add _).symm
    | ⟨2, _⟩ => rfl
  · refine shapeCast_apply y _ (ix3 r g (⟨o + d.val, hd⟩ : Fin 64)) (ix2 r j) ?_
    rw [Shape.rowMajor_val_two, Shape.rowMajor_val_three]
    show r.val * 512 + j.val = (r.val * 8 + g.val) * 64 + (o + d.val)
    omega

/-- 512 columns with the heads turned, as the reference writes it. -/
def turn (y : (⟨S128x512, .f32⟩ : BufTy).Contents (Elt Ideal)) : (⟨S128x512, .f32⟩ : BufTy).Contents (Elt Ideal) :=
  shapeCast _ (concatenate S128x8x64 2
    [⟨S128x8x8, subf (F := Ideal) (φ := .f32)
        (mulf (F := Ideal) (φ := .f32) (extractStridedSlice S128x8x8 ![0, 0, 0] (shapeCast S128x8x64 y shapeCasts_S128x512_S128x8x64) slices_S128x8x64_S128x8x8_0_0_0) (val_main_v70 (F := Ideal)))
        (mulf (F := Ideal) (φ := .f32) (extractStridedSlice S128x8x8 ![0, 0, 8] (shapeCast S128x8x64 y shapeCasts_S128x512_S128x8x64) slices_S128x8x64_S128x8x8_0_0_8) (val_main_v72 (F := Ideal)))⟩,
      ⟨S128x8x8, addf (F := Ideal) (φ := .f32)
        (mulf (F := Ideal) (φ := .f32) (extractStridedSlice S128x8x8 ![0, 0, 8] (shapeCast S128x8x64 y shapeCasts_S128x512_S128x8x64) slices_S128x8x64_S128x8x8_0_0_8) (val_main_v75 (F := Ideal)))
        (mulf (F := Ideal) (φ := .f32) (extractStridedSlice S128x8x8 ![0, 0, 0] (shapeCast S128x8x64 y shapeCasts_S128x512_S128x8x64) slices_S128x8x64_S128x8x8_0_0_0) (val_main_v77 (F := Ideal)))⟩,
      ⟨S128x8x48, extractStridedSlice S128x8x48 ![0, 0, 16] (shapeCast S128x8x64 y shapeCasts_S128x512_S128x8x64) slices_S128x8x64_S128x8x48_0_0_16⟩]
    concatenates_S128x8x8_S128x8x8_S128x8x48_S128x8x64_d2) shapeCasts_S128x8x64_S128x512

/-- The turned columns, at an entry. -/
theorem turn_apply (y : (⟨S128x512, .f32⟩ : BufTy).Contents (Elt Ideal)) (r : Fin 128) (j : Fin 512) :
    turn y (ix2 r j) = rope cs sn (fun k => y (ix2 r k)) j := by
  have hg : j.val / 64 < 8 := by omega
  have hd : j.val % 64 < 64 := by omega
  unfold turn
  refine (shapeCast_apply _ _ (ix2 r j) (ix3 r (⟨j.val / 64, hg⟩ : Fin 8) (⟨j.val % 64, hd⟩ : Fin 64)) ?_).trans ?_
  · rw [Shape.rowMajor_val_two, Shape.rowMajor_val_three]
    show (r.val * 8 + j.val / 64) * 64 + j.val % 64 = r.val * 512 + j.val
    omega
  unfold rope
  split
  · rename_i h
    refine (concatenate_apply_piece (t := S128x8x64) 2 _ _ _ 0 (by exact (by decide : 0 < 3)) S128x8x8 _ rfl rfl 0 rfl
      (ix3 r (⟨j.val / 64, hg⟩ : Fin 8) (⟨j.val % 64, h⟩ : Fin 8)) (fun b hb => ?_) ?_).trans ?_
    · match b with
      | ⟨0, _⟩ => rfl
      | ⟨1, _⟩ => rfl
      | ⟨2, _⟩ => exact absurd rfl hb
    · exact Nat.zero_add _
    · refine congrArg₂ (fun p q : EReal => p - q) (congrArg₂ (fun p q : EReal => p * q) ?_ ?_) (congrArg₂ (fun p q : EReal => p * q) ?_ ?_)
      · exact heads y 8 0 _ r _ _ j (by show j.val / 64 * 64 + 0 + j.val % 64 = j.val; omega) (by show 0 + j.val % 64 < 64; omega)
      · rw [val_main_v70_apply, val_main_v29_apply]
        exact at2 _ _ _ _ rfl rfl
      · exact heads y 8 8 _ r _ _ ⟨j.val + 8, by omega⟩ (by show j.val / 64 * 64 + 8 + j.val % 64 = j.val + 8; omega) (by show 8 + j.val % 64 < 64; omega)
      · rw [val_main_v72_apply, val_main_v31_apply]
        exact at2 _ _ _ _ rfl rfl
  · rename_i h
    split
    · rename_i h'
      refine (concatenate_apply_piece (t := S128x8x64) 2 _ _ _ 1 (by exact (by decide : 1 < 3)) S128x8x8 _ rfl rfl 8 rfl
        (ix3 r (⟨j.val / 64, hg⟩ : Fin 8) (⟨j.val % 64 - 8, by omega⟩ : Fin 8)) (fun b hb => ?_) ?_).trans ?_
      · match b with
        | ⟨0, _⟩ => rfl
        | ⟨1, _⟩ => rfl
        | ⟨2, _⟩ => exact absurd rfl hb
      · show 8 + (j.val % 64 - 8) = j.val % 64
        omega
      · refine congrArg₂ (fun p q : EReal => p + q) (congrArg₂ (fun p q : EReal => p * q) ?_ ?_) (congrArg₂ (fun p q : EReal => p * q) ?_ ?_)
        · exact heads y 8 8 _ r _ _ j (by show j.val / 64 * 64 + 8 + (j.val % 64 - 8) = j.val; omega) (by show 8 + (j.val % 64 - 8) < 64; omega)
        · rw [val_main_v75_apply, val_main_v29_apply]
          exact at2 _ _ _ _ rfl rfl
        · exact heads y 8 0 _ r _ _ ⟨j.val - 8, by omega⟩ (by show j.val / 64 * 64 + 0 + (j.val % 64 - 8) = j.val - 8; omega) (by show 0 + (j.val % 64 - 8) < 64; omega)
        · rw [val_main_v77_apply, val_main_v31_apply]
          exact at2 _ _ _ _ rfl rfl
    · rename_i h'
      refine (concatenate_apply_piece (t := S128x8x64) 2 _ _ _ 2 (by exact (by decide : 2 < 3)) S128x8x48 _ rfl rfl 16 rfl
        (ix3 r (⟨j.val / 64, hg⟩ : Fin 8) (⟨j.val % 64 - 16, by omega⟩ : Fin 48)) (fun b hb => ?_) ?_).trans ?_
      · match b with
        | ⟨0, _⟩ => rfl
        | ⟨1, _⟩ => rfl
        | ⟨2, _⟩ => exact absurd rfl hb
      · show 16 + (j.val % 64 - 16) = j.val % 64
        omega
      · exact heads y 48 16 _ r _ _ j (by show j.val / 64 * 64 + 16 + (j.val % 64 - 16) = j.val; omega) (by show 16 + (j.val % 64 - 16) < 64; omega)

/-- **The reference's queries**, at an entry. -/
theorem queries (r : Fin 128) (j : Fin 512) : val_main_v83 x0 x1 x2 (ix2 r j)
    = rope cs sn (part (proj x0 x1 x2) 0 (by decide) r) j * Ideal.ofBits .f32 0x3E000000#32 := by
  have e : val_main_v81 x0 x1 x2 = turn (val_main_v65 x0 x1 x2) := rfl
  rw [val_main_v83_apply, val_main_v82_apply, e, turn_apply]
  refine congrArg (fun z : Fin 512 → EReal => rope cs sn z j * Ideal.ofBits .f32 0x3E000000#32) (funext fun k => ?_)
  rw [val_main_v65_apply]
  exact entry x0 x1 x2 _ r _ rfl (Nat.zero_add _).symm

/-- The keys and values: 512 turned columns, then 512 plain ones. -/
def kvOf (p : Fin 128 → Fin 2560 → EReal) (r : Fin 128) (j : Fin 1024) : EReal :=
  if h : j.val < 512 then rope cs sn (part p 512 (by decide) r) ⟨j.val, h⟩ else p r ⟨512 + j.val, by omega⟩

/-- **The reference's keys and values**, at an entry. -/
theorem keys_values (r : Fin 128) (j : Fin 1024) : val_main_v102 x0 x1 x2 (ix2 r j) = kvOf (proj x0 x1 x2) r j := by
  have e : val_main_v100 x0 x1 x2 = turn (val_main_v84 x0 x1 x2) := rfl
  unfold val_main_v102 kvOf
  split
  · rename_i h
    refine (concatenate_pair_apply_left (t := S128x1024) (s₁ := S128x512) (s₂ := S128x512) 1 _ _
      concatenates_S128x512_S128x512_S128x1024_d1 _ rfl (ix2 r (⟨j.val, h⟩ : Fin 512)) fun q => ?_).trans ?_
    · match q with
      | ⟨0, _⟩ => rfl
      | ⟨1, _⟩ => rfl
    · rw [e, turn_apply]
      refine congrArg (fun z : Fin 512 → EReal => rope cs sn z _) (funext fun k => ?_)
      rw [val_main_v84_apply]
      exact entry x0 x1 x2 _ r _ rfl rfl
  · rename_i h
    refine (concatenate_pair_apply_right (t := S128x1024) (s₁ := S128x512) (s₂ := S128x512) 1 _ _
      concatenates_S128x512_S128x512_S128x1024_d1 _ rfl rfl (ix2 r (⟨j.val - 512, by omega⟩ : Fin 512)) (fun b hb => ?_) ?_).trans ?_
    · match b with
      | ⟨0, _⟩ => rfl
      | ⟨1, _⟩ => exact absurd rfl hb
    · show j.val - 512 + 512 = j.val
      omega
    · rw [val_main_v101_apply]
      exact entry x0 x1 x2 _ r _ rfl (by show 1024 + (j.val - 512) = 512 + j.val; omega)

end Cert.Reference6Ideal.Rows

end
-- ==== Proof.RopeOut.lean ====
/- What the first layer's input projection's body leaves in three of its output blocks for the sample, entry by entry. -/
module

public import proofs.«01_k».proof.Proof.Gen.Kernel6Ideal.Frame
public import proofs.«01_k».proof.Proof.SampleOut
public import proofs.«01_k».proof.Proof.RopeRef

@[expose] public section

set_option maxRecDepth 16384

noncomputable section

namespace Cert.Kernel6Ideal.Rope

open Idealize.ShloMosaic Idealize.ShloMosaic.TcCoe Cert.Kernel6Ideal Cert.Kernel6Ideal.Gen
open ValueIdx Cert.Ffn
open Cert.Reference6Ideal.Rows (rope mean lnorm cs sn part act kvOf)

variable (x0 : Vec Ideal S128x1024 .f32) (x1 : Vec Ideal S1x1024 .f32) (x2 : Vec Ideal S1024x2560 .bf16)

theorem hz2 : (![0, 0] : Fin 2 → Nat) = fun _ => 0 := funext fun a => by fin_cases a <;> rfl

/-- The normalized rows times a column of the weights. -/
def pb (r : Fin 128) (j : Fin 2560) : EReal :=
  ∑ k : Fin 1024, rms (fun l => x0 (ix2 r l)) (fun l => x1 (ix2 0 l)) k * (show EReal from x2 (ix2 k j))

/-- The normalized rows. -/
theorem hid_apply (r : Fin 128) (j : Fin 1024) :
    k0_pay1 x0 x1 (ix2 r j) = rms (fun l => x0 (ix2 r l)) (fun l => x1 (ix2 0 l)) j := Cert.Kernel5Ideal.Sample.hid_apply x0 x1 r j

/-- A product of the normalized rows with 512 columns of the weights. -/
theorem dot512 (o : ℕ) (h) (ho : o + 512 ≤ 2560) (r : Fin 128) (j : Fin 512) :
    matmul (F := Ideal) (φ₁ := .bf16) (φ₂ := .bf16) dot_S128x1024_S1024x512_S128x512_1_0_0_1_n_n none (k0_pay1 x0 x1)
      (shapeCast S1024x512 (View.ld x2 (Rect.unit (s := S1024x2560) ![0, o] S1024x512.size h)) shapeCasts_S1024x512_S1024x512)
      (constant S128x512 .f32 0x00000000#32) (ix2 r j) = pb x0 x1 x2 r ⟨o + j.val, by omega⟩ := by
  refine (Ideal.matmul_plain_apply (M := 128) (K := 1024) (N := 512) none _ _ _ r j).trans ?_
  show Ideal.ofBits .f32 0x00000000#32 + _ = _
  rw [Ideal.ofBits_zero_f32, zero_add]
  refine Finset.sum_congr rfl fun k _ => congrArg₂ (fun p q : EReal => p * q) (hid_apply x0 x1 r k)
    ((Idealize.ShloMosaic.shapeCast_apply _ _ (ix2 k j) (ix2 k j) rfl).trans (at2 x2 _ _ _ ?_ ?_))
  · show 0 + 1 * k.val = k.val
    omega
  · show o + 1 * j.val = o + j.val
    omega

/-! ## The turned heads -/

/-- 128 columns of the weights, from the column `o` on. -/
def wcols (o : ℕ) (h : ∀ a, (![0, o] : Fin 2 → Nat) a + S1024x128.size a ≤ S1024x2560.size a) : FVec Ideal S1024x128 .bf16 :=
  shapeCast S1024x128 (View.ld x2 (Rect.unit (s := S1024x2560) ![0, o] S1024x128.size h)) shapeCasts_S1024x128_S1024x128

/-- A product of the normalized rows with 128 columns of the weights. -/
theorem dot128 (o : ℕ) (h) (ho : o + 128 ≤ 2560) (r : Fin 128) (j : Fin 128) :
    k0_pay12 (k0_pay1 x0 x1) (View.ld x2 (Rect.unit (s := S1024x2560) ![0, o] S1024x128.size h)) (ix2 r j) = pb x0 x1 x2 r ⟨o + j.val, by omega⟩ := by
  unfold k0_pay12
  refine (Ideal.matmul_plain_apply (M := 128) (K := 1024) (N := 128) none _ _ _ r j).trans ?_
  show Ideal.ofBits .f32 0x00000000#32 + _ = _
  rw [Ideal.ofBits_zero_f32, zero_add]
  refine Finset.sum_congr rfl fun k _ => congrArg₂ (fun p q : EReal => p * q) (hid_apply x0 x1 r k)
    ((Idealize.ShloMosaic.shapeCast_apply _ _ (ix2 k j) (ix2 k j) rfl).trans (at2 x2 _ _ _ ?_ ?_))
  · show 0 + 1 * k.val = k.val
    omega
  · show o + 1 * j.val = o + j.val
    omega

variable (x3 x4 x5 : Vec Ideal S1x128 .f32) (x6 x7 x8 : Vec Ideal S1x512 .f32)

/-- A row of the table, along the rows. -/
theorem lane (x : Vec Ideal S1x128 .f32) (r l : Fin 128) :
    broadcastTo S128x128 (shapeCast S1x128 x shapeCasts_S1x128_S1x128) broadcasts_S1x128_S128x128 (ix2 r l) = x (ix2 0 l) :=
  (broadcastTo_1b_ab_apply ..).trans (Idealize.ShloMosaic.shapeCast_apply _ _ (ix2 0 l) (ix2 0 l) rfl)

/-- A block's columns moved around the end. -/
theorem moved (v : FVec Ideal S128x128 .f32) (n : BitVec 32) (s : ℕ) (hs : s + n.toNat = 128) (hn : 0 < s) (r l : Fin 128) :
    dynamicRotate 1 n none v rotates_S128x128_d1 (ix2 r l) = v (ix2 r ⟨(l.val + s) % 128, by omega⟩) := by
  unfold dynamicRotate
  refine congrArg v (funext fun b => Fin.ext ?_)
  match b with
  | ⟨0, _⟩ => rfl
  | ⟨1, _⟩ =>
    show (l.val + 128 - n.toNat % 128) % 128 = (l.val + s) % 128
    rw [Nat.mod_eq_of_lt (show n.toNat < 128 by omega)]
    congr 1
    omega

/-- One block of 128 turned columns. -/
def turned (o : ℕ) (h : ∀ a, (![0, o] : Fin 2 → Nat) a + S1024x128.size a ≤ S1024x2560.size a) : FVec Ideal S128x128 .f32 :=
  k0_pay9 (k0_pay1 x0 x1) (k0_pay2 x3) (k0_pay3 x4) (k0_pay4 x5) (k0_pay8 (View.ld x2 (Rect.unit (s := S1024x2560) ![0, o] S1024x128.size h)))

/-- The block, at an entry. -/
theorem turned_apply (o : ℕ) (h) (ho : o + 128 ≤ 2560) (r l : Fin 128) : turned x0 x1 x2 x3 x4 x5 o h (ix2 r l)
    = pb x0 x1 x2 r ⟨o + l.val, by omega⟩ * x3 (ix2 0 l) + pb x0 x1 x2 r ⟨o + (l.val + 8) % 128, by omega⟩ * x4 (ix2 0 l)
      + pb x0 x1 x2 r ⟨o + (l.val + 120) % 128, by omega⟩ * x5 (ix2 0 l) := by
  refine congrArg₂ (fun p q : EReal => p + q) (congrArg₂ (fun p q : EReal => p + q) (congrArg₂ (fun p q : EReal => p * q) ?_ (lane x3 r l))
    (congrArg₂ (fun p q : EReal => p * q) ?_ (lane x4 r l))) (congrArg₂ (fun p q : EReal => p * q) ?_ (lane x5 r l))
  · exact dot128 x0 x1 x2 o h ho r l
  · exact (moved _ 120#32 8 (by decide) (by decide) r l).trans (dot128 x0 x1 x2 o h ho r _)
  · exact (moved _ 8#32 120 (by decide) (by decide) r l).trans (dot128 x0 x1 x2 o h ho r _)

/-- The first table: the cosines twice, then ones. -/
def tabC (l : Fin 128) : EReal :=
  if h : l.val % 64 < 8 then cs ⟨l.val % 64, h⟩ else if h' : l.val % 64 < 16 then cs ⟨l.val % 64 - 8, by omega⟩ else 1

/-- The second: the negated sines, then zeros. -/
def tabU (l : Fin 128) : EReal := if h : l.val % 64 < 8 then -sn ⟨l.val % 64, h⟩ else 0

/-- The third: zeros, the sines, then zeros. -/
def tabD (l : Fin 128) : EReal :=
  if l.val % 64 < 8 then 0 else if h' : l.val % 64 < 16 then sn ⟨l.val % 64 - 8, by omega⟩ else 0

/-- The three products with the tables are the turn. -/
theorem rope_tab (z : Fin 512 → EReal) (q : Fin 4) (l : Fin 128) :
    z ⟨128 * q.val + l.val, by omega⟩ * tabC l + z ⟨128 * q.val + (l.val + 8) % 128, by omega⟩ * tabU l
      + z ⟨128 * q.val + (l.val + 120) % 128, by omega⟩ * tabD l = rope cs sn z ⟨128 * q.val + l.val, by omega⟩ := by
  have e : (128 * q.val + l.val) % 64 = l.val % 64 := by omega
  unfold tabC tabU tabD rope
  by_cases h : l.val % 64 < 8
  · rw [dif_pos h, dif_pos h, if_pos h, dif_pos (show (128 * q.val + l.val) % 64 < 8 by omega), mul_zero, add_zero, mul_neg]
    refine congrArg₂ (fun p q : EReal => p + -q) (congrArg (fun d => z _ * cs d) (Fin.ext e.symm))
      (congrArg₂ (fun (k : Fin 512) (d : Fin 8) => z k * sn d) (Fin.ext ?_) (Fin.ext e.symm))
    show 128 * q.val + (l.val + 8) % 128 = 128 * q.val + l.val + 8
    omega
  · rw [dif_neg h, dif_neg h, if_neg h, dif_neg (show ¬ (128 * q.val + l.val) % 64 < 8 by omega), mul_zero, add_zero]
    by_cases h' : l.val % 64 < 16
    · rw [dif_pos h', dif_pos h', dif_pos (show (128 * q.val + l.val) % 64 < 16 by omega)]
      refine congrArg₂ (fun p q : EReal => p + q) (congrArg (fun d => z _ * cs d) (Fin.ext ?_))
        (congrArg₂ (fun (k : Fin 512) (d : Fin 8) => z k * sn d) (Fin.ext ?_) (Fin.ext ?_))
      · show l.val % 64 - 8 = (128 * q.val + l.val) % 64 - 8
        omega
      · show 128 * q.val + (l.val + 120) % 128 = 128 * q.val + l.val - 8
        omega
      · show l.val % 64 - 8 = (128 * q.val + l.val) % 64 - 8
        omega
    · rw [dif_neg h', dif_neg h', dif_neg (show ¬ (128 * q.val + l.val) % 64 < 16 by omega), mul_one, mul_zero, add_zero]

/-- Four blocks, joined. -/
def joined (o : ℕ) (h : ∀ (q : Fin 4) a, (![0, o + 128 * q.val] : Fin 2 → Nat) a + S1024x128.size a ≤ S1024x2560.size a) : FVec Ideal S128x512 .f32 :=
  concatenate S128x512 1 [⟨S128x128, turned x0 x1 x2 x3 x4 x5 (o + 128 * 0) (h 0)⟩, ⟨S128x128, turned x0 x1 x2 x3 x4 x5 (o + 128 * 1) (h 1)⟩,
    ⟨S128x128, turned x0 x1 x2 x3 x4 x5 (o + 128 * 2) (h 2)⟩, ⟨S128x128, turned x0 x1 x2 x3 x4 x5 (o + 128 * 3) (h 3)⟩]
    concatenates_S128x128_S128x128_S128x128_S128x128_S128x512_d1

variable (hC : ∀ l, x3 (ix2 0 l) = tabC l) (hU : ∀ l, x4 (ix2 0 l) = tabU l) (hD : ∀ l, x5 (ix2 0 l) = tabD l)

include hC hU hD in
/-- The joined blocks, at an entry. -/
theorem joined_apply (o : ℕ) (h) (ho : o + 512 ≤ 2560) (r : Fin 128) (j : Fin 512) :
    joined x0 x1 x2 x3 x4 x5 o h (ix2 r j) = rope cs sn (part (pb x0 x1 x2) o ho r) j := by
  have hq : j.val / 128 < 4 := by omega
  have hl : j.val % 128 < 128 := by omega
  unfold joined
  refine (concatenate_ofFn_apply (t := S128x512) (s₁ := S128x128) 1 (fun q : Fin 4 => turned x0 x1 x2 x3 x4 x5 (o + 128 * q.val) (h q)) _ rfl 128 rfl
    (ix2 r j) ⟨j.val / 128, hq⟩ rfl (ix2 r (⟨j.val % 128, hl⟩ : Fin 128)) rfl fun b hb => ?_).trans ?_
  · match b with
    | ⟨0, _⟩ => rfl
    | ⟨1, _⟩ => exact absurd rfl hb
  · refine (turned_apply x0 x1 x2 x3 x4 x5 _ _ (by show o + 128 * (j.val / 128) + 128 ≤ 2560; omega) r _).trans ?_
    rw [hC, hU, hD]
    refine Eq.trans ?_ ((rope_tab (part (pb x0 x1 x2) o ho r) ⟨j.val / 128, hq⟩ ⟨j.val % 128, hl⟩).trans
      (congrArg (rope cs sn (part (pb x0 x1 x2) o ho r)) (Fin.ext (by show 128 * (j.val / 128) + j.val % 128 = j.val; omega))))
    unfold part
    simp only [Nat.add_assoc]

include hC hU hD in
/-- **The queries**: the first 512 columns, turned and scaled. -/
theorem q_apply (r : Fin 128) (j : Fin 512) : out0_9 x0 x1 x2 x3 x4 x5 x6 x7 x8 (ix2 r j)
    = rope cs sn (part (pb x0 x1 x2) 0 (by decide) r) j * Ideal.ofBits .f32 0x3E000000#32 := by
  unfold out0_9 k0_pay27 k0_pay26 k0_pay25 k0_pay24
  rw [View.canon_unit_zero hz2, View.ld_unit_zero (S := S128x1024) hz2, View.ld_unit_zero (S := S1x1024) hz2,
    View.ld_unit_zero (S := S1x128) hz2, View.ld_unit_zero (S := S1x128) hz2, View.ld_unit_zero (S := S1x128) hz2]
  exact congrArg (fun v : EReal => v * Ideal.ofBits .f32 0x3E000000#32) (joined_apply x0 x1 x2 x3 x4 x5 hC hU hD 0 (by decide) (by decide) r j)

/-- The keys' and values' block, by entries. -/
def kvAll : Vec Ideal S128x1024 .f32 := fun y => kvOf (pb x0 x1 x2) (y 0) (y 1)

include hC hU hD in
/-- **The keys and values**: the next 512 turned, then 512 more. -/
theorem kv_apply (y : S128x1024.Idx) : out0_10 x0 x1 x2 x3 x4 x5 x6 x7 x8 y = kvOf (pb x0 x1 x2) (y 0) (y 1) := by
  unfold out0_10 k0_pay27 k0_pay26 k0_pay25 k0_pay24
  rw [View.ld_unit_zero (S := S128x1024) hz2, View.ld_unit_zero (S := S1x1024) hz2,
    View.ld_unit_zero (S := S1x128) hz2, View.ld_unit_zero (S := S1x128) hz2, View.ld_unit_zero (S := S1x128) hz2]
  refine View.canon_apply_of_pieces (kvAll x0 x1 x2) _ (fun p hp e => ?_) y ?_
  · simp only [List.mem_cons, List.mem_nil_iff, or_false] at hp
    rcases hp with rfl | rfl
    · have h0 : (e 0).val < 128 := (e 0).isLt
      have h1 : (e 1).val < 512 := (e 1).isLt
      refine (congrArg (k0_pay16 (k0_pay1 x0 x1) (View.ld x2 r0_13)) (show e = ix2 (⟨(e 0).val, h0⟩ : Fin 128) (⟨(e 1).val, h1⟩ : Fin 512) from
        funext fun a => match a with | ⟨0, _⟩ => rfl | ⟨1, _⟩ => rfl)).trans ((dot512 x0 x1 x2 1024 _ (by decide) _ _).trans ?_)
      unfold kvAll kvOf
      refine Eq.trans ?_ (dif_neg ?_).symm
      · refine congrArg₂ (pb x0 x1 x2) (Fin.ext ?_) (Fin.ext ?_)
        · show (e 0).val = 0 + 1 * (e 0).val
          omega
        · show 1024 + (e 1).val = 512 + (512 + 1 * (e 1).val)
          omega
      · show ¬ 512 + 1 * (e 1).val < 512
        omega
    · have h0 : (e 0).val < 128 := (e 0).isLt
      have h1 : (e 1).val < 512 := (e 1).isLt
      refine (congrArg (joined x0 x1 x2 x3 x4 x5 512 (by decide)) (show e = ix2 (⟨(e 0).val, h0⟩ : Fin 128) (⟨(e 1).val, h1⟩ : Fin 512) from
        funext fun a => match a with | ⟨0, _⟩ => rfl | ⟨1, _⟩ => rfl)).trans
        ((joined_apply x0 x1 x2 x3 x4 x5 hC hU hD 512 (by decide) (by decide) _ _).trans ?_)
      unfold kvAll kvOf
      refine Eq.trans ?_ (dif_pos ?_).symm
      · refine congrArg₂ (fun (r : Fin 128) (j : Fin 512) => rope cs sn (part (pb x0 x1 x2) 512 (by decide) r) j) (Fin.ext ?_) (Fin.ext ?_)
        · show (e 0).val = 0 + 1 * (e 0).val
          omega
        · show (e 1).val = 0 + 1 * (e 1).val
          omega
      · show 0 + 1 * (e 1).val < 512
        omega
  · exact cover0_10 _ _ y

/-! ## The gate's stream -/

/-- A column of a one-column array, along the columns. -/
theorem column (v : S128x1.Idx → EReal) (r : Fin 128) (j : Fin 512) :
    broadcastTo S128x512 v broadcasts_S128x1_S128x512 (ix2 r j) = v (ix2 r 0) := by
  refine broadcastTo_apply v _ (ix2 r j) (ix2 r (0 : Fin 1)) fun a => ?_
  match a with
  | ⟨0, _⟩ => rfl
  | ⟨1, _⟩ => rfl

/-- The sum of a row. -/
theorem rowSum (v : FVec Ideal S128x512 .f32) (r : Fin 128) :
    shapeCast S128x1 (multiReduction (F := Ideal) (φ := .f32) .add [1] S128 v 0x00000000#32 reduces_S128x512_S128 (.inl rfl) rfl) shapeCasts_S128_S128x1
      (ix2 r (0 : Fin 1)) = ∑ k : Fin 512, (show EReal from v (ix2 r k)) := by
  refine (Idealize.ShloMosaic.shapeCast_apply _ _ (ix2 r (0 : Fin 1)) (ix1 r) ?_).trans ?_
  · rw [Shape.rowMajor_val_one, Shape.rowMajor_val_two]
    show r.val = r.val * 1 + 0
    omega
  · exact (Ideal.multiReduction_add_single v _ reduces_S128x512_S128 _ _ (ix1 r)).trans (Finset.sum_congr rfl fun k _ => at2 v _ r k rfl rfl)

/-- A row's centred columns, as the body writes them. -/
def centre (v : FVec Ideal S128x512 .f32) : FVec Ideal S128x512 .f32 :=
  subf v (broadcastTo S128x512 (divf (shapeCast S128x1 (multiReduction (F := Ideal) (φ := .f32) .add [1] S128 v 0x00000000#32 reduces_S128x512_S128 (.inl rfl) rfl)
    shapeCasts_S128_S128x1) (broadcast S128x1 (Scalar.ofBits .f32 0x44000000#32))) broadcasts_S128x1_S128x512)

/-- They are the row less its mean. -/
theorem centre_apply (v : FVec Ideal S128x512 .f32) (r : Fin 128) (j : Fin 512) :
    centre v (ix2 r j) = (show EReal from v (ix2 r j)) - mean fun k => v (ix2 r k) := by
  refine congrArg (fun p : EReal => (show EReal from v (ix2 r j)) - p) ((column _ r j).trans ?_)
  exact congrArg (fun p : EReal => Ideal.div p (Ideal.ofBits .f32 0x44000000#32)) (rowSum v r)

/-- A row centred, brought to unit variance and scaled, as the body writes it. -/
def normal (v : FVec Ideal S128x512 .f32) (w : FVec Ideal S1x512 .f32) : FVec Ideal S128x512 .f32 :=
  mulf (mulf (centre v) (broadcastTo S128x512 (rsqrt (addf (divf (shapeCast S128x1 (multiReduction (F := Ideal) (φ := .f32) .add [1] S128 (mulf (centre v) (centre v))
    0x00000000#32 reduces_S128x512_S128 (.inl rfl) rfl) shapeCasts_S128_S128x1) (broadcast S128x1 (Scalar.ofBits .f32 0x44000000#32)))
    (broadcast S128x1 (Scalar.ofBits .f32 0x358637BD#32)))) broadcasts_S128x1_S128x512)) (broadcastTo S128x512 w broadcasts_S1x512_S128x512)

/-- It is the row's layer norm. -/
theorem normal_apply (v : FVec Ideal S128x512 .f32) (w : FVec Ideal S1x512 .f32) (r : Fin 128) (j : Fin 512) :
    normal v w (ix2 r j) = lnorm (fun k => v (ix2 r k)) (fun k => w (ix2 0 k)) j := by
  unfold lnorm
  refine congrArg₂ (fun p q : EReal => p * q) (congrArg₂ (fun p q : EReal => p * q) (centre_apply v r j) ((column _ r j).trans ?_)) (broadcastTo_1b_ab_apply ..)
  refine congrArg (fun p : EReal => Ideal.rsqrt (Ideal.div p (Ideal.ofBits .f32 0x44000000#32) + Ideal.ofBits .f32 0x358637BD#32))
    ((rowSum _ r).trans (Finset.sum_congr rfl fun k _ => ?_))
  exact congrArg (fun p : EReal => p * p) (centre_apply v r k)

/-- **The gate's rows**: the last 512 columns, activated and normalized. -/
theorem v_apply (r : Fin 128) (j : Fin 512) : out0_11 x0 x1 x2 x3 x4 x5 x6 x7 x8 (ix2 r j)
    = lnorm (act (pb x0 x1 x2) r) (fun k => x6 (ix2 0 k)) j := by
  unfold out0_11 k0_pay31 k0_pay30 k0_pay29 k0_pay28 k0_pay24
  rw [View.canon_unit_zero hz2, View.ld_unit_zero (S := S128x1024) hz2, View.ld_unit_zero (S := S1x1024) hz2, View.ld_unit_zero (S := S1x512) hz2]
  refine (normal_apply _ _ r j).trans (congrArg₂ (fun f g => lnorm f g j) (funext fun k => ?_) (funext fun k => ?_))
  · have e := dot512 x0 x1 x2 2048 inb_S1024x2560_S1024x512_0_2048 (by decide) r k
    exact congrArg gelu e
  · exact Idealize.ShloMosaic.shapeCast_apply _ _ (ix2 0 k) (ix2 0 k) rfl

end Cert.Kernel6Ideal.Rope

end
-- ==== Proof.RopeArrays.lean ====
/- The result arrays of the first layer's input projection of the sample, read off its write-backs, and the reference's
   results at the same values. -/
module

public import proofs.«01_k».proof.Proof.RopeOut
public import proofs.«01_k».proof.Proof.SampleArrays

@[expose] public section

set_option maxRecDepth 16384

noncomputable section

namespace Cert.Kernel6Ideal.Rope

open Cert.Kernel6Ideal Cert.Kernel6Ideal.Gen Cert.Ffn
open Cert.Kernel2Ideal.Ffn (whole rowVec)
open Cert.Kernel5Ideal.Sample (split)
open Cert.Reference6Ideal.Rows (proj rope lnorm cs sn part act kvOf)
open Idealize.ShloMosaic Idealize.ShloMosaic.TcCoe Idealize.ShloMosaic.Tactic ValueIdx
open Idealize.ShloMosaic.Pipeline Idealize.SL.Sem

variable (m : (ℓ : Loc nD τ sig) → Buf (Elt Ideal) ℓ) (ρ : Dev nD → PrngReg)

/-! ## The tables -/

/-- A head's 64 columns twice. -/
def tile (x : S1x64.Idx → EReal) : S1x128.Idx → EReal :=
  shapeCast S1x128 (broadcastInDim S1x1x2x64 ![0, 1, 2, 3] bcast_S1x1x1x64_S1x1x2x64_0_1_2_3
    (shapeCast S1x1x1x64 x shapeCasts_S1x64_S1x1x1x64)) shapeCasts_S1x1x2x64_S1x128

/-- The two copies, at an entry. -/
theorem tile_apply (x : S1x64.Idx → EReal) (l : Fin 128) : tile x (ix2 0 l) = x (ix2 (0 : Fin 1) (⟨l.val % 64, by omega⟩ : Fin 64)) := by
  unfold tile
  refine (Idealize.ShloMosaic.shapeCast_apply _ _ (ix2 (0 : Fin 1) l)
    (ix4 (0 : Fin 1) (0 : Fin 1) (⟨l.val / 64, by omega⟩ : Fin 2) (⟨l.val % 64, by omega⟩ : Fin 64)) ?_).trans ?_
  · rw [Shape.rowMajor_val_two, Shape.rowMajor_val_four]
    show ((0 * 1 + 0) * 2 + l.val / 64) * 64 + l.val % 64 = 0 * 128 + l.val
    omega
  refine (broadcastInDim_apply _ bcast_S1x1x1x64_S1x1x2x64_0_1_2_3 _ _
    (ix4 (0 : Fin 1) (0 : Fin 1) (0 : Fin 1) (⟨l.val % 64, by omega⟩ : Fin 64)) fun a => match a with
      | ⟨0, _⟩ => rfl
      | ⟨1, _⟩ => rfl
      | ⟨2, _⟩ => rfl
      | ⟨3, _⟩ => rfl).trans ?_
  refine Idealize.ShloMosaic.shapeCast_apply _ _ _ (ix2 (0 : Fin 1) (⟨l.val % 64, by omega⟩ : Fin 64)) ?_
  rw [Shape.rowMajor_val_two, Shape.rowMajor_val_four]
  show 0 * 64 + l.val % 64 = ((0 * 1 + 0) * 1 + 0) * 64 + l.val % 64
  omega

/-- Eight columns, eight more and 48 of one value. -/
def three (a b : S1x8.Idx → EReal) (v : EReal) : S1x64.Idx → EReal :=
  concatenate S1x64 1 [⟨S1x8, a⟩, ⟨S1x8, b⟩, ⟨S1x48, fun _ => v⟩] concatenates_S1x8_S1x8_S1x48_S1x64_d1

/-- They are, at an entry. -/
theorem three_apply (a b : S1x8.Idx → EReal) (v : EReal) (d : Fin 64) : three a b v (ix2 (0 : Fin 1) d)
    = if h : d.val < 8 then a (ix2 (0 : Fin 1) (⟨d.val, h⟩ : Fin 8)) else if h' : d.val < 16 then b (ix2 (0 : Fin 1) (⟨d.val - 8, by omega⟩ : Fin 8)) else v := by
  unfold three
  split
  · rename_i h
    refine concatenate_apply_piece (t := S1x64) 1 _ _ _ 0 (by exact (by decide : 0 < 3)) S1x8 a rfl rfl 0 rfl (ix2 (0 : Fin 1) (⟨d.val, h⟩ : Fin 8)) (fun b hb => ?_) ?_
    · match b with
      | ⟨0, _⟩ => rfl
      | ⟨1, _⟩ => exact absurd rfl hb
    · exact Nat.zero_add _
  · rename_i h
    split
    · rename_i h'
      refine concatenate_apply_piece (t := S1x64) 1 _ _ _ 1 (by exact (by decide : 1 < 3)) S1x8 b rfl rfl 8 rfl (ix2 (0 : Fin 1) (⟨d.val - 8, by omega⟩ : Fin 8)) (fun b hb => ?_) ?_
      · match b with
        | ⟨0, _⟩ => rfl
        | ⟨1, _⟩ => exact absurd rfl hb
      · show 8 + (d.val - 8) = d.val
        omega
    · rename_i h'
      refine concatenate_apply_piece (t := S1x64) 1 _ _ _ 2 (by exact (by decide : 2 < 3)) S1x48 (fun _ => v) rfl rfl 16 rfl (ix2 (0 : Fin 1) (⟨d.val - 16, by omega⟩ : Fin 48)) (fun b hb => ?_) ?_
      · match b with
        | ⟨0, _⟩ => rfl
        | ⟨1, _⟩ => exact absurd rfl hb
      · show 16 + (d.val - 16) = d.val
        omega

open Cert.Reference6Ideal.Read in
theorem V_main_v26 (c : Dev nD) : V m c main_v26
    = tile (three (val_main_v28 (F := Ideal)) (val_main_v28 (F := Ideal)) (Ideal.ofBits .f32 0x3F800000#32)) := by
  unfold V hostOps0
  after_results
  rfl

open Cert.Reference6Ideal.Read in
theorem V_main_v29 (c : Dev nD) : V m c main_v29
    = tile (three (fun i => -(show EReal from val_main_v30 (F := Ideal) i)) (fun _ => Ideal.ofBits .f32 0x00000000#32) (Ideal.ofBits .f32 0x00000000#32)) := by
  unfold V hostOps0
  after_results
  rfl

open Cert.Reference6Ideal.Read in
theorem V_main_v32 (c : Dev nD) : V m c main_v32
    = tile (three (fun _ => Ideal.ofBits .f32 0x00000000#32) (val_main_v30 (F := Ideal)) (Ideal.ofBits .f32 0x00000000#32)) := by
  unfold V hostOps0
  after_results
  rfl

/-! ## The blocks -/

theorem V_main_v0 (c : Dev nD) : V m c main_v0 = m ((c : Thread nD τ).loc main_arg2) := by
  unfold V hostOps0
  after_results
  rfl

theorem V_main_v43 (c : Dev nD) : V m c main_v43 = shapeCast S1x1024 (m ((c : Thread nD τ).loc main_arg1)) shapeCasts_S1024_S1x1024 := by
  unfold V hostOps0
  after_results
  rfl

theorem V_main_v44 (c : Dev nD) : V m c main_v44 = shapeCast S1x512 (m ((c : Thread nD τ).loc main_arg3)) shapeCasts_S512_S1x512 := by
  unfold V hostOps0
  after_results
  rfl

/-- The projection of the call's arguments. -/
def pj (c : Dev nD) : Fin 128 → Fin 2560 → EReal :=
  proj (m ((c : Thread nD τ).loc main_arg0)) (m ((c : Thread nD τ).loc main_arg1)) (m ((c : Thread nD τ).loc main_arg2))

theorem blk0 (c : Dev nD) (t : Fin cfg0.N) (r : Fin 128) (j : Fin 1024) :
    (iblk m c 0 t : Vec Ideal S128x1024 .f32) (ix2 r j) = m ((c : Thread nD τ).loc main_arg0) (ix2 r j) := by
  unfold iblk
  rw [View.read_apply]
  show V m c main_arg0 _ = _
  rw [V_main_arg0]
  exact at2 _ _ r j (whole _ _) (whole _ _)

theorem blk1 (c : Dev nD) (t : Fin cfg0.N) (j : Fin 1024) :
    (iblk m c 1 t : Vec Ideal S1x1024 .f32) (ix2 0 j) = m ((c : Thread nD τ).loc main_arg1) (ix1 j) := by
  unfold iblk
  rw [View.read_apply]
  show V m c main_v43 _ = _
  rw [V_main_v43]
  exact rowVec _ _ _ j (whole _ _)

theorem blk2 (c : Dev nD) (t : Fin cfg0.N) (k : Fin 1024) (j : Fin 2560) :
    (iblk m c 2 t : Vec Ideal S1024x2560 .bf16) (ix2 k j) = m ((c : Thread nD τ).loc main_arg2) (ix2 k j) := by
  unfold iblk
  rw [View.read_apply]
  show V m c main_v0 _ = _
  rw [V_main_v0]
  exact at2 _ _ k j (whole _ _) (whole _ _)

theorem blk3 (c : Dev nD) (t : Fin cfg0.N) (l : Fin 128) : (iblk m c 3 t : Vec Ideal S1x128 .f32) (ix2 0 l) = tabC l := by
  unfold iblk
  rw [View.read_apply]
  show V m c main_v26 _ = _
  rw [V_main_v26]
  refine (at2 _ _ 0 l (whole _ _) (whole _ _)).trans ((tile_apply _ l).trans ((three_apply _ _ _ _).trans ?_))
  rw [Ideal.ofBits_one_f32]
  rfl

theorem blk4 (c : Dev nD) (t : Fin cfg0.N) (l : Fin 128) : (iblk m c 4 t : Vec Ideal S1x128 .f32) (ix2 0 l) = tabU l := by
  unfold iblk
  rw [View.read_apply]
  show V m c main_v29 _ = _
  rw [V_main_v29]
  refine (at2 _ _ 0 l (whole _ _) (whole _ _)).trans ((tile_apply _ l).trans ((three_apply _ _ _ _).trans ?_))
  rw [Ideal.ofBits_zero_f32]
  unfold tabU
  by_cases h : l.val % 64 < 8
  · rw [dif_pos h, dif_pos h]
    rfl
  · rw [dif_neg h, dif_neg h]
    by_cases h' : l.val % 64 < 16
    · exact dif_pos h'
    · exact dif_neg h'

theorem blk5 (c : Dev nD) (t : Fin cfg0.N) (l : Fin 128) : (iblk m c 5 t : Vec Ideal S1x128 .f32) (ix2 0 l) = tabD l := by
  unfold iblk
  rw [View.read_apply]
  show V m c main_v32 _ = _
  rw [V_main_v32]
  refine (at2 _ _ 0 l (whole _ _) (whole _ _)).trans ((tile_apply _ l).trans ((three_apply _ _ _ _).trans ?_))
  rw [Ideal.ofBits_zero_f32]
  rfl

theorem blk6 (c : Dev nD) (t : Fin cfg0.N) (j : Fin 512) :
    (iblk m c 6 t : Vec Ideal S1x512 .f32) (ix2 0 j) = m ((c : Thread nD τ).loc main_arg3) (ix1 j) := by
  unfold iblk
  rw [View.read_apply]
  show V m c main_v44 _ = _
  rw [V_main_v44]
  exact rowVec _ _ _ j (whole _ _)

/-- The blocks' projection is the arrays'. -/
theorem pb_blocks (c : Dev nD) (t : Fin cfg0.N) : pb (iblk m c 0 t) (iblk m c 1 t) (iblk m c 2 t) = pj m c := by
  refine funext fun r => funext fun j => ?_
  unfold pb pj proj
  refine Finset.sum_congr rfl fun k _ => congrArg₂ (fun p q : EReal => p * q) ?_ (blk2 m c t k j)
  exact congrArg₂ (fun f g => rms f g k) (funext fun l => blk0 m c t r l) (funext fun l => blk1 m c t l)

/-! ## The call's arrays -/

/-- The query array. -/
def qs (c : Dev nD) : Buf (Elt Ideal) ((c : Thread nD τ).loc main_v45_0) :=
  fun i : S128x512.Idx => rope cs sn (part (pj m c) 0 (by decide) (i 0)) (i 1) * Ideal.ofBits .f32 0x3E000000#32

/-- The key and value array. -/
def kvs (c : Dev nD) : Buf (Elt Ideal) ((c : Thread nD τ).loc main_v45_1) :=
  fun i : S128x1024.Idx => kvOf (pj m c) (i 0) (i 1)

/-- The gate's rows. -/
def vs (c : Dev nD) : Buf (Elt Ideal) ((c : Thread nD τ).loc main_v45_2) :=
  fun i : S128x512.Idx => lnorm (act (pj m c) (i 0)) (fun k => m ((c : Thread nD τ).loc main_arg3) (ix1 k)) (i 1)

/-- The call's one point. -/
def point : Fin cfg0.N := ⟨0, by decide⟩

theorem cut9 (t : Fin cfg0.N) (b : Vec Ideal S128x512 .f32) (f : S128x512.Idx → EReal)
    (hb : ∀ e : S128x512.Idx, b e = f (((cfg0.win 9).blk t).view.emb e)) :
    (cfg0.win 9).cut (cfg0.grid.coords t) b = ((cfg0.win 9).blk t).view.read (Elt Ideal) f :=
  funext hb

theorem flushed9 (c : Dev nD) (t : Fin cfg0.N) (_ : (cfg0.win 9).flush t = true) :
    (dats m 0 c).flushed 9 t = ((cfg0.win 9).blk t).view.read (Elt Ideal) (qs m c) := by
  show (cfg0.win 9).cut (cfg0.grid.coords t) ((dats m 0 c).after 9 t) = _
  rw [after0_9]
  refine cut9 t _ _ fun e => (congrArg (out0_9 _ _ _ _ _ _ _ _ _) (split e)).trans
    ((q_apply _ _ _ _ _ _ _ _ _ (blk3 m c t) (blk4 m c t) (blk5 m c t) _ _).trans ?_)
  rw [pb_blocks m c t]
  exact (at2 (qs m c) _ (e 0) (e 1) (whole _ _) (whole _ _)).symm

theorem final9 (c : Dev nD) : (dats m 0 c).arrAt 9 cfg0.N = qs m c :=
  (dats m 0 c).arrAt_eq_of_cover 9 (qs m c) (flushed9 m c) fun (i : S128x512.Idx) =>
    ⟨point, flush0_9 _, by
      refine (View.set_slice_whole main_v45_0 ((cfg0.win 9).rect point)).symm ▸ ?_
      refine (Rect.mem_set_unit ..).2 ?_
      have h0 : (i 0).val < 128 := (i 0).isLt
      have h1 : (i 1).val < 512 := (i 1).isLt
      intro a
      match a with
      | ⟨0, _⟩ => show 0 * 128 ≤ (i 0).val ∧ (i 0).val < 0 * 128 + 128; omega
      | ⟨1, _⟩ => show 0 * 512 ≤ (i 1).val ∧ (i 1).val < 0 * 512 + 512; omega⟩

theorem cut10 (t : Fin cfg0.N) (b : Vec Ideal S128x1024 .f32) (f : S128x1024.Idx → EReal)
    (hb : ∀ e : S128x1024.Idx, b e = f (((cfg0.win 10).blk t).view.emb e)) :
    (cfg0.win 10).cut (cfg0.grid.coords t) b = ((cfg0.win 10).blk t).view.read (Elt Ideal) f :=
  funext hb

theorem flushed10 (c : Dev nD) (t : Fin cfg0.N) (_ : (cfg0.win 10).flush t = true) :
    (dats m 0 c).flushed 10 t = ((cfg0.win 10).blk t).view.read (Elt Ideal) (kvs m c) := by
  show (cfg0.win 10).cut (cfg0.grid.coords t) ((dats m 0 c).after 10 t) = _
  rw [after0_10]
  refine cut10 t _ _ fun e => (kv_apply _ _ _ _ _ _ _ _ _ (blk3 m c t) (blk4 m c t) (blk5 m c t) e).trans ?_
  rw [pb_blocks m c t]
  exact (at2 (kvs m c) _ (e 0) (e 1) (whole _ _) (whole _ _)).symm

theorem final10 (c : Dev nD) : (dats m 0 c).arrAt 10 cfg0.N = kvs m c :=
  (dats m 0 c).arrAt_eq_of_cover 10 (kvs m c) (flushed10 m c) fun (i : S128x1024.Idx) =>
    ⟨point, flush0_10 _, by
      refine (View.set_slice_whole main_v45_1 ((cfg0.win 10).rect point)).symm ▸ ?_
      refine (Rect.mem_set_unit ..).2 ?_
      have h0 : (i 0).val < 128 := (i 0).isLt
      have h1 : (i 1).val < 1024 := (i 1).isLt
      intro a
      match a with
      | ⟨0, _⟩ => show 0 * 128 ≤ (i 0).val ∧ (i 0).val < 0 * 128 + 128; omega
      | ⟨1, _⟩ => show 0 * 1024 ≤ (i 1).val ∧ (i 1).val < 0 * 1024 + 1024; omega⟩

theorem cut11 (t : Fin cfg0.N) (b : Vec Ideal S128x512 .f32) (f : S128x512.Idx → EReal)
    (hb : ∀ e : S128x512.Idx, b e = f (((cfg0.win 11).blk t).view.emb e)) :
    (cfg0.win 11).cut (cfg0.grid.coords t) b = ((cfg0.win 11).blk t).view.read (Elt Ideal) f :=
  funext hb

theorem flushed11 (c : Dev nD) (t : Fin cfg0.N) (_ : (cfg0.win 11).flush t = true) :
    (dats m 0 c).flushed 11 t = ((cfg0.win 11).blk t).view.read (Elt Ideal) (vs m c) := by
  show (cfg0.win 11).cut (cfg0.grid.coords t) ((dats m 0 c).after 11 t) = _
  rw [after0_11]
  refine cut11 t _ _ fun e => (congrArg (out0_11 _ _ _ _ _ _ _ _ _) (split e)).trans ((v_apply ..).trans ?_)
  rw [pb_blocks m c t]
  exact (congrArg (fun g => lnorm (act (pj m c) _) g _) (funext fun k => blk6 m c t k)).trans
    (at2 (vs m c) _ (e 0) (e 1) (whole _ _) (whole _ _)).symm

theorem final11 (c : Dev nD) : (dats m 0 c).arrAt 11 cfg0.N = vs m c :=
  (dats m 0 c).arrAt_eq_of_cover 11 (vs m c) (flushed11 m c) fun (i : S128x512.Idx) =>
    ⟨point, flush0_11 _, by
      refine (View.set_slice_whole main_v45_2 ((cfg0.win 11).rect point)).symm ▸ ?_
      refine (Rect.mem_set_unit ..).2 ?_
      have h0 : (i 0).val < 128 := (i 0).isLt
      have h1 : (i 1).val < 512 := (i 1).isLt
      intro a
      match a with
      | ⟨0, _⟩ => show 0 * 128 ≤ (i 0).val ∧ (i 0).val < 0 * 128 + 128; omega
      | ⟨1, _⟩ => show 0 * 512 ≤ (i 1).val ∧ (i 1).val < 0 * 512 + 512; omega⟩

/-- The run, read: the three results. -/
theorem run_results : θ_run defs (onTc (τ := τ) (main (F := Ideal))) ⟨m, fun _ => 0, ρ⟩ fun r => ∀ c : Dev nD,
      r.2.mem ((c.tc : Thread nD τ).loc main_v45_0) = qs m c ∧ r.2.mem ((c.tc : Thread nD τ).loc main_v45_1) = kvs m c
        ∧ r.2.mem ((c.tc : Thread nD τ).loc main_v45_2) = vs m c :=
  (θ_run defs _ _).mono (fun _ h c => ⟨((h c).1 9).trans (final9 m c), ((h c).1 10).trans (final10 m c),
    ((h c).1 11).trans (final11 m c)⟩) (run_main m ρ)

/-! ## The reference -/

open Cert.Reference6Ideal.Read in
/-- The reference's queries are the same array. -/
theorem ref_qs (c : Dev nD) : val_main_v83 (F := Ideal) (m (c.tc.loc main_arg0)) (m (c.tc.loc main_arg1)) (m (c.tc.loc main_arg2)) = qs m c :=
  funext fun i => (congrArg _ (split i)).trans (Cert.Reference6Ideal.Rows.queries _ _ _ _ _)

open Cert.Reference6Ideal.Read in
/-- Its keys and values are the same array. -/
theorem ref_kvs (c : Dev nD) : val_main_v102 (F := Ideal) (m (c.tc.loc main_arg0)) (m (c.tc.loc main_arg1)) (m (c.tc.loc main_arg2)) = kvs m c :=
  funext fun i => (congrArg _ (split i)).trans (Cert.Reference6Ideal.Rows.keys_values _ _ _ _ _)

open Cert.Reference6Ideal.Read in
/-- Its gate rows are the same array. -/
theorem ref_vs (c : Dev nD) : val_main_v64 (F := Ideal) (m (c.tc.loc main_arg0)) (m (c.tc.loc main_arg1)) (m (c.tc.loc main_arg2))
    (m (c.tc.loc main_arg3)) = vs m c :=
  funext fun i => (congrArg _ (split i)).trans (Cert.Reference6Ideal.Rows.gate_rows _ _ _ _ _ _)

end Cert.Kernel6Ideal.Rope

end
-- ==== Proof.StepSpec.lean ====
/- The feed-forward layer at one position of each sequence, over the extended reals, entry by entry. -/
module

public import proofs.«01_k».proof.Proof.FfnSpec

@[expose] public section

noncomputable section

namespace Cert.Step

open Idealize.ShloMosaic ValueIdx Cert.Ffn

/-- The layer's arguments, by coordinates. -/
structure Args where
  x : Fin 128 → Fin 1024 → EReal
  a : Fin 128 → Fin 512 → EReal
  b : Fin 128 → Fin 512 → EReal
  wo : Fin 1024 → Fin 1024 → EReal
  fn : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  on : Fin 1024 → EReal
  p : Fin 128 → Fin 2 → Fin 2816 → EReal

variable (A : Args)

/-- The residual stream after the two mixers. -/
def x1 (r : Fin 128) (j : Fin 1024) : EReal :=
  A.x r j + ((∑ k : Fin 512, A.a r k * A.wo ⟨k.val, by omega⟩ j) + ∑ k : Fin 512, A.b r k * A.wo ⟨512 + k.val, by omega⟩ j)

/-- Its rows, normalized. -/
def h (r : Fin 128) (j : Fin 1024) : EReal := rms (x1 A r) A.fn j

/-- The gate. -/
def g (r : Fin 128) (f : Fin 2816) : EReal := ∑ k, h A r k * A.wg k f

/-- The up projection. -/
def u (r : Fin 128) (f : Fin 2816) : EReal := ∑ k, h A r k * A.wu k f

/-- The convolution of the gate with the two rows kept from the positions before. -/
def conv (r : Fin 128) (f : Fin 2816) : EReal :=
  A.cw 0 f * A.p r 0 f + A.cw 1 f * A.p r 1 f + A.cw 2 f * g A r f + A.cb f

/-- The gated activation. -/
def act (r : Fin 128) (f : Fin 2816) : EReal := gelu (conv A r f) * u A r f

/-- The residual stream after the feed-forward part. -/
def x2 (r : Fin 128) (j : Fin 1024) : EReal :=
  x1 A r j + ((∑ k : Fin 1408, act A r ⟨k.val, by omega⟩ * A.wd ⟨k.val, by omega⟩ j)
    + ∑ k : Fin 1408, act A r ⟨1408 + k.val, by omega⟩ * A.wd ⟨1408 + k.val, by omega⟩ j)

/-- The layer's output. -/
def y (r : Fin 128) (j : Fin 1024) : EReal := rms (x2 A r) A.on j

/-- The two rows kept for the next position. -/
def kept (r : Fin 128) (s : Fin 2) (f : Fin 2816) : EReal := if s.val < 1 then A.p r 1 f else g A r f

end Cert.Step

end
-- ==== Proof.StepOut.lean ====
/- What the body of the sample's output and feed-forward call leaves at each of its two points. -/
module

public import proofs.«01_k».proof.Proof.Gen.Kernel7Ideal.Frame
public import proofs.«01_k».proof.Proof.StepSpec
public import Idealize.ShloMosaic.Lib.VecWindow

@[expose] public section

set_option maxRecDepth 16384

noncomputable section

namespace Cert.Kernel7Ideal.Step

open Idealize.ShloMosaic Idealize.ShloMosaic.TcCoe Idealize.ShloMosaic.Tactic Cert.Kernel7Ideal Cert.Kernel7Ideal.Gen
open Idealize.SL.Sem ValueIdx Cert.Ffn

theorem hz2 : (![0, 0] : Fin 2 → Nat) = fun _ => 0 := funext fun a => by fin_cases a <;> rfl

/-- A load of a whole block after a store of it reads what was stored. -/
theorem stored {a b : ℕ} {e : EltTy} {κ : Kind} {sp : Space} (v : View sig κ sp ⟨2, ![a, b]⟩ e) (inb inb') (w)
    (L : List (View.Piece (Elt Ideal) ⟨2, ![a, b]⟩ e)) :
    v.readCov (⟨Rect.unit (s := ⟨2, ![a, b]⟩) ![0, 0] ![a, b] inb, w⟩ :: L)
      (Rect.unit (s := ⟨2, ![a, b]⟩) ![0, 0] ![a, b] inb').toLoadRect = w :=
  View.readCov_full v inb' inb w L

/-- A load of a whole block reads the block. -/
theorem loaded {a b : ℕ} {e : EltTy} (X : Shape.Idx ⟨2, ![a, b]⟩ → Elt Ideal e) (inb) :
    View.ld X (Rect.unit (s := ⟨2, ![a, b]⟩) ![0, 0] ![a, b] inb) = X :=
  funext fun y => congrArg X (funext fun p => Fin.ext (by
    have h : (![0, 0] : Fin 2 → ℕ) p = 0 := congrFun hz2 p
    show (![0, 0] : Fin 2 → ℕ) p + 1 * (y p).val = (y p).val
    omega))

/-- The last store of a whole block is the block's contents. -/
theorem last {a b : ℕ} {e : EltTy} (inb) (w) (L : List (View.Piece (Elt Ideal) ⟨2, ![a, b]⟩ e)) :
    View.canon (⟨Rect.unit (s := ⟨2, ![a, b]⟩) ![0, 0] ![a, b] inb, w⟩ :: L) = w :=
  funext fun y => Eq.trans (congrArg (View.canon _) (funext fun p => Fin.ext (by
    have h : (![0, 0] : Fin 2 → ℕ) p = 0 := congrFun hz2 p
    show (y p).val = (![0, 0] : Fin 2 → ℕ) p + 1 * (y p).val
    omega))) (View.canon_cons_emb (Rect.unit (s := ⟨2, ![a, b]⟩) ![0, 0] ![a, b] inb) w L y)

variable (c : Dev nD) (i : grid0.Coords)
  (arg1 : Memref sig .tc .vmem S128x1024 .f32) (harg1 : arg1.IsWhole) (arg2 : Memref sig .tc .vmem S128x512 .f32) (harg2 : arg2.IsWhole)
  (arg3 : Memref sig .tc .vmem S128x512 .bf16) (harg3 : arg3.IsWhole) (arg4 : Memref sig .tc .vmem S1024x1024 .bf16) (harg4 : arg4.IsWhole)
  (arg5 : Memref sig .tc .vmem S1x1024 .f32) (harg5 : arg5.IsWhole) (arg6 : Memref sig .tc .vmem S1024x1408 .bf16) (harg6 : arg6.IsWhole)
  (arg7 : Memref sig .tc .vmem S1024x1408 .bf16) (harg7 : arg7.IsWhole) (arg8 : Memref sig .tc .vmem S3x1408 .f32) (harg8 : arg8.IsWhole)
  (arg9 : Memref sig .tc .vmem S1x1408 .f32) (harg9 : arg9.IsWhole) (arg10 : Memref sig .tc .vmem S1408x1024 .bf16) (harg10 : arg10.IsWhole)
  (arg11 : Memref sig .tc .vmem S1x1024 .f32) (harg11 : arg11.IsWhole) (arg12 : Memref sig .tc .vmem S128x1408 .f32) (harg12 : arg12.IsWhole)
  (arg13 : Memref sig .tc .vmem S128x1408 .f32) (harg13 : arg13.IsWhole) (arg14 : Memref sig .tc .vmem S128x1024 .f32) (harg14 : arg14.IsWhole)
  (arg15 : Memref sig .tc .vmem S128x1408 .f32) (harg15 : arg15.IsWhole) (arg16 : Memref sig .tc .vmem S128x1024 .f32) (harg16 : arg16.IsWhole)
  (arg17 : Memref sig .tc .vmem S128x1024 .bf16) (harg17 : arg17.IsWhole) (arg18 : Memref sig .tc .vmem S128x1024 .f32) (harg18 : arg18.IsWhole)
  (x0 : Vec Ideal S128x1024 .f32) (x1 : Vec Ideal S128x512 .f32) (x2 : Vec Ideal S128x512 .bf16) (x3 : Vec Ideal S1024x1024 .bf16)
  (x4 : Vec Ideal S1x1024 .f32) (x5 : Vec Ideal S1024x1408 .bf16) (x6 : Vec Ideal S1024x1408 .bf16) (x7 : Vec Ideal S3x1408 .f32)
  (x8 : Vec Ideal S1x1408 .f32) (x9 : Vec Ideal S1408x1024 .bf16) (x10 : Vec Ideal S1x1024 .f32) (x11 : Vec Ideal S128x1408 .f32)
  (x12 : Vec Ideal S128x1408 .f32)
  (xs0 : Vec Ideal S128x1024 .f32) (xs1 : Vec Ideal S128x1024 .bf16) (xs2 : Vec Ideal S128x1024 .f32)

/-- The residual stream's block. -/
def mix : FVec Ideal S128x1024 .f32 :=
  k0_pay4 x1 (View.ld x3 (Rect.unit (s := S1024x1024) ![0, 0] S512x1024.size inb_S1024x1024_S512x1024_0_0)) x2
    (View.ld x3 (Rect.unit (s := S1024x1024) ![512, 0] S512x1024.size inb_S1024x1024_S512x1024_512_0)) x0

/-- The normalized rows' block. -/
def hid : FVec Ideal S128x1024 .bf16 :=
  k0_pay5 x1 (View.ld x3 (Rect.unit (s := S1024x1024) ![0, 0] S512x1024.size inb_S1024x1024_S512x1024_0_0)) x2
    (View.ld x3 (Rect.unit (s := S1024x1024) ![512, 0] S512x1024.size inb_S1024x1024_S512x1024_512_0)) x0 x4

/-- The convolved tile of the gate. -/
def convOf : FVec Ideal S128x1408 .f32 :=
  k0_pay10 xs1 x5 (View.ld x7 (Rect.unit (s := S3x1408) ![0, 0] S1x1408.size inb_S3x1408_S1x1408_0_0)) x11
    (View.ld x7 (Rect.unit (s := S3x1408) ![1, 0] S1x1408.size inb_S3x1408_S1x1408_1_0)) x12
    (View.ld x7 (Rect.unit (s := S3x1408) ![2, 0] S1x1408.size inb_S3x1408_S1x1408_2_0)) x8

/-- What was summed before with a tile's part of the down projection. -/
def accOf : FVec Ideal S128x1024 .f32 :=
  k0_pay1 (k0_pay9 xs1 x6) (convOf x5 x7 x8 x11 x12 xs1) xs2
    (mulf (broadcast S128x1408 (Scalar.ofBits .f32 0x3F000000#32)) (convOf x5 x7 x8 x11 x12 xs1))
    (mulf (convOf x5 x7 x8 x11 x12 xs1) (convOf x5 x7 x8 x11 x12 xs1)) x9

/-- The gate tile at the first point. -/
theorem out_A_14 (hc0 hc1) : out0_A_14 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12
      = k0_pay8 (hid x0 x1 x2 x3 x4) x5 := by
  unfold out0_A_14
  rw [View.read_writes_eq_canon _ _ _ (cover0_A_14 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  refine (last _ _ _).trans ?_
  sl_unfold_words
  simp only [stored, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, loaded]
  rfl

/-- The carried stream. -/
theorem kept_A_0 (hc0 hc1) : sout0_A_0 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12
      = mix x0 x1 x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  refine (last _ _ _).trans ?_
  sl_unfold_words
  simp only [stored, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, loaded]
  rfl

/-- The carried rows. -/
theorem kept_A_1 (hc0 hc1) : sout0_A_1 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12
      = hid x0 x1 x2 x3 x4 := by
  unfold sout0_A_1
  rw [View.read_writes_eq_canon _ _ _ (scover0_A_1 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  refine (last _ _ _).trans ?_
  sl_unfold_words
  simp only [stored, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, loaded]
  rfl

/-- The carried sum. -/
theorem kept_A_2 (hc0 hc1) : sout0_A_2 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12
      = accOf x5 x6 x7 x8 x9 x11 x12 (hid x0 x1 x2 x3 x4) (k0_pay7 (k0_pay6 (F := Ideal))) := by
  unfold sout0_A_2
  rw [View.read_writes_eq_canon _ _ _ (scover0_A_2 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  refine (last _ _ _).trans ?_
  sl_unfold_words
  simp only [stored, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, loaded]
  rfl

/-- The gate tile at the second point. -/
theorem out_B_14 (hc0 hc1) : out0_B_14 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2
      = k0_pay8 xs1 x5 := by
  unfold out0_B_14
  rw [View.read_writes_eq_canon _ _ _ (cover0_B_14 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2)]
  unfold kernelRun0_B
  dsimp only
  refine (last _ _ _).trans ?_
  sl_unfold_words
  simp only [stored, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, loaded]

/-- The output at the second point. -/
theorem out_B_13 (hc0 hc1) : out0_B_13 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2
      = k0_pay2 xs0 (accOf x5 x6 x7 x8 x9 x11 x12 xs1 xs2) x10 := by
  unfold out0_B_13
  rw [View.read_writes_eq_canon _ _ _ (cover0_B_13 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2)]
  unfold kernelRun0_B
  dsimp only
  refine (last _ _ _).trans ?_
  sl_unfold_words
  simp only [stored, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, loaded]
  rfl

end Cert.Kernel7Ideal.Step

end
-- ==== Proof.StepRows.lean ====
/- The functions of the sample's output and feed-forward call over the extended reals, read at an index. -/
module

public import proofs.«01_k».proof.Proof.StepOut
public import Idealize.ShloMosaic.Lib.MatmulPlain
public import Idealize.ShloMosaic.Lib.IdealHost
public import Idealize.ShloMosaic.Lib.ValueLayout
public import Idealize.ShloMosaic.Lib.Pipeline.Value
public import Idealize.ShloMosaic.PureOps.Ideal.Laws

@[expose] public section

set_option maxRecDepth 16384

noncomputable section

namespace Cert.Kernel7Ideal.Step

open Idealize.ShloMosaic Idealize.ShloMosaic.TcCoe Cert.Kernel7Ideal Cert.Kernel7Ideal.Gen ValueIdx Cert.Ffn

/-- A column of a one-column array, along the columns. -/
theorem column (v : S128x1.Idx → EReal) (r : Fin 128) (j : Fin 1024) :
    broadcastTo S128x1024 v broadcasts_S128x1_S128x1024 (ix2 r j) = v (ix2 r 0) := by
  refine broadcastTo_apply v _ (ix2 r j) (ix2 r (0 : Fin 1)) fun a => ?_
  match a with
  | ⟨0, _⟩ => rfl
  | ⟨1, _⟩ => rfl

/-- The kernel's normalization of a block of rows. -/
theorem rms_apply (s : FVec Ideal S128x1024 .f32) (w : FVec Ideal S1x1024 .f32) (r : Fin 128) (j : Fin 1024) :
    mulf (mulf s (broadcastTo S128x1024 (rsqrt (addf (divf (shapeCast S128x1 (multiReduction .add [1] S128 (mulf s s) 0x00000000#32
        reduces_S128x1024_S128 (.inl rfl) rfl) shapeCasts_S128_S128x1) (broadcast S128x1 (Scalar.ofBits .f32 0x44800000#32)))
        (broadcast S128x1 (Scalar.ofBits .f32 0x358637BD#32)))) broadcasts_S128x1_S128x1024))
      (broadcastTo S128x1024 w broadcasts_S1x1024_S128x1024) (ix2 r j)
      = rms (fun k => s (ix2 r k)) (fun k => w (ix2 0 k)) j := by
  have e : shapeCast S128x1 (multiReduction .add [1] S128 (mulf s s) 0x00000000#32 reduces_S128x1024_S128 (.inl rfl) rfl) shapeCasts_S128_S128x1
      (ix2 r (0 : Fin 1)) = ∑ k : Fin 1024, s (ix2 r k) * s (ix2 r k) := by
    refine (Idealize.ShloMosaic.shapeCast_apply _ _ (ix2 r (0 : Fin 1)) (ix1 r) ?_).trans ?_
    · rw [Shape.rowMajor_val_one, Shape.rowMajor_val_two]
      show r.val = r.val * 1 + 0
      omega
    · refine (Ideal.multiReduction_add_single (mulf s s) _ reduces_S128x1024_S128 _ _ (ix1 r)).trans (Finset.sum_congr rfl fun k _ => ?_)
      exact congrArg (fun v : EReal => v * v) (at2 s _ r k rfl rfl)
  unfold rms
  show s (ix2 r j) * _ * _ = _
  rw [column, broadcastTo_1b_ab_apply]
  show s (ix2 r j) * Ideal.rsqrt (Ideal.div _ _ + _) * _ = _
  rw [e]
  rfl

/-- The rows of the mixing weights a block reads. -/
theorem rows_lo (w : Vec Ideal S1024x1024 .bf16) (k : Fin 512) (j : Fin 1024) :
    View.ld w (Rect.unit (s := S1024x1024) ![0, 0] S512x1024.size inb_S1024x1024_S512x1024_0_0) (ix2 k j) = w (ix2 ⟨k.val, by omega⟩ j) := by
  refine at2 w _ _ _ ?_ ?_
  · show 0 + 1 * k.val = k.val
    omega
  · show 0 + 1 * j.val = j.val
    omega

theorem rows_hi (w : Vec Ideal S1024x1024 .bf16) (k : Fin 512) (j : Fin 1024) :
    View.ld w (Rect.unit (s := S1024x1024) ![512, 0] S512x1024.size inb_S1024x1024_S512x1024_512_0) (ix2 k j) = w (ix2 ⟨512 + k.val, by omega⟩ j) := by
  refine at2 w _ _ _ ?_ ?_
  · show 512 + 1 * k.val = 512 + k.val
    omega
  · show 0 + 1 * j.val = j.val
    omega

/-- The residual stream of the block. -/
theorem pay3_apply (a : Vec Ideal S128x512 .f32) (w : Vec Ideal S512x1024 .bf16) (b : Vec Ideal S128x512 .bf16) (w' : Vec Ideal S512x1024 .bf16)
    (x : Vec Ideal S128x1024 .f32) (r : Fin 128) (j : Fin 1024) : k0_pay3 a w b w' x (ix2 r j)
      = x (ix2 r j) + ((∑ k : Fin 512, HMul.hMul (α := EReal) (β := EReal) (γ := EReal) (a (ix2 r k)) (w (ix2 k j)))
        + ∑ k : Fin 512, HMul.hMul (α := EReal) (β := EReal) (γ := EReal) (b (ix2 r k)) (w' (ix2 k j))) := by
  have p : ∀ (a : Vec Ideal S128x512 .bf16) (w : Vec Ideal S512x1024 .bf16),
      matmul (F := Ideal) (φ₁ := .bf16) (φ₂ := .bf16) dot_S128x512_S512x1024_S128x1024_1_0_0_1_n_n none a (shapeCast S512x1024 w shapeCasts_S512x1024_S512x1024)
        (constant S128x1024 .f32 0x00000000#32) (ix2 r j)
        = ∑ k : Fin 512, HMul.hMul (α := EReal) (β := EReal) (γ := EReal) (a (ix2 r k)) (w (ix2 k j)) := fun a w => by
    refine (Ideal.matmul_plain_apply (M := 128) (K := 512) (N := 1024) none _ _ _ r j).trans ?_
    show Ideal.ofBits .f32 0x00000000#32 + _ = _
    rw [Ideal.ofBits_zero_f32, zero_add]
    exact Finset.sum_congr rfl fun k _ => congrArg (fun v : EReal => HMul.hMul (α := EReal) (β := EReal) (γ := EReal) (a (ix2 r k)) v)
      (Idealize.ShloMosaic.shapeCast_apply _ _ (ix2 k j) (ix2 k j) rfl)
  exact congrArg (fun v : EReal => HAdd.hAdd (α := EReal) (β := EReal) (γ := EReal) (x (ix2 r j)) v) (congrArg₂ (fun p q : EReal => p + q) (p a w) (p b w'))

variable (A : Cert.Step.Args) (T : Fin 1408 → Fin 2816)
  (x0 : Vec Ideal S128x1024 .f32) (x1 : Vec Ideal S128x512 .f32) (x2 : Vec Ideal S128x512 .bf16) (x3 : Vec Ideal S1024x1024 .bf16)
  (x4 : Vec Ideal S1x1024 .f32) (x5 x6 : Vec Ideal S1024x1408 .bf16) (x7 : Vec Ideal S3x1408 .f32) (x8 : Vec Ideal S1x1408 .f32)
  (x9 : Vec Ideal S1408x1024 .bf16) (x11 x12 : Vec Ideal S128x1408 .f32) (xs1 : Vec Ideal S128x1024 .bf16) (xs2 : Vec Ideal S128x1024 .f32)

/-- The residual stream, from entries of what the block stages. -/
theorem core_apply (hx : ∀ r j, x0 (ix2 r j) = A.x r j) (ha : ∀ r k, x1 (ix2 r k) = A.a r k) (hb : ∀ r k, x2 (ix2 r k) = A.b r k)
    (hw : ∀ k j, x3 (ix2 k j) = A.wo k j) (r : Fin 128) (j : Fin 1024) :
    k0_pay3 x1 (View.ld x3 (Rect.unit (s := S1024x1024) ![0, 0] S512x1024.size inb_S1024x1024_S512x1024_0_0)) x2
      (View.ld x3 (Rect.unit (s := S1024x1024) ![512, 0] S512x1024.size inb_S1024x1024_S512x1024_512_0)) x0 (ix2 r j) = Cert.Step.x1 A r j := by
  rw [pay3_apply]
  unfold Cert.Step.x1
  refine congrArg₂ (fun p q : EReal => p + q) (hx r j) (congrArg₂ (fun p q : EReal => p + q) (Finset.sum_congr rfl fun k _ => ?_) (Finset.sum_congr rfl fun k _ => ?_))
  · exact congrArg₂ (fun p q : EReal => p * q) (ha r k) ((rows_lo x3 k j).trans (hw _ j))
  · exact congrArg₂ (fun p q : EReal => p * q) (hb r k) ((rows_hi x3 k j).trans (hw _ j))

theorem mix_apply (hx : ∀ r j, x0 (ix2 r j) = A.x r j) (ha : ∀ r k, x1 (ix2 r k) = A.a r k) (hb : ∀ r k, x2 (ix2 r k) = A.b r k)
    (hw : ∀ k j, x3 (ix2 k j) = A.wo k j) (r : Fin 128) (j : Fin 1024) : mix x0 x1 x2 x3 (ix2 r j) = Cert.Step.x1 A r j := by
  unfold mix k0_pay4
  exact (Idealize.ShloMosaic.shapeCast_apply _ _ (ix2 r j) (ix2 r j) rfl).trans (core_apply A x0 x1 x2 x3 hx ha hb hw r j)

/-- The normalized rows. -/
theorem hid_apply (hx : ∀ r j, x0 (ix2 r j) = A.x r j) (ha : ∀ r k, x1 (ix2 r k) = A.a r k) (hb : ∀ r k, x2 (ix2 r k) = A.b r k)
    (hw : ∀ k j, x3 (ix2 k j) = A.wo k j) (hf : ∀ j, x4 (ix2 0 j) = A.fn j) (r : Fin 128) (j : Fin 1024) :
    hid x0 x1 x2 x3 x4 (ix2 r j) = Cert.Step.h A r j := by
  unfold hid k0_pay5
  refine (Idealize.ShloMosaic.shapeCast_apply _ _ (ix2 r j) (ix2 r j) rfl).trans ((rms_apply _ _ r j).trans ?_)
  unfold Cert.Step.h
  refine congrArg₂ (fun v w => rms v w j) (funext fun k => core_apply A x0 x1 x2 x3 hx ha hb hw r k) (funext fun k => ?_)
  exact (Idealize.ShloMosaic.shapeCast_apply _ _ (ix2 0 k) (ix2 0 k) rfl).trans (hf k)

/-- A tile of a projection of the normalized rows. -/
theorem proj_apply (w : Vec Ideal S1024x1408 .bf16) (r : Fin 128) (f : Fin 1408) :
    k0_pay8 xs1 w (ix2 r f) = ∑ k : Fin 1024, HMul.hMul (α := EReal) (β := EReal) (γ := EReal) (xs1 (ix2 r k)) (w (ix2 k f)) := by
  unfold k0_pay8
  refine (Ideal.matmul_plain_apply (M := 128) (K := 1024) (N := 1408) none _ _ _ r f).trans ?_
  show Ideal.ofBits .f32 0x00000000#32 + _ = _
  rw [Ideal.ofBits_zero_f32, zero_add]
  exact Finset.sum_congr rfl fun k _ => congrArg (fun v : EReal => HMul.hMul (α := EReal) (β := EReal) (γ := EReal) (xs1 (ix2 r k)) v)
    (Idealize.ShloMosaic.shapeCast_apply _ _ (ix2 k f) (ix2 k f) rfl)

/-- The gate tile. -/
theorem gate_apply (hh : ∀ r j, xs1 (ix2 r j) = Cert.Step.h A r j) (h5 : ∀ k f, x5 (ix2 k f) = A.wg k (T f)) (r : Fin 128) (f : Fin 1408) :
    k0_pay8 xs1 x5 (ix2 r f) = Cert.Step.g A r (T f) :=
  (proj_apply xs1 x5 r f).trans (Finset.sum_congr rfl fun k _ => congrArg₂ (fun p q : EReal => p * q) (hh r k) (h5 k f))

/-- The up projection's tile. -/
theorem up_apply (hh : ∀ r j, xs1 (ix2 r j) = Cert.Step.h A r j) (h6 : ∀ k f, x6 (ix2 k f) = A.wu k (T f)) (r : Fin 128) (f : Fin 1408) :
    k0_pay9 xs1 x6 (ix2 r f) = Cert.Step.u A r (T f) :=
  (proj_apply xs1 x6 r f).trans (Finset.sum_congr rfl fun k _ => congrArg₂ (fun p q : EReal => p * q) (hh r k) (h6 k f))

/-- A filter row of a tile. -/
theorem filterRow (f : Fin 1408) :
    View.ld x7 (Rect.unit (s := S3x1408) ![0, 0] S1x1408.size inb_S3x1408_S1x1408_0_0) (ix2 0 f) = x7 (ix2 0 f)
    ∧ View.ld x7 (Rect.unit (s := S3x1408) ![1, 0] S1x1408.size inb_S3x1408_S1x1408_1_0) (ix2 0 f) = x7 (ix2 1 f)
    ∧ View.ld x7 (Rect.unit (s := S3x1408) ![2, 0] S1x1408.size inb_S3x1408_S1x1408_2_0) (ix2 0 f) = x7 (ix2 2 f) := by
  have hc : 0 + 1 * f.val = f.val := by omega
  exact ⟨at2 x7 _ 0 f rfl hc, at2 x7 _ 1 f rfl hc, at2 x7 _ 2 f rfl hc⟩

/-- The convolved tile. -/
theorem conv_apply (hh : ∀ r j, xs1 (ix2 r j) = Cert.Step.h A r j) (h5 : ∀ k f, x5 (ix2 k f) = A.wg k (T f)) (h7 : ∀ k f, x7 (ix2 k f) = A.cw k (T f))
    (h8 : ∀ f, x8 (ix2 0 f) = A.cb (T f)) (h11 : ∀ r f, x11 (ix2 r f) = A.p r 0 (T f)) (h12 : ∀ r f, x12 (ix2 r f) = A.p r 1 (T f))
    (r : Fin 128) (f : Fin 1408) : convOf x5 x7 x8 x11 x12 xs1 (ix2 r f) = Cert.Step.conv A r (T f) := by
  obtain ⟨w0, w1, w2⟩ := filterRow x7 f
  have t0 := (broadcastTo_1b_ab_apply (View.ld x7 (Rect.unit (s := S3x1408) ![0, 0] S1x1408.size inb_S3x1408_S1x1408_0_0)) broadcasts_S1x1408_S128x1408 r f).trans (w0.trans (h7 0 f))
  have t1 := (broadcastTo_1b_ab_apply (View.ld x7 (Rect.unit (s := S3x1408) ![1, 0] S1x1408.size inb_S3x1408_S1x1408_1_0)) broadcasts_S1x1408_S128x1408 r f).trans (w1.trans (h7 1 f))
  have t2 := (broadcastTo_1b_ab_apply (View.ld x7 (Rect.unit (s := S3x1408) ![2, 0] S1x1408.size inb_S3x1408_S1x1408_2_0)) broadcasts_S1x1408_S128x1408 r f).trans (w2.trans (h7 2 f))
  have tb := (broadcastTo_1b_ab_apply (shapeCast S1x1408 x8 shapeCasts_S1x1408_S1x1408) broadcasts_S1x1408_S128x1408 r f).trans
    ((Idealize.ShloMosaic.shapeCast_apply _ _ (ix2 0 f) (ix2 0 f) rfl).trans (h8 f))
  have p0 := (Idealize.ShloMosaic.shapeCast_apply x11 shapeCasts_S128x1408_S128x1408 (ix2 r f) (ix2 r f) rfl).trans (h11 r f)
  have p1 := (Idealize.ShloMosaic.shapeCast_apply x12 shapeCasts_S128x1408_S128x1408 (ix2 r f) (ix2 r f) rfl).trans (h12 r f)
  unfold Cert.Step.conv
  rw [← gate_apply A T x5 xs1 hh h5 r f, ← t0, ← t1, ← t2, ← tb, ← p0, ← p1]
  rfl

/-- A tile's part of the down projection, added to what was summed before. -/
theorem acc_apply (hh : ∀ r j, xs1 (ix2 r j) = Cert.Step.h A r j) (h5 : ∀ k f, x5 (ix2 k f) = A.wg k (T f)) (h6 : ∀ k f, x6 (ix2 k f) = A.wu k (T f))
    (h7 : ∀ k f, x7 (ix2 k f) = A.cw k (T f)) (h8 : ∀ f, x8 (ix2 0 f) = A.cb (T f)) (h9 : ∀ f j, x9 (ix2 f j) = A.wd (T f) j)
    (h11 : ∀ r f, x11 (ix2 r f) = A.p r 0 (T f)) (h12 : ∀ r f, x12 (ix2 r f) = A.p r 1 (T f)) (r : Fin 128) (j : Fin 1024) :
    accOf x5 x6 x7 x8 x9 x11 x12 xs1 xs2 (ix2 r j)
      = HAdd.hAdd (α := EReal) (β := EReal) (γ := EReal) (xs2 (ix2 r j)) (∑ k : Fin 1408, Cert.Step.act A r (T k) * A.wd (T k) j) := by
  unfold accOf k0_pay1
  refine (Idealize.ShloMosaic.shapeCast_apply _ _ (ix2 r j) (ix2 r j) rfl).trans ?_
  refine congrArg (fun v : EReal => HAdd.hAdd (α := EReal) (β := EReal) (γ := EReal) (xs2 (ix2 r j)) v) ?_
  refine (Ideal.matmul_plain_apply (M := 128) (K := 1408) (N := 1024) none _ _ _ r j).trans ?_
  show Ideal.ofBits .f32 0x00000000#32 + _ = _
  rw [Ideal.ofBits_zero_f32, zero_add]
  refine Finset.sum_congr rfl fun k _ => congrArg₂ (fun p q : EReal => p * q) ?_
    ((Idealize.ShloMosaic.shapeCast_apply _ _ (ix2 k j) (ix2 k j) rfl).trans (h9 k j))
  unfold Cert.Step.act gelu
  rw [← conv_apply A T x5 x7 x8 x11 x12 xs1 hh h5 h7 h8 h11 h12 r k, ← up_apply A T x6 xs1 hh h6 r k]
  rfl

/-- The sum before the first tile. -/
theorem zero_apply (r : Fin 128) (j : Fin 1024) : k0_pay7 (k0_pay6 (F := Ideal)) (ix2 r j) = (0 : EReal) := by
  unfold k0_pay7 k0_pay6
  exact (Idealize.ShloMosaic.shapeCast_apply _ _ (ix2 r j) (ix2 r j) rfl).trans Ideal.ofBits_zero_f32

/-- The output. -/
theorem out_apply (s a : Vec Ideal S128x1024 .f32) (w : Vec Ideal S1x1024 .f32) (r : Fin 128) (j : Fin 1024) :
    k0_pay2 s a w (ix2 r j) = rms (fun k => HAdd.hAdd (α := EReal) (β := EReal) (γ := EReal) (s (ix2 r k)) (a (ix2 r k))) (fun k => w (ix2 0 k)) j := by
  unfold k0_pay2
  refine (rms_apply _ _ r j).trans ?_
  exact congrArg (fun w => rms _ w j) (funext fun k => Idealize.ShloMosaic.shapeCast_apply _ _ (ix2 0 k) (ix2 0 k) rfl)

end Cert.Kernel7Ideal.Step

end
-- ==== Proof.StepRef.lean ====
/- The reference of the feed-forward layer at one position of each sequence, over the extended reals, entry by entry. -/
module

public import proofs.«01_k».proof.Proof.StepSpec
public import proofs.«01_k».proof.Proof.Gen.Reference7Ideal.Read
public import Idealize.ShloMosaic.Lib.Pipeline.Value

@[expose] public section

set_option maxRecDepth 16384

noncomputable section

namespace Cert.Reference7Ideal.Rows

open Cert.Reference7Ideal Cert.Reference7Ideal.Gen Cert.Reference7Ideal.Read Cert.Ffn
open Idealize.ShloMosaic Idealize.ShloMosaic.TcCoe ValueIdx

variable (x0 : (⟨S128x1024, .f32⟩ : BufTy).Contents (Elt Ideal)) (x1 : (⟨S128x512, .f32⟩ : BufTy).Contents (Elt Ideal))
  (x2 : (⟨S128x512, .bf16⟩ : BufTy).Contents (Elt Ideal))
  (x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S3x2816, .f32⟩ : BufTy).Contents (Elt Ideal))
  (x8 : (⟨S2816, .f32⟩ : BufTy).Contents (Elt Ideal)) (x9 : (⟨S2816x1024, .f32⟩ : BufTy).Contents (Elt Ideal))
  (x10 : (⟨S1024, .f32⟩ : BufTy).Contents (Elt Ideal)) (x11 : (⟨S128x2x2816, .f32⟩ : BufTy).Contents (Elt Ideal))

/-- The arguments by coordinates. -/
def args : Step.Args where
  x r j := x0 (ix2 r j)
  a r k := x1 (ix2 r k)
  b r k := x2 (ix2 r k)
  wo k j := x3 (ix2 k j)
  fn j := x4 (ix1 j)
  wg k f := x5 (ix2 k f)
  wu k f := x6 (ix2 k f)
  cw k f := x7 (ix2 k f)
  cb f := x8 (ix1 f)
  wd f j := x9 (ix2 f j)
  on j := x10 (ix1 j)
  p r s f := x11 (ix3 r s f)

/-- The residual stream. -/
theorem stream (r : Fin 128) (j : Fin 1024) : val_main_v3 x0 x1 x2 x3 (ix2 r j) = Step.x1 (args x0 x1 x2 x3 x4 x5 x6 x7 x8 x9 x10 x11) r j := by
  rw [val_main_v3_apply, val_main_v2_apply]
  unfold Step.x1
  show x0 (ix2 r j) + _ = x0 (ix2 r j) + _
  refine congrArg (x0 (ix2 r j) + ·) ?_
  refine (Fin.sum_univ_add (M := EReal) (a := 512) (b := 512) _).trans ?_
  refine congrArg₂ (fun p q : EReal => p + q) (Finset.sum_congr rfl fun k _ => ?_) (Finset.sum_congr rfl fun k _ => ?_)
  · refine congrArg₂ (fun p q : EReal => p * q) ?_ (at2 x3 _ _ _ rfl rfl)
    unfold val_main_v1
    refine (concatenate_pair_apply_left (t := S128x1024) (s₁ := S128x512) (s₂ := S128x512) 1 x1 (val_main_v0 (F := Ideal) x2)
      concatenates_S128x512_S128x512_S128x1024_d1 _ rfl (ix2 r k) fun b => ?_)
    match b with
    | ⟨0, _⟩ => rfl
    | ⟨1, _⟩ => rfl
  · refine congrArg₂ (fun p q : EReal => p * q) ?_ (at2 x3 _ _ _ rfl rfl)
    unfold val_main_v1
    refine (concatenate_pair_apply_right (t := S128x1024) (s₁ := S128x512) (s₂ := S128x512) 1 x1 (val_main_v0 (F := Ideal) x2)
      concatenates_S128x512_S128x512_S128x1024_d1 _ rfl rfl (ix2 r k) (fun b hb => ?_) ?_)
    · match b with
      | ⟨0, _⟩ => rfl
      | ⟨1, _⟩ => exact absurd rfl hb
    · show k.val + 512 = 512 + k.val
      omega

/-- The normalized rows. -/
theorem normed (r : Fin 128) (j : Fin 1024) : val_main_v16 x0 x1 x2 x3 x4 (ix2 r j) = Step.h (args x0 x1 x2 x3 x4 x5 x6 x7 x8 x9 x10 x11) r j := by
  rw [val_main_v16_apply, val_main_v13_apply, val_main_v12_apply, val_main_v11_apply, val_main_v10_apply, val_main_v8_apply,
    val_main_v6_apply, val_main_v5_apply, val_main_v7_apply, val_main_v9_apply, val_main_v15_apply, val_main_v14_apply]
  unfold Step.h rms
  show val_main_v3 x0 x1 x2 x3 (ix2 r j) * Ideal.rsqrt (Ideal.div (Ideal.ofBits .f32 0x00000000#32 + _) _ + _) * _ = _
  rw [Ideal.ofBits_zero_f32, zero_add, stream x0 x1 x2 x3 x4 x5 x6 x7 x8 x9 x10 x11 r j]
  refine congrArg₂ (fun p q : EReal => Step.x1 (args x0 x1 x2 x3 x4 x5 x6 x7 x8 x9 x10 x11) r j * Ideal.rsqrt (Ideal.div p (Ideal.ofBits .f32 0x44800000#32) + Ideal.ofBits .f32 0x358637BD#32) * q)
    (Finset.sum_congr rfl fun k _ => ?_) (at1 x4 _ _ rfl)
  rw [val_main_v4_apply, ← stream x0 x1 x2 x3 x4 x5 x6 x7 x8 x9 x10 x11 r k]
  exact congrArg (fun v : EReal => v * v) (at2 _ _ r k rfl rfl)

/-- The gate. -/
theorem gate (r : Fin 128) (f : Fin 2816) : val_main_v17 x0 x1 x2 x3 x4 x5 (ix2 r f) = Step.g (args x0 x1 x2 x3 x4 x5 x6 x7 x8 x9 x10 x11) r f := by
  rw [val_main_v17_apply]
  refine Finset.sum_congr rfl fun k _ => congrArg₂ (fun p q : EReal => p * q) ?_ (at2 x5 _ _ _ rfl rfl)
  exact (at2 _ _ r k rfl rfl).trans (normed x0 x1 x2 x3 x4 x5 x6 x7 x8 x9 x10 x11 r k)

/-- The up projection. -/
theorem upper (r : Fin 128) (f : Fin 2816) : val_main_v61 x0 x1 x2 x3 x4 x6 (ix2 r f) = Step.u (args x0 x1 x2 x3 x4 x5 x6 x7 x8 x9 x10 x11) r f := by
  rw [val_main_v61_apply]
  refine Finset.sum_congr rfl fun k _ => congrArg₂ (fun p q : EReal => p * q) ?_ (at2 x6 _ _ _ rfl rfl)
  exact (at2 _ _ r k rfl rfl).trans (normed x0 x1 x2 x3 x4 x5 x6 x7 x8 x9 x10 x11 r k)

/-- The kept rows with the gate after them: the first two. -/
theorem past (r : Fin 128) (p : Fin 3) (f : Fin 2816) (s : Fin 2) (hp : p.val = s.val) :
    val_main_v19 x0 x1 x2 x3 x4 x5 x11 (ix3 r p f) = x11 (ix3 r s f) := by
  unfold val_main_v19
  refine concatenate_pair_apply_left (t := S128x3x2816) (s₁ := S128x2x2816) (s₂ := S128x1x2816) 1 x11
    (val_main_v18 (F := Ideal) x0 x1 x2 x3 x4 x5) concatenates_S128x2x2816_S128x1x2816_S128x3x2816_d1 _ rfl (ix3 r s f) fun q => ?_
  match q with
  | ⟨0, _⟩ => rfl
  | ⟨1, _⟩ => exact hp.symm
  | ⟨2, _⟩ => rfl

/-- And the last. -/
theorem present (r : Fin 128) (p : Fin 3) (f : Fin 2816) (hp : p.val = 2) :
    val_main_v19 x0 x1 x2 x3 x4 x5 x11 (ix3 r p f) = Step.g (args x0 x1 x2 x3 x4 x5 x6 x7 x8 x9 x10 x11) r f := by
  unfold val_main_v19
  refine (concatenate_pair_apply_right (t := S128x3x2816) (s₁ := S128x2x2816) (s₂ := S128x1x2816) 1 x11
    (val_main_v18 (F := Ideal) x0 x1 x2 x3 x4 x5) concatenates_S128x2x2816_S128x1x2816_S128x3x2816_d1 _ rfl rfl (ix3 r (0 : Fin 1) f) (fun q hq => ?_) ?_).trans ?_
  · match q with
    | ⟨0, _⟩ => rfl
    | ⟨1, _⟩ => exact absurd rfl hq
    | ⟨2, _⟩ => rfl
  · show 0 + 2 = p.val
    omega
  · rw [val_main_v18_apply]
    exact (at2 _ _ r f rfl rfl).trans (gate x0 x1 x2 x3 x4 x5 x6 x7 x8 x9 x10 x11 r f)

/-- A filter row, along the sequences. -/
theorem filter0 (r : Fin 128) (f : Fin 2816) : val_main_v25 x7 (ix2 r f) = x7 (ix2 0 f) := by
  have hf := f.isLt
  rw [val_main_v25_apply, val_main_v24_apply, val_main_v21_apply, val_main_v20_apply]
  refine at2 x7 _ 0 f rfl ?_
  show f.val % 2816 = f.val
  omega

theorem filter1 (r : Fin 128) (f : Fin 2816) : val_main_v34 x7 (ix2 r f) = x7 (ix2 1 f) := by
  have hf := f.isLt
  rw [val_main_v34_apply, val_main_v33_apply, val_main_v30_apply, val_main_v29_apply]
  refine at2 x7 _ 1 f rfl ?_
  show f.val % 2816 = f.val
  omega

theorem filter2 (r : Fin 128) (f : Fin 2816) : val_main_v42 x7 (ix2 r f) = x7 (ix2 2 f) := by
  have hf := f.isLt
  rw [val_main_v42_apply, val_main_v41_apply, val_main_v38_apply, val_main_v37_apply]
  refine at2 x7 _ 2 f rfl ?_
  show f.val % 2816 = f.val
  omega

theorem tap0 (r : Fin 128) (f : Fin 2816) : val_main_v23 x0 x1 x2 x3 x4 x5 x11 (ix2 r f) = x11 (ix3 r 0 f) := by
  have hf := f.isLt
  have hr := r.isLt
  rw [val_main_v23_apply, val_main_v22_apply]
  refine (at3 _ _ r 0 f ?_ rfl ?_).trans (past x0 x1 x2 x3 x4 x5 x11 r 0 f 0 rfl)
  · show (r.val * 2816 + f.val) / 2816 = r.val
    omega
  · show (r.val * 2816 + f.val) % 2816 = f.val
    omega

theorem tap1 (r : Fin 128) (f : Fin 2816) : val_main_v32 x0 x1 x2 x3 x4 x5 x11 (ix2 r f) = x11 (ix3 r 1 f) := by
  have hf := f.isLt
  have hr := r.isLt
  rw [val_main_v32_apply, val_main_v31_apply]
  refine (at3 _ _ r 1 f ?_ rfl ?_).trans (past x0 x1 x2 x3 x4 x5 x11 r 1 f 1 rfl)
  · show (r.val * 2816 + f.val) / 2816 = r.val
    omega
  · show (r.val * 2816 + f.val) % 2816 = f.val
    omega

theorem tap2 (r : Fin 128) (f : Fin 2816) : val_main_v40 x0 x1 x2 x3 x4 x5 x11 (ix2 r f) = Step.g (args x0 x1 x2 x3 x4 x5 x6 x7 x8 x9 x10 x11) r f := by
  have hf := f.isLt
  have hr := r.isLt
  rw [val_main_v40_apply, val_main_v39_apply]
  refine (at3 _ _ r 2 f ?_ rfl ?_).trans (present x0 x1 x2 x3 x4 x5 x6 x7 x8 x9 x10 x11 r 2 f rfl)
  · show (r.val * 2816 + f.val) / 2816 = r.val
    omega
  · show (r.val * 2816 + f.val) % 2816 = f.val
    omega

/-- The bias, along the sequences. -/
theorem bias (r : Fin 128) (f : Fin 2816) : val_main_v46 x8 (ix2 r f) = x8 (ix1 f) := by
  rw [val_main_v46_apply, val_main_v45_apply]
  exact at1 x8 _ f rfl

/-- The convolved gate. -/
theorem convolved (r : Fin 128) (f : Fin 2816) :
    val_main_v47 x0 x1 x2 x3 x4 x5 x7 x8 x11 (ix2 r f) = Step.conv (args x0 x1 x2 x3 x4 x5 x6 x7 x8 x9 x10 x11) r f := by
  rw [val_main_v47_apply, val_main_v44_apply, val_main_v36_apply, val_main_v28_apply, val_main_v26_apply, val_main_v35_apply, val_main_v43_apply,
    val_main_v27_apply, filter0, filter1, filter2, bias, tap0, tap1, tap2 x0 x1 x2 x3 x4 x5 x6 x7 x8 x9 x10 x11]
  unfold Step.conv
  show Ideal.ofBits .f32 0x00000000#32 + x7 (ix2 0 f) * _ + x7 (ix2 1 f) * _ + x7 (ix2 2 f) * _ + x8 (ix1 f)
    = x7 (ix2 0 f) * _ + x7 (ix2 1 f) * _ + x7 (ix2 2 f) * _ + x8 (ix1 f)
  rw [Ideal.ofBits_zero_f32, zero_add]
  rfl

/-- The activation. -/
theorem activated (r : Fin 128) (f : Fin 2816) : val_main_v62 x0 x1 x2 x3 x4 x5 x6 x7 x8 x11 (ix2 r f) = Step.act (args x0 x1 x2 x3 x4 x5 x6 x7 x8 x9 x10 x11) r f := by
  rw [val_main_v62_apply, upper x0 x1 x2 x3 x4 x5 x6 x7 x8 x9 x10 x11 r f, val_main_v60_apply, val_main_v59_apply, val_main_v58_apply,
    val_main_v57_apply, val_main_v56_apply, val_main_v55_apply, val_main_v54_apply, val_main_v53_apply, val_main_v52_apply, val_main_v51_apply,
    val_main_v50_apply, val_main_v49_apply, val_main_v48_apply, convolved x0 x1 x2 x3 x4 x5 x6 x7 x8 x9 x10 x11 r f]
  unfold Step.act gelu
  generalize Step.conv (args x0 x1 x2 x3 x4 x5 x6 x7 x8 x9 x10 x11) r f = z
  refine congrArg (fun p : EReal => p * Step.u (args x0 x1 x2 x3 x4 x5 x6 x7 x8 x9 x10 x11) r f) ?_
  show z * (Ideal.ofBits .f32 0x3F000000#32 * _) = Ideal.ofBits .f32 0x3F000000#32 * z * _
  rw [← mul_assoc, mul_comm z]
  rfl

/-- The residual stream after the feed-forward part. -/
theorem stream2 (r : Fin 128) (j : Fin 1024) : val_main_v64 x0 x1 x2 x3 x4 x5 x6 x7 x8 x9 x11 (ix2 r j) = Step.x2 (args x0 x1 x2 x3 x4 x5 x6 x7 x8 x9 x10 x11) r j := by
  rw [val_main_v64_apply, val_main_v63_apply, stream x0 x1 x2 x3 x4 x5 x6 x7 x8 x9 x10 x11 r j]
  unfold Step.x2
  refine congrArg (fun p : EReal => Step.x1 (args x0 x1 x2 x3 x4 x5 x6 x7 x8 x9 x10 x11) r j + p) ?_
  refine (Fin.sum_univ_add (M := EReal) (a := 1408) (b := 1408) _).trans ?_
  refine congrArg₂ (fun p q : EReal => p + q) (Finset.sum_congr rfl fun k _ => ?_) (Finset.sum_congr rfl fun k _ => ?_)
  · refine congrArg₂ (fun p q : EReal => p * q) ?_ (at2 x9 _ (⟨k.val, by omega⟩ : Fin 2816) j rfl rfl)
    exact (at2 _ _ r (⟨k.val, by omega⟩ : Fin 2816) rfl rfl).trans (activated x0 x1 x2 x3 x4 x5 x6 x7 x8 x9 x10 x11 r _)
  · refine congrArg₂ (fun p q : EReal => p * q) ?_ (at2 x9 _ (⟨1408 + k.val, by omega⟩ : Fin 2816) j rfl rfl)
    exact (at2 _ _ r (⟨1408 + k.val, by omega⟩ : Fin 2816) rfl rfl).trans (activated x0 x1 x2 x3 x4 x5 x6 x7 x8 x9 x10 x11 r _)

/-- **The reference's output**, at an entry. -/
theorem output (r : Fin 128) (j : Fin 1024) : val_main_v77 x0 x1 x2 x3 x4 x5 x6 x7 x8 x9 x10 x11 (ix2 r j) = Step.y (args x0 x1 x2 x3 x4 x5 x6 x7 x8 x9 x10 x11) r j := by
  rw [val_main_v77_apply, val_main_v74_apply, val_main_v73_apply, val_main_v72_apply, val_main_v71_apply, val_main_v69_apply,
    val_main_v67_apply, val_main_v66_apply, val_main_v68_apply, val_main_v70_apply, val_main_v76_apply, val_main_v75_apply]
  unfold Step.y rms
  show val_main_v64 x0 x1 x2 x3 x4 x5 x6 x7 x8 x9 x11 (ix2 r j) * Ideal.rsqrt (Ideal.div (Ideal.ofBits .f32 0x00000000#32 + _) _ + _) * _ = _
  rw [Ideal.ofBits_zero_f32, zero_add, stream2 x0 x1 x2 x3 x4 x5 x6 x7 x8 x9 x10 x11 r j]
  refine congrArg₂ (fun p q : EReal => Step.x2 (args x0 x1 x2 x3 x4 x5 x6 x7 x8 x9 x10 x11) r j * Ideal.rsqrt (Ideal.div p (Ideal.ofBits .f32 0x44800000#32) + Ideal.ofBits .f32 0x358637BD#32) * q)
    (Finset.sum_congr rfl fun k _ => ?_) (at1 x10 _ _ rfl)
  rw [val_main_v65_apply, ← stream2 x0 x1 x2 x3 x4 x5 x6 x7 x8 x9 x10 x11 r k]
  exact congrArg (fun v : EReal => v * v) (at2 _ _ r k rfl rfl)

/-- **The reference's kept rows** of each sequence. -/
theorem keeps (r : Fin 128) (s : Fin 2) (f : Fin 2816) :
    val_main_v78 x0 x1 x2 x3 x4 x5 x11 (ix3 r s f) = Step.kept (args x0 x1 x2 x3 x4 x5 x6 x7 x8 x9 x10 x11) r s f := by
  have hs := s.isLt
  rw [val_main_v78_apply]
  unfold Step.kept
  split
  · exact (at3 _ _ r (⟨1 + s.val, by omega⟩ : Fin 3) f rfl rfl rfl).trans (past x0 x1 x2 x3 x4 x5 x11 r (⟨1 + s.val, by omega⟩ : Fin 3) f 1 (by show 1 + s.val = 1; omega))
  · exact (at3 _ _ r (⟨1 + s.val, by omega⟩ : Fin 3) f rfl rfl rfl).trans
      (present x0 x1 x2 x3 x4 x5 x6 x7 x8 x9 x10 x11 r (⟨1 + s.val, by omega⟩ : Fin 3) f (by show 1 + s.val = 2; omega))

end Cert.Reference7Ideal.Rows

end
-- ==== Proof.StepArrays.lean ====
/- The result arrays of the sample's output and feed-forward call, read off its write-backs and the joining after the call, and
   the reference's results at the same values. -/
module

public import proofs.«01_k».proof.Proof.StepRows
public import proofs.«01_k».proof.Proof.StepRef
public import proofs.«01_k».proof.Proof.FfnBlocks

@[expose] public section

set_option maxRecDepth 16384

noncomputable section

namespace Cert.Kernel7Ideal.Step

open Cert.Kernel7Ideal Cert.Kernel7Ideal.Gen Cert.Ffn
open Cert.Kernel2Ideal.Ffn (whole rowVec)
open Idealize.ShloMosaic Idealize.ShloMosaic.TcCoe Idealize.ShloMosaic.Tactic ValueIdx
open Idealize.ShloMosaic.Pipeline Idealize.SL.Sem

variable (m : (ℓ : Loc nD τ sig) → Buf (Elt Ideal) ℓ) (ρ : Dev nD → PrngReg)

/-- The call's arguments, by coordinates. -/
def A (c : Dev nD) : Cert.Step.Args :=
  Cert.Reference7Ideal.Rows.args (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
    (m (c.tc.loc main_arg9)) (m (c.tc.loc main_arg10)) (m (c.tc.loc main_arg11))

/-! ## What the call is given -/

theorem V_main_v0 (c : Dev nD) : V m c main_v0 = m ((c : Thread nD τ).loc main_arg3) := by
  unfold V V0 hostOps0
  after_results
  rfl

theorem V_main_v1 (c : Dev nD) : V m c main_v1 = shapeCast S1x1024 (m ((c : Thread nD τ).loc main_arg4)) shapeCasts_S1024_S1x1024 := by
  unfold V V0 hostOps0
  after_results
  rfl

theorem V_main_v2 (c : Dev nD) : V m c main_v2 = m ((c : Thread nD τ).loc main_arg5) := by
  unfold V V0 hostOps0
  after_results
  rfl

theorem V_main_v3 (c : Dev nD) : V m c main_v3 = m ((c : Thread nD τ).loc main_arg6) := by
  unfold V V0 hostOps0
  after_results
  rfl

theorem V_main_v4 (c : Dev nD) : V m c main_v4 = shapeCast S1x2816 (m ((c : Thread nD τ).loc main_arg8)) shapeCasts_S2816_S1x2816 := by
  unfold V V0 hostOps0
  after_results
  rfl

theorem V_main_v5 (c : Dev nD) : V m c main_v5 = m ((c : Thread nD τ).loc main_arg9) := by
  unfold V V0 hostOps0
  after_results
  rfl

theorem V_main_v6 (c : Dev nD) : V m c main_v6 = shapeCast S1x1024 (m ((c : Thread nD τ).loc main_arg10)) shapeCasts_S1024_S1x1024 := by
  unfold V V0 hostOps0
  after_results
  rfl

theorem V_main_v7 (c : Dev nD) : V m c main_v7 = shapeCast S128x5632 (m ((c : Thread nD τ).loc main_arg11)) shapeCasts_S128x2x2816_S128x5632 := by
  unfold V V0 hostOps0
  after_results
  rfl

/-- A point's tile of the features. -/
theorem coord : ∀ t : Fin cfg0.N, (BitVec.ofNat 32 ((cfg0.grid.coords t) 0).val).toNat = t.val := by decide +kernel
/-- The tile of the state's second row, which lies after the two tiles of its first. -/
theorem coord_next : ∀ t : Fin cfg0.N, cc0_transform_12 (cfg0.grid.coords t) 1 = 2 + t.val := by decide +kernel

/-- The feature a tile column is. -/
def colOf (t : Fin cfg0.N) (f : Fin 1408) : Fin 2816 := ⟨1408 * t.val + f.val, by have h : t.val < 2 := t.isLt; omega⟩

theorem colStart (t : Fin cfg0.N) (n : ℕ) : (BitVec.ofNat 32 ((cfg0.grid.coords t) 0).val).toNat * 1408 + 1 * n = 1408 * t.val + n := by
  rw [coord]; omega

/-- The state's two rows, laid side by side, at an entry. -/
theorem pair (v : S128x2x2816.Idx → EReal) (e : S128x5632.Idx) (r : Fin 128) (s : Fin 2) (f : Fin 2816) (h0 : (e 0).val = r.val)
    (h1 : (e 1).val = 2816 * s.val + f.val) : shapeCast S128x5632 v shapeCasts_S128x2x2816_S128x5632 e = v (ix3 r s f) := by
  refine Idealize.ShloMosaic.shapeCast_apply _ _ _ _ ?_
  rw [Shape.rowMajor_val_three, Shape.rowMajor_val_two]
  show (r.val * 2 + s.val) * 2816 + f.val = (e 0).val * 5632 + (e 1).val
  rw [h0, h1]; omega

/-! ## The blocks -/

theorem blk0 (c : Dev nD) (t : Fin cfg0.N) (r : Fin 128) (j : Fin 1024) :
    (iblk m c 0 t : Vec Ideal S128x1024 .f32) (ix2 r j) = (A m c).x r j := by
  unfold iblk
  rw [View.read_apply]
  show V m c main_arg0 _ = _
  rw [V_main_arg0]
  exact at2 _ _ r j (whole _ _) (whole _ _)

theorem blk1 (c : Dev nD) (t : Fin cfg0.N) (r : Fin 128) (k : Fin 512) :
    (iblk m c 1 t : Vec Ideal S128x512 .f32) (ix2 r k) = (A m c).a r k := by
  unfold iblk
  rw [View.read_apply]
  show V m c main_arg1 _ = _
  rw [V_main_arg1]
  exact at2 _ _ r k (whole _ _) (whole _ _)

theorem blk2 (c : Dev nD) (t : Fin cfg0.N) (r : Fin 128) (k : Fin 512) :
    (iblk m c 2 t : Vec Ideal S128x512 .bf16) (ix2 r k) = (A m c).b r k := by
  unfold iblk
  rw [View.read_apply]
  show V m c main_arg2 _ = _
  rw [V_main_arg2]
  exact at2 _ _ r k (whole _ _) (whole _ _)

theorem blk3 (c : Dev nD) (t : Fin cfg0.N) (k j : Fin 1024) :
    (iblk m c 3 t : Vec Ideal S1024x1024 .bf16) (ix2 k j) = (A m c).wo k j := by
  unfold iblk
  rw [View.read_apply]
  show V m c main_v0 _ = _
  rw [V_main_v0]
  exact at2 _ _ k j (whole _ _) (whole _ _)

theorem blk4 (c : Dev nD) (t : Fin cfg0.N) (j : Fin 1024) :
    (iblk m c 4 t : Vec Ideal S1x1024 .f32) (ix2 0 j) = (A m c).fn j := by
  unfold iblk
  rw [View.read_apply]
  show V m c main_v1 _ = _
  rw [V_main_v1]
  exact rowVec _ _ _ j (whole _ _)

theorem blk5 (c : Dev nD) (t : Fin cfg0.N) (k : Fin 1024) (f : Fin 1408) :
    (iblk m c 5 t : Vec Ideal S1024x1408 .bf16) (ix2 k f) = (A m c).wg k (colOf t f) := by
  unfold iblk
  rw [View.read_apply]
  show V m c main_v2 _ = _
  rw [V_main_v2]
  exact at2 _ _ k (colOf t f) (whole _ _) (colStart t _)

theorem blk6 (c : Dev nD) (t : Fin cfg0.N) (k : Fin 1024) (f : Fin 1408) :
    (iblk m c 6 t : Vec Ideal S1024x1408 .bf16) (ix2 k f) = (A m c).wu k (colOf t f) := by
  unfold iblk
  rw [View.read_apply]
  show V m c main_v3 _ = _
  rw [V_main_v3]
  exact at2 _ _ k (colOf t f) (whole _ _) (colStart t _)

theorem blk7 (c : Dev nD) (t : Fin cfg0.N) (k : Fin 3) (f : Fin 1408) :
    (iblk m c 7 t : Vec Ideal S3x1408 .f32) (ix2 k f) = (A m c).cw k (colOf t f) := by
  unfold iblk
  rw [View.read_apply]
  show V m c main_arg7 _ = _
  rw [V_main_arg7]
  exact at2 _ _ k (colOf t f) (whole _ _) (colStart t _)

theorem blk8 (c : Dev nD) (t : Fin cfg0.N) (f : Fin 1408) :
    (iblk m c 8 t : Vec Ideal S1x1408 .f32) (ix2 0 f) = (A m c).cb (colOf t f) := by
  unfold iblk
  rw [View.read_apply]
  show V m c main_v4 _ = _
  rw [V_main_v4]
  exact rowVec _ _ _ (colOf t f) (colStart t _)

theorem blk9 (c : Dev nD) (t : Fin cfg0.N) (f : Fin 1408) (j : Fin 1024) :
    (iblk m c 9 t : Vec Ideal S1408x1024 .bf16) (ix2 f j) = (A m c).wd (colOf t f) j := by
  unfold iblk
  rw [View.read_apply]
  show V m c main_v5 _ = _
  rw [V_main_v5]
  exact at2 _ _ (colOf t f) j (colStart t _) (whole _ _)

theorem blk10 (c : Dev nD) (t : Fin cfg0.N) (j : Fin 1024) :
    (iblk m c 10 t : Vec Ideal S1x1024 .f32) (ix2 0 j) = (A m c).on j := by
  unfold iblk
  rw [View.read_apply]
  show V m c main_v6 _ = _
  rw [V_main_v6]
  exact rowVec _ _ _ j (whole _ _)

theorem blk11 (c : Dev nD) (t : Fin cfg0.N) (r : Fin 128) (f : Fin 1408) :
    (iblk m c 11 t : Vec Ideal S128x1408 .f32) (ix2 r f) = (A m c).p r 0 (colOf t f) := by
  unfold iblk
  rw [View.read_apply]
  show V m c main_v7 _ = _
  rw [V_main_v7]
  exact pair _ _ r 0 (colOf t f) (whole _ _) ((colStart t _).trans (by
    show 1408 * t.val + f.val = 2816 * 0 + (1408 * t.val + f.val)
    omega))

theorem blk12 (c : Dev nD) (t : Fin cfg0.N) (r : Fin 128) (f : Fin 1408) :
    (iblk m c 12 t : Vec Ideal S128x1408 .f32) (ix2 r f) = (A m c).p r 1 (colOf t f) := by
  unfold iblk
  rw [View.read_apply]
  show V m c main_v7 _ = _
  rw [V_main_v7]
  exact pair _ _ r 1 (colOf t f) (whole _ _) (by
    show cc0_transform_12 (cfg0.grid.coords t) 1 * 1408 + 1 * f.val = 2816 * 1 + (1408 * t.val + f.val)
    rw [coord_next]
    omega)

/-! ## What a point leaves -/

/-- The first point. -/
def p0 : Fin cfg0.N := ⟨0, by decide⟩
/-- The second point. -/
def p1 : Fin cfg0.N := ⟨1, by decide⟩

theorem even (t : Fin cfg0.N) (h : t.val % 2 = 0) : t = p0 := Fin.ext (by have ht : t.val < 2 := t.isLt; show t.val = 0; omega)
theorem odd (t : Fin cfg0.N) (h : t.val % 2 = 1) : t = p1 := Fin.ext (by have ht : t.val < 2 := t.isLt; show t.val = 1; omega)

theorem at_A_14 (c : Dev nD) (t : Fin cfg0.N) (h : t.val % 2 = 0) :
    (outsAt0 m c t.val t.isLt).2.1 = k0_pay8 (hid (iblk m c 0 t) (iblk m c 1 t) (iblk m c 2 t) (iblk m c 3 t) (iblk m c 4 t)) (iblk m c 5 t) := by
  rw [outsAt0_A m c t h (by omega)]
  dsimp only
  rw [out_A_14]

theorem at_A_0 (c : Dev nD) (t : Fin cfg0.N) (h : t.val % 2 = 0) :
    (outsAt0 m c t.val t.isLt).2.2.1 = mix (iblk m c 0 t) (iblk m c 1 t) (iblk m c 2 t) (iblk m c 3 t) := by
  rw [outsAt0_A m c t h (by omega)]
  dsimp only
  rw [kept_A_0]

theorem at_A_1 (c : Dev nD) (t : Fin cfg0.N) (h : t.val % 2 = 0) :
    (outsAt0 m c t.val t.isLt).2.2.2.1 = hid (iblk m c 0 t) (iblk m c 1 t) (iblk m c 2 t) (iblk m c 3 t) (iblk m c 4 t) := by
  rw [outsAt0_A m c t h (by omega)]
  dsimp only
  rw [kept_A_1]

theorem at_A_2 (c : Dev nD) (t : Fin cfg0.N) (h : t.val % 2 = 0) :
    (outsAt0 m c t.val t.isLt).2.2.2.2 = accOf (iblk m c 5 t) (iblk m c 6 t) (iblk m c 7 t) (iblk m c 8 t) (iblk m c 9 t) (iblk m c 11 t) (iblk m c 12 t)
      (hid (iblk m c 0 t) (iblk m c 1 t) (iblk m c 2 t) (iblk m c 3 t) (iblk m c 4 t)) (k0_pay7 (k0_pay6 (F := Ideal))) := by
  rw [outsAt0_A m c t h (by omega)]
  dsimp only
  rw [kept_A_2]

theorem at_B_14 (c : Dev nD) (t : Fin cfg0.N) (h : t.val % 2 = 1) :
    (outsAt0 m c t.val t.isLt).2.1 = k0_pay8 (outsAt0 m c (t.val - 1) (by have := t.isLt; omega)).2.2.2.1 (iblk m c 5 t) := by
  rw [outsAt0_B m c t (by omega) h]
  dsimp only
  rw [out_B_14]

theorem at_B_13 (c : Dev nD) (t : Fin cfg0.N) (h : t.val % 2 = 1) :
    (outsAt0 m c t.val t.isLt).1 = k0_pay2 (outsAt0 m c (t.val - 1) (by have := t.isLt; omega)).2.2.1
      (accOf (iblk m c 5 t) (iblk m c 6 t) (iblk m c 7 t) (iblk m c 8 t) (iblk m c 9 t) (iblk m c 11 t) (iblk m c 12 t)
        (outsAt0 m c (t.val - 1) (by have := t.isLt; omega)).2.2.2.1 (outsAt0 m c (t.val - 1) (by have := t.isLt; omega)).2.2.2.2) (iblk m c 10 t) := by
  rw [outsAt0_B m c t (by omega) h]
  dsimp only
  rw [out_B_13]

/-- The first point carries the residual stream, -/
theorem stream_apply (c : Dev nD) (r : Fin 128) (j : Fin 1024) : (outsAt0 m c p0.val p0.isLt).2.2.1 (ix2 r j) = Cert.Step.x1 (A m c) r j :=
  (congrFun (at_A_0 m c p0 rfl) (ix2 r j)).trans (mix_apply (A m c) _ _ _ _ (blk0 m c p0) (blk1 m c p0) (blk2 m c p0) (blk3 m c p0) r j)

theorem hid_blocks (c : Dev nD) (t : Fin cfg0.N) (r : Fin 128) (j : Fin 1024) :
    hid (iblk m c 0 t) (iblk m c 1 t) (iblk m c 2 t) (iblk m c 3 t) (iblk m c 4 t) (ix2 r j) = Cert.Step.h (A m c) r j :=
  hid_apply (A m c) _ _ _ _ _ (blk0 m c t) (blk1 m c t) (blk2 m c t) (blk3 m c t) (blk4 m c t) r j

/-- its rows, normalized, -/
theorem rows_apply (c : Dev nD) (r : Fin 128) (j : Fin 1024) : (outsAt0 m c p0.val p0.isLt).2.2.2.1 (ix2 r j) = Cert.Step.h (A m c) r j :=
  (congrFun (at_A_1 m c p0 rfl) (ix2 r j)).trans (hid_blocks m c p0 r j)

/-- A tile's part of the down projection, over what was summed before. -/
theorem acc_blocks (c : Dev nD) (t : Fin cfg0.N) (xs1 : Vec Ideal S128x1024 .bf16) (xs2 : Vec Ideal S128x1024 .f32)
    (hh : ∀ r j, xs1 (ix2 r j) = Cert.Step.h (A m c) r j) (r : Fin 128) (j : Fin 1024) :
    accOf (iblk m c 5 t) (iblk m c 6 t) (iblk m c 7 t) (iblk m c 8 t) (iblk m c 9 t) (iblk m c 11 t) (iblk m c 12 t) xs1 xs2 (ix2 r j)
      = HAdd.hAdd (α := EReal) (β := EReal) (γ := EReal) (xs2 (ix2 r j)) (∑ k : Fin 1408, Cert.Step.act (A m c) r (colOf t k) * (A m c).wd (colOf t k) j) :=
  acc_apply (A m c) (colOf t) _ _ _ _ _ _ _ _ _ hh (blk5 m c t) (blk6 m c t) (blk7 m c t) (blk8 m c t) (blk9 m c t) (blk11 m c t) (blk12 m c t) r j

/-- and the first tile's part of the down projection. -/
theorem sum_apply (c : Dev nD) (r : Fin 128) (j : Fin 1024) : (outsAt0 m c p0.val p0.isLt).2.2.2.2 (ix2 r j)
    = ∑ k : Fin 1408, Cert.Step.act (A m c) r (colOf p0 k) * (A m c).wd (colOf p0 k) j := by
  refine (congrFun (at_A_2 m c p0 rfl) (ix2 r j)).trans ((acc_blocks m c p0 _ _ (hid_blocks m c p0) r j).trans ?_)
  rw [zero_apply, zero_add]

/-- A point's gate tile. -/
theorem tile_apply (c : Dev nD) (t : Fin cfg0.N) (r : Fin 128) (f : Fin 1408) :
    (outsAt0 m c t.val t.isLt).2.1 (ix2 r f) = Cert.Step.g (A m c) r (colOf t f) := by
  rcases Nat.mod_two_eq_zero_or_one t.val with h | h
  · exact (congrFun (at_A_14 m c t h) (ix2 r f)).trans (gate_apply (A m c) (colOf t) _ _ (hid_blocks m c t) (blk5 m c t) r f)
  · obtain rfl := odd t h
    exact (congrFun (at_B_14 m c p1 rfl) (ix2 r f)).trans (gate_apply (A m c) (colOf p1) _ _ (rows_apply m c) (blk5 m c p1) r f)

/-- The last point's output. -/
theorem y_apply (c : Dev nD) (r : Fin 128) (j : Fin 1024) : (outsAt0 m c p1.val p1.isLt).1 (ix2 r j) = Cert.Step.y (A m c) r j := by
  refine (congrFun (at_B_13 m c p1 rfl) (ix2 r j)).trans ((out_apply _ _ _ r j).trans ?_)
  unfold Cert.Step.y
  refine congrArg₂ (fun v w => rms v w j) (funext fun k => ?_) (funext fun k => blk10 m c p1 k)
  unfold Cert.Step.x2
  refine congrArg₂ (fun p q : EReal => p + q) (stream_apply m c r k) ((acc_blocks m c p1 _ _ (rows_apply m c) r k).trans ?_)
  refine congrArg₂ (fun p q : EReal => p + q) ((sum_apply m c r k).trans (Finset.sum_congr rfl fun q _ => ?_)) rfl
  have e : colOf p0 q = ⟨q.val, by omega⟩ := Fin.ext (by show 1408 * 0 + q.val = q.val; omega)
  rw [e]

/-! ## The call's arrays -/

/-- An index by its coordinates. -/
theorem split {n p : ℕ} (e : (⟨2, ![n, p]⟩ : Shape).Idx) : e = ix2 (e 0) (e 1) := funext fun a => match a with
  | ⟨0, _⟩ => rfl
  | ⟨1, _⟩ => rfl

theorem split3 {n p q : ℕ} (e : (⟨3, ![n, p, q]⟩ : Shape).Idx) : e = ix3 (e 0) (e 1) (e 2) := funext fun a => match a with
  | ⟨0, _⟩ => rfl
  | ⟨1, _⟩ => rfl
  | ⟨2, _⟩ => rfl

/-- The output array. -/
def outs (c : Dev nD) : Buf (Elt Ideal) ((c : Thread nD τ).loc main_v8_0) := fun i : S128x1024.Idx => Cert.Step.y (A m c) (i 0) (i 1)

/-- The gate array. -/
def gs (c : Dev nD) : Buf (Elt Ideal) ((c : Thread nD τ).loc main_v8_1) := fun i : S128x2816.Idx => Cert.Step.g (A m c) (i 0) (i 1)

theorem cut13 (t : Fin cfg0.N) (b : Vec Ideal S128x1024 .f32) (f : S128x1024.Idx → EReal)
    (hb : ∀ e : S128x1024.Idx, b e = f (((cfg0.win 13).blk t).view.emb e)) :
    (cfg0.win 13).cut (cfg0.grid.coords t) b = ((cfg0.win 13).blk t).view.read (Elt Ideal) f :=
  funext hb

theorem flushed13 (c : Dev nD) (t : Fin cfg0.N) (hf : (cfg0.win 13).flush t = true) :
    (dats m 0 c).flushed 13 t = ((cfg0.win 13).blk t).view.read (Elt Ideal) (outs m c) := by
  obtain rfl := odd t ((flush0_13 t).1 hf)
  show (cfg0.win 13).cut (cfg0.grid.coords p1) ((dats m 0 c).after 13 p1) = _
  rw [after0_13]
  refine cut13 p1 _ _ fun e => (congrArg (outsAt0 m c p1.val p1.isLt).1 (split e)).trans ((y_apply m c _ _).trans ?_)
  exact (at2 (outs m c) _ (e 0) (e 1) (whole _ _) (whole _ _)).symm

theorem final13 (c : Dev nD) : (dats m 0 c).arrAt 13 cfg0.N = outs m c :=
  (dats m 0 c).arrAt_eq_of_cover 13 (outs m c) (flushed13 m c) fun (i : S128x1024.Idx) =>
    ⟨p1, (flush0_13 p1).2 rfl, by
      refine (View.set_slice_whole main_v8_0 ((cfg0.win 13).rect p1)).symm ▸ ?_
      refine (Rect.mem_set_unit ..).2 ?_
      have h0 : (i 0).val < 128 := (i 0).isLt
      have h1 : (i 1).val < 1024 := (i 1).isLt
      intro a
      match a with
      | ⟨0, _⟩ => show 0 * 128 ≤ (i 0).val ∧ (i 0).val < 0 * 128 + 128; omega
      | ⟨1, _⟩ => show 0 * 1024 ≤ (i 1).val ∧ (i 1).val < 0 * 1024 + 1024; omega⟩

theorem cut14 (t : Fin cfg0.N) (b : Vec Ideal S128x1408 .f32) (f : S128x2816.Idx → EReal)
    (hb : ∀ e : S128x1408.Idx, b e = f (((cfg0.win 14).blk t).view.emb e)) :
    (cfg0.win 14).cut (cfg0.grid.coords t) b = ((cfg0.win 14).blk t).view.read (Elt Ideal) f :=
  funext hb

theorem flushed14 (c : Dev nD) (t : Fin cfg0.N) (_ : (cfg0.win 14).flush t = true) :
    (dats m 0 c).flushed 14 t = ((cfg0.win 14).blk t).view.read (Elt Ideal) (gs m c) := by
  show (cfg0.win 14).cut (cfg0.grid.coords t) ((dats m 0 c).after 14 t) = _
  rw [after0_14]
  refine cut14 t _ _ fun e => (congrArg (outsAt0 m c t.val t.isLt).2.1 (split e)).trans ((tile_apply m c t _ _).trans ?_)
  exact (at2 (gs m c) _ (e 0) (colOf t (e 1)) (whole _ _) (colStart t _)).symm

theorem final14 (c : Dev nD) : (dats m 0 c).arrAt 14 cfg0.N = gs m c :=
  (dats m 0 c).arrAt_eq_of_cover 14 (gs m c) (flushed14 m c) fun (i : S128x2816.Idx) => by
    have h0 : (i 0).val < 128 := (i 0).isLt
    have h1 : (i 1).val < 2816 := (i 1).isLt
    have hp : (i 1).val / 1408 < cfg0.N := by show (i 1).val / 1408 < 2; omega
    refine ⟨⟨(i 1).val / 1408, hp⟩, flush0_14 _, ?_⟩
    refine (View.set_slice_whole main_v8_1 ((cfg0.win 14).rect ⟨(i 1).val / 1408, hp⟩)).symm ▸ ?_
    refine (Rect.mem_set_unit ..).2 ?_
    have e := coord ⟨(i 1).val / 1408, hp⟩
    intro a
    match a with
    | ⟨0, _⟩ => show 0 * 128 ≤ (i 0).val ∧ (i 0).val < 0 * 128 + 128; omega
    | ⟨1, _⟩ =>
      show (BitVec.ofNat 32 ((cfg0.grid.coords ⟨(i 1).val / 1408, hp⟩) 0).val).toNat * 1408 ≤ (i 1).val
        ∧ (i 1).val < (BitVec.ofNat 32 ((cfg0.grid.coords ⟨(i 1).val / 1408, hp⟩) 0).val).toNat * 1408 + 1408
      rw [e]
      show (i 1).val / 1408 * 1408 ≤ (i 1).val ∧ (i 1).val < (i 1).val / 1408 * 1408 + 1408
      omega

/-! ## The kept rows -/

/-- The two rows kept for the next position. -/
def keeps (c : Dev nD) : Buf (Elt Ideal) ((c : Thread nD τ).loc main_v13) :=
  fun i : S128x2x2816.Idx => Cert.Step.kept (A m c) (i 0) (i 1) (i 2)

/-- The state's second row and the new one, joined. -/
theorem join (c : Dev nD) : concatenate S128x2x2816 1
      [⟨S128x1x2816, broadcastInDim S128x1x2816 ![0, 2] bcast_S128x2816_S128x1x2816_0_2 (shapeCast S128x2816
          (extractStridedSlice S128x1x2816 ![0, 1, 0] (m ((c : Thread nD τ).loc main_arg11)) slices_S128x2x2816_S128x1x2816_0_1_0) shapeCasts_S128x1x2816_S128x2816)⟩,
        ⟨S128x1x2816, broadcastInDim S128x1x2816 ![0, 2] bcast_S128x2816_S128x1x2816_0_2 (gs m c)⟩]
      concatenates_S128x1x2816_S128x1x2816_S128x2x2816_d1 = keeps m c := by
  refine funext fun (i : S128x2x2816.Idx) => ?_
  have h1 : (i 1).val < 2 := (i 1).isLt
  unfold keeps Cert.Step.kept
  split
  · rename_i h
    refine (concatenate_pair_apply_left (t := S128x2x2816) (s₁ := S128x1x2816) (s₂ := S128x1x2816) 1 _ _
      concatenates_S128x1x2816_S128x1x2816_S128x2x2816_d1 _ rfl (ix3 (i 0) (⟨(i 1).val, h⟩ : Fin 1) (i 2)) fun q => ?_).trans ?_
    · match q with
      | ⟨0, _⟩ => rfl
      | ⟨1, _⟩ => rfl
      | ⟨2, _⟩ => rfl
    · refine (broadcastInDim_apply _ bcast_S128x2816_S128x1x2816_0_2 _ _ (ix2 (i 0) (i 2)) fun a => match a with
        | ⟨0, _⟩ => rfl
        | ⟨1, _⟩ => rfl).trans ?_
      refine (Idealize.ShloMosaic.shapeCast_apply _ _ _ (ix3 (i 0) (0 : Fin 1) (i 2)) ?_).trans ?_
      · rw [Shape.rowMajor_val_three, Shape.rowMajor_val_two]
        show ((i 0).val * 1 + 0) * 2816 + (i 2).val = (i 0).val * 2816 + (i 2).val
        omega
      · refine at3 (m ((c : Thread nD τ).loc main_arg11)) _ _ _ _ ?_ ?_ ?_
        · exact Nat.zero_add _
        · rfl
        · exact Nat.zero_add _
  · rename_i h
    refine (concatenate_pair_apply_right (t := S128x2x2816) (s₁ := S128x1x2816) (s₂ := S128x1x2816) 1 _ _
      concatenates_S128x1x2816_S128x1x2816_S128x2x2816_d1 _ rfl rfl (ix3 (i 0) (0 : Fin 1) (i 2)) (fun b hb => ?_) ?_).trans ?_
    · match b with
      | ⟨0, _⟩ => rfl
      | ⟨1, _⟩ => exact absurd rfl hb
      | ⟨2, _⟩ => rfl
    · show 0 + 1 = (i 1).val
      omega
    · exact broadcastInDim_apply _ bcast_S128x2816_S128x1x2816_0_2 (gs m c) _ (ix2 (i 0) (i 2)) fun a => match a with
        | ⟨0, _⟩ => rfl
        | ⟨1, _⟩ => rfl

/-- What the program leaves in its second result. -/
theorem joined (c : Dev nD) : afterTail₀ cfgs (dats m) 0 (V0 m) [hostOps1] c main_v13 = keeps m c := by
  unfold afterTail₀
  refine Eq.trans ?_ (join m c)
  have e := Dat.withArrays_arrAt (dats m 0 c) sharedIn0 (V0 m c) (A_eq m c) 14
  have e' := withArrays_of_ne spec0 c (V0 m c) (fun w => (dats m 0 c).arrAt w cfg0.N) main_arg11 (by exact (by decide : ∀ w, arrRef spec0 w ≠ main_arg11))
  have e'' : V0 m c main_arg11 = m ((c : Thread nD τ).loc main_arg11) := V_main_arg11 m c
  rw [← final14 m c, ← e, ← e'', ← e']
  after_results
  rfl

/-- The run, read: the two results. -/
theorem run_results : θ_run defs (onTc (τ := τ) (main (F := Ideal))) ⟨m, fun _ => 0, ρ⟩ fun r => ∀ c : Dev nD,
      r.2.mem ((c.tc : Thread nD τ).loc main_v8_0) = outs m c ∧ r.2.mem ((c.tc : Thread nD τ).loc main_v13) = keeps m c :=
  (θ_run defs _ _).mono (fun _ h c => ⟨((h c).1 13).trans (final13 m c),
    ((h c).2 main_v13 (mem_restRefs_of main_v13 (by decide) (by decide))).trans (joined m c)⟩) (run_main m ρ)

/-! ## The reference -/

open Cert.Reference7Ideal.Read in
/-- The reference's output is the same array. -/
theorem ref_outs (c : Dev nD) : val_main_v77 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7))
    (m (c.tc.loc main_arg8)) (m (c.tc.loc main_arg9)) (m (c.tc.loc main_arg10)) (m (c.tc.loc main_arg11)) = outs m c :=
  funext fun (i : S128x1024.Idx) => (congrArg _ (split i)).trans (Cert.Reference7Ideal.Rows.output _ _ _ _ _ _ _ _ _ _ _ _ (i 0) (i 1))

open Cert.Reference7Ideal.Read in
/-- Its kept rows are the same array. -/
theorem ref_keeps (c : Dev nD) : val_main_v78 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg11)) = keeps m c :=
  funext fun (i : S128x2x2816.Idx) => (congrArg _ (split3 i)).trans (Cert.Reference7Ideal.Rows.keeps _ _ _ _ _ _ (m (c.tc.loc main_arg6))
    (m (c.tc.loc main_arg7)) (m (c.tc.loc main_arg8)) (m (c.tc.loc main_arg9)) (m (c.tc.loc main_arg10)) _ (i 0) (i 1) (i 2))

end Cert.Kernel7Ideal.Step

end
-- ==== Proof.Ffn0Run.lean ====
/- The kernel body of the prompt feed-forward call of layer 0 (no final norm), run once at a grid point: what it leaves in every block and in
   the buffers it carries, as plain functions of what it found there. -/
module

public import proofs.«01_k».proof.Proof.Gen.Kernel3Ideal.Frame
public import proofs.«01_k».proof.Proof.Gen.Kernel3Ideal.Skeleton

public import Idealize.ShloMosaic.Lib.VecWindow

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero corner of a two axis block. -/
theorem hz2 : (![0, 0] : Fin 2 → Nat) = fun _ => 0 := funext fun a => by fin_cases a <;> rfl

/-- A load of a whole block reads the block. -/
theorem ld_all {a b : ℕ} {e : EltTy} (X : Shape.Idx ⟨2, ![a, b]⟩ → Elt F e) (inb) :
    View.ld X (Rect.unit (s := ⟨2, ![a, b]⟩) ![0, 0] ![a, b] inb) = X :=
  funext fun y => congrArg X (funext fun p => Fin.ext (by
    have h : (![0, 0] : Fin 2 → ℕ) p = 0 := congrFun hz2 p
    show (![0, 0] : Fin 2 → ℕ) p + 1 * (y p).val = (y p).val
    omega))

/-- A store of a whole block leaves what was stored. -/
theorem full2 {a b : ℕ} {e : EltTy} {κ : Kind} {sp : Space} (v : View sig κ sp ⟨2, ![a, b]⟩ e) (g : v.ty.Contents (Elt F)) (inb) (w)
    (L : List (View.Piece (Elt F) ⟨2, ![a, b]⟩ e)) :
    v.read (Elt F) (v.writes (Elt F) g (⟨Rect.unit (s := ⟨2, ![a, b]⟩) ![0, 0] ![a, b] inb, w⟩ :: L)) = w :=
  View.read_writes_full v g inb w L

/-- The same of a block of three axes. -/
theorem full3 {a b d : ℕ} {e : EltTy} {κ : Kind} {sp : Space} (v : View sig κ sp ⟨3, ![a, b, d]⟩ e) (g : v.ty.Contents (Elt F)) (inb) (w)
    (L : List (View.Piece (Elt F) ⟨3, ![a, b, d]⟩ e)) :
    v.read (Elt F) (v.writes (Elt F) g (⟨Rect.unit (s := ⟨3, ![a, b, d]⟩) ![0, 0, 0] ![a, b, d] inb, w⟩ :: L)) = w :=
  View.read_writes_full v g inb w L

/-- A load of a whole block after a store of it reads what was stored. -/
theorem cov2 {a b : ℕ} {e : EltTy} {κ : Kind} {sp : Space} (v : View sig κ sp ⟨2, ![a, b]⟩ e) (inb inb') (w)
    (L : List (View.Piece (Elt F) ⟨2, ![a, b]⟩ e)) :
    v.readCov (⟨Rect.unit (s := ⟨2, ![a, b]⟩) ![0, 0] ![a, b] inb, w⟩ :: L)
      (Rect.unit (s := ⟨2, ![a, b]⟩) ![0, 0] ![a, b] inb').toLoadRect = w :=
  View.readCov_full v inb' inb w L

/-- The kernel's test of the first column tile, as it computes it. -/
abbrev First (i : grid0.Coords) : Prop := Scalar.cmpi .ne (Scalar.extui (Scalar.cmpi .eq (BitVec.ofNat 32 (i 1).val) 0#32)) 0#32 = 1#1

/-- The residual stream with both projections added, at a row block. -/
def mix (a bo : Vec F S512x512 .bf16) (wo : Vec F S1024x1024 .bf16) (x : Vec F S512x1024 .f32) : FVec F S512x1024 .f32 :=
  k0_pay6 a (View.ld wo (Rect.unit (s := S1024x1024) ![0, 0] S512x1024.size inb_S1024x1024_S512x1024_0_0)) bo
    (View.ld wo (Rect.unit (s := S1024x1024) ![512, 0] S512x1024.size inb_S1024x1024_S512x1024_512_0)) x

/-- The normalized rows the feed-forward part reads, at a row block. -/
def hid (a bo : Vec F S512x512 .bf16) (wo : Vec F S1024x1024 .bf16) (x : Vec F S512x1024 .f32) (fn : Vec F S1x1024 .f32) : FVec F S512x1024 .bf16 :=
  k0_pay7 a (View.ld wo (Rect.unit (s := S1024x1024) ![0, 0] S512x1024.size inb_S1024x1024_S512x1024_0_0)) bo
    (View.ld wo (Rect.unit (s := S1024x1024) ![512, 0] S512x1024.size inb_S1024x1024_S512x1024_512_0)) x fn

/-- The activation tile, from the normalized rows, the weight tiles and the rows carried over from the row block before. -/
def actOf (h : Vec F S512x1024 .bf16) (wg wu : Vec F S1024x1408 .bf16) (cw : Vec F S3x1408 .f32) (cb : Vec F S1x1408 .f32)
    (pr : Vec F S1x8x1408 .f32) : FVec F S512x1408 .bf16 :=
  k0_pay19 (k0_pay10 h wg) (k0_pay11 h wu) (k0_pay14 pr) (k0_pay15 pr) (iota .tc S512x1408 32 [0] iota_S512x1408_d0_w32) k0_pay16
    (k0_pay17 h wg) (k0_pay18 pr)
    (View.ld cw (Rect.unit (s := S3x1408) ![0, 0] S1x1408.size inb_S3x1408_S1x1408_0_0))
    (View.ld cw (Rect.unit (s := S3x1408) ![1, 0] S1x1408.size inb_S3x1408_S1x1408_1_0))
    (View.ld cw (Rect.unit (s := S3x1408) ![2, 0] S1x1408.size inb_S3x1408_S1x1408_2_0)) cb

/-- The carried rows the body reads: none at a sequence's first row block. -/
def rowsOf (i : grid0.Coords) (p : Vec F S2x8x1408 .f32) : Vec F S1x8x1408 .f32 :=
  if k0_cond2 i = 1#1 then k0_pay12 (F := F) else VecWindow.window p (k0_off2 i) S1x8x1408.size (k0_off2_inb i)

set_option maxHeartbeats 1600000 in
/-- The whole body at a point: what it leaves in every block and buffer, from what it found there. -/
theorem run (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S3x1408 .f32) (harg9 : arg9.IsWhole) (arg10 : Memref sig .tc .vmem S1x1408 .f32) (harg10 : arg10.IsWhole) (arg11 : Memref sig .tc .vmem S1408x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x2x1408 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole)
    (x2 : Vec F S512x1024 .f32) (x3 : Vec F S512x512 .bf16) (x4 : Vec F S512x512 .bf16) (x5 : Vec F S1024x1024 .bf16) (x6 : Vec F S1x1024 .f32) (x7 : Vec F S1024x1408 .bf16) (x8 : Vec F S1024x1408 .bf16) (x9 : Vec F S3x1408 .f32) (x10 : Vec F S1x1408 .f32) (x11 : Vec F S1408x1024 .bf16) (x12 : Vec F S1x1024 .f32) (x13 : Vec F S512x1024 .f32) (x14 : Vec F S1x2x1408 .f32) (x15 : Vec F S512x1024 .f32) (x16 : Vec F S512x1024 .bf16) (x17 : Vec F S512x1024 .f32) (x18 : Vec F S2x8x1408 .f32)
    (hc : k0_cond3 i = 1#1 ↔ ¬ First i) (X1 : Vec F S512x1024 .f32) (H : Vec F S512x1024 .bf16) (A0 A1 : Vec F S512x1024 .f32)
    (hX1 : X1 = (if First i then mix x3 x4 x5 x2 else x15)) (hH : H = (if First i then hid x3 x4 x5 x2 x6 else x16)) (hA0 : A0 = (if First i then k0_pay9 (k0_pay8 (F := F)) else x17))
    (hA1 : A1 = k0_pay1 A0 (actOf H x7 x8 x9 x10 (rowsOf i x18)) x11)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
        ∗ (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
      ∗ owns (c : Thread nD τ) arg13 fullShare (if k0_cond3 i = 1#1 then k0_pay4 X1 A1 else x13)
      ∗ owns (c : Thread nD τ) arg14 fullShare (k0_pay3 (k0_pay10 H x7))
      ∗ owns (c : Thread nD τ) arg15 fullShare X1 ∗ owns (c : Thread nD τ) arg16 fullShare H ∗ owns (c : Thread nD τ) arg17 fullShare A1
      ∗ owns (c : Thread nD τ) arg18 fullShare (VecWindow.put x18 (k0_off2 i) S1x8x1408.size (k0_pay2 (k0_pay10 H x7)))
          -∗ K ⟨⟩))
      ⊢ wp frame (wpE (defs₀ (F := F)) Variants.none c none) E (cc0_out_ffn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have ho : k0_off1 i = k0_off2 i := rfl
  have putOf (g : arg18.view.ty.Contents (Elt F)) (w : Vec F S1x8x1408 .f32) (L : List (View.Piece (Elt F) S2x8x1408 .f32)) :=
    View.read_writes_cons_put arg18.view g (off := k0_off2 i) (size := S1x8x1408.size) (k0_off2_inb i) w L rfl
  have clearOf (inb) (g : arg18.view.ty.Contents (Elt F)) (w : Vec F S1x8x1408 .f32) (L : List (View.Piece (Elt F) S2x8x1408 .f32)) :=
    View.read_writes_cons_put arg18.view g (off := k0_off1 i) (off' := k0_off2 i) (size := S1x8x1408.size) inb w L ho
  have clearRead (inb inb') (w : Vec F S1x8x1408 .f32) :
      arg18.view.readCov ([⟨Rect.unit (k0_off1 i) S1x8x1408.size inb, w⟩] : List (View.Piece (Elt F) S2x8x1408 .f32))
        (Rect.unit (s := S2x8x1408) (k0_off2 i) S1x8x1408.size inb').toLoadRect = w := by
    unfold View.readCov
    rw [View.readAt_unit _ _ inb' rfl inb', clearOf, VecWindow.window_put_same]
  have windowOf (g : arg18.view.ty.Contents (Elt F)) :=
    View.readAt_unit arg18.view g (off := k0_off2 i) (size := S1x8x1408.size) (k0_off2_inb i) rfl (k0_off2_inb i)
  simp only [cc0_out_ffn_prompt_eq_skeleton]; unfold cc0_out_ffn_prompt_skel
  simp only [k0_part1_eq_skeleton, k0_part2_eq_skeleton, k0_part3_eq_skeleton]
  have hs : (First i ∧ ¬ k0_cond3 i = 1#1) ∨ (¬ First i ∧ k0_cond3 i = 1#1) := by
    by_cases h : First i
    · exact .inl ⟨h, fun e => hc.mp e h⟩
    · exact .inr ⟨h, hc.mpr h⟩
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  rcases hs with ⟨hc1, hc3⟩ | ⟨hc1, hc3⟩ <;> by_cases hc2 : k0_cond2 i = 1#1
  all_goals
    sl_exec (disch := first | sl_exact hc1 | sl_exact hc2 | sl_exact hc3)
    sl_step
    iapply Hk
    first | rw [if_pos hc1] at hX1 hH hA0 | rw [if_neg hc1] at hX1 hH hA0
    first | rw [if_pos hc3] | rw [if_neg hc3]
    subst hA1 hA0 hX1 hH
    unfold rowsOf
    try first | rw [if_pos hc2] | rw [if_neg hc2]
    sl_unfold_run_names
    isplitl [H2]; · (iexists _; isplitr; swap; iexact H2; ipureintro; exact harg2.read_unread _)
    isplitl [H3]; · (iexists _; isplitr; swap; iexact H3; ipureintro; exact harg3.read_unread _)
    isplitl [H4]; · (iexists _; isplitr; swap; iexact H4; ipureintro; exact harg4.read_unread _)
    isplitl [H5]; · (iexists _; isplitr; swap; iexact H5; ipureintro; exact harg5.read_unread _)
    isplitl [H6]; · (iexists _; isplitr; swap; iexact H6; ipureintro; exact harg6.read_unread _)
    isplitl [H7]; · (iexists _; isplitr; swap; iexact H7; ipureintro; exact harg7.read_unread _)
    isplitl [H8]; · (iexists _; isplitr; swap; iexact H8; ipureintro; exact harg8.read_unread _)
    isplitl [H9]; · (iexists _; isplitr; swap; iexact H9; ipureintro; exact harg9.read_unread _)
    isplitl [H10]; · (iexists _; isplitr; swap; iexact H10; ipureintro; exact harg10.read_unread _)
    isplitl [H11]; · (iexists _; isplitr; swap; iexact H11; ipureintro; exact harg11.read_unread _)
    isplitl [H12]; · (iexists _; isplitr; swap; iexact H12; ipureintro; exact harg12.read_unread _)
    isplitl [H13]; · (iexists _; isplitr; swap; iexact H13; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H14]; · (iexists _; isplitr; swap; iexact H14; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H15]; · (iexists _; isplitr; swap; iexact H15; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H16]; · (iexists _; isplitr; swap; iexact H16; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    isplitl [H17]; · (iexists _; isplitr; swap; iexact H17; ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip))
    iexists _; isplitr; swap; · iexact H18
    ipureintro; (simp only [View.read_writes_full, View.readCov_full, View.readAt_writes_full, View.readAt_full, putOf, clearOf, windowOf, cov2, full2, full3, VecWindow.put_put_same, clearRead, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.read_rep, View.writes_nil, View.readAt_eq_ld, actOf, mix, hid, ld_all]; try skip)

end Cert.Kernel3Ideal.Ffn
-- ==== Proof.Ffn0Frame.lean ====
/- The run of the prompt feed-forward call: what its carried buffers hold before each point of the grid, what each point
   writes, the whole run, and the arguments unchanged. -/
module

public import proofs.«01_k».proof.Proof.Ffn0Run
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The kernel's test of the first column tile, at a point. -/
theorem first_iff : ∀ t : Fin cfg0.N, First (cfg0.grid.coords t) ↔ t.val % 2 = 0 := by decide +kernel
/-- Its test of the last column tile. -/
theorem last_iff : ∀ t : Fin cfg0.N, k0_cond3 (cfg0.grid.coords t) = 1#1 ↔ t.val % 2 = 1 := by decide +kernel
/-- Its test of a sequence's first row block. -/
theorem start_iff : ∀ t : Fin cfg0.N, k0_cond2 (cfg0.grid.coords t) = 1#1 ↔ t.val / 2 % 4 = 0 := by decide +kernel
/-- The carried row a point works on. -/
theorem row_eq (t : Fin cfg0.N) : k0_off2 (cfg0.grid.coords t) = ![t.val % 2, 0, 0] := by
  rw [k0_off2_eq]
  have h : ∀ t : Fin cfg0.N, (cfg0.grid.coords t 1).val = t.val % 2 := by decide +kernel
  rw [h t]

/-- The first point of a point's row block. -/
def ev (t : Fin cfg0.N) : Fin cfg0.N := ⟨t.val - t.val % 2, by have := t.isLt; omega⟩
/-- The point `k` points earlier. -/
def bk (t : Fin cfg0.N) (k : ℕ) : Fin cfg0.N := ⟨t.val - k, by have := t.isLt; omega⟩

theorem ev_even {t : Fin cfg0.N} (h : t.val % 2 = 0) : ev t = t := Fin.ext (by show t.val - t.val % 2 = t.val; omega)

/-! ## What each point computes -/

/-- The residual stream of a row block. -/
def X1 (c : Dev nD) (t : Fin cfg0.N) : FVec F S512x1024 .f32 := mix (iblk m c 1 t) (iblk m c 2 t) (iblk m c 3 t) (iblk m c 0 t)
/-- Its normalized rows. -/
def Hd (c : Dev nD) (t : Fin cfg0.N) : FVec F S512x1024 .bf16 := hid (iblk m c 1 t) (iblk m c 2 t) (iblk m c 3 t) (iblk m c 0 t) (iblk m c 4 t)
/-- The gate's tile at a point. -/
def Gt (c : Dev nD) (t : Fin cfg0.N) : FVec F S512x1408 .f32 := k0_pay10 (Hd m c (ev t)) (iblk m c 5 t)
/-- The rows carried over into a point. -/
def Pr (c : Dev nD) (t : Fin cfg0.N) : Vec F S1x8x1408 .f32 :=
  if k0_cond2 (cfg0.grid.coords t) = 1#1 then k0_pay12 (F := F) else k0_pay2 (Gt m c (bk t 2))
/-- The activation tile at a point. -/
def Act (c : Dev nD) (t : Fin cfg0.N) : FVec F S512x1408 .bf16 :=
  actOf (Hd m c (ev t)) (iblk m c 5 t) (iblk m c 6 t) (iblk m c 7 t) (iblk m c 8 t) (Pr m c t)
/-- A point's tile added to what was summed before it. -/
def addTile (c : Dev nD) (t : Fin cfg0.N) (a : FVec F S512x1024 .f32) : FVec F S512x1024 .f32 := k0_pay1 a (Act m c t) (iblk m c 9 t)
/-- The sum over the column tiles up to a point. -/
def Acc (c : Dev nD) (t : Fin cfg0.N) : FVec F S512x1024 .f32 :=
  addTile m c t (if First (cfg0.grid.coords t) then k0_pay9 (k0_pay8 (F := F)) else addTile m c (ev t) (k0_pay9 (k0_pay8 (F := F))))
/-- The output block of a row block's last point. -/
def Y (c : Dev nD) (t : Fin cfg0.N) : FVec F S512x1024 .f32 := k0_pay4 (X1 m c (ev t)) (Acc m c t)

/-- What the carried buffers hold before point `k`: the row block's rows and sum once its first point ran, and the last
    rows of the gate's tiles of the two points before. -/
def Inv (c : Dev nD) (k : ℕ) (x1 : Vec F S512x1024 .f32) (h : Vec F S512x1024 .bf16) (a : Vec F S512x1024 .f32) (p : Vec F S2x8x1408 .f32) : Prop :=
  (∀ t : Fin cfg0.N, t.val + 1 = k → t.val % 2 = 0 → x1 = X1 m c t ∧ h = Hd m c t ∧ a = Acc m c t)
  ∧ ∀ t : Fin cfg0.N, t.val < k → k ≤ t.val + 2 →
      VecWindow.window p (k0_off2 (cfg0.grid.coords t)) S1x8x1408.size (k0_off2_inb _) = k0_pay2 (Gt m c t)

theorem window_off {α : Type} (p : S2x8x1408.Idx → α) (o o' : Fin 3 → ℕ) (h : o = o') (i : ∀ a, o a + S1x8x1408.size a ≤ S2x8x1408.size a)
    (i' : ∀ a, o' a + S1x8x1408.size a ≤ S2x8x1408.size a) : VecWindow.window p o S1x8x1408.size i = VecWindow.window p o' S1x8x1408.size i' := by
  subst h; rfl

/-- One point of the grid keeps the invariant, and its values are the ones named above. -/
theorem step (c : Dev nD) (t : Fin cfg0.N) {x1 : Vec F S512x1024 .f32} {h : Vec F S512x1024 .bf16} {a : Vec F S512x1024 .f32} {p : Vec F S2x8x1408 .f32}
    (hI : Inv m c t.val x1 h a p) :
    X1 m c (ev t) = (if First (cfg0.grid.coords t) then mix (iblk m c 1 t) (iblk m c 2 t) (iblk m c 3 t) (iblk m c 0 t) else x1)
    ∧ Hd m c (ev t) = (if First (cfg0.grid.coords t) then hid (iblk m c 1 t) (iblk m c 2 t) (iblk m c 3 t) (iblk m c 0 t) (iblk m c 4 t) else h)
    ∧ Acc m c t = k0_pay1 (if First (cfg0.grid.coords t) then k0_pay9 (k0_pay8 (F := F)) else a)
        (actOf (Hd m c (ev t)) (iblk m c 5 t) (iblk m c 6 t) (iblk m c 7 t) (iblk m c 8 t) (rowsOf (cfg0.grid.coords t) p)) (iblk m c 9 t)
    ∧ Inv m c (t.val + 1) (X1 m c (ev t)) (Hd m c (ev t)) (Acc m c t)
        (VecWindow.put p (k0_off2 (cfg0.grid.coords t)) S1x8x1408.size (k0_pay2 (Gt m c t))) := by
  have hN : t.val < 64 := t.isLt
  have hpr : rowsOf (cfg0.grid.coords t) p = Pr m c t := by
    unfold rowsOf Pr
    by_cases h2 : k0_cond2 (cfg0.grid.coords t) = 1#1
    · rw [if_pos h2, if_pos h2]
    · rw [if_neg h2, if_neg h2]
      have h4 : ¬ t.val / 2 % 4 = 0 := fun e => h2 ((start_iff t).mpr e)
      have hv : (bk t 2).val = t.val - 2 := rfl
      refine (window_off p (k0_off2 (cfg0.grid.coords t)) (k0_off2 (cfg0.grid.coords (bk t 2))) ?_ (k0_off2_inb _) (k0_off2_inb _)).trans (hI.2 (bk t 2) (by omega) (by omega))
      rw [row_eq, row_eq, hv, show (t.val - 2) % 2 = t.val % 2 by omega]
  have hrow : ∀ t' : Fin cfg0.N, t'.val < t.val + 1 → t.val + 1 ≤ t'.val + 2 →
      VecWindow.window (VecWindow.put p (k0_off2 (cfg0.grid.coords t)) S1x8x1408.size (k0_pay2 (Gt m c t)))
        (k0_off2 (cfg0.grid.coords t')) S1x8x1408.size (k0_off2_inb _) = k0_pay2 (Gt m c t') := fun t' h1 h2 => by
    by_cases e : t' = t
    · subst e; exact VecWindow.window_put_same _ _ _ _ _
    · have hne : t'.val ≠ t.val := fun e' => e (Fin.ext e')
      refine (VecWindow.window_put_of_disjoint p _ _ _ _ _ _ (0 : Fin 3) ?_).trans (hI.2 t' (by omega) (by omega))
      rw [row_eq, row_eq]
      show t'.val % 2 + 1 ≤ t.val % 2 ∨ t.val % 2 + 1 ≤ t'.val % 2
      omega
  by_cases h1 : First (cfg0.grid.coords t)
  · have h0 := (first_iff t).mp h1
    rw [if_pos h1, if_pos h1, if_pos h1, hpr]
    have hA : Acc m c t = k0_pay1 (k0_pay9 (k0_pay8 (F := F))) (Act m c t) (iblk m c 9 t) := by
      unfold Acc addTile; rw [if_pos h1]
    refine ⟨?_, ?_, hA, ⟨fun t' e _ => ?_, hrow⟩⟩
    · rw [ev_even h0]; rfl
    · rw [ev_even h0]; rfl
    · have : t' = t := Fin.ext (by omega)
      subst this
      rw [ev_even h0]; exact ⟨rfl, rfl, rfl⟩
  · have h0 : t.val % 2 = 1 := by have := mt (first_iff t).mpr h1; omega
    rw [if_neg h1, if_neg h1, if_neg h1, hpr]
    have hv : (ev t).val = t.val - 1 := by show t.val - t.val % 2 = _; omega
    obtain ⟨e1, e2, e3⟩ := hI.1 (ev t) (by omega) (by omega)
    have hf : First (cfg0.grid.coords (ev t)) := (first_iff _).mpr (by omega)
    refine ⟨e1.symm, e2.symm, ?_, ⟨fun t' e e' => absurd e' (by omega), hrow⟩⟩
    rw [e3]
    unfold Acc addTile
    rw [if_neg h1, if_pos hf]
    rfl

/-! ## The proof data -/

/-- The carried buffers before a point, and the generator register. -/
def Phi (c : Dev nD) (k : ℕ) : sProp 𝕄 :=
  iprop(∃ x1 h a p, ⌜Inv m c k x1 h a p⌝
    ∗ owns (c : Thread nD τ) (Memref.whole cc0_scratch0) fullShare x1 ∗ owns (c : Thread nD τ) (Memref.whole cc0_scratch1) fullShare h
    ∗ owns (c : Thread nD τ) (Memref.whole cc0_scratch2) fullShare a ∗ owns (c : Thread nD τ) (Memref.whole cc0_scratch3) fullShare p
    ∗ ∃ r, prngReg c r)

/-- The arrays as launched, what each window's block holds after each point, and the carried buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Y m c t
    | ⟨12, _⟩ => k0_pay3 (Gt m c t)
    | ⟨_ + 13, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]; try rfl
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]; try rfl
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]; try rfl
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]; try rfl
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]; try rfl
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]; try rfl
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]; try rfl
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]; try rfl
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]; try rfl
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]; try rfl
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]; try rfl
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = Y m c t := by dsimp only [dats]; try rfl
theorem after_12 (c : Dev nD) (t : Fin cfg0.N) : (dats m 0 c).after 12 t = k0_pay3 (Gt m c t) := by dsimp only [dats]; try rfl

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t
    ∗ owns (c : Thread nD τ) (st0_12 t) fullShare ((dats m 0 c).after 12 t))

/-- The output block: written at a row block's last point, let be at its first. -/
theorem leaves (c : Dev nD) (t : Fin cfg0.N) (d) :
    (owns (c : Thread nD τ) (st0_11 t) fullShare (if k0_cond3 (cfg0.grid.coords t) = 1#1 then Y m c t else (dats m 0 c).before 11 t d) : sProp 𝕄)
      ⊢ (dats m 0 c).leavesExact 11 t := by
  unfold Dat.leavesExact
  have hid : cfg0.idle 11 (cfg0.grid.coords t) = !(k0_cond3 (cfg0.grid.coords t) == 1#1) := rfl
  rw [hid]
  by_cases h3 : k0_cond3 (cfg0.grid.coords t) = 1#1
  · rw [if_pos h3, h3, after_11]
    exact .rfl
  · have hb : (k0_cond3 (cfg0.grid.coords t) == 1#1) = false := by simpa using h3
    have hf : (cfg0.win 11).flush t = false := by
      have h1 := mt (flush0_11 t).mp (mt (last_iff t).mpr h3)
      simpa using h1
    rw [if_neg h3, hb, hf]
    show _ ⊢ iprop(∃ d, owns (c : Thread nD τ) (st0_11 t) fullShare ((dats m 0 c).before 11 t d))
    iintro H
    iexists d
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    show (dats m 0 c).Φ t.succ = Phi m c (t.val + 1) from rfl, show (dats m 0 c).Φ t.castSucc = Phi m c t.val from rfl,
    after_0, after_1, after_2, after_3, after_4, after_5, after_6, after_7, after_8, after_9, after_10, after_12]
  unfold Phi
  iintro ⟨⟨%x1, %h, %a, %p, %hI, S0, S1, S2, S3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨e1, e2, e3, e4⟩ := step m c t hI
  iapply (run c (cfg0.grid.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) x1 h a p
    (by rw [first_iff, last_iff]; omega) (X1 m c (ev t)) (Hd m c (ev t)) _ (Acc m c t) e1 e2 rfl e3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  iintro ⟨H0, H1, H2, H3, H4, H5, H6, H7, H8, H9, H10, H11, H12, S0, S1, S2, S3⟩
  isplitl [S0 S1 S2 S3 Hr]
  · iexists _, _, _, _
    isplitr
    · ipureintro; exact e4
    isplitl [S0]; · iexact S0
    isplitl [S1]; · iexact S1
    isplitl [S2]; · iexact S2
    isplitl [S3]; · iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (leaves m c t d11); iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : (Pipeline.ΦA spec0 c : sProp 𝕄) ⊢ (dats m 0 c).Φ 0 := by
  rw [show (dats m 0 c).Φ 0 = Phi m c 0 from rfl]
  unfold Phi Pipeline.ΦA
  rw [scopedRest0_eq]
  simp only [owns_whole]
  iintro ⟨⟨⟨%f0, S0⟩, ⟨%f1, S1⟩, ⟨%f2, S2⟩, ⟨%f3, S3⟩⟩, Hr⟩
  iexists f0, f1, f2, f3
  isplitr
  · ipureintro
    exact ⟨fun t e _ => absurd e (Nat.succ_ne_zero _), fun t e _ => absurd e (Nat.not_lt_zero _)⟩
  isplitl [S0]; · iexact S0
  isplitl [S1]; · iexact S1
  isplitl [S2]; · iexact S2
  isplitl [S3]; · iexact S3
  iexact Hr

theorem leave (c : Dev nD) : (dats m 0 c).Φ (Fin.last cfg0.N) ⊢ (Pipeline.ΦA spec0 c : sProp 𝕄) := by
  rw [show (dats m 0 c).Φ (Fin.last cfg0.N) = Phi m c (Fin.last cfg0.N).val from rfl]
  unfold Phi Pipeline.ΦA
  rw [scopedRest0_eq]
  simp only [owns_whole]
  iintro ⟨%x1, %h, %a, %p, -, S0, S1, S2, S3, Hr⟩
  isplitr [Hr]
  · isplitl [S0]; · iexists x1; iexact S0
    isplitl [S1]; · iexists h; iexact S1
    isplitl [S2]; · iexists a; iexact S2
    iexists p; iexact S3
  iexact Hr

set_option backward.isDefEq.respectTransparency.types false in
/-- Every run of the call ends, at the arrays the proof data describe and with every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel3Ideal.Ffn
-- ==== Proof.Ffn0Rows.lean ====
/- What the blocks of layer 0's prompt feed-forward call hold, entry by entry: each is computed as in the call with the final
   norm, so each fact is the one proved there. -/
module

public import proofs.«01_k».proof.Proof.Ffn0Run
public import proofs.«01_k».proof.Proof.FfnRows

@[expose] public section

set_option maxRecDepth 16384

noncomputable section

namespace Cert.Kernel3Ideal.Ffn

open Idealize.ShloMosaic Idealize.ShloMosaic.TcCoe Cert.Kernel3Ideal Cert.Kernel3Ideal.Gen ValueIdx Cert.Ffn

theorem mix_apply (A : Args) (R : Fin 512 → Fin 16384) (a b : Vec Ideal S512x512 .bf16) (wo : Vec Ideal S1024x1024 .bf16) (x : Vec Ideal S512x1024 .f32)
    (ha : ∀ r k, a (ix2 r k) = A.a (R r) k) (hb : ∀ r k, b (ix2 r k) = A.b (R r) k) (hw : ∀ k j, wo (ix2 k j) = A.wo k j)
    (hx : ∀ r j, x (ix2 r j) = A.x (R r) j) (r : Fin 512) (j : Fin 1024) : mix a b wo x (ix2 r j) = x1 A (R r) j :=
  Cert.Kernel2Ideal.Ffn.mix_apply A R a b wo x ha hb hw hx r j

theorem hid_apply (A : Args) (R : Fin 512 → Fin 16384) (a b : Vec Ideal S512x512 .bf16) (wo : Vec Ideal S1024x1024 .bf16) (x : Vec Ideal S512x1024 .f32)
    (fn : Vec Ideal S1x1024 .f32)
    (ha : ∀ r k, a (ix2 r k) = A.a (R r) k) (hb : ∀ r k, b (ix2 r k) = A.b (R r) k) (hw : ∀ k j, wo (ix2 k j) = A.wo k j)
    (hx : ∀ r j, x (ix2 r j) = A.x (R r) j) (hf : ∀ j, fn (ix2 0 j) = A.fn j) (r : Fin 512) (j : Fin 1024) :
    hid a b wo x fn (ix2 r j) = h A (R r) j :=
  Cert.Kernel2Ideal.Ffn.hid_apply A R a b wo x fn ha hb hw hx hf r j

theorem proj_apply (h : Vec Ideal S512x1024 .bf16) (w : Vec Ideal S1024x1408 .bf16) (r : Fin 512) (f : Fin 1408) :
    k0_pay10 h w (ix2 r f) = ∑ k : Fin 1024, HMul.hMul (α := EReal) (β := EReal) (γ := EReal) (h (ix2 r k)) (w (ix2 k f)) :=
  Cert.Kernel2Ideal.Ffn.proj_apply h w r f

theorem down_apply (s : Vec Ideal S512x1024 .f32) (v : FVec Ideal S512x1408 .bf16) (w : Vec Ideal S1408x1024 .bf16) (r : Fin 512) (j : Fin 1024) :
    k0_pay1 s v w (ix2 r j) = HAdd.hAdd (α := EReal) (β := EReal) (γ := EReal) (s (ix2 r j))
      (∑ k : Fin 1408, HMul.hMul (α := EReal) (β := EReal) (γ := EReal) (v (ix2 r k)) (w (ix2 k j))) :=
  Cert.Kernel2Ideal.Ffn.down_apply s v w r j

/-- The block of the output: the residual stream and the sum, without a norm. -/
theorem out_apply (s a : Vec Ideal S512x1024 .f32) (r : Fin 512) (j : Fin 1024) :
    k0_pay4 s a (ix2 r j) = HAdd.hAdd (α := EReal) (β := EReal) (γ := EReal) (s (ix2 r j)) (a (ix2 r j)) := rfl

theorem last_apply (g : FVec Ideal S512x1408 .f32) (s : Fin 2) (f : Fin 1408) :
    k0_pay3 g (ix3 0 s f) = g (ix2 ⟨510 + s.val, by omega⟩ f) :=
  Cert.Kernel2Ideal.Ffn.last_apply g s f

theorem kept_apply (g : FVec Ideal S512x1408 .f32) (s : Fin 8) (f : Fin 1408) :
    k0_pay2 g (ix3 0 s f) = g (ix2 ⟨504 + s.val, by omega⟩ f) :=
  Cert.Kernel2Ideal.Ffn.kept_apply g s f

theorem kept_zero (s : Fin 8) (f : Fin 1408) : k0_pay12 (F := Ideal) (ix3 0 s f) = (0 : EReal) := Ideal.ofBits_zero_f32

theorem act_apply (h : Vec Ideal S512x1024 .bf16) (wg wu : Vec Ideal S1024x1408 .bf16) (cw : Vec Ideal S3x1408 .f32) (cb : Vec Ideal S1x1408 .f32)
    (p : Vec Ideal S1x8x1408 .f32) (r : Fin 512) (f : Fin 1408) (g2 g1 g0 u c0 c1 c2 b : EReal)
    (h2 : (if h' : 2 ≤ r.val then k0_pay10 h wg (ix2 ⟨r.val - 2, by omega⟩ f) else p (ix3 0 ⟨6 + r.val, by omega⟩ f)) = g2)
    (h1 : (if h' : 1 ≤ r.val then k0_pay10 h wg (ix2 ⟨r.val - 1, by omega⟩ f) else p (ix3 0 7 f)) = g1)
    (h0 : k0_pay10 h wg (ix2 r f) = g0) (hu : k0_pay10 h wu (ix2 r f) = u)
    (e0 : cw (ix2 0 f) = c0) (e1 : cw (ix2 1 f) = c1) (e2 : cw (ix2 2 f) = c2) (eb : cb (ix2 0 f) = b) :
    actOf h wg wu cw cb p (ix2 r f) = gelu (c0 * g2 + c1 * g1 + c2 * g0 + b) * u :=
  Cert.Kernel2Ideal.Ffn.act_apply h wg wu cw cb p r f g2 g1 g0 u c0 c1 c2 b h2 h1 h0 hu e0 e1 e2 eb

end Cert.Kernel3Ideal.Ffn

end
-- ==== Proof.Ffn0Ref.lean ====
/- Layer 0's feed-forward reference over the extended reals, entry by entry: its stages up to the residual stream are those of
   the reference with the final norm. -/
module

public import proofs.«01_k».proof.Proof.FfnRef
public import proofs.«01_k».proof.Proof.Gen.Reference3Ideal.Read

@[expose] public section

set_option maxRecDepth 16384

noncomputable section

namespace Cert.Reference3Ideal.Rows

open Cert.Reference3Ideal Cert.Reference3Ideal.Gen Cert.Reference3Ideal.Read Cert.Ffn
open Idealize.ShloMosaic Idealize.ShloMosaic.TcCoe ValueIdx
open Cert.Reference2Ideal.Rows (args)

variable (x0 : (⟨S16384x1024, .f32⟩ : BufTy).Contents (Elt Ideal)) (x1 x2 : (⟨S16384x512, .bf16⟩ : BufTy).Contents (Elt Ideal))
  (x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S3x2816, .f32⟩ : BufTy).Contents (Elt Ideal))
  (x8 : (⟨S2816, .f32⟩ : BufTy).Contents (Elt Ideal)) (x9 : (⟨S2816x1024, .f32⟩ : BufTy).Contents (Elt Ideal))
  (x10 : (⟨S1024, .f32⟩ : BufTy).Contents (Elt Ideal))

/-- The residual stream after the output projection, in both references. -/
theorem same_stream : val_main_v4 (F := Ideal) x0 x1 x2 x3 = Cert.Reference2Ideal.Read.val_main_v4 x0 x1 x2 x3 := rfl

/-- The normalized rows, in both references. -/
theorem same_normed : val_main_v17 (F := Ideal) x0 x1 x2 x3 x4 = Cert.Reference2Ideal.Read.val_main_v17 x0 x1 x2 x3 x4 := rfl

/-- The padded gate, in both references. -/
theorem same_gate : val_main_v21 (F := Ideal) x0 x1 x2 x3 x4 x5 = Cert.Reference2Ideal.Read.val_main_v21 x0 x1 x2 x3 x4 x5 := rfl

/-- The convolved gate, in both references. -/
theorem same_conv : val_main_v46 (F := Ideal) x0 x1 x2 x3 x4 x5 x7 x8 = Cert.Reference2Ideal.Read.val_main_v46 x0 x1 x2 x3 x4 x5 x7 x8 := rfl

/-- The activation, in both references. -/
theorem same_act : val_main_v62 (F := Ideal) x0 x1 x2 x3 x4 x5 x6 x7 x8 = Cert.Reference2Ideal.Read.val_main_v62 x0 x1 x2 x3 x4 x5 x6 x7 x8 := rfl

/-- The stream after the feed-forward part, in both references. -/
theorem same_stream2 : val_main_v64 (F := Ideal) x0 x1 x2 x3 x4 x5 x6 x7 x8 x9 = Cert.Reference2Ideal.Read.val_main_v64 x0 x1 x2 x3 x4 x5 x6 x7 x8 x9 := rfl

/-- The gate's last rows, in both references. -/
theorem same_tail : val_main_v65 (F := Ideal) x0 x1 x2 x3 x4 x5 = Cert.Reference2Ideal.Read.val_main_v78 x0 x1 x2 x3 x4 x5 := rfl

/-- **The reference's output**, at an entry. -/
theorem output (r : Fin 16384) (j : Fin 1024) : val_main_v64 x0 x1 x2 x3 x4 x5 x6 x7 x8 x9 (ix2 r j) = Ffn.x2 (args x0 x1 x2 x3 x4 x5 x6 x7 x8 x9 x10) r j :=
  (congrFun (same_stream2 x0 x1 x2 x3 x4 x5 x6 x7 x8 x9) (ix2 r j)).trans (Cert.Reference2Ideal.Rows.stream2 x0 x1 x2 x3 x4 x5 x6 x7 x8 x9 x10 r j)

/-- **The reference's last gate rows** of each sequence. -/
theorem tail (b : Fin 8) (s : Fin 2) (f : Fin 2816) :
    val_main_v65 x0 x1 x2 x3 x4 x5 (ix3 b s f) = Ffn.g (args x0 x1 x2 x3 x4 x5 x6 x7 x8 x9 x10) ⟨b.val * 2048 + (2046 + s.val), by omega⟩ f :=
  (congrFun (same_tail x0 x1 x2 x3 x4 x5) (ix3 b s f)).trans (Cert.Reference2Ideal.Rows.tail x0 x1 x2 x3 x4 x5 x6 x7 x8 x9 x10 b s f)

end Cert.Reference3Ideal.Rows

end
-- ==== Proof.Ffn0Blocks.lean ====
/- What the windows of layer 0's output and feed-forward call stage at a grid point, by coordinates, and from them what each
   point computes. -/
module

public import proofs.«01_k».proof.Proof.Ffn0Frame
public import proofs.«01_k».proof.Proof.Ffn0Rows
public import proofs.«01_k».proof.Proof.Ffn0Ref
public import proofs.«01_k».proof.Proof.FfnBlocks

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.ShloMosaic.Tactic ValueIdx
open Cert.Kernel2Ideal.Ffn (whole rowVec)

variable (m : (ℓ : Loc nD τ sig) → Buf (Elt Ideal) ℓ)

/-! ## The staged arrays -/

theorem V_main_v0 (c : Dev nD) : V m c main_v0 = m ((c : Thread nD τ).loc main_arg3) := by
  unfold V V0 hostOps0
  after_results
  rfl

theorem V_main_v1 (c : Dev nD) : V m c main_v1 = shapeCast S1x1024 (m ((c : Thread nD τ).loc main_arg4)) shapeCasts_S1024_S1x1024 := by
  unfold V V0 hostOps0
  after_results
  rfl

theorem V_main_v2 (c : Dev nD) : V m c main_v2 = m ((c : Thread nD τ).loc main_arg5) := by
  unfold V V0 hostOps0
  after_results
  rfl

theorem V_main_v3 (c : Dev nD) : V m c main_v3 = m ((c : Thread nD τ).loc main_arg6) := by
  unfold V V0 hostOps0
  after_results
  rfl

theorem V_main_v4 (c : Dev nD) : V m c main_v4 = shapeCast S1x2816 (m ((c : Thread nD τ).loc main_arg8)) shapeCasts_S2816_S1x2816 := by
  unfold V V0 hostOps0
  after_results
  rfl

theorem V_main_v5 (c : Dev nD) : V m c main_v5 = m ((c : Thread nD τ).loc main_arg9) := by
  unfold V V0 hostOps0
  after_results
  rfl

/-- The call's arguments, by coordinates. -/
def A (c : Dev nD) : Args :=
  Cert.Reference2Ideal.Rows.args (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
    (m (c.tc.loc main_arg9)) (m (c.tc.loc main_arg10))

/-! ## The grid's tiles -/

theorem coord0 : ∀ t : Fin cfg0.N, (BitVec.ofNat 32 ((cfg0.grid.coords t) 0).val).toNat = t.val / 2 := by decide +kernel
theorem coord1 : ∀ t : Fin cfg0.N, (BitVec.ofNat 32 ((cfg0.grid.coords t) 1).val).toNat = t.val % 2 := by decide +kernel

/-- The row of the arrays a block row is. -/
def rowOf (t : Fin cfg0.N) (r : Fin 512) : Fin 16384 := ⟨512 * (t.val / 2) + r.val, by have h : t.val < 64 := t.isLt; omega⟩
/-- The feature a tile column is. -/
def colOf (t : Fin cfg0.N) (f : Fin 1408) : Fin 2816 := ⟨1408 * (t.val % 2) + f.val, by omega⟩

theorem rowOf_ev (t : Fin cfg0.N) : rowOf (ev t) = rowOf t := by
  funext r
  refine Fin.ext ?_
  show 512 * ((t.val - t.val % 2) / 2) + r.val = 512 * (t.val / 2) + r.val
  omega

theorem rowStart (t : Fin cfg0.N) (n : ℕ) : (BitVec.ofNat 32 ((cfg0.grid.coords t) 0).val).toNat * 512 + 1 * n = 512 * (t.val / 2) + n := by
  rw [coord0]; omega
theorem colStart (t : Fin cfg0.N) (n : ℕ) : (BitVec.ofNat 32 ((cfg0.grid.coords t) 1).val).toNat * 1408 + 1 * n = 1408 * (t.val % 2) + n := by
  rw [coord1]; omega
/-! ## The blocks -/

theorem blk0 (c : Dev nD) (t : Fin cfg0.N) (r : Fin 512) (j : Fin 1024) :
    (iblk m c 0 t : Vec Ideal S512x1024 .f32) (ix2 r j) = (A m c).x (rowOf t r) j := by
  unfold iblk
  rw [View.read_apply]
  show V m c main_arg0 _ = _
  rw [V_main_arg0]
  exact at2 _ _ (rowOf t r) j (rowStart t _) (whole _ _)

theorem blk1 (c : Dev nD) (t : Fin cfg0.N) (r : Fin 512) (j : Fin 512) :
    (iblk m c 1 t : Vec Ideal S512x512 .bf16) (ix2 r j) = (A m c).a (rowOf t r) j := by
  unfold iblk
  rw [View.read_apply]
  show V m c main_arg1 _ = _
  rw [V_main_arg1]
  exact at2 _ _ (rowOf t r) j (rowStart t _) (whole _ _)

theorem blk2 (c : Dev nD) (t : Fin cfg0.N) (r : Fin 512) (j : Fin 512) :
    (iblk m c 2 t : Vec Ideal S512x512 .bf16) (ix2 r j) = (A m c).b (rowOf t r) j := by
  unfold iblk
  rw [View.read_apply]
  show V m c main_arg2 _ = _
  rw [V_main_arg2]
  exact at2 _ _ (rowOf t r) j (rowStart t _) (whole _ _)

theorem blk3 (c : Dev nD) (t : Fin cfg0.N) (k : Fin 1024) (j : Fin 1024) :
    (iblk m c 3 t : Vec Ideal S1024x1024 .bf16) (ix2 k j) = (A m c).wo k j := by
  unfold iblk
  rw [View.read_apply]
  show V m c main_v0 _ = _
  rw [V_main_v0]
  exact at2 _ _ k j (whole _ _) (whole _ _)

theorem blk4 (c : Dev nD) (t : Fin cfg0.N) (j : Fin 1024) : (iblk m c 4 t : Vec Ideal S1x1024 .f32) (ix2 0 j) = (A m c).fn j := by
  unfold iblk
  rw [View.read_apply]
  show V m c main_v1 _ = _
  rw [V_main_v1]
  exact rowVec _ _ _ j (whole _ _)

theorem blk5 (c : Dev nD) (t : Fin cfg0.N) (k : Fin 1024) (f : Fin 1408) :
    (iblk m c 5 t : Vec Ideal S1024x1408 .bf16) (ix2 k f) = (A m c).wg k (colOf t f) := by
  unfold iblk
  rw [View.read_apply]
  show V m c main_v2 _ = _
  rw [V_main_v2]
  exact at2 _ _ k (colOf t f) (whole _ _) (colStart t _)

theorem blk6 (c : Dev nD) (t : Fin cfg0.N) (k : Fin 1024) (f : Fin 1408) :
    (iblk m c 6 t : Vec Ideal S1024x1408 .bf16) (ix2 k f) = (A m c).wu k (colOf t f) := by
  unfold iblk
  rw [View.read_apply]
  show V m c main_v3 _ = _
  rw [V_main_v3]
  exact at2 _ _ k (colOf t f) (whole _ _) (colStart t _)

theorem blk7 (c : Dev nD) (t : Fin cfg0.N) (k : Fin 3) (f : Fin 1408) :
    (iblk m c 7 t : Vec Ideal S3x1408 .f32) (ix2 k f) = (A m c).cw k (colOf t f) := by
  unfold iblk
  rw [View.read_apply]
  show V m c main_arg7 _ = _
  rw [V_main_arg7]
  exact at2 _ _ k (colOf t f) (whole _ _) (colStart t _)

theorem blk8 (c : Dev nD) (t : Fin cfg0.N) (f : Fin 1408) : (iblk m c 8 t : Vec Ideal S1x1408 .f32) (ix2 0 f) = (A m c).cb (colOf t f) := by
  unfold iblk
  rw [View.read_apply]
  show V m c main_v4 _ = _
  rw [V_main_v4]
  exact rowVec _ _ _ (colOf t f) (colStart t _)

theorem blk9 (c : Dev nD) (t : Fin cfg0.N) (k : Fin 1408) (j : Fin 1024) :
    (iblk m c 9 t : Vec Ideal S1408x1024 .bf16) (ix2 k j) = (A m c).wd (colOf t k) j := by
  unfold iblk
  rw [View.read_apply]
  show V m c main_v5 _ = _
  rw [V_main_v5]
  exact at2 _ _ (colOf t k) j (colStart t _) (whole _ _)

/-! ## What each point computes -/

/-- The residual stream's block. -/
theorem X1_apply (c : Dev nD) (t : Fin cfg0.N) (r : Fin 512) (j : Fin 1024) : X1 m c t (ix2 r j) = x1 (A m c) (rowOf t r) j :=
  mix_apply (A m c) (rowOf t) _ _ _ _ (blk1 m c t) (blk2 m c t) (blk3 m c t) (blk0 m c t) r j

/-- The normalized rows' block. -/
theorem Hd_apply (c : Dev nD) (t : Fin cfg0.N) (r : Fin 512) (j : Fin 1024) : Hd m c t (ix2 r j) = h (A m c) (rowOf t r) j :=
  hid_apply (A m c) (rowOf t) _ _ _ _ _ (blk1 m c t) (blk2 m c t) (blk3 m c t) (blk0 m c t) (blk4 m c t) r j

theorem Hd_ev_apply (c : Dev nD) (t : Fin cfg0.N) (r : Fin 512) (j : Fin 1024) : Hd m c (ev t) (ix2 r j) = h (A m c) (rowOf t r) j :=
  (Hd_apply m c (ev t) r j).trans (by rw [rowOf_ev])

/-- The gate's tile. -/
theorem Gt_apply (c : Dev nD) (t : Fin cfg0.N) (r : Fin 512) (f : Fin 1408) : Gt m c t (ix2 r f) = g (A m c) (rowOf t r) (colOf t f) :=
  (proj_apply (Hd m c (ev t)) (iblk m c 5 t) r f).trans
    (Finset.sum_congr rfl fun k _ => congrArg₂ (HMul.hMul (α := EReal) (β := EReal) (γ := EReal)) (Hd_ev_apply m c t r k) (blk5 m c t k f))

/-- The up projection's tile. -/
theorem up_apply (c : Dev nD) (t : Fin cfg0.N) (r : Fin 512) (f : Fin 1408) :
    k0_pay10 (Hd m c (ev t)) (iblk m c 6 t) (ix2 r f) = u (A m c) (rowOf t r) (colOf t f) :=
  (proj_apply (Hd m c (ev t)) (iblk m c 6 t) r f).trans
    (Finset.sum_congr rfl fun k _ => congrArg₂ (HMul.hMul (α := EReal) (β := EReal) (γ := EReal)) (Hd_ev_apply m c t r k) (blk6 m c t k f))

/-- The carried rows are the gate of the rows before the block, zero before a sequence's start. -/
theorem Pr_apply (c : Dev nD) (t : Fin cfg0.N) (s : Fin 8) (f : Fin 1408) (d : ℕ) (r : Fin 512) (hd : d = r.val + (8 - s.val)) (h2 : d ≤ 2 + r.val)  (h0 : r.val < d) :
    Pr m c t (ix3 0 s f) = tap (A m c) d (rowOf t r) (colOf t f) := by
  have ht : t.val < 64 := t.isLt
  have hs := s.isLt
  have hr := r.isLt
  unfold Pr tap
  have hv : (rowOf t r).val = 512 * (t.val / 2) + r.val := rfl
  by_cases h : k0_cond2 (cfg0.grid.coords t) = 1#1
  · rw [if_pos h, if_pos (by have := (start_iff t).1 h; omega)]
    exact kept_zero s f
  · have h' : ¬ t.val / 2 % 4 = 0 := fun e => h ((start_iff t).2 e)
    rw [if_neg h, if_neg (by omega)]
    refine (kept_apply _ s f).trans ((Gt_apply m c (bk t 2) _ f).trans ?_)
    refine congrArg₂ (g (A m c)) (Fin.ext ?_) (Fin.ext ?_)
    · show 512 * ((t.val - 2) / 2) + (504 + s.val) = 512 * (t.val / 2) + r.val - d
      omega
    · show 1408 * ((t.val - 2) % 2) + f.val = 1408 * (t.val % 2) + f.val
      omega

/-- A tap inside the block. -/
theorem tap_in (c : Dev nD) (t : Fin cfg0.N) (d : ℕ) (r : Fin 512) (f : Fin 1408) (hd : d ≤ r.val) :
    Gt m c t (ix2 ⟨r.val - d, by omega⟩ f) = tap (A m c) d (rowOf t r) (colOf t f) := by
  have hr := r.isLt
  have ht : t.val < 64 := t.isLt
  have hv : (rowOf t r).val = 512 * (t.val / 2) + r.val := rfl
  unfold tap
  rw [if_neg (by omega)]
  refine (Gt_apply m c t _ f).trans (congrArg (fun n => g (A m c) n (colOf t f)) (Fin.ext ?_))
  show 512 * (t.val / 2) + (r.val - d) = 512 * (t.val / 2) + r.val - d
  omega

/-- The activation's tile. -/
theorem Act_apply (c : Dev nD) (t : Fin cfg0.N) (r : Fin 512) (f : Fin 1408) : Act m c t (ix2 r f) = act (A m c) (rowOf t r) (colOf t f) := by
  refine act_apply _ _ _ _ _ _ r f _ _ _ _ _ _ _ _ ?_ ?_ (Gt_apply m c t r f) (up_apply m c t r f)
    (blk7 m c t 0 f) (blk7 m c t 1 f) (blk7 m c t 2 f) (blk8 m c t f)
  · by_cases h : 2 ≤ r.val
    · rw [dif_pos h]
      exact tap_in m c t 2 r f h
    · rw [dif_neg h]
      exact Pr_apply m c t _ f 2 r (by show 2 = r.val + (8 - (6 + r.val)); omega) (by omega) (by omega)
  · by_cases h : 1 ≤ r.val
    · rw [dif_pos h]
      exact tap_in m c t 1 r f h
    · rw [dif_neg h]
      exact Pr_apply m c t 7 f 1 r (by show 1 = r.val + (8 - 7); omega) (by omega) (by omega)

/-- A tile's part of the down projection. -/
theorem addTile_apply (c : Dev nD) (t : Fin cfg0.N) (a : FVec Ideal S512x1024 .f32) (r : Fin 512) (j : Fin 1024) :
    addTile m c t a (ix2 r j) = HAdd.hAdd (α := EReal) (β := EReal) (γ := EReal) (a (ix2 r j))
      (∑ k : Fin 1408, act (A m c) (rowOf t r) (colOf t k) * (A m c).wd (colOf t k) j) :=
  (down_apply a (Act m c t) (iblk m c 9 t) r j).trans (congrArg (HAdd.hAdd (α := EReal) (β := EReal) (γ := EReal) (a (ix2 r j)))
    (Finset.sum_congr rfl fun k _ => congrArg₂ (HMul.hMul (α := EReal) (β := EReal) (γ := EReal)) (Act_apply m c t r k) (blk9 m c t k j)))

/-- The sum starts at zero. -/
theorem zero_tile (r : Fin 512) (j : Fin 1024) : k0_pay9 (k0_pay8 (F := Ideal)) (ix2 r j) = (0 : EReal) := by
  unfold k0_pay9 k0_pay8
  exact Ideal.ofBits_zero_f32

/-- The sum over both column tiles. -/
theorem Acc_apply (c : Dev nD) (t : Fin cfg0.N) (h1 : t.val % 2 = 1) (r : Fin 512) (j : Fin 1024) :
    Acc m c t (ix2 r j) = (∑ k : Fin 1408, act (A m c) (rowOf t r) ⟨k.val, by omega⟩ * (A m c).wd ⟨k.val, by omega⟩ j)
      + ∑ k : Fin 1408, act (A m c) (rowOf t r) ⟨1408 + k.val, by omega⟩ * (A m c).wd ⟨1408 + k.val, by omega⟩ j := by
  have hf : ¬ First (cfg0.grid.coords t) := fun e => by have := (first_iff t).1 e; omega
  have e0 : ∀ k : Fin 1408, colOf (ev t) k = ⟨k.val, by omega⟩ := fun k => Fin.ext (by
    show 1408 * ((t.val - t.val % 2) % 2) + k.val = k.val
    omega)
  have e1 : ∀ k : Fin 1408, colOf t k = ⟨1408 + k.val, by omega⟩ := fun k => Fin.ext (by
    show 1408 * (t.val % 2) + k.val = 1408 + k.val
    omega)
  unfold Acc
  rw [if_neg hf]
  refine (addTile_apply m c t _ r j).trans (congrArg₂ (HAdd.hAdd (α := EReal) (β := EReal) (γ := EReal)) ?_ ?_)
  · refine (addTile_apply m c (ev t) _ r j).trans ?_
    rw [zero_tile, zero_add, rowOf_ev]
    exact Finset.sum_congr rfl fun k _ => by rw [e0]
  · exact Finset.sum_congr rfl fun k _ => by rw [e1]

/-- The output's block. -/
theorem Y_apply (c : Dev nD) (t : Fin cfg0.N) (h1 : t.val % 2 = 1) (r : Fin 512) (j : Fin 1024) : Y m c t (ix2 r j) = x2 (A m c) (rowOf t r) j := by
  refine (out_apply _ _ r j).trans ?_
  unfold x2
  refine congrArg₂ (HAdd.hAdd (α := EReal) (β := EReal) (γ := EReal)) ?_ (Acc_apply m c t h1 r j)
  exact (X1_apply m c (ev t) r j).trans (by rw [rowOf_ev])

/-- The last rows' block. -/
theorem last_block (c : Dev nD) (t : Fin cfg0.N) (s : Fin 2) (f : Fin 1408) :
    k0_pay3 (Gt m c t) (ix3 0 s f) = g (A m c) (rowOf t ⟨510 + s.val, by omega⟩) (colOf t f) :=
  (last_apply _ s f).trans (Gt_apply m c t _ f)

end Cert.Kernel3Ideal.Ffn

end
-- ==== Proof.Ffn0Arrays.lean ====
/- The result arrays of layer 0's output and feed-forward call, read off its write-backs, and the reference's results at the same
   values. -/
module

public import proofs.«01_k».proof.Proof.Ffn0Blocks

@[expose] public section

set_option maxRecDepth 16384

noncomputable section

namespace Cert.Kernel3Ideal.Ffn

open Cert.Kernel3Ideal Cert.Kernel3Ideal.Gen Cert.Ffn
open Cert.Kernel2Ideal.Ffn (whole)
open Idealize.ShloMosaic Idealize.ShloMosaic.TcCoe Idealize.ShloMosaic.Tactic ValueIdx
open Idealize.ShloMosaic.Pipeline Idealize.SL.Sem

variable (m : (ℓ : Loc nD τ sig) → Buf (Elt Ideal) ℓ) (ρ : Dev nD → PrngReg)

/-! ## The output -/

/-- The output array. -/
def outs (c : Dev nD) : Buf (Elt Ideal) ((c : Thread nD τ).loc main_v7_0) :=
  fun i : S16384x1024.Idx => x2 (A m c) (i 0) (i 1)

/-- Contents that agree with an array on a point's block are the block read off it. -/
theorem cut11 (t : Fin cfg0.N) (b : Vec Ideal S512x1024 .f32) (f : S16384x1024.Idx → EReal)
    (hb : ∀ e : S512x1024.Idx, b e = f (((cfg0.win 11).blk t).view.emb e)) :
    (cfg0.win 11).cut (cfg0.grid.coords t) b = ((cfg0.win 11).blk t).view.read (Elt Ideal) f :=
  funext hb

/-- An entry of a row block's output is the array's. -/
theorem outs_at (c : Dev nD) (t : Fin cfg0.N) (h1 : t.val % 2 = 1) (e : S512x1024.Idx) (i : S16384x1024.Idx)
    (h0 : (i 0).val = (rowOf t (e 0)).val) (hj : (i 1).val = (e 1).val) : Y m c t e = outs m c i := by
  have he : e = ix2 (e 0) (e 1) := funext fun a => match a with | ⟨0, _⟩ => rfl | ⟨1, _⟩ => rfl
  have hr : i 0 = rowOf t (e 0) := Fin.ext h0
  have hc : i 1 = e 1 := Fin.ext hj
  unfold outs
  rw [hr, hc]
  exact (congrArg (Y m c t) he).trans (Y_apply m c t h1 (e 0) (e 1))

theorem flushed11 (c : Dev nD) (t : Fin cfg0.N) (hf : (cfg0.win 11).flush t = true) :
    (dats m 0 c).flushed 11 t = ((cfg0.win 11).blk t).view.read (Elt Ideal) (outs m c) := by
  show (cfg0.win 11).cut (cfg0.grid.coords t) ((dats m 0 c).after 11 t) = _
  rw [after_11]
  exact cut11 t _ _ fun e => outs_at m c t ((flush0_11 t).1 hf) e _ (rowStart t _) (whole _ _)

/-- The last point of a row's block. -/
def pt11 (r : Fin 16384) : Fin cfg0.N := ⟨2 * (r.val / 512) + 1, by show 2 * (r.val / 512) + 1 < 64; omega⟩

/-- The output array ends at the layer's output. -/
theorem final11 (c : Dev nD) : (dats m 0 c).arrAt 11 cfg0.N = outs m c :=
  (dats m 0 c).arrAt_eq_of_cover 11 (outs m c) (flushed11 m c) fun (i : S16384x1024.Idx) =>
    ⟨pt11 (i 0), (flush0_11 _).2 (by show (2 * ((i 0).val / 512) + 1) % 2 = 1; omega), by
      refine (View.set_slice_whole main_v7_0 ((cfg0.win 11).rect (pt11 (i 0)))).symm ▸ ?_
      refine (Rect.mem_set_unit ..).2 ?_
      have hs : (BitVec.ofNat 32 ((cfg0.grid.coords (pt11 (i 0))) 0).val).toNat = (2 * ((i 0).val / 512) + 1) / 2 := coord0 _
      have h1 : (i 1).val < 1024 := (i 1).isLt
      intro a
      match a with
      | ⟨0, _⟩ =>
        show (BitVec.ofNat 32 ((cfg0.grid.coords (pt11 (i 0))) 0).val).toNat * 512 ≤ (i 0).val
          ∧ (i 0).val < (BitVec.ofNat 32 ((cfg0.grid.coords (pt11 (i 0))) 0).val).toNat * 512 + 512
        omega
      | ⟨1, _⟩ => show 0 * 1024 ≤ (i 1).val ∧ (i 1).val < 0 * 1024 + 1024; omega⟩

/-! ## The gate's last rows -/

/-- Each row block's last two gate rows. -/
def tails (c : Dev nD) : Buf (Elt Ideal) ((c : Thread nD τ).loc main_v7_1) :=
  fun i : S32x2x2816.Idx => g (A m c) ⟨512 * (i 0).val + (510 + (i 1).val), by
    have h0 : (i 0).val < 32 := (i 0).isLt
    have h1 : (i 1).val < 2 := (i 1).isLt
    omega⟩ (i 2)

theorem cut12 (t : Fin cfg0.N) (b : Vec Ideal S1x2x1408 .f32) (f : S32x2x2816.Idx → EReal)
    (hb : ∀ e : S1x2x1408.Idx, b e = f (((cfg0.win 12).blk t).view.emb e)) :
    (cfg0.win 12).cut (cfg0.grid.coords t) b = ((cfg0.win 12).blk t).view.read (Elt Ideal) f :=
  funext hb

theorem tails_at (c : Dev nD) (t : Fin cfg0.N) (e : S1x2x1408.Idx) (i : S32x2x2816.Idx)
    (h0 : (i 0).val = t.val / 2) (h1 : (i 1).val = (e 1).val) (h2 : (i 2).val = (colOf t (e 2)).val) :
    k0_pay3 (Gt m c t) e = tails m c i := by
  have hz : (e 0).val < 1 := (e 0).isLt
  have he : e = ix3 0 (e 1) (e 2) := funext fun a => match a with
    | ⟨0, _⟩ => Fin.ext (Nat.lt_one_iff.1 hz)
    | ⟨1, _⟩ => rfl
    | ⟨2, _⟩ => rfl
  refine (congrArg (k0_pay3 (Gt m c t)) he).trans ((last_block m c t (e 1) (e 2)).trans ?_)
  unfold tails
  refine congrArg₂ (g (A m c)) (Fin.ext ?_) (Fin.ext h2.symm)
  show 512 * (t.val / 2) + (510 + (e 1).val) = 512 * (i 0).val + (510 + (i 1).val)
  rw [h0, h1]

theorem blockStart (t : Fin cfg0.N) (n : ℕ) (hn : n < 1) : (BitVec.ofNat 32 ((cfg0.grid.coords t) 0).val).toNat * 1 + 1 * n = t.val / 2 := by
  rw [coord0]; omega

theorem flushed12 (c : Dev nD) (t : Fin cfg0.N) (_ : (cfg0.win 12).flush t = true) :
    (dats m 0 c).flushed 12 t = ((cfg0.win 12).blk t).view.read (Elt Ideal) (tails m c) := by
  show (cfg0.win 12).cut (cfg0.grid.coords t) ((dats m 0 c).after 12 t) = _
  rw [after_12]
  exact cut12 t _ _ fun e => tails_at m c t e _ (blockStart t _ (e 0).isLt) (whole _ _) (colStart t _)

/-- The point of a row block and a feature. -/
def pt12 (b : Fin 32) (f : Fin 2816) : Fin cfg0.N := ⟨2 * b.val + f.val / 1408, by show 2 * b.val + f.val / 1408 < 64; omega⟩

/-- The array of last rows ends at the gate's. -/
theorem final12 (c : Dev nD) : (dats m 0 c).arrAt 12 cfg0.N = tails m c :=
  (dats m 0 c).arrAt_eq_of_cover 12 (tails m c) (flushed12 m c) fun (i : S32x2x2816.Idx) =>
    ⟨pt12 (i 0) (i 2), flush0_12 _, by
      refine (View.set_slice_whole main_v7_1 ((cfg0.win 12).rect (pt12 (i 0) (i 2)))).symm ▸ ?_
      refine (Rect.mem_set_unit ..).2 ?_
      have hs0 : (BitVec.ofNat 32 ((cfg0.grid.coords (pt12 (i 0) (i 2))) 0).val).toNat = (2 * (i 0).val + (i 2).val / 1408) / 2 := coord0 _
      have hs1 : (BitVec.ofNat 32 ((cfg0.grid.coords (pt12 (i 0) (i 2))) 1).val).toNat = (2 * (i 0).val + (i 2).val / 1408) % 2 := coord1 _
      have h1 : (i 1).val < 2 := (i 1).isLt
      have h2 : (i 2).val < 2816 := (i 2).isLt
      intro a
      match a with
      | ⟨0, _⟩ =>
        show (BitVec.ofNat 32 ((cfg0.grid.coords (pt12 (i 0) (i 2))) 0).val).toNat * 1 ≤ (i 0).val
          ∧ (i 0).val < (BitVec.ofNat 32 ((cfg0.grid.coords (pt12 (i 0) (i 2))) 0).val).toNat * 1 + 1
        omega
      | ⟨1, _⟩ => show 0 * 2 ≤ (i 1).val ∧ (i 1).val < 0 * 2 + 2; omega
      | ⟨2, _⟩ =>
        show (BitVec.ofNat 32 ((cfg0.grid.coords (pt12 (i 0) (i 2))) 1).val).toNat * 1408 ≤ (i 2).val
          ∧ (i 2).val < (BitVec.ofNat 32 ((cfg0.grid.coords (pt12 (i 0) (i 2))) 1).val).toNat * 1408 + 1408
        omega⟩

/-- Each sequence's last two gate rows. -/
def lasts (c : Dev nD) : Buf (Elt Ideal) ((c : Thread nD τ).loc main_v8) :=
  fun i : S8x2x2816.Idx => g (A m c) ⟨(i 0).val * 2048 + (2046 + (i 1).val), by
    have h0 : (i 0).val < 8 := (i 0).isLt
    have h1 : (i 1).val < 2 := (i 1).isLt
    omega⟩ (i 2)

/-- Every fourth row block ends a sequence. -/
theorem slice_tails (c : Dev nD) : Host.slice S8x2x2816 ![3, 0, 0] ![4, 1, 1] (tails m c) slicesBy_S32x2x2816_S8x2x2816_3s4_0s1_0s1 = lasts m c := by
  funext i
  have h0 : (i 0).val < 8 := (i 0).isLt
  have h1 : (i 1).val < 2 := (i 1).isLt
  show g (A m c) _ _ = g (A m c) _ _
  refine congrArg₂ (g (A m c)) (Fin.ext ?_) (Fin.ext ?_)
  · show 512 * (3 + 4 * (i 0).val) + (510 + (0 + 1 * (i 1).val)) = (i 0).val * 2048 + (2046 + (i 1).val)
    omega
  · show 0 + 1 * (i 2).val = (i 2).val
    omega

theorem arrRef_inj : Function.Injective (arrRef spec0) := by
  have h : ∀ w w', arrRef spec0 w = arrRef spec0 w' → w = w' := by decide
  exact fun w w' => h w w'

/-- What the call leaves in its second result. -/
theorem sliced (c : Dev nD) : afterTail₀ cfgs (dats m) 0 (V0 m) [hostOps1] c main_v8 = lasts m c := by
  unfold afterTail₀
  refine Eq.trans ?_ (slice_tails m c)
  have e := withArrays_arr spec0 arrRef_inj c (V0 m c) (fun w => (dats m 0 c).arrAt w cfg0.N) 12
  rw [← final12 m c, ← e]
  after_results
  rfl

/-- The run, read: both results. -/
theorem run_results : θ_run defs (onTc (τ := τ) (main (F := Ideal))) ⟨m, fun _ => 0, ρ⟩ fun r => ∀ c : Dev nD,
      r.2.mem ((c.tc : Thread nD τ).loc main_v7_0) = outs m c ∧ r.2.mem ((c.tc : Thread nD τ).loc main_v8) = lasts m c :=
  (θ_run defs _ _).mono (fun _ h c => ⟨((h c).1 11).trans (final11 m c),
    ((h c).2 main_v8 (mem_restRefs_of main_v8 (by decide) (by decide))).trans (sliced m c)⟩) (run_main m ρ)

/-! ## The reference -/

open Cert.Reference3Ideal.Read in
/-- The reference's output is the same array. -/
theorem ref_outs (c : Dev nD) : val_main_v64 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
    (m (c.tc.loc main_arg9)) = outs m c := by
  funext i
  have hi : i = ix2 (i 0) (i 1) := funext fun a => match a with | ⟨0, _⟩ => rfl | ⟨1, _⟩ => rfl
  rw [hi]
  exact Cert.Reference3Ideal.Rows.output _ _ _ _ _ _ _ _ _ _ (m (c.tc.loc main_arg10)) (i 0) (i 1)

open Cert.Reference3Ideal.Read in
/-- Its gate rows are the same array. -/
theorem ref_lasts (c : Dev nD) : val_main_v65 (F := Ideal) (m (c.tc.loc main_arg0)) (m (c.tc.loc main_arg1)) (m (c.tc.loc main_arg2)) (m (c.tc.loc main_arg3))
    (m (c.tc.loc main_arg4)) (m (c.tc.loc main_arg5)) = lasts m c := by
  funext i
  have hi : i = ix3 (i 0) (i 1) (i 2) := funext fun a => match a with | ⟨0, _⟩ => rfl | ⟨1, _⟩ => rfl | ⟨2, _⟩ => rfl
  rw [hi]
  exact Cert.Reference3Ideal.Rows.tail _ _ _ _ _ _ (m (c.tc.loc main_arg6)) (m (c.tc.loc main_arg7)) (m (c.tc.loc main_arg8))
    (m (c.tc.loc main_arg9)) (m (c.tc.loc main_arg10)) (i 0) (i 1) (i 2)

end Cert.Kernel3Ideal.Ffn

end
-- ==== Proof.lean ====
/- The proof of the certificate's claim: the frames of the decoding attention, of the output and feed-forward call in both layers,
   of the second layer's input projection, for the prompt and for the sample, of the first layer's for the sample, of the second
   layer's output and feed-forward call for the sample, and of their references, and the equality of each with its reference over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equation
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Points
public import proofs.«01_k».proof.Proof.Gen.Kernel2Ideal.Skeleton
public import proofs.«01_k».proof.Proof.Gen.Kernel2.Skeleton
public import proofs.«01_k».proof.Proof.Gen.Kernel2.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Points
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Points
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.FfnFrameWords
public import proofs.«01_k».proof.Proof.FfnArrays
public import proofs.«01_k».proof.Proof.ProjArrays
public import proofs.«01_k».proof.Proof.SampleArrays
public import proofs.«01_k».proof.Proof.RopeArrays
public import proofs.«01_k».proof.Proof.StepArrays
public import proofs.«01_k».proof.Proof.Gen.Kernel7
public import proofs.«01_k».proof.Proof.Gen.Kernel7.Frame
public import proofs.«01_k».proof.Proof.Gen.Kernel7.Points
public import proofs.«01_k».proof.Proof.Gen.Kernel7.Skeleton
public import proofs.«01_k».proof.Proof.Gen.Kernel7Ideal
public import proofs.«01_k».proof.Proof.Gen.Kernel7Ideal.Frame
public import proofs.«01_k».proof.Proof.Gen.Kernel7Ideal.Points
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel4
public import proofs.«01_k».proof.Proof.Gen.Kernel4.Frame
public import proofs.«01_k».proof.Proof.Gen.Kernel4.Points
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Points
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5.Points
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Points
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6.Points
public import proofs.«01_k».proof.Proof.Gen.Kernel6.Skeleton
public import proofs.«01_k».proof.Proof.Gen.Kernel6Ideal
public import proofs.«01_k».proof.Proof.Gen.Kernel6Ideal.Frame
public import proofs.«01_k».proof.Proof.Gen.Kernel6Ideal.Points
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import proofs.«01_k».proof.Proof.Ffn0FrameWords
public import proofs.«01_k».proof.Proof.Ffn0Arrays

@[expose] public section

noncomputable section

namespace Cert.Proof

open Idealize.ShloMosaic Idealize.SL.Sem

/-- The kernel at machine words runs and leaves its arguments. -/
theorem frame_kernel : Cert.quiescent_Kernel := fun m g h =>
  Cert.Kernel.Gen.frame m g (Cert.Kernel.ok_of_bound m fun y => Cert.Paged.bound _ _ _ _ (h 0) y)

/-- The kernel over the extended reals runs and leaves its arguments. -/
theorem frame_ideal : Cert.quiescent_KernelIdeal := fun m g h =>
  Cert.KernelIdeal.Gen.frame m g (Cert.KernelIdeal.ok_of_bound m fun y => Cert.Paged.bound _ _ _ _ (h 0) y)

/-- The page numbers of a memory of the narrower precondition. -/
theorem pages (m : (ℓ : Loc Cert.KernelIdeal.nD Cert.KernelIdeal.τ Cert.KernelIdeal.sig) → Buf (Elt Ideal) ℓ) (h : Cert.Pre_KernelIdeal_finite_and_paged m)
    (y : Cert.KernelIdeal.S128x16.Idx) : (m ((0 : Dev Cert.KernelIdeal.nD).tc.loc Cert.KernelIdeal.main_arg3) y).toNat < 2560 :=
  Cert.Paged.bound _ _ _ _ (Cert.Paged.paged_of_finite _ _ _ _ (h 0)) y

/-- The same under the narrower precondition. -/
theorem frame_ideal_finite : Cert.quiescent_KernelIdeal_pre_finite_and_paged := fun m g h =>
  Cert.KernelIdeal.Gen.frame m g (Cert.KernelIdeal.ok_of_bound m (pages m h))

/-- The reference runs and leaves its arguments. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The same under the narrower precondition. -/
theorem frame_reference_finite : Cert.quiescent_ReferenceIdeal_pre_finite_and_paged := fun m g _ => frame_reference m g trivial

/-- The kernel's result is the reference's. -/
theorem algebraic : Cert.algebraic_KernelIdeal_ReferenceIdeal_pre_finite_and_paged := fun m g m' g' h hargs => by
  have hO := Cert.KernelIdeal.ok_of_bound m (pages m h)
  refine ⟨fun c => Cert.KernelIdeal.Blocks.result m hO c, ?_, ?_⟩
  · exact (θ_run Cert.KernelIdeal.defs _ _).mono (fun r hr c => ⟨hr.1 c, hr.2 c⟩)
      (θ_run_and (Cert.KernelIdeal.Blocks.run m g hO) (Cert.KernelIdeal.Gen.unchanged m g hO))
  · refine (θ_run Cert.ReferenceIdeal.defs _ _).mono (fun r hr c => ⟨(hr c).1.trans ?_, (hr c).2⟩) (Cert.ReferenceIdeal.Value.run m' g')
    have hc : c = 0 := Subsingleton.elim _ _
    subst hc
    obtain ⟨e0, e1, e2, e3⟩ := hargs 0
    refine Eq.trans ?_ (Cert.Equation.equal m hO (pages m h) (h 0) 0).symm
    rw [Cert.ReferenceIdeal.Read.val_main_v40_eq, e0, e1, e2, e3]

/-- The output and feed-forward call's reference runs and leaves its arguments. -/
theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

/-- The call's two results are its reference's. -/
theorem algebraic2 : Cert.algebraic_Kernel2Ideal_Reference2Ideal := fun m g m' g' _ hargs => by
  refine ⟨fun c => Cert.Kernel2Ideal.Ffn.outs m c, fun c => Cert.Kernel2Ideal.Ffn.lasts m c, ?_, ?_⟩
  · exact (θ_run Cert.Kernel2Ideal.defs _ _).mono (fun r hr c => ⟨(hr.1 c).1, (hr.1 c).2, hr.2.1 c⟩)
      (θ_run_and (Cert.Kernel2Ideal.Ffn.run_results m g) (Cert.Kernel2Ideal.Ffn.frame_all m g))
  · refine (θ_run Cert.Reference2Ideal.defs _ _).mono (fun r hr c => ⟨(hr c).1.trans ?_, (hr c).2.1.trans ?_, (hr c).2.2⟩)
      (Cert.Reference2Ideal.Value.run m' g')
    · obtain ⟨e0, e1, e2, e3, e4, e5, e6, e7, e8, e9, e10⟩ := hargs c
      refine Eq.trans ?_ (Cert.Kernel2Ideal.Ffn.ref_outs m c)
      refine (Cert.Reference2Ideal.Read.val_main_v77_eq _).trans ?_
      rw [← e0, ← e1, ← e2, ← e3, ← e4, ← e5, ← e6, ← e7, ← e8, ← e9, ← e10]
    · obtain ⟨e0, e1, e2, e3, e4, e5, -⟩ := hargs c
      refine Eq.trans ?_ (Cert.Kernel2Ideal.Ffn.ref_lasts m c)
      refine (Cert.Reference2Ideal.Read.val_main_v78_eq _).trans ?_
      rw [← e0, ← e1, ← e2, ← e3, ← e4, ← e5]

/-- The reference of the same call in layer 0, without the final norm, runs and leaves its arguments. -/
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

/-- That call's two results are its reference's. -/
theorem algebraic3 : Cert.algebraic_Kernel3Ideal_Reference3Ideal := fun m g m' g' _ hargs => by
  refine ⟨fun c => Cert.Kernel3Ideal.Ffn.outs m c, fun c => Cert.Kernel3Ideal.Ffn.lasts m c, ?_, ?_⟩
  · exact (θ_run Cert.Kernel3Ideal.defs _ _).mono (fun r hr c => ⟨(hr.1 c).1, (hr.1 c).2, hr.2.1 c⟩)
      (θ_run_and (Cert.Kernel3Ideal.Ffn.run_results m g) (Cert.Kernel3Ideal.Ffn.frame_all m g))
  · refine (θ_run Cert.Reference3Ideal.defs _ _).mono (fun r hr c => ⟨(hr c).1.trans ?_, (hr c).2.1.trans ?_, (hr c).2.2⟩)
      (Cert.Reference3Ideal.Value.run m' g')
    · obtain ⟨e0, e1, e2, e3, e4, e5, e6, e7, e8, e9, -⟩ := hargs c
      refine Eq.trans ?_ (Cert.Kernel3Ideal.Ffn.ref_outs m c)
      refine (Cert.Reference3Ideal.Read.val_main_v64_eq _ _).trans ?_
      rw [← e0, ← e1, ← e2, ← e3, ← e4, ← e5, ← e6, ← e7, ← e8, ← e9]
    · obtain ⟨e0, e1, e2, e3, e4, e5, -⟩ := hargs c
      refine Eq.trans ?_ (Cert.Kernel3Ideal.Ffn.ref_lasts m c)
      refine (Cert.Reference3Ideal.Read.val_main_v65_eq _ _ _ _ _ _).trans ?_
      rw [← e0, ← e1, ← e2, ← e3, ← e4, ← e5]

/-- The input projection's reference runs and leaves its arguments. -/
theorem frame_reference4 : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run m g)

/-- The projection's three results are its reference's. -/
theorem algebraic4 : Cert.algebraic_Kernel4Ideal_Reference4Ideal := fun m g m' g' _ hargs => by
  refine ⟨fun c => Cert.Kernel4Ideal.Proj.qs m c, fun c => Cert.Kernel4Ideal.Proj.kvs m c, fun c => Cert.Kernel4Ideal.Proj.pools m c, ?_, ?_⟩
  · exact (θ_run Cert.Kernel4Ideal.defs _ _).mono (fun r hr c => ⟨(hr.1 c).1, (hr.1 c).2.1, (hr.1 c).2.2, hr.2 c⟩)
      (θ_run_and (Cert.Kernel4Ideal.Proj.run_results m g) (Cert.Kernel4Ideal.Gen.unchanged m g))
  · refine (θ_run Cert.Reference4Ideal.defs _ _).mono
      (fun r hr c => ⟨(hr c).1.trans ?_, (hr c).2.1.trans ?_, (hr c).2.2.1.trans ?_, (hr c).2.2.2⟩) (Cert.Reference4Ideal.Value.run m' g')
    · obtain ⟨e0, e1, e2, -⟩ := hargs c
      refine Eq.trans ?_ (Cert.Kernel4Ideal.Proj.ref_qs m c)
      refine (Cert.Reference4Ideal.Read.val_main_v24_eq _ _ _).trans ?_
      rw [← e0, ← e1, ← e2]
    · obtain ⟨e0, e1, e2, -⟩ := hargs c
      refine Eq.trans ?_ (Cert.Kernel4Ideal.Proj.ref_kvs m c)
      refine (Cert.Reference4Ideal.Read.val_main_v25_eq _ _ _).trans ?_
      rw [← e0, ← e1, ← e2]
    · obtain ⟨e0, e1, e2, -⟩ := hargs c
      refine Eq.trans ?_ (Cert.Kernel4Ideal.Proj.ref_pools m c)
      refine (Cert.Reference4Ideal.Read.val_main_v26_eq _ _ _).trans ?_
      rw [← e0, ← e1, ← e2]

/-- The sample's input projection's reference runs and leaves its arguments. -/
theorem frame_reference5 : Cert.quiescent_Reference5Ideal := fun m g _ =>
  (θ_run Cert.Reference5Ideal.defs _ _).mono (fun r h => ⟨fun c => (h c).2.2.2, sem_eq_zero_of_no_sems (by decide) r.2⟩)
    (Cert.Reference5Ideal.Value.run m g)

/-- The sample's three results are its reference's. -/
theorem algebraic5 : Cert.algebraic_Kernel5Ideal_Reference5Ideal := fun m g m' g' _ hargs => by
  refine ⟨fun c => Cert.Kernel5Ideal.Sample.qs m c, fun c => Cert.Kernel5Ideal.Sample.kvs m c, fun c => Cert.Kernel5Ideal.Sample.pools m c, ?_, ?_⟩
  · exact (θ_run Cert.Kernel5Ideal.defs _ _).mono (fun r hr c => ⟨(hr.1 c).1, (hr.1 c).2.1, (hr.1 c).2.2, hr.2 c⟩)
      (θ_run_and (Cert.Kernel5Ideal.Sample.run_results m g) (Cert.Kernel5Ideal.Gen.unchanged m g))
  · refine (θ_run Cert.Reference5Ideal.defs _ _).mono
      (fun r hr c => ⟨(hr c).1.trans ?_, (hr c).2.1.trans ?_, (hr c).2.2.1.trans ?_, (hr c).2.2.2⟩) (Cert.Reference5Ideal.Value.run m' g')
    · obtain ⟨e0, e1, e2, -⟩ := hargs c
      refine Eq.trans ?_ (Cert.Kernel5Ideal.Sample.ref_qs m c)
      refine (Cert.Reference5Ideal.Read.val_main_v19_eq _ _ _).trans ?_
      rw [← e0, ← e1, ← e2]
    · obtain ⟨e0, e1, e2, -⟩ := hargs c
      refine Eq.trans ?_ (Cert.Kernel5Ideal.Sample.ref_kvs m c)
      refine (Cert.Reference5Ideal.Read.val_main_v20_eq _ _ _).trans ?_
      rw [← e0, ← e1, ← e2]
    · obtain ⟨e0, e1, e2, -, -, e5⟩ := hargs c
      refine Eq.trans ?_ (Cert.Kernel5Ideal.Sample.ref_pools m c)
      refine (Cert.Reference5Ideal.Read.val_main_v21_eq _ _ _ _).trans ?_
      rw [← e0, ← e1, ← e2, ← e5]

/-- The first layer's input projection's reference runs and leaves its arguments. -/
theorem frame_reference6 : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run m g)

/-- That projection's three results are its reference's. -/
theorem algebraic6 : Cert.algebraic_Kernel6Ideal_Reference6Ideal := fun m g m' g' _ hargs => by
  refine ⟨fun c => Cert.Kernel6Ideal.Rope.qs m c, fun c => Cert.Kernel6Ideal.Rope.kvs m c, fun c => Cert.Kernel6Ideal.Rope.vs m c, ?_, ?_⟩
  · exact (θ_run Cert.Kernel6Ideal.defs _ _).mono (fun r hr c => ⟨(hr.1 c).1, (hr.1 c).2.1, (hr.1 c).2.2, hr.2 c⟩)
      (θ_run_and (Cert.Kernel6Ideal.Rope.run_results m g) (Cert.Kernel6Ideal.Gen.unchanged m g))
  · refine (θ_run Cert.Reference6Ideal.defs _ _).mono
      (fun r hr c => ⟨(hr c).1.trans ?_, (hr c).2.1.trans ?_, (hr c).2.2.1.trans ?_, (hr c).2.2.2⟩) (Cert.Reference6Ideal.Value.run m' g')
    · obtain ⟨e0, e1, e2, -⟩ := hargs c
      refine Eq.trans ?_ (Cert.Kernel6Ideal.Rope.ref_qs m c)
      refine (Cert.Reference6Ideal.Read.val_main_v83_eq _ _).trans ?_
      rw [← e0, ← e1, ← e2]
    · obtain ⟨e0, e1, e2, -⟩ := hargs c
      refine Eq.trans ?_ (Cert.Kernel6Ideal.Rope.ref_kvs m c)
      refine (Cert.Reference6Ideal.Read.val_main_v102_eq _ _).trans ?_
      rw [← e0, ← e1, ← e2]
    · obtain ⟨e0, e1, e2, e3, -⟩ := hargs c
      refine Eq.trans ?_ (Cert.Kernel6Ideal.Rope.ref_vs m c)
      refine (Cert.Reference6Ideal.Read.val_main_v64_eq _ _).trans ?_
      rw [← e0, ← e1, ← e2, ← e3]

/-- The sample's output and feed-forward reference runs and leaves its arguments. -/
theorem frame_reference7 : Cert.quiescent_Reference7Ideal := fun m g _ =>
  (θ_run Cert.Reference7Ideal.defs _ _).mono (fun r h => ⟨fun c => (h c).2.2, sem_eq_zero_of_no_sems (by decide) r.2⟩)
    (Cert.Reference7Ideal.Value.run m g)

/-- That call's two results are its reference's. -/
theorem algebraic7 : Cert.algebraic_Kernel7Ideal_Reference7Ideal := fun m g m' g' _ hargs => by
  refine ⟨fun c => Cert.Kernel7Ideal.Step.outs m c, fun c => Cert.Kernel7Ideal.Step.keeps m c, ?_, ?_⟩
  · exact (θ_run Cert.Kernel7Ideal.defs _ _).mono (fun r hr c => ⟨(hr.1 c).1, (hr.1 c).2, hr.2 c⟩)
      (θ_run_and (Cert.Kernel7Ideal.Step.run_results m g) (Cert.Kernel7Ideal.Gen.unchanged m g))
  · refine (θ_run Cert.Reference7Ideal.defs _ _).mono (fun r hr c => ⟨(hr c).1.trans ?_, (hr c).2.1.trans ?_, (hr c).2.2⟩)
      (Cert.Reference7Ideal.Value.run m' g')
    · obtain ⟨e0, e1, e2, e3, e4, e5, e6, e7, e8, e9, e10, e11⟩ := hargs c
      refine Eq.trans ?_ (Cert.Kernel7Ideal.Step.ref_outs m c)
      refine (Cert.Reference7Ideal.Read.val_main_v77_eq _).trans ?_
      rw [← e0, ← e1, ← e2, ← e3, ← e4, ← e5, ← e6, ← e7, ← e8, ← e9, ← e10, ← e11]
    · obtain ⟨e0, e1, e2, e3, e4, e5, -, -, -, -, -, e11⟩ := hargs c
      refine Eq.trans ?_ (Cert.Kernel7Ideal.Step.ref_keeps m c)
      refine (Cert.Reference7Ideal.Read.val_main_v78_eq _).trans ?_
      rw [← e0, ← e1, ← e2, ← e3, ← e4, ← e5, ← e11]

/-- The certificate's claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Pre_paged.Gen.facts, Cert.Pre_finite_and_paged.Gen.facts,
  frame_kernel, frame_ideal, frame_ideal_finite, frame_reference, frame_reference_finite,
  fun m ρ _ => Cert.Kernel2.Ffn.frame_all m ρ, fun m ρ _ => Cert.Kernel2Ideal.Ffn.frame_all m ρ, frame_reference2,
  fun m ρ _ => Cert.Kernel3.Ffn.frame_all m ρ, fun m ρ _ => Cert.Kernel3Ideal.Ffn.frame_all m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  trivial, algebraic, trivial, algebraic2, trivial, algebraic3, trivial, algebraic4, trivial, algebraic5, trivial, algebraic6,
  trivial, algebraic7⟩

end Cert.Proof

end
